-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_v4_7) = v7 c
          ∧ r.2.mem ((c.tc : Thread Cert.ReferenceIdeal.nD Cert.ReferenceIdeal.τ).loc Cert.ReferenceIdeal.main_v4_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1792x2048 : Shape := ⟨3, ![1, 1792, 2048]⟩
abbrev S1x1792x16 : Shape := ⟨3, ![1, 1792, 16]⟩
abbrev S2048 : Shape := ⟨1, ![2048]⟩
abbrev S2048x5632 : Shape := ⟨2, ![2048, 5632]⟩
abbrev S16x44 : Shape := ⟨2, ![16, 44]⟩
abbrev S1x1792x5632 : Shape := ⟨3, ![1, 1792, 5632]⟩
abbrev S1792x2048 : Shape := ⟨2, ![1792, 2048]⟩
abbrev S1792x16 : Shape := ⟨2, ![1792, 16]⟩
abbrev S1792x5632 : Shape := ⟨2, ![1792, 5632]⟩
abbrev S1x2048 : Shape := ⟨2, ![1, 2048]⟩
abbrev S14x2048 : Shape := ⟨2, ![14, 2048]⟩
abbrev S1792x44 : Shape := ⟨2, ![1792, 44]⟩
abbrev S14x5632 : Shape := ⟨2, ![14, 5632]⟩
abbrev S1792x512 : Shape := ⟨2, ![1792, 512]⟩
abbrev S2048x512 : Shape := ⟨2, ![2048, 512]⟩
abbrev S256x2048 : Shape := ⟨2, ![256, 2048]⟩
abbrev S256x16 : Shape := ⟨2, ![256, 16]⟩
abbrev S2048x256 : Shape := ⟨2, ![2048, 256]⟩
abbrev S14x512 : Shape := ⟨2, ![14, 512]⟩
abbrev S2048x1792 : Shape := ⟨2, ![2048, 1792]⟩
abbrev S22x1792x256 : Shape := ⟨3, ![22, 1792, 256]⟩
abbrev S22x14x256 : Shape := ⟨3, ![22, 14, 256]⟩
abbrev S1792x256 : Shape := ⟨2, ![1792, 256]⟩
abbrev S8x2048 : Shape := ⟨2, ![8, 2048]⟩
abbrev S14x128 : Shape := ⟨2, ![14, 128]⟩
abbrev S256x128 : Shape := ⟨2, ![256, 128]⟩
abbrev S256x1 : Shape := ⟨2, ![256, 1]⟩
abbrev S256 : Shape := ⟨1, ![256]⟩
abbrev S1x128 : Shape := ⟨2, ![1, 128]⟩
abbrev S128x128 : Shape := ⟨2, ![128, 128]⟩
abbrev S128 : Shape := ⟨1, ![128]⟩
abbrev S128x44 : Shape := ⟨2, ![128, 44]⟩
abbrev S128x1 : Shape := ⟨2, ![128, 1]⟩
abbrev S1x128x128 : Shape := ⟨3, ![1, 128, 128]⟩
abbrev S1x1x128 : Shape := ⟨3, ![1, 1, 128]⟩
abbrev S1x1 : Shape := ⟨2, ![1, 1]⟩
abbrev S256x512 : Shape := ⟨2, ![256, 512]⟩
abbrev S8x128 : Shape := ⟨2, ![8, 128]⟩
abbrev S32x8x128 : Shape := ⟨3, ![32, 8, 128]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩

abbrev nBuf : Space → Nat
  | .hbm => 19
  | .vmem => 32
  | .smem => 1
  | _ => 0

abbrev bufTy : (tb : Table) → Fin (tcTables nBuf tb) → BufTy
  | .hbm, ⟨0, _⟩ => ⟨S1x1792x2048, .fp8e4m3⟩
  | .hbm, ⟨1, _⟩ => ⟨S1x1792x16, .f32⟩
  | .hbm, ⟨2, _⟩ => ⟨S2048, .f32⟩
  | .hbm, ⟨3, _⟩ => ⟨S2048x5632, .fp8e4m3⟩
  | .hbm, ⟨4, _⟩ => ⟨S16x44, .f32⟩
  | .hbm, ⟨5, _⟩ => ⟨S1x1792x5632, .bf16⟩
  | .hbm, ⟨6, _⟩ => ⟨S1792x2048, .fp8e4m3⟩
  | .hbm, ⟨7, _⟩ => ⟨S1792x16, .f32⟩
  | .hbm, ⟨8, _⟩ => ⟨S1792x5632, .bf16⟩
  | .hbm, ⟨9, _⟩ => ⟨S1x2048, .f32⟩
  | .hbm, ⟨10, _⟩ => ⟨S1792x2048, .bf16⟩
  | .hbm, ⟨11, _⟩ => ⟨S2048x5632, .f32⟩
  | .hbm, ⟨12, _⟩ => ⟨S1x2048, .f32⟩
  | .hbm, ⟨13, _⟩ => ⟨S1792x2048, .fp8e4m3⟩
  | .hbm, ⟨14, _⟩ => ⟨S14x2048, .f32⟩
  | .hbm, ⟨15, _⟩ => ⟨S1792x5632, .fp8e5m2⟩
  | .hbm, ⟨16, _⟩ => ⟨S1792x44, .f32⟩
  | .hbm, ⟨17, _⟩ => ⟨S1792x5632, .fp8e5m2⟩
  | .hbm, ⟨18, _⟩ => ⟨S14x5632, .f32⟩
  | .local _ .vmem, ⟨0, _⟩ => ⟨S1792x512, .bf16⟩
  | .local _ .vmem, ⟨1, _⟩ => ⟨S1792x512, .bf16⟩
  | .local _ .vmem, ⟨2, _⟩ => ⟨S2048x512, .fp8e4m3⟩
  | .local _ .vmem, ⟨3, _⟩ => ⟨S2048x512, .fp8e4m3⟩
  | .local _ .vmem, ⟨4, _⟩ => ⟨S256x2048, .fp8e4m3⟩
  | .local _ .vmem, ⟨5, _⟩ => ⟨S256x2048, .fp8e4m3⟩
  | .local _ .vmem, ⟨6, _⟩ => ⟨S256x16, .f32⟩
  | .local _ .vmem, ⟨7, _⟩ => ⟨S256x16, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | .local _ .vmem, ⟨11, _⟩ => ⟨S2048x256, .f32⟩
  | .local _ .vmem, ⟨12, _⟩ => ⟨S2048x256, .f32⟩
  | .local _ .vmem, ⟨13, _⟩ => ⟨S1x2048, .f32⟩
  | .local _ .vmem, ⟨14, _⟩ => ⟨S256x2048, .fp8e4m3⟩
  | .local _ .vmem, ⟨15, _⟩ => ⟨S256x2048, .fp8e4m3⟩
  | .local _ .vmem, ⟨16, _⟩ => ⟨S14x2048, .f32⟩
  | .local _ .vmem, ⟨17, _⟩ => ⟨S1792x512, .fp8e5m2⟩
  | .local _ .vmem, ⟨18, _⟩ => ⟨S1792x512, .fp8e5m2⟩
  | .local _ .vmem, ⟨19, _⟩ => ⟨S1792x44, .f32⟩
  | .local _ .vmem, ⟨20, _⟩ => ⟨S1792x512, .fp8e5m2⟩
  | .local _ .vmem, ⟨21, _⟩ => ⟨S1792x512, .fp8e5m2⟩
  | .local _ .vmem, ⟨22, _⟩ => ⟨S14x512, .f32⟩
  | .local _ .vmem, ⟨23, _⟩ => ⟨S14x512, .f32⟩
  | .local _ .vmem, ⟨24, _⟩ => ⟨S1792x2048, .f32⟩
  | .local _ .vmem, ⟨25, _⟩ => ⟨S2048x1792, .bf16⟩
  | .local _ .vmem, ⟨26, _⟩ => ⟨S1792x512, .bf16⟩
  | .local _ .vmem, ⟨27, _⟩ => ⟨S2048x512, .bf16⟩
  | .local _ .vmem, ⟨28, _⟩ => ⟨S22x1792x256, .fp8e5m2⟩
  | .local _ .vmem, ⟨29, _⟩ => ⟨S22x14x256, .f32⟩
  | .local _ .vmem, ⟨30, _⟩ => ⟨S1792x256, .bf16⟩
  | .local _ .vmem, ⟨31, _⟩ => ⟨S8x2048, .f32⟩
  | .local _ .smem, ⟨0, _⟩ => ⟨S16x44, .f32⟩
  | _, _ => ⟨S1x1792x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c2_i32_45 : BitVec 32 := 2#32
  let v244 : BitVec 32 := Scalar.muli arg0 c2_i32_45
  let c0_i32_46 : BitVec 32 := 0#32
  let v245 : BitVec 32 := Scalar.addi v244 c0_i32_46
  let c128_i32 : BitVec 32 := 128#32
  let v246 : BitVec 32 := Scalar.muli v245 c128_i32
  v246
def k0_off1 (i : grid0.Coords) (c0_i32_46 : BitVec 32) : Fin 2 → Nat :=
  let c0_47 : Index := 0#32
  let arg0 : BitVec 32 := BitVec.ofNat 32 (i 0).val
  let c2_i32_45 : BitVec 32 := 2#32
  let v244 : BitVec 32 := Scalar.muli arg0 c2_i32_45
  let v245 : BitVec 32 := Scalar.addi v244 c0_i32_46
  let c128_i32 : BitVec 32 := 128#32
  let v246 : BitVec 32 := Scalar.muli v245 c128_i32
  let v247 : BitVec 32 := v246
  let v249 : Index := Scalar.indexCast v247
  ![0, v249.toNat]
def k0_mult2 (i : grid0.Coords) : BitVec 32 :=
  let arg0 : BitVec 32 := BitVec.ofNat 32 (i 0).val
  let c2_i32_72 : BitVec 32 := 2#32
  let v332 : BitVec 32 := Scalar.muli arg0 c2_i32_72
  let c1_i32_73 : BitVec 32 := 1#32
  let v333 : BitVec 32 := Scalar.addi v332 c1_i32_73
  let c128_i32_74 : BitVec 32 := 128#32
  let v334 : BitVec 32 := Scalar.muli v333 c128_i32_74
  v334
def k0_mult3 (i : grid0.Coords) : BitVec 32 :=
  let arg0 : BitVec 32 := BitVec.ofNat 32 (i 0).val
  let c2_i32_103 : BitVec 32 := 2#32
  let v426 : BitVec 32 := Scalar.muli arg0 c2_i32_103
  let c0_i32_104 : BitVec 32 := 0#32
  let v427 : BitVec 32 := Scalar.addi v426 c0_i32_104
  let c128_i32_105 : BitVec 32 := 128#32
  let v428 : BitVec 32 := Scalar.muli v427 c128_i32_105
  v428
def k0_off2 (i : grid0.Coords) (c0_i32_104 : BitVec 32) : Fin 2 → Nat :=
  let c128_106 : Index := 128#32
  let arg0 : BitVec 32 := BitVec.ofNat 32 (i 0).val
  let c2_i32_103 : BitVec 32 := 2#32
  let v426 : BitVec 32 := Scalar.muli arg0 c2_i32_103
  let v427 : BitVec 32 := Scalar.addi v426 c0_i32_104
  let c128_i32_105 : BitVec 32 := 128#32
  let v428 : BitVec 32 := Scalar.muli v427 c128_i32_105
  let v429 : BitVec 32 := v428
  let v431 : Index := Scalar.indexCast v429
  ![128, v431.toNat]
def k0_mult4 (i : grid0.Coords) : BitVec 32 :=
  let arg0 : BitVec 32 := BitVec.ofNat 32 (i 0).val
  let c2_i32_132 : BitVec 32 := 2#32
  let v514 : BitVec 32 := Scalar.muli arg0 c2_i32_132
  let c1_i32_133 : BitVec 32 := 1#32
  let v515 : BitVec 32 := Scalar.addi v514 c1_i32_133
  let c128_i32_134 : BitVec 32 := 128#32
  let v516 : BitVec 32 := Scalar.muli v515 c128_i32_134
  v516
def k0_mult5 (i : grid0.Coords) : BitVec 32 :=
  let arg0 : BitVec 32 := BitVec.ofNat 32 (i 0).val
  let c2_i32_163 : BitVec 32 := 2#32
  let v608 : BitVec 32 := Scalar.muli arg0 c2_i32_163
  let c0_i32_164 : BitVec 32 := 0#32
  let v609 : BitVec 32 := Scalar.addi v608 c0_i32_164
  let c128_i32_165 : BitVec 32 := 128#32
  let v610 : BitVec 32 := Scalar.muli v609 c128_i32_165
  v610
def k0_off3 (i : grid0.Coords) (c0_i32_164 : BitVec 32) : Fin 2 → Nat :=
  let c256_166 : Index := 256#32
  let arg0 : BitVec 32 := BitVec.ofNat 32 (i 0).val
  let c2_i32_163 : BitVec 32 := 2#32
  let v608 : BitVec 32 := Scalar.muli arg0 c2_i32_163
  let v609 : BitVec 32 := Scalar.addi v608 c0_i32_164
  let c128_i32_165 : BitVec 32 := 128#32
  let v610 : BitVec 32 := Scalar.muli v609 c128_i32_165
  let v611 : BitVec 32 := v610
  let v613 : Index := Scalar.indexCast v611
  ![256, v613.toNat]
def k0_mult6 (i : grid0.Coords) : BitVec 32 :=
  let arg0 : BitVec 32 := BitVec.ofNat 32 (i 0).val
  let c2_i32_192 : BitVec 32 := 2#32
  let v696 : BitVec 32 := Scalar.muli arg0 c2_i32_192
  let c1_i32_193 : BitVec 32 := 1#32
  let v697 : BitVec 32 := Scalar.addi v696 c1_i32_193
  let c128_i32_194 : BitVec 32 := 128#32
  let v698 : BitVec 32 := Scalar.muli v697 c128_i32_194
  v698
def k0_mult7 (i : grid0.Coords) : BitVec 32 :=
  let arg0 : BitVec 32 := BitVec.ofNat 32 (i 0).val
  let c2_i32_223 : BitVec 32 := 2#32
  let v790 : BitVec 32 := Scalar.muli arg0 c2_i32_223
  let c0_i32_224 : BitVec 32 := 0#32
  let v791 : BitVec 32 := Scalar.addi v790 c0_i32_224
  let c128_i32_225 : BitVec 32 := 128#32
  let v792 : BitVec 32 := Scalar.muli v791 c128_i32_225
  v792
def k0_off4 (i : grid0.Coords) (c0_i32_224 : BitVec 32) : Fin 2 → Nat :=
  let c384_226 : Index := 384#32
  let arg0 : BitVec 32 := BitVec.ofNat 32 (i 0).val
  let c2_i32_223 : BitVec 32 := 2#32
  let v790 : BitVec 32 := Scalar.muli arg0 c2_i32_223
  let v791 : BitVec 32 := Scalar.addi v790 c0_i32_224
  let c128_i32_225 : BitVec 32 := 128#32
  let v792 : BitVec 32 := Scalar.muli v791 c128_i32_225
  let v793 : BitVec 32 := v792
  let v795 : Index := Scalar.indexCast v793
  ![384, v795.toNat]
def k0_mult8 (i : grid0.Coords) : BitVec 32 :=
  let arg0 : BitVec 32 := BitVec.ofNat 32 (i 0).val
  let c2_i32_252 : BitVec 32 := 2#32
  let v878 : BitVec 32 := Scalar.muli arg0 c2_i32_252
  let c1_i32_253 : BitVec 32 := 1#32
  let v879 : BitVec 32 := Scalar.addi v878 c1_i32_253
  let c128_i32_254 : BitVec 32 := 128#32
  let v880 : BitVec 32 := Scalar.muli v879 c128_i32_254
  v880
def k0_mult9 (i : grid0.Coords) : BitVec 32 :=
  let arg0 : BitVec 32 := BitVec.ofNat 32 (i 0).val
  let c2_i32_283 : BitVec 32 := 2#32
  let v972 : BitVec 32 := Scalar.muli arg0 c2_i32_283
  let c0_i32_284 : BitVec 32 := 0#32
  let v973 : BitVec 32 := Scalar.addi v972 c0_i32_284
  let c128_i32_285 : BitVec 32 := 128#32
  let v974 : BitVec 32 := Scalar.muli v973 c128_i32_285
  v974
def k0_off5 (i : grid0.Coords) (c0_i32_284 : BitVec 32) : Fin 2 → Nat :=
  let c512_286 : Index := 512#32
  let arg0 : BitVec 32 := BitVec.ofNat 32 (i 0).val
  let c2_i32_283 : BitVec 32 := 2#32
  let v972 : BitVec 32 := Scalar.muli arg0 c2_i32_283
  let v973 : BitVec 32 := Scalar.addi v972 c0_i32_284
  let c128_i32_285 : BitVec 32 := 128#32
  let v974 : BitVec 32 := Scalar.muli v973 c128_i32_285
  let v975 : BitVec 32 := v974
  let v977 : Index := Scalar.indexCast v975
  ![512, v977.toNat]
def k0_mult10 (i : grid0.Coords) : BitVec 32 :=
  let arg0 : BitVec 32 := BitVec.ofNat 32 (i 0).val
  let c2_i32_312 : BitVec 32 := 2#32
  let v1060 : BitVec 32 := Scalar.muli arg0 c2_i32_312
  let c1_i32_313 : BitVec 32 := 1#32
  let v1061 : BitVec 32 := Scalar.addi v1060 c1_i32_313
  let c128_i32_314 : BitVec 32 := 128#32
  let v1062 : BitVec 32 := Scalar.muli v1061 c128_i32_314
  v1062
def k0_mult11 (i : grid0.Coords) : BitVec 32 :=
  let arg0 : BitVec 32 := BitVec.ofNat 32 (i 0).val
  let c2_i32_343 : BitVec 32 := 2#32
  let v1154 : BitVec 32 := Scalar.muli arg0 c2_i32_343
  let c0_i32_344 : BitVec 32 := 0#32
  let v1155 : BitVec 32 := Scalar.addi v1154 c0_i32_344
  let c128_i32_345 : BitVec 32 := 128#32
  let v1156 : BitVec 32 := Scalar.muli v1155 c128_i32_345
  v1156
def k0_off6 (i : grid0.Coords) (c0_i32_344 : BitVec 32) : Fin 2 → Nat :=
  let c640_346 : Index := 640#32
  let arg0 : BitVec 32 := BitVec.ofNat 32 (i 0).val
  let c2_i32_343 : BitVec 32 := 2#32
  let v1154 : BitVec 32 := Scalar.muli arg0 c2_i32_343
  let v1155 : BitVec 32 := Scalar.addi v1154 c0_i32_344
  let c128_i32_345 : BitVec 32 := 128#32
  let v1156 : BitVec 32 := Scalar.muli v1155 c128_i32_345
  let v1157 : BitVec 32 := v1156
  let v1159 : Index := Scalar.indexCast v1157
  ![640, v1159.toNat]
def k0_mult12 (i : grid0.Coords) : BitVec 32 :=
  let arg0 : BitVec 32 := BitVec.ofNat 32 (i 0).val
  let c2_i32_372 : BitVec 32 := 2#32
  let v1242 : BitVec 32 := Scalar.muli arg0 c2_i32_372
  let c1_i32_373 : BitVec 32 := 1#32
  let v1243 : BitVec 32 := Scalar.addi v1242 c1_i32_373
  let c128_i32_374 : BitVec 32 := 128#32
  let v1244 : BitVec 32 := Scalar.muli v1243 c128_i32_374
  v1244
def k0_mult13 (i : grid0.Coords) : BitVec 32 :=
  let arg0 : BitVec 32 := BitVec.ofNat 32 (i 0).val
  let c2_i32_403 : BitVec 32 := 2#32
  let v1336 : BitVec 32 := Scalar.muli arg0 c2_i32_403
  let c0_i32_404 : BitVec 32 := 0#32
  let v1337 : BitVec 32 := Scalar.addi v1336 c0_i32_404
  let c128_i32_405 : BitVec 32 := 128#32
  let v1338 : BitVec 32 := Scalar.muli v1337 c128_i32_405
  v1338
def k0_off7 (i : grid0.Coords) (c0_i32_404 : BitVec 32) : Fin 2 → Nat :=
  let c768_406 : Index := 768#32
  let arg0 : BitVec 32 := BitVec.ofNat 32 (i 0).val
  let c2_i32_403 : BitVec 32 := 2#32
  let v1336 : BitVec 32 := Scalar.muli arg0 c2_i32_403
  let v1337 : BitVec 32 := Scalar.addi v1336 c0_i32_404
  let c128_i32_405 : BitVec 32 := 128#32
  let v1338 : BitVec 32 := Scalar.muli v1337 c128_i32_405
  let v1339 : BitVec 32 := v1338
  let v1341 : Index := Scalar.indexCast v1339
  ![768, v1341.toNat]
def k0_mult14 (i : grid0.Coords) : BitVec 32 :=
  let arg0 : BitVec 32 := BitVec.ofNat 32 (i 0).val
  let c2_i32_432 : BitVec 32 := 2#32
  let v1424 : BitVec 32 := Scalar.muli arg0 c2_i32_432
  let c1_i32_433 : BitVec 32 := 1#32
  let v1425 : BitVec 32 := Scalar.addi v1424 c1_i32_433
  let c128_i32_434 : BitVec 32 := 128#32
  let v1426 : BitVec 32 := Scalar.muli v1425 c128_i32_434
  v1426
def k0_mult15 (i : grid0.Coords) : BitVec 32 :=
  let arg0 : BitVec 32 := BitVec.ofNat 32 (i 0).val
  let c2_i32_463 : BitVec 32 := 2#32
  let v1518 : BitVec 32 := Scalar.muli arg0 c2_i32_463
  let c0_i32_464 : BitVec 32 := 0#32
  let v1519 : BitVec 32 := Scalar.addi v1518 c0_i32_464
  let c128_i32_465 : BitVec 32 := 128#32
  let v1520 : BitVec 32 := Scalar.muli v1519 c128_i32_465
  v1520
def k0_off8 (i : grid0.Coords) (c0_i32_464 : BitVec 32) : Fin 2 → Nat :=
  let c896_466 : Index := 896#32
  let arg0 : BitVec 32 := BitVec.ofNat 32 (i 0).val
  let c2_i32_463 : BitVec 32 := 2#32
  let v1518 : BitVec 32 := Scalar.muli arg0 c2_i32_463
  let v1519 : BitVec 32 := Scalar.addi v1518 c0_i32_464
  let c128_i32_465 : BitVec 32 := 128#32
  let v1520 : BitVec 32 := Scalar.muli v1519 c128_i32_465
  let v1521 : BitVec 32 := v1520
  let v1523 : Index := Scalar.indexCast v1521
  ![896, v1523.toNat]
def k0_mult16 (i : grid0.Coords) : BitVec 32 :=
  let arg0 : BitVec 32 := BitVec.ofNat 32 (i 0).val
  let c2_i32_492 : BitVec 32 := 2#32
  let v1606 : BitVec 32 := Scalar.muli arg0 c2_i32_492
  let c1_i32_493 : BitVec 32 := 1#32
  let v1607 : BitVec 32 := Scalar.addi v1606 c1_i32_493
  let c128_i32_494 : BitVec 32 := 128#32
  let v1608 : BitVec 32 := Scalar.muli v1607 c128_i32_494
  v1608
def k0_mult17 (i : grid0.Coords) : BitVec 32 :=
  let arg0 : BitVec 32 := BitVec.ofNat 32 (i 0).val
  let c2_i32_523 : BitVec 32 := 2#32
  let v1700 : BitVec 32 := Scalar.muli arg0 c2_i32_523
  let c0_i32_524 : BitVec 32 := 0#32
  let v1701 : BitVec 32 := Scalar.addi v1700 c0_i32_524
  let c128_i32_525 : BitVec 32 := 128#32
  let v1702 : BitVec 32 := Scalar.muli v1701 c128_i32_525
  v1702
def k0_off9 (i : grid0.Coords) (c0_i32_524 : BitVec 32) : Fin 2 → Nat :=
  let c1024_526 : Index := 1024#32
  let arg0 : BitVec 32 := BitVec.ofNat 32 (i 0).val
  let c2_i32_523 : BitVec 32 := 2#32
  let v1700 : BitVec 32 := Scalar.muli arg0 c2_i32_523
  let v1701 : BitVec 32 := Scalar.addi v1700 c0_i32_524
  let c128_i32_525 : BitVec 32 := 128#32
  let v1702 : BitVec 32 := Scalar.muli v1701 c128_i32_525
  let v1703 : BitVec 32 := v1702
  let v1705 : Index := Scalar.indexCast v1703
  ![1024, v1705.toNat]
def k0_mult18 (i : grid0.Coords) : BitVec 32 :=
  let arg0 : BitVec 32 := BitVec.ofNat 32 (i 0).val
  let c2_i32_552 : BitVec 32 := 2#32
  let v1788 : BitVec 32 := Scalar.muli arg0 c2_i32_552
  let c1_i32_553 : BitVec 32 := 1#32
  let v1789 : BitVec 32 := Scalar.addi v1788 c1_i32_553
  let c128_i32_554 : BitVec 32 := 128#32
  let v1790 : BitVec 32 := Scalar.muli v1789 c128_i32_554
  v1790
def k0_mult19 (i : grid0.Coords) : BitVec 32 :=
  let arg0 : BitVec 32 := BitVec.ofNat 32 (i 0).val
  let c2_i32_583 : BitVec 32 := 2#32
  let v1882 : BitVec 32 := Scalar.muli arg0 c2_i32_583
  let c0_i32_584 : BitVec 32 := 0#32
  let v1883 : BitVec 32 := Scalar.addi v1882 c0_i32_584
  let c128_i32_585 : BitVec 32 := 128#32
  let v1884 : BitVec 32 := Scalar.muli v1883 c128_i32_585
  v1884
def k0_off10 (i : grid0.Coords) (c0_i32_584 : BitVec 32) : Fin 2 → Nat :=
  let c1152_586 : Index := 1152#32
  let arg0 : BitVec 32 := BitVec.ofNat 32 (i 0).val
  let c2_i32_583 : BitVec 32 := 2#32
  let v1882 : BitVec 32 := Scalar.muli arg0 c2_i32_583
  let v1883 : BitVec 32 := Scalar.addi v1882 c0_i32_584
  let c128_i32_585 : BitVec 32 := 128#32
  let v1884 : BitVec 32 := Scalar.muli v1883 c128_i32_585
  let v1885 : BitVec 32 := v1884
  let v1887 : Index := Scalar.indexCast v1885
  ![1152, v1887.toNat]
def k0_mult20 (i : grid0.Coords) : BitVec 32 :=
  let arg0 : BitVec 32 := BitVec.ofNat 32 (i 0).val
  let c2_i32_612 : BitVec 32 := 2#32
  let v1970 : BitVec 32 := Scalar.muli arg0 c2_i32_612
  let c1_i32_613 : BitVec 32 := 1#32
  let v1971 : BitVec 32 := Scalar.addi v1970 c1_i32_613
  let c128_i32_614 : BitVec 32 := 128#32
  let v1972 : BitVec 32 := Scalar.muli v1971 c128_i32_614
  v1972
def k0_mult21 (i : grid0.Coords) : BitVec 32 :=
  let arg0 : BitVec 32 := BitVec.ofNat 32 (i 0).val
  let c2_i32_643 : BitVec 32 := 2#32
  let v2064 : BitVec 32 := Scalar.muli arg0 c2_i32_643
  let c0_i32_644 : BitVec 32 := 0#32
  let v2065 : BitVec 32 := Scalar.addi v2064 c0_i32_644
  let c128_i32_645 : BitVec 32 := 128#32
  let v2066 : BitVec 32 := Scalar.muli v2065 c128_i32_645
  v2066
def k0_off11 (i : grid0.Coords) (c0_i32_644 : BitVec 32) : Fin 2 → Nat :=
  let c1280_646 : Index := 1280#32
  let arg0 : BitVec 32 := BitVec.ofNat 32 (i 0).val
  let c2_i32_643 : BitVec 32 := 2#32
  let v2064 : BitVec 32 := Scalar.muli arg0 c2_i32_643
  let v2065 : BitVec 32 := Scalar.addi v2064 c0_i32_644
  let c128_i32_645 : BitVec 32 := 128#32
  let v2066 : BitVec 32 := Scalar.muli v2065 c128_i32_645
  let v2067 : BitVec 32 := v2066
  let v2069 : Index := Scalar.indexCast v2067
  ![1280, v2069.toNat]
def k0_mult22 (i : grid0.Coords) : BitVec 32 :=
  let arg0 : BitVec 32 := BitVec.ofNat 32 (i 0).val
  let c2_i32_672 : BitVec 32 := 2#32
  let v2152 : BitVec 32 := Scalar.muli arg0 c2_i32_672
  let c1_i32_673 : BitVec 32 := 1#32
  let v2153 : BitVec 32 := Scalar.addi v2152 c1_i32_673
  let c128_i32_674 : BitVec 32 := 128#32
  let v2154 : BitVec 32 := Scalar.muli v2153 c128_i32_674
  v2154
def k0_mult23 (i : grid0.Coords) : BitVec 32 :=
  let arg0 : BitVec 32 := BitVec.ofNat 32 (i 0).val
  let c2_i32_703 : BitVec 32 := 2#32
  let v2246 : BitVec 32 := Scalar.muli arg0 c2_i32_703
  let c0_i32_704 : BitVec 32 := 0#32
  let v2247 : BitVec 32 := Scalar.addi v2246 c0_i32_704
  let c128_i32_705 : BitVec 32 := 128#32
  let v2248 : BitVec 32 := Scalar.muli v2247 c128_i32_705
  v2248
def k0_off12 (i : grid0.Coords) (c0_i32_704 : BitVec 32) : Fin 2 → Nat :=
  let c1408_706 : Index := 1408#32
  let arg0 : BitVec 32 := BitVec.ofNat 32 (i 0).val
  let c2_i32_703 : BitVec 32 := 2#32
  let v2246 : BitVec 32 := Scalar.muli arg0 c2_i32_703
  let v2247 : BitVec 32 := Scalar.addi v2246 c0_i32_704
  let c128_i32_705 : BitVec 32 := 128#32
  let v2248 : BitVec 32 := Scalar.muli v2247 c128_i32_705
  let v2249 : BitVec 32 := v2248
  let v2251 : Index := Scalar.indexCast v2249
  ![1408, v2251.toNat]
def k0_mult24 (i : grid0.Coords) : BitVec 32 :=
  let arg0 : BitVec 32 := BitVec.ofNat 32 (i 0).val
  let c2_i32_732 : BitVec 32 := 2#32
  let v2334 : BitVec 32 := Scalar.muli arg0 c2_i32_732
  let c1_i32_733 : BitVec 32 := 1#32
  let v2335 : BitVec 32 := Scalar.addi v2334 c1_i32_733
  let c128_i32_734 : BitVec 32 := 128#32
  let v2336 : BitVec 32 := Scalar.muli v2335 c128_i32_734
  v2336
def k0_mult25 (i : grid0.Coords) : BitVec 32 :=
  let arg0 : BitVec 32 := BitVec.ofNat 32 (i 0).val
  let c2_i32_763 : BitVec 32 := 2#32
  let v2428 : BitVec 32 := Scalar.muli arg0 c2_i32_763
  let c0_i32_764 : BitVec 32 := 0#32
  let v2429 : BitVec 32 := Scalar.addi v2428 c0_i32_764
  let c128_i32_765 : BitVec 32 := 128#32
  let v2430 : BitVec 32 := Scalar.muli v2429 c128_i32_765
  v2430
def k0_off13 (i : grid0.Coords) (c0_i32_764 : BitVec 32) : Fin 2 → Nat :=
  let c1536_766 : Index := 1536#32
  let arg0 : BitVec 32 := BitVec.ofNat 32 (i 0).val
  let c2_i32_763 : BitVec 32 := 2#32
  let v2428 : BitVec 32 := Scalar.muli arg0 c2_i32_763
  let v2429 : BitVec 32 := Scalar.addi v2428 c0_i32_764
  let c128_i32_765 : BitVec 32 := 128#32
  let v2430 : BitVec 32 := Scalar.muli v2429 c128_i32_765
  let v2431 : BitVec 32 := v2430
  let v2433 : Index := Scalar.indexCast v2431
  ![1536, v2433.toNat]
def k0_mult26 (i : grid0.Coords) : BitVec 32 :=
  let arg0 : BitVec 32 := BitVec.ofNat 32 (i 0).val
  let c2_i32_792 : BitVec 32 := 2#32
  let v2516 : BitVec 32 := Scalar.muli arg0 c2_i32_792
  let c1_i32_793 : BitVec 32 := 1#32
  let v2517 : BitVec 32 := Scalar.addi v2516 c1_i32_793
  let c128_i32_794 : BitVec 32 := 128#32
  let v2518 : BitVec 32 := Scalar.muli v2517 c128_i32_794
  v2518
def k0_mult27 (i : grid0.Coords) : BitVec 32 :=
  let arg0 : BitVec 32 := BitVec.ofNat 32 (i 0).val
  let c2_i32_823 : BitVec 32 := 2#32
  let v2610 : BitVec 32 := Scalar.muli arg0 c2_i32_823
  let c0_i32_824 : BitVec 32 := 0#32
  let v2611 : BitVec 32 := Scalar.addi v2610 c0_i32_824
  let c128_i32_825 : BitVec 32 := 128#32
  let v2612 : BitVec 32 := Scalar.muli v2611 c128_i32_825
  v2612
def k0_off14 (i : grid0.Coords) (c0_i32_824 : BitVec 32) : Fin 2 → Nat :=
  let c1664_826 : Index := 1664#32
  let arg0 : BitVec 32 := BitVec.ofNat 32 (i 0).val
  let c2_i32_823 : BitVec 32 := 2#32
  let v2610 : BitVec 32 := Scalar.muli arg0 c2_i32_823
  let v2611 : BitVec 32 := Scalar.addi v2610 c0_i32_824
  let c128_i32_825 : BitVec 32 := 128#32
  let v2612 : BitVec 32 := Scalar.muli v2611 c128_i32_825
  let v2613 : BitVec 32 := v2612
  let v2615 : Index := Scalar.indexCast v2613
  ![1664, v2615.toNat]
def k0_mult28 (i : grid0.Coords) : BitVec 32 :=
  let arg0 : BitVec 32 := BitVec.ofNat 32 (i 0).val
  let c2_i32_852 : BitVec 32 := 2#32
  let v2698 : BitVec 32 := Scalar.muli arg0 c2_i32_852
  let c1_i32_853 : BitVec 32 := 1#32
  let v2699 : BitVec 32 := Scalar.addi v2698 c1_i32_853
  let c128_i32_854 : BitVec 32 := 128#32
  let v2700 : BitVec 32 := Scalar.muli v2699 c128_i32_854
  v2700
def k0_mult29 (i : grid0.Coords) : BitVec 32 :=
  let arg0 : BitVec 32 := BitVec.ofNat 32 (i 0).val
  let c2_i32_883 : BitVec 32 := 2#32
  let v2792 : BitVec 32 := Scalar.muli arg0 c2_i32_883
  let c0_i32_884 : BitVec 32 := 0#32
  let v2793 : BitVec 32 := Scalar.addi v2792 c0_i32_884
  let c128_i32_885 : BitVec 32 := 128#32
  let v2794 : BitVec 32 := Scalar.muli v2793 c128_i32_885
  v2794
def k0_off15 (i : grid0.Coords) (c0_i32_884 : BitVec 32) : Fin 2 → Nat :=
  let c1792_886 : Index := 1792#32
  let arg0 : BitVec 32 := BitVec.ofNat 32 (i 0).val
  let c2_i32_883 : BitVec 32 := 2#32
  let v2792 : BitVec 32 := Scalar.muli arg0 c2_i32_883
  let v2793 : BitVec 32 := Scalar.addi v2792 c0_i32_884
  let c128_i32_885 : BitVec 32 := 128#32
  let v2794 : BitVec 32 := Scalar.muli v2793 c128_i32_885
  let v2795 : BitVec 32 := v2794
  let v2797 : Index := Scalar.indexCast v2795
  ![1792, v2797.toNat]
def k0_mult30 (i : grid0.Coords) : BitVec 32 :=
  let arg0 : BitVec 32 := BitVec.ofNat 32 (i 0).val
  let c2_i32_912 : BitVec 32 := 2#32
  let v2880 : BitVec 32 := Scalar.muli arg0 c2_i32_912
  let c1_i32_913 : BitVec 32 := 1#32
  let v2881 : BitVec 32 := Scalar.addi v2880 c1_i32_913
  let c128_i32_914 : BitVec 32 := 128#32
  let v2882 : BitVec 32 := Scalar.muli v2881 c128_i32_914
  v2882
def k0_mult31 (i : grid0.Coords) : BitVec 32 :=
  let arg0 : BitVec 32 := BitVec.ofNat 32 (i 0).val
  let c2_i32_943 : BitVec 32 := 2#32
  let v2974 : BitVec 32 := Scalar.muli arg0 c2_i32_943
  let c0_i32_944 : BitVec 32 := 0#32
  let v2975 : BitVec 32 := Scalar.addi v2974 c0_i32_944
  let c128_i32_945 : BitVec 32 := 128#32
  let v2976 : BitVec 32 := Scalar.muli v2975 c128_i32_945
  v2976
def k0_off16 (i : grid0.Coords) (c0_i32_944 : BitVec 32) : Fin 2 → Nat :=
  let c1920_946 : Index := 1920#32
  let arg0 : BitVec 32 := BitVec.ofNat 32 (i 0).val
  let c2_i32_943 : BitVec 32 := 2#32
  let v2974 : BitVec 32 := Scalar.muli arg0 c2_i32_943
  let v2975 : BitVec 32 := Scalar.addi v2974 c0_i32_944
  let c128_i32_945 : BitVec 32 := 128#32
  let v2976 : BitVec 32 := Scalar.muli v2975 c128_i32_945
  let v2977 : BitVec 32 := v2976
  let v2979 : Index := Scalar.indexCast v2977
  ![1920, v2979.toNat]
def k0_mult32 (i : grid0.Coords) : BitVec 32 :=
  let arg0 : BitVec 32 := BitVec.ofNat 32 (i 0).val
  let c2_i32_972 : BitVec 32 := 2#32
  let v3062 : BitVec 32 := Scalar.muli arg0 c2_i32_972
  let c1_i32_973 : BitVec 32 := 1#32
  let v3063 : BitVec 32 := Scalar.addi v3062 c1_i32_973
  let c128_i32_974 : BitVec 32 := 128#32
  let v3064 : BitVec 32 := Scalar.muli v3063 c128_i32_974
  v3064
def k0_off17 (i : grid0.Coords) (c0_i32_1024 : BitVec 32) : Fin 3 → Nat :=
  let arg0 : BitVec 32 := BitVec.ofNat 32 (i 0).val
  let c2_i32_1023 : BitVec 32 := 2#32
  let v3226 : BitVec 32 := Scalar.muli arg0 c2_i32_1023
  let v3227 : BitVec 32 := Scalar.addi v3226 c0_i32_1024
  let v3228 : Index := Scalar.indexCast v3227
  let c0_1025 : Index := 0#32
  let c0_1026 : Index := 0#32
  ![v3228.toNat, 0, 0]
def k0_off18 (i : grid0.Coords) (c0_i32_1028 : BitVec 32) : Fin 3 → Nat :=
  let arg0 : BitVec 32 := BitVec.ofNat 32 (i 0).val
  let c2_i32_1027 : BitVec 32 := 2#32
  let v3232 : BitVec 32 := Scalar.muli arg0 c2_i32_1027
  let v3233 : BitVec 32 := Scalar.addi v3232 c0_i32_1028
  let v3234 : Index := Scalar.indexCast v3233
  let c0_1029 : Index := 0#32
  let c0_1030 : Index := 0#32
  ![v3234.toNat, 0, 0]
def k0_off19 (i : grid0.Coords) (c0_i32_1078 : BitVec 32) : Fin 3 → Nat :=
  let arg0 : BitVec 32 := BitVec.ofNat 32 (i 0).val
  let c2_i32_1077 : BitVec 32 := 2#32
  let v3390 : BitVec 32 := Scalar.muli arg0 c2_i32_1077
  let v3391 : BitVec 32 := Scalar.addi v3390 c0_i32_1078
  let v3392 : Index := Scalar.indexCast v3391
  let c0_1079 : Index := 0#32
  let c128_1080 : Index := 128#32
  ![v3392.toNat, 0, 128]
def k0_off20 (i : grid0.Coords) (c0_i32_1082 : BitVec 32) : Fin 3 → Nat :=
  let arg0 : BitVec 32 := BitVec.ofNat 32 (i 0).val
  let c2_i32_1081 : BitVec 32 := 2#32
  let v3396 : BitVec 32 := Scalar.muli arg0 c2_i32_1081
  let v3397 : BitVec 32 := Scalar.addi v3396 c0_i32_1082
  let v3398 : Index := Scalar.indexCast v3397
  let c0_1083 : Index := 0#32
  let c128_1084 : Index := 128#32
  ![v3398.toNat, 0, 128]
def k0_off21 (i : grid0.Coords) (c0_i32_1242 : BitVec 32) : Fin 3 → Nat :=
  let arg0 : BitVec 32 := BitVec.ofNat 32 (i 0).val
  let c2_i32_1241 : BitVec 32 := 2#32
  let v3885 : BitVec 32 := Scalar.muli arg0 c2_i32_1241
  let v3886 : BitVec 32 := Scalar.addi v3885 c0_i32_1242
  let v3887 : Index := Scalar.indexCast v3886
  let c128_1243 : Index := 128#32
  let c0_1244 : Index := 0#32
  ![v3887.toNat, 128, 0]
def k0_off22 (i : grid0.Coords) (c0_i32_1246 : BitVec 32) : Fin 3 → Nat :=
  let arg0 : BitVec 32 := BitVec.ofNat 32 (i 0).val
  let c2_i32_1245 : BitVec 32 := 2#32
  let v3891 : BitVec 32 := Scalar.muli arg0 c2_i32_1245
  let v3892 : BitVec 32 := Scalar.addi v3891 c0_i32_1246
  let v3893 : Index := Scalar.indexCast v3892
  let c1_1247 : Index := 1#32
  let c0_1248 : Index := 0#32
  ![v3893.toNat, 1, 0]
def k0_off23 (i : grid0.Coords) (c0_i32_1296 : BitVec 32) : Fin 3 → Nat :=
  let arg0 : BitVec 32 := BitVec.ofNat 32 (i 0).val
  let c2_i32_1295 : BitVec 32 := 2#32
  let v4049 : BitVec 32 := Scalar.muli arg0 c2_i32_1295
  let v4050 : BitVec 32 := Scalar.addi v4049 c0_i32_1296
  let v4051 : Index := Scalar.indexCast v4050
  let c128_1297 : Index := 128#32
  let c128_1298 : Index := 128#32
  ![v4051.toNat, 128, 128]
def k0_off24 (i : grid0.Coords) (c0_i32_1300 : BitVec 32) : Fin 3 → Nat :=
  let arg0 : BitVec 32 := BitVec.ofNat 32 (i 0).val
  let c2_i32_1299 : BitVec 32 := 2#32
  let v4055 : BitVec 32 := Scalar.muli arg0 c2_i32_1299
  let v4056 : BitVec 32 := Scalar.addi v4055 c0_i32_1300
  let v4057 : Index := Scalar.indexCast v4056
  let c1_1301 : Index := 1#32
  let c128_1302 : Index := 128#32
  ![v4057.toNat, 1, 128]
def k0_off25 (i : grid0.Coords) (c0_i32_1461 : BitVec 32) : Fin 3 → Nat :=
  let arg0 : BitVec 32 := BitVec.ofNat 32 (i 0).val
  let c2_i32_1460 : BitVec 32 := 2#32
  let v4544 : BitVec 32 := Scalar.muli arg0 c2_i32_1460
  let v4545 : BitVec 32 := Scalar.addi v4544 c0_i32_1461
  let v4546 : Index := Scalar.indexCast v4545
  let c256_1462 : Index := 256#32
  let c0_1463 : Index := 0#32
  ![v4546.toNat, 256, 0]
def k0_off26 (i : grid0.Coords) (c0_i32_1465 : BitVec 32) : Fin 3 → Nat :=
  let arg0 : BitVec 32 := BitVec.ofNat 32 (i 0).val
  let c2_i32_1464 : BitVec 32 := 2#32
  let v4550 : BitVec 32 := Scalar.muli arg0 c2_i32_1464
  let v4551 : BitVec 32 := Scalar.addi v4550 c0_i32_1465
  let v4552 : Index := Scalar.indexCast v4551
  let c2_1466 : Index := 2#32
  let c0_1467 : Index := 0#32
  ![v4552.toNat, 2, 0]
def k0_off27 (i : grid0.Coords) (c0_i32_1515 : BitVec 32) : Fin 3 → Nat :=
  let arg0 : BitVec 32 := BitVec.ofNat 32 (i 0).val
  let c2_i32_1514 : BitVec 32 := 2#32
  let v4708 : BitVec 32 := Scalar.muli arg0 c2_i32_1514
  let v4709 : BitVec 32 := Scalar.addi v4708 c0_i32_1515
  let v4710 : Index := Scalar.indexCast v4709
  let c256_1516 : Index := 256#32
  let c128_1517 : Index := 128#32
  ![v4710.toNat, 256, 128]
def k0_off28 (i : grid0.Coords) (c0_i32_1519 : BitVec 32) : Fin 3 → Nat :=
  let arg0 : BitVec 32 := BitVec.ofNat 32 (i 0).val
  let c2_i32_1518 : BitVec 32 := 2#32
  let v4714 : BitVec 32 := Scalar.muli arg0 c2_i32_1518
  let v4715 : BitVec 32 := Scalar.addi v4714 c0_i32_1519
  let v4716 : Index := Scalar.indexCast v4715
  let c2_1520 : Index := 2#32
  let c128_1521 : Index := 128#32
  ![v4716.toNat, 2, 128]
def k0_off29 (i : grid0.Coords) (c0_i32_1680 : BitVec 32) : Fin 3 → Nat :=
  let arg0 : BitVec 32 := BitVec.ofNat 32 (i 0).val
  let c2_i32_1679 : BitVec 32 := 2#32
  let v5203 : BitVec 32 := Scalar.muli arg0 c2_i32_1679
  let v5204 : BitVec 32 := Scalar.addi v5203 c0_i32_1680
  let v5205 : Index := Scalar.indexCast v5204
  let c384_1681 : Index := 384#32
  let c0_1682 : Index := 0#32
  ![v5205.toNat, 384, 0]
def k0_off30 (i : grid0.Coords) (c0_i32_1684 : BitVec 32) : Fin 3 → Nat :=
  let arg0 : BitVec 32 := BitVec.ofNat 32 (i 0).val
  let c2_i32_1683 : BitVec 32 := 2#32
  let v5209 : BitVec 32 := Scalar.muli arg0 c2_i32_1683
  let v5210 : BitVec 32 := Scalar.addi v5209 c0_i32_1684
  let v5211 : Index := Scalar.indexCast v5210
  let c3_1685 : Index := 3#32
  let c0_1686 : Index := 0#32
  ![v5211.toNat, 3, 0]
def k0_off31 (i : grid0.Coords) (c0_i32_1734 : BitVec 32) : Fin 3 → Nat :=
  let arg0 : BitVec 32 := BitVec.ofNat 32 (i 0).val
  let c2_i32_1733 : BitVec 32 := 2#32
  let v5367 : BitVec 32 := Scalar.muli arg0 c2_i32_1733
  let v5368 : BitVec 32 := Scalar.addi v5367 c0_i32_1734
  let v5369 : Index := Scalar.indexCast v5368
  let c384_1735 : Index := 384#32
  let c128_1736 : Index := 128#32
  ![v5369.toNat, 384, 128]
def k0_off32 (i : grid0.Coords) (c0_i32_1738 : BitVec 32) : Fin 3 → Nat :=
  let arg0 : BitVec 32 := BitVec.ofNat 32 (i 0).val
  let c2_i32_1737 : BitVec 32 := 2#32
  let v5373 : BitVec 32 := Scalar.muli arg0 c2_i32_1737
  let v5374 : BitVec 32 := Scalar.addi v5373 c0_i32_1738
  let v5375 : Index := Scalar.indexCast v5374
  let c3_1739 : Index := 3#32
  let c128_1740 : Index := 128#32
  ![v5375.toNat, 3, 128]
def k0_off33 (i : grid0.Coords) (c0_i32_1899 : BitVec 32) : Fin 3 → Nat :=
  let arg0 : BitVec 32 := BitVec.ofNat 32 (i 0).val
  let c2_i32_1898 : BitVec 32 := 2#32
  let v5862 : BitVec 32 := Scalar.muli arg0 c2_i32_1898
  let v5863 : BitVec 32 := Scalar.addi v5862 c0_i32_1899
  let v5864 : Index := Scalar.indexCast v5863
  let c512_1900 : Index := 512#32
  let c0_1901 : Index := 0#32
  ![v5864.toNat, 512, 0]
def k0_off34 (i : grid0.Coords) (c0_i32_1903 : BitVec 32) : Fin 3 → Nat :=
  let arg0 : BitVec 32 := BitVec.ofNat 32 (i 0).val
  let c2_i32_1902 : BitVec 32 := 2#32
  let v5868 : BitVec 32 := Scalar.muli arg0 c2_i32_1902
  let v5869 : BitVec 32 := Scalar.addi v5868 c0_i32_1903
  let v5870 : Index := Scalar.indexCast v5869
  let c4_1904 : Index := 4#32
  let c0_1905 : Index := 0#32
  ![v5870.toNat, 4, 0]
def k0_off35 (i : grid0.Coords) (c0_i32_1953 : BitVec 32) : Fin 3 → Nat :=
  let arg0 : BitVec 32 := BitVec.ofNat 32 (i 0).val
  let c2_i32_1952 : BitVec 32 := 2#32
  let v6026 : BitVec 32 := Scalar.muli arg0 c2_i32_1952
  let v6027 : BitVec 32 := Scalar.addi v6026 c0_i32_1953
  let v6028 : Index := Scalar.indexCast v6027
  let c512_1954 : Index := 512#32
  let c128_1955 : Index := 128#32
  ![v6028.toNat, 512, 128]
def k0_off36 (i : grid0.Coords) (c0_i32_1957 : BitVec 32) : Fin 3 → Nat :=
  let arg0 : BitVec 32 := BitVec.ofNat 32 (i 0).val
  let c2_i32_1956 : BitVec 32 := 2#32
  let v6032 : BitVec 32 := Scalar.muli arg0 c2_i32_1956
  let v6033 : BitVec 32 := Scalar.addi v6032 c0_i32_1957
  let v6034 : Index := Scalar.indexCast v6033
  let c4_1958 : Index := 4#32
  let c128_1959 : Index := 128#32
  ![v6034.toNat, 4, 128]
def k0_off37 (i : grid0.Coords) (c0_i32_2118 : BitVec 32) : Fin 3 → Nat :=
  let arg0 : BitVec 32 := BitVec.ofNat 32 (i 0).val
  let c2_i32_2117 : BitVec 32 := 2#32
  let v6521 : BitVec 32 := Scalar.muli arg0 c2_i32_2117
  let v6522 : BitVec 32 := Scalar.addi v6521 c0_i32_2118
  let v6523 : Index := Scalar.indexCast v6522
  let c640_2119 : Index := 640#32
  let c0_2120 : Index := 0#32
  ![v6523.toNat, 640, 0]
def k0_off38 (i : grid0.Coords) (c0_i32_2122 : BitVec 32) : Fin 3 → Nat :=
  let arg0 : BitVec 32 := BitVec.ofNat 32 (i 0).val
  let c2_i32_2121 : BitVec 32 := 2#32
  let v6527 : BitVec 32 := Scalar.muli arg0 c2_i32_2121
  let v6528 : BitVec 32 := Scalar.addi v6527 c0_i32_2122
  let v6529 : Index := Scalar.indexCast v6528
  let c5_2123 : Index := 5#32
  let c0_2124 : Index := 0#32
  ![v6529.toNat, 5, 0]
def k0_off39 (i : grid0.Coords) (c0_i32_2172 : BitVec 32) : Fin 3 → Nat :=
  let arg0 : BitVec 32 := BitVec.ofNat 32 (i 0).val
  let c2_i32_2171 : BitVec 32 := 2#32
  let v6685 : BitVec 32 := Scalar.muli arg0 c2_i32_2171
  let v6686 : BitVec 32 := Scalar.addi v6685 c0_i32_2172
  let v6687 : Index := Scalar.indexCast v6686
  let c640_2173 : Index := 640#32
  let c128_2174 : Index := 128#32
  ![v6687.toNat, 640, 128]
def k0_off40 (i : grid0.Coords) (c0_i32_2176 : BitVec 32) : Fin 3 → Nat :=
  let arg0 : BitVec 32 := BitVec.ofNat 32 (i 0).val
  let c2_i32_2175 : BitVec 32 := 2#32
  let v6691 : BitVec 32 := Scalar.muli arg0 c2_i32_2175
  let v6692 : BitVec 32 := Scalar.addi v6691 c0_i32_2176
  let v6693 : Index := Scalar.indexCast v6692
  let c5_2177 : Index := 5#32
  let c128_2178 : Index := 128#32
  ![v6693.toNat, 5, 128]
def k0_off41 (i : grid0.Coords) (c0_i32_2337 : BitVec 32) : Fin 3 → Nat :=
  let arg0 : BitVec 32 := BitVec.ofNat 32 (i 0).val
  let c2_i32_2336 : BitVec 32 := 2#32
  let v7180 : BitVec 32 := Scalar.muli arg0 c2_i32_2336
  let v7181 : BitVec 32 := Scalar.addi v7180 c0_i32_2337
  let v7182 : Index := Scalar.indexCast v7181
  let c768_2338 : Index := 768#32
  let c0_2339 : Index := 0#32
  ![v7182.toNat, 768, 0]
def k0_off42 (i : grid0.Coords) (c0_i32_2341 : BitVec 32) : Fin 3 → Nat :=
  let arg0 : BitVec 32 := BitVec.ofNat 32 (i 0).val
  let c2_i32_2340 : BitVec 32 := 2#32
  let v7186 : BitVec 32 := Scalar.muli arg0 c2_i32_2340
  let v7187 : BitVec 32 := Scalar.addi v7186 c0_i32_2341
  let v7188 : Index := Scalar.indexCast v7187
  let c6_2342 : Index := 6#32
  let c0_2343 : Index := 0#32
  ![v7188.toNat, 6, 0]
def k0_off43 (i : grid0.Coords) (c0_i32_2391 : BitVec 32) : Fin 3 → Nat :=
  let arg0 : BitVec 32 := BitVec.ofNat 32 (i 0).val
  let c2_i32_2390 : BitVec 32 := 2#32
  let v7344 : BitVec 32 := Scalar.muli arg0 c2_i32_2390
  let v7345 : BitVec 32 := Scalar.addi v7344 c0_i32_2391
  let v7346 : Index := Scalar.indexCast v7345
  let c768_2392 : Index := 768#32
  let c128_2393 : Index := 128#32
  ![v7346.toNat, 768, 128]
def k0_off44 (i : grid0.Coords) (c0_i32_2395 : BitVec 32) : Fin 3 → Nat :=
  let arg0 : BitVec 32 := BitVec.ofNat 32 (i 0).val
  let c2_i32_2394 : BitVec 32 := 2#32
  let v7350 : BitVec 32 := Scalar.muli arg0 c2_i32_2394
  let v7351 : BitVec 32 := Scalar.addi v7350 c0_i32_2395
  let v7352 : Index := Scalar.indexCast v7351
  let c6_2396 : Index := 6#32
  let c128_2397 : Index := 128#32
  ![v7352.toNat, 6, 128]
def k0_off45 (i : grid0.Coords) (c0_i32_2556 : BitVec 32) : Fin 3 → Nat :=
  let arg0 : BitVec 32 := BitVec.ofNat 32 (i 0).val
  let c2_i32_2555 : BitVec 32 := 2#32
  let v7839 : BitVec 32 := Scalar.muli arg0 c2_i32_2555
  let v7840 : BitVec 32 := Scalar.addi v7839 c0_i32_2556
  let v7841 : Index := Scalar.indexCast v7840
  let c896_2557 : Index := 896#32
  let c0_2558 : Index := 0#32
  ![v7841.toNat, 896, 0]
def k0_off46 (i : grid0.Coords) (c0_i32_2560 : BitVec 32) : Fin 3 → Nat :=
  let arg0 : BitVec 32 := BitVec.ofNat 32 (i 0).val
  let c2_i32_2559 : BitVec 32 := 2#32
  let v7845 : BitVec 32 := Scalar.muli arg0 c2_i32_2559
  let v7846 : BitVec 32 := Scalar.addi v7845 c0_i32_2560
  let v7847 : Index := Scalar.indexCast v7846
  let c7_2561 : Index := 7#32
  let c0_2562 : Index := 0#32
  ![v7847.toNat, 7, 0]
def k0_off47 (i : grid0.Coords) (c0_i32_2610 : BitVec 32) : Fin 3 → Nat :=
  let arg0 : BitVec 32 := BitVec.ofNat 32 (i 0).val
  let c2_i32_2609 : BitVec 32 := 2#32
  let v8003 : BitVec 32 := Scalar.muli arg0 c2_i32_2609
  let v8004 : BitVec 32 := Scalar.addi v8003 c0_i32_2610
  let v8005 : Index := Scalar.indexCast v8004
  let c896_2611 : Index := 896#32
  let c128_2612 : Index := 128#32
  ![v8005.toNat, 896, 128]
def k0_off48 (i : grid0.Coords) (c0_i32_2614 : BitVec 32) : Fin 3 → Nat :=
  let arg0 : BitVec 32 := BitVec.ofNat 32 (i 0).val
  let c2_i32_2613 : BitVec 32 := 2#32
  let v8009 : BitVec 32 := Scalar.muli arg0 c2_i32_2613
  let v8010 : BitVec 32 := Scalar.addi v8009 c0_i32_2614
  let v8011 : Index := Scalar.indexCast v8010
  let c7_2615 : Index := 7#32
  let c128_2616 : Index := 128#32
  ![v8011.toNat, 7, 128]
def k0_off49 (i : grid0.Coords) (c0_i32_2775 : BitVec 32) : Fin 3 → Nat :=
  let arg0 : BitVec 32 := BitVec.ofNat 32 (i 0).val
  let c2_i32_2774 : BitVec 32 := 2#32
  let v8498 : BitVec 32 := Scalar.muli arg0 c2_i32_2774
  let v8499 : BitVec 32 := Scalar.addi v8498 c0_i32_2775
  let v8500 : Index := Scalar.indexCast v8499
  let c1024_2776 : Index := 1024#32
  let c0_2777 : Index := 0#32
  ![v8500.toNat, 1024, 0]
def k0_off50 (i : grid0.Coords) (c0_i32_2779 : BitVec 32) : Fin 3 → Nat :=
  let arg0 : BitVec 32 := BitVec.ofNat 32 (i 0).val
  let c2_i32_2778 : BitVec 32 := 2#32
  let v8504 : BitVec 32 := Scalar.muli arg0 c2_i32_2778
  let v8505 : BitVec 32 := Scalar.addi v8504 c0_i32_2779
  let v8506 : Index := Scalar.indexCast v8505
  let c8_2780 : Index := 8#32
  let c0_2781 : Index := 0#32
  ![v8506.toNat, 8, 0]
def k0_off51 (i : grid0.Coords) (c0_i32_2829 : BitVec 32) : Fin 3 → Nat :=
  let arg0 : BitVec 32 := BitVec.ofNat 32 (i 0).val
  let c2_i32_2828 : BitVec 32 := 2#32
  let v8662 : BitVec 32 := Scalar.muli arg0 c2_i32_2828
  let v8663 : BitVec 32 := Scalar.addi v8662 c0_i32_2829
  let v8664 : Index := Scalar.indexCast v8663
  let c1024_2830 : Index := 1024#32
  let c128_2831 : Index := 128#32
  ![v8664.toNat, 1024, 128]
def k0_off52 (i : grid0.Coords) (c0_i32_2833 : BitVec 32) : Fin 3 → Nat :=
  let arg0 : BitVec 32 := BitVec.ofNat 32 (i 0).val
  let c2_i32_2832 : BitVec 32 := 2#32
  let v8668 : BitVec 32 := Scalar.muli arg0 c2_i32_2832
  let v8669 : BitVec 32 := Scalar.addi v8668 c0_i32_2833
  let v8670 : Index := Scalar.indexCast v8669
  let c8_2834 : Index := 8#32
  let c128_2835 : Index := 128#32
  ![v8670.toNat, 8, 128]
def k0_off53 (i : grid0.Coords) (c0_i32_2994 : BitVec 32) : Fin 3 → Nat :=
  let arg0 : BitVec 32 := BitVec.ofNat 32 (i 0).val
  let c2_i32_2993 : BitVec 32 := 2#32
  let v9157 : BitVec 32 := Scalar.muli arg0 c2_i32_2993
  let v9158 : BitVec 32 := Scalar.addi v9157 c0_i32_2994
  let v9159 : Index := Scalar.indexCast v9158
  let c1152_2995 : Index := 1152#32
  let c0_2996 : Index := 0#32
  ![v9159.toNat, 1152, 0]
def k0_off54 (i : grid0.Coords) (c0_i32_2998 : BitVec 32) : Fin 3 → Nat :=
  let arg0 : BitVec 32 := BitVec.ofNat 32 (i 0).val
  let c2_i32_2997 : BitVec 32 := 2#32
  let v9163 : BitVec 32 := Scalar.muli arg0 c2_i32_2997
  let v9164 : BitVec 32 := Scalar.addi v9163 c0_i32_2998
  let v9165 : Index := Scalar.indexCast v9164
  let c9_2999 : Index := 9#32
  let c0_3000 : Index := 0#32
  ![v9165.toNat, 9, 0]
def k0_off55 (i : grid0.Coords) (c0_i32_3048 : BitVec 32) : Fin 3 → Nat :=
  let arg0 : BitVec 32 := BitVec.ofNat 32 (i 0).val
  let c2_i32_3047 : BitVec 32 := 2#32
  let v9321 : BitVec 32 := Scalar.muli arg0 c2_i32_3047
  let v9322 : BitVec 32 := Scalar.addi v9321 c0_i32_3048
  let v9323 : Index := Scalar.indexCast v9322
  let c1152_3049 : Index := 1152#32
  let c128_3050 : Index := 128#32
  ![v9323.toNat, 1152, 128]
def k0_off56 (i : grid0.Coords) (c0_i32_3052 : BitVec 32) : Fin 3 → Nat :=
  let arg0 : BitVec 32 := BitVec.ofNat 32 (i 0).val
  let c2_i32_3051 : BitVec 32 := 2#32
  let v9327 : BitVec 32 := Scalar.muli arg0 c2_i32_3051
  let v9328 : BitVec 32 := Scalar.addi v9327 c0_i32_3052
  let v9329 : Index := Scalar.indexCast v9328
  let c9_3053 : Index := 9#32
  let c128_3054 : Index := 128#32
  ![v9329.toNat, 9, 128]
def k0_off57 (i : grid0.Coords) (c0_i32_3213 : BitVec 32) : Fin 3 → Nat :=
  let arg0 : BitVec 32 := BitVec.ofNat 32 (i 0).val
  let c2_i32_3212 : BitVec 32 := 2#32
  let v9816 : BitVec 32 := Scalar.muli arg0 c2_i32_3212
  let v9817 : BitVec 32 := Scalar.addi v9816 c0_i32_3213
  let v9818 : Index := Scalar.indexCast v9817
  let c1280_3214 : Index := 1280#32
  let c0_3215 : Index := 0#32
  ![v9818.toNat, 1280, 0]
def k0_off58 (i : grid0.Coords) (c0_i32_3217 : BitVec 32) : Fin 3 → Nat :=
  let arg0 : BitVec 32 := BitVec.ofNat 32 (i 0).val
  let c2_i32_3216 : BitVec 32 := 2#32
  let v9822 : BitVec 32 := Scalar.muli arg0 c2_i32_3216
  let v9823 : BitVec 32 := Scalar.addi v9822 c0_i32_3217
  let v9824 : Index := Scalar.indexCast v9823
  let c10_3218 : Index := 10#32
  let c0_3219 : Index := 0#32
  ![v9824.toNat, 10, 0]
def k0_off59 (i : grid0.Coords) (c0_i32_3267 : BitVec 32) : Fin 3 → Nat :=
  let arg0 : BitVec 32 := BitVec.ofNat 32 (i 0).val
  let c2_i32_3266 : BitVec 32 := 2#32
  let v9980 : BitVec 32 := Scalar.muli arg0 c2_i32_3266
  let v9981 : BitVec 32 := Scalar.addi v9980 c0_i32_3267
  let v9982 : Index := Scalar.indexCast v9981
  let c1280_3268 : Index := 1280#32
  let c128_3269 : Index := 128#32
  ![v9982.toNat, 1280, 128]
def k0_off60 (i : grid0.Coords) (c0_i32_3271 : BitVec 32) : Fin 3 → Nat :=
  let arg0 : BitVec 32 := BitVec.ofNat 32 (i 0).val
  let c2_i32_3270 : BitVec 32 := 2#32
  let v9986 : BitVec 32 := Scalar.muli arg0 c2_i32_3270
  let v9987 : BitVec 32 := Scalar.addi v9986 c0_i32_3271
  let v9988 : Index := Scalar.indexCast v9987
  let c10_3272 : Index := 10#32
  let c128_3273 : Index := 128#32
  ![v9988.toNat, 10, 128]
def k0_off61 (i : grid0.Coords) (c0_i32_3432 : BitVec 32) : Fin 3 → Nat :=
  let arg0 : BitVec 32 := BitVec.ofNat 32 (i 0).val
  let c2_i32_3431 : BitVec 32 := 2#32
  let v10475 : BitVec 32 := Scalar.muli arg0 c2_i32_3431
  let v10476 : BitVec 32 := Scalar.addi v10475 c0_i32_3432
  let v10477 : Index := Scalar.indexCast v10476
  let c1408_3433 : Index := 1408#32
  let c0_3434 : Index := 0#32
  ![v10477.toNat, 1408, 0]
def k0_off62 (i : grid0.Coords) (c0_i32_3436 : BitVec 32) : Fin 3 → Nat :=
  let arg0 : BitVec 32 := BitVec.ofNat 32 (i 0).val
  let c2_i32_3435 : BitVec 32 := 2#32
  let v10481 : BitVec 32 := Scalar.muli arg0 c2_i32_3435
  let v10482 : BitVec 32 := Scalar.addi v10481 c0_i32_3436
  let v10483 : Index := Scalar.indexCast v10482
  let c11_3437 : Index := 11#32
  let c0_3438 : Index := 0#32
  ![v10483.toNat, 11, 0]
def k0_off63 (i : grid0.Coords) (c0_i32_3486 : BitVec 32) : Fin 3 → Nat :=
  let arg0 : BitVec 32 := BitVec.ofNat 32 (i 0).val
  let c2_i32_3485 : BitVec 32 := 2#32
  let v10639 : BitVec 32 := Scalar.muli arg0 c2_i32_3485
  let v10640 : BitVec 32 := Scalar.addi v10639 c0_i32_3486
  let v10641 : Index := Scalar.indexCast v10640
  let c1408_3487 : Index := 1408#32
  let c128_3488 : Index := 128#32
  ![v10641.toNat, 1408, 128]
def k0_off64 (i : grid0.Coords) (c0_i32_3490 : BitVec 32) : Fin 3 → Nat :=
  let arg0 : BitVec 32 := BitVec.ofNat 32 (i 0).val
  let c2_i32_3489 : BitVec 32 := 2#32
  let v10645 : BitVec 32 := Scalar.muli arg0 c2_i32_3489
  let v10646 : BitVec 32 := Scalar.addi v10645 c0_i32_3490
  let v10647 : Index := Scalar.indexCast v10646
  let c11_3491 : Index := 11#32
  let c128_3492 : Index := 128#32
  ![v10647.toNat, 11, 128]
def k0_off65 (i : grid0.Coords) (c0_i32_3651 : BitVec 32) : Fin 3 → Nat :=
  let arg0 : BitVec 32 := BitVec.ofNat 32 (i 0).val
  let c2_i32_3650 : BitVec 32 := 2#32
  let v11134 : BitVec 32 := Scalar.muli arg0 c2_i32_3650
  let v11135 : BitVec 32 := Scalar.addi v11134 c0_i32_3651
  let v11136 : Index := Scalar.indexCast v11135
  let c1536_3652 : Index := 1536#32
  let c0_3653 : Index := 0#32
  ![v11136.toNat, 1536, 0]
def k0_off66 (i : grid0.Coords) (c0_i32_3655 : BitVec 32) : Fin 3 → Nat :=
  let arg0 : BitVec 32 := BitVec.ofNat 32 (i 0).val
  let c2_i32_3654 : BitVec 32 := 2#32
  let v11140 : BitVec 32 := Scalar.muli arg0 c2_i32_3654
  let v11141 : BitVec 32 := Scalar.addi v11140 c0_i32_3655
  let v11142 : Index := Scalar.indexCast v11141
  let c12_3656 : Index := 12#32
  let c0_3657 : Index := 0#32
  ![v11142.toNat, 12, 0]
def k0_off67 (i : grid0.Coords) (c0_i32_3705 : BitVec 32) : Fin 3 → Nat :=
  let arg0 : BitVec 32 := BitVec.ofNat 32 (i 0).val
  let c2_i32_3704 : BitVec 32 := 2#32
  let v11298 : BitVec 32 := Scalar.muli arg0 c2_i32_3704
  let v11299 : BitVec 32 := Scalar.addi v11298 c0_i32_3705
  let v11300 : Index := Scalar.indexCast v11299
  let c1536_3706 : Index := 1536#32
  let c128_3707 : Index := 128#32
  ![v11300.toNat, 1536, 128]
def k0_off68 (i : grid0.Coords) (c0_i32_3709 : BitVec 32) : Fin 3 → Nat :=
  let arg0 : BitVec 32 := BitVec.ofNat 32 (i 0).val
  let c2_i32_3708 : BitVec 32 := 2#32
  let v11304 : BitVec 32 := Scalar.muli arg0 c2_i32_3708
  let v11305 : BitVec 32 := Scalar.addi v11304 c0_i32_3709
  let v11306 : Index := Scalar.indexCast v11305
  let c12_3710 : Index := 12#32
  let c128_3711 : Index := 128#32
  ![v11306.toNat, 12, 128]
def k0_off69 (i : grid0.Coords) (c0_i32_3870 : BitVec 32) : Fin 3 → Nat :=
  let arg0 : BitVec 32 := BitVec.ofNat 32 (i 0).val
  let c2_i32_3869 : BitVec 32 := 2#32
  let v11793 : BitVec 32 := Scalar.muli arg0 c2_i32_3869
  let v11794 : BitVec 32 := Scalar.addi v11793 c0_i32_3870
  let v11795 : Index := Scalar.indexCast v11794
  let c1664_3871 : Index := 1664#32
  let c0_3872 : Index := 0#32
  ![v11795.toNat, 1664, 0]
def k0_off70 (i : grid0.Coords) (c0_i32_3874 : BitVec 32) : Fin 3 → Nat :=
  let arg0 : BitVec 32 := BitVec.ofNat 32 (i 0).val
  let c2_i32_3873 : BitVec 32 := 2#32
  let v11799 : BitVec 32 := Scalar.muli arg0 c2_i32_3873
  let v11800 : BitVec 32 := Scalar.addi v11799 c0_i32_3874
  let v11801 : Index := Scalar.indexCast v11800
  let c13_3875 : Index := 13#32
  let c0_3876 : Index := 0#32
  ![v11801.toNat, 13, 0]
def k0_off71 (i : grid0.Coords) (c0_i32_3924 : BitVec 32) : Fin 3 → Nat :=
  let arg0 : BitVec 32 := BitVec.ofNat 32 (i 0).val
  let c2_i32_3923 : BitVec 32 := 2#32
  let v11957 : BitVec 32 := Scalar.muli arg0 c2_i32_3923
  let v11958 : BitVec 32 := Scalar.addi v11957 c0_i32_3924
  let v11959 : Index := Scalar.indexCast v11958
  let c1664_3925 : Index := 1664#32
  let c128_3926 : Index := 128#32
  ![v11959.toNat, 1664, 128]
def k0_off72 (i : grid0.Coords) (c0_i32_3928 : BitVec 32) : Fin 3 → Nat :=
  let arg0 : BitVec 32 := BitVec.ofNat 32 (i 0).val
  let c2_i32_3927 : BitVec 32 := 2#32
  let v11963 : BitVec 32 := Scalar.muli arg0 c2_i32_3927
  let v11964 : BitVec 32 := Scalar.addi v11963 c0_i32_3928
  let v11965 : Index := Scalar.indexCast v11964
  let c13_3929 : Index := 13#32
  let c128_3930 : Index := 128#32
  ![v11965.toNat, 13, 128]
def k0_off73 (i : grid0.Coords) (c0_i32_4042 : BitVec 32) : Fin 2 → Nat :=
  let c0_4043 : Index := 0#32
  let arg0 : BitVec 32 := BitVec.ofNat 32 (i 0).val
  let c4_i32_4041 : BitVec 32 := 4#32
  let v12298 : BitVec 32 := Scalar.muli arg0 c4_i32_4041
  let v12299 : BitVec 32 := Scalar.addi v12298 c0_i32_4042
  let v12300 : Index := Scalar.indexCast v12299
  ![0, v12300.toNat]
def k0_off74 (i : grid0.Coords) (c0_i32_4070 : BitVec 32) : Fin 2 → Nat :=
  let c1_4071 : Index := 1#32
  let arg0 : BitVec 32 := BitVec.ofNat 32 (i 0).val
  let c4_i32_4069 : BitVec 32 := 4#32
  let v12350 : BitVec 32 := Scalar.muli arg0 c4_i32_4069
  let v12351 : BitVec 32 := Scalar.addi v12350 c0_i32_4070
  let v12352 : Index := Scalar.indexCast v12351
  ![1, v12352.toNat]
def k0_off75 (i : grid0.Coords) (c0_i32_4098 : BitVec 32) : Fin 2 → Nat :=
  let c2_4099 : Index := 2#32
  let arg0 : BitVec 32 := BitVec.ofNat 32 (i 0).val
  let c4_i32_4097 : BitVec 32 := 4#32
  let v12402 : BitVec 32 := Scalar.muli arg0 c4_i32_4097
  let v12403 : BitVec 32 := Scalar.addi v12402 c0_i32_4098
  let v12404 : Index := Scalar.indexCast v12403
  ![2, v12404.toNat]
def k0_off76 (i : grid0.Coords) (c0_i32_4126 : BitVec 32) : Fin 2 → Nat :=
  let c3_4127 : Index := 3#32
  let arg0 : BitVec 32 := BitVec.ofNat 32 (i 0).val
  let c4_i32_4125 : BitVec 32 := 4#32
  let v12454 : BitVec 32 := Scalar.muli arg0 c4_i32_4125
  let v12455 : BitVec 32 := Scalar.addi v12454 c0_i32_4126
  let v12456 : Index := Scalar.indexCast v12455
  ![3, v12456.toNat]
def k0_off77 (i : grid0.Coords) (c0_i32_4154 : BitVec 32) : Fin 2 → Nat :=
  let c4_4155 : Index := 4#32
  let arg0 : BitVec 32 := BitVec.ofNat 32 (i 0).val
  let c4_i32_4153 : BitVec 32 := 4#32
  let v12506 : BitVec 32 := Scalar.muli arg0 c4_i32_4153
  let v12507 : BitVec 32 := Scalar.addi v12506 c0_i32_4154
  let v12508 : Index := Scalar.indexCast v12507
  ![4, v12508.toNat]
def k0_off78 (i : grid0.Coords) (c0_i32_4182 : BitVec 32) : Fin 2 → Nat :=
  let c5_4183 : Index := 5#32
  let arg0 : BitVec 32 := BitVec.ofNat 32 (i 0).val
  let c4_i32_4181 : BitVec 32 := 4#32
  let v12558 : BitVec 32 := Scalar.muli arg0 c4_i32_4181
  let v12559 : BitVec 32 := Scalar.addi v12558 c0_i32_4182
  let v12560 : Index := Scalar.indexCast v12559
  ![5, v12560.toNat]
def k0_off79 (i : grid0.Coords) (c0_i32_4210 : BitVec 32) : Fin 2 → Nat :=
  let c6_4211 : Index := 6#32
  let arg0 : BitVec 32 := BitVec.ofNat 32 (i 0).val
  let c4_i32_4209 : BitVec 32 := 4#32
  let v12610 : BitVec 32 := Scalar.muli arg0 c4_i32_4209
  let v12611 : BitVec 32 := Scalar.addi v12610 c0_i32_4210
  let v12612 : Index := Scalar.indexCast v12611
  ![6, v12612.toNat]
def k0_off80 (i : grid0.Coords) (c0_i32_4238 : BitVec 32) : Fin 2 → Nat :=
  let c7_4239 : Index := 7#32
  let arg0 : BitVec 32 := BitVec.ofNat 32 (i 0).val
  let c4_i32_4237 : BitVec 32 := 4#32
  let v12662 : BitVec 32 := Scalar.muli arg0 c4_i32_4237
  let v12663 : BitVec 32 := Scalar.addi v12662 c0_i32_4238
  let v12664 : Index := Scalar.indexCast v12663
  ![7, v12664.toNat]
def k0_off81 (i : grid0.Coords) (c0_i32_4266 : BitVec 32) : Fin 2 → Nat :=
  let c8_4267 : Index := 8#32
  let arg0 : BitVec 32 := BitVec.ofNat 32 (i 0).val
  let c4_i32_4265 : BitVec 32 := 4#32
  let v12714 : BitVec 32 := Scalar.muli arg0 c4_i32_4265
  let v12715 : BitVec 32 := Scalar.addi v12714 c0_i32_4266
  let v12716 : Index := Scalar.indexCast v12715
  ![8, v12716.toNat]
def k0_off82 (i : grid0.Coords) (c0_i32_4294 : BitVec 32) : Fin 2 → Nat :=
  let c9_4295 : Index := 9#32
  let arg0 : BitVec 32 := BitVec.ofNat 32 (i 0).val
  let c4_i32_4293 : BitVec 32 := 4#32
  let v12766 : BitVec 32 := Scalar.muli arg0 c4_i32_4293
  let v12767 : BitVec 32 := Scalar.addi v12766 c0_i32_4294
  let v12768 : Index := Scalar.indexCast v12767
  ![9, v12768.toNat]
def k0_off83 (i : grid0.Coords) (c0_i32_4322 : BitVec 32) : Fin 2 → Nat :=
  let c10_4323 : Index := 10#32
  let arg0 : BitVec 32 := BitVec.ofNat 32 (i 0).val
  let c4_i32_4321 : BitVec 32 := 4#32
  let v12818 : BitVec 32 := Scalar.muli arg0 c4_i32_4321
  let v12819 : BitVec 32 := Scalar.addi v12818 c0_i32_4322
  let v12820 : Index := Scalar.indexCast v12819
  ![10, v12820.toNat]
def k0_off84 (i : grid0.Coords) (c0_i32_4350 : BitVec 32) : Fin 2 → Nat :=
  let c11_4351 : Index := 11#32
  let arg0 : BitVec 32 := BitVec.ofNat 32 (i 0).val
  let c4_i32_4349 : BitVec 32 := 4#32
  let v12870 : BitVec 32 := Scalar.muli arg0 c4_i32_4349
  let v12871 : BitVec 32 := Scalar.addi v12870 c0_i32_4350
  let v12872 : Index := Scalar.indexCast v12871
  ![11, v12872.toNat]
def k0_off85 (i : grid0.Coords) (c0_i32_4378 : BitVec 32) : Fin 2 → Nat :=
  let c12_4379 : Index := 12#32
  let arg0 : BitVec 32 := BitVec.ofNat 32 (i 0).val
  let c4_i32_4377 : BitVec 32 := 4#32
  let v12922 : BitVec 32 := Scalar.muli arg0 c4_i32_4377
  let v12923 : BitVec 32 := Scalar.addi v12922 c0_i32_4378
  let v12924 : Index := Scalar.indexCast v12923
  ![12, v12924.toNat]
def k0_off86 (i : grid0.Coords) (c0_i32_4406 : BitVec 32) : Fin 2 → Nat :=
  let c13_4407 : Index := 13#32
  let arg0 : BitVec 32 := BitVec.ofNat 32 (i 0).val
  let c4_i32_4405 : BitVec 32 := 4#32
  let v12974 : BitVec 32 := Scalar.muli arg0 c4_i32_4405
  let v12975 : BitVec 32 := Scalar.addi v12974 c0_i32_4406
  let v12976 : Index := Scalar.indexCast v12975
  ![13, v12976.toNat]
def k0_off87 (i : grid0.Coords) (c0_i32_4434 : BitVec 32) : Fin 2 → Nat :=
  let c14 : Index := 14#32
  let arg0 : BitVec 32 := BitVec.ofNat 32 (i 0).val
  let c4_i32_4433 : BitVec 32 := 4#32
  let v13026 : BitVec 32 := Scalar.muli arg0 c4_i32_4433
  let v13027 : BitVec 32 := Scalar.addi v13026 c0_i32_4434
  let v13028 : Index := Scalar.indexCast v13027
  ![14, v13028.toNat]
def k0_off88 (i : grid0.Coords) (c0_i32_4461 : BitVec 32) : Fin 2 → Nat :=
  let c15 : Index := 15#32
  let arg0 : BitVec 32 := BitVec.ofNat 32 (i 0).val
  let c4_i32_4460 : BitVec 32 := 4#32
  let v13078 : BitVec 32 := Scalar.muli arg0 c4_i32_4460
  let v13079 : BitVec 32 := Scalar.addi v13078 c0_i32_4461
  let v13080 : Index := Scalar.indexCast v13079
  ![15, v13080.toNat]
def k0_cond3 (i : grid0.Coords) : BitVec 1 :=
  let arg0 : BitVec 32 := BitVec.ofNat 32 (i 0).val
  let c7_i32_2 : BitVec 32 := 7#32
  let v6 : BitVec 1 := Scalar.cmpi .sge arg0 c7_i32_2
  let c11_i32 : BitVec 32 := 11#32
  let v7 : BitVec 1 := Scalar.cmpi .slt arg0 c11_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off89 (i : grid0.Coords) (c0_i32_44 : BitVec 32) : Fin 3 → Nat :=
  let arg0 : BitVec 32 := BitVec.ofNat 32 (i 0).val
  let c2_i32 : BitVec 32 := 2#32
  let v177 : BitVec 32 := Scalar.muli arg0 c2_i32
  let v178 : BitVec 32 := Scalar.addi v177 c0_i32_44
  let v179 : Index := Scalar.indexCast v178
  let c0_45 : Index := 0#32
  let c0_46 : Index := 0#32
  ![v179.toNat, 0, 0]
def k0_off90 (i : grid0.Coords) (c0_i32_48 : BitVec 32) : Fin 3 → Nat :=
  let arg0 : BitVec 32 := BitVec.ofNat 32 (i 0).val
  let c2_i32_47 : BitVec 32 := 2#32
  let v183 : BitVec 32 := Scalar.muli arg0 c2_i32_47
  let v184 : BitVec 32 := Scalar.addi v183 c0_i32_48
  let v185 : Index := Scalar.indexCast v184
  let c0_49 : Index := 0#32
  let c0_50 : Index := 0#32
  ![v185.toNat, 0, 0]
def k0_off91 (i : grid0.Coords) (c0_i32_96 : BitVec 32) : Fin 3 → Nat :=
  let arg0 : BitVec 32 := BitVec.ofNat 32 (i 0).val
  let c2_i32_95 : BitVec 32 := 2#32
  let v341 : BitVec 32 := Scalar.muli arg0 c2_i32_95
  let v342 : BitVec 32 := Scalar.addi v341 c0_i32_96
  let v343 : Index := Scalar.indexCast v342
  let c0_97 : Index := 0#32
  let c128_98 : Index := 128#32
  ![v343.toNat, 0, 128]
def k0_off92 (i : grid0.Coords) (c0_i32_100 : BitVec 32) : Fin 3 → Nat :=
  let arg0 : BitVec 32 := BitVec.ofNat 32 (i 0).val
  let c2_i32_99 : BitVec 32 := 2#32
  let v347 : BitVec 32 := Scalar.muli arg0 c2_i32_99
  let v348 : BitVec 32 := Scalar.addi v347 c0_i32_100
  let v349 : Index := Scalar.indexCast v348
  let c0_101 : Index := 0#32
  let c128_102 : Index := 128#32
  ![v349.toNat, 0, 128]
def k0_off93 (i : grid0.Coords) (c0_i32_258 : BitVec 32) : Fin 3 → Nat :=
  let arg0 : BitVec 32 := BitVec.ofNat 32 (i 0).val
  let c2_i32_257 : BitVec 32 := 2#32
  let v836 : BitVec 32 := Scalar.muli arg0 c2_i32_257
  let v837 : BitVec 32 := Scalar.addi v836 c0_i32_258
  let v838 : Index := Scalar.indexCast v837
  let c128_259 : Index := 128#32
  let c0_260 : Index := 0#32
  ![v838.toNat, 128, 0]
def k0_off94 (i : grid0.Coords) (c0_i32_262 : BitVec 32) : Fin 3 → Nat :=
  let arg0 : BitVec 32 := BitVec.ofNat 32 (i 0).val
  let c2_i32_261 : BitVec 32 := 2#32
  let v842 : BitVec 32 := Scalar.muli arg0 c2_i32_261
  let v843 : BitVec 32 := Scalar.addi v842 c0_i32_262
  let v844 : Index := Scalar.indexCast v843
  let c1_263 : Index := 1#32
  let c0_264 : Index := 0#32
  ![v844.toNat, 1, 0]
def k0_off95 (i : grid0.Coords) (c0_i32_312 : BitVec 32) : Fin 3 → Nat :=
  let arg0 : BitVec 32 := BitVec.ofNat 32 (i 0).val
  let c2_i32_311 : BitVec 32 := 2#32
  let v1000 : BitVec 32 := Scalar.muli arg0 c2_i32_311
  let v1001 : BitVec 32 := Scalar.addi v1000 c0_i32_312
  let v1002 : Index := Scalar.indexCast v1001
  let c128_313 : Index := 128#32
  let c128_314 : Index := 128#32
  ![v1002.toNat, 128, 128]
def k0_off96 (i : grid0.Coords) (c0_i32_316 : BitVec 32) : Fin 3 → Nat :=
  let arg0 : BitVec 32 := BitVec.ofNat 32 (i 0).val
  let c2_i32_315 : BitVec 32 := 2#32
  let v1006 : BitVec 32 := Scalar.muli arg0 c2_i32_315
  let v1007 : BitVec 32 := Scalar.addi v1006 c0_i32_316
  let v1008 : Index := Scalar.indexCast v1007
  let c1_317 : Index := 1#32
  let c128_318 : Index := 128#32
  ![v1008.toNat, 1, 128]
def k0_off97 (i : grid0.Coords) (c0_i32_477 : BitVec 32) : Fin 3 → Nat :=
  let arg0 : BitVec 32 := BitVec.ofNat 32 (i 0).val
  let c2_i32_476 : BitVec 32 := 2#32
  let v1495 : BitVec 32 := Scalar.muli arg0 c2_i32_476
  let v1496 : BitVec 32 := Scalar.addi v1495 c0_i32_477
  let v1497 : Index := Scalar.indexCast v1496
  let c256_478 : Index := 256#32
  let c0_479 : Index := 0#32
  ![v1497.toNat, 256, 0]
def k0_off98 (i : grid0.Coords) (c0_i32_481 : BitVec 32) : Fin 3 → Nat :=
  let arg0 : BitVec 32 := BitVec.ofNat 32 (i 0).val
  let c2_i32_480 : BitVec 32 := 2#32
  let v1501 : BitVec 32 := Scalar.muli arg0 c2_i32_480
  let v1502 : BitVec 32 := Scalar.addi v1501 c0_i32_481
  let v1503 : Index := Scalar.indexCast v1502
  let c2_482 : Index := 2#32
  let c0_483 : Index := 0#32
  ![v1503.toNat, 2, 0]
def k0_off99 (i : grid0.Coords) (c0_i32_531 : BitVec 32) : Fin 3 → Nat :=
  let arg0 : BitVec 32 := BitVec.ofNat 32 (i 0).val
  let c2_i32_530 : BitVec 32 := 2#32
  let v1659 : BitVec 32 := Scalar.muli arg0 c2_i32_530
  let v1660 : BitVec 32 := Scalar.addi v1659 c0_i32_531
  let v1661 : Index := Scalar.indexCast v1660
  let c256_532 : Index := 256#32
  let c128_533 : Index := 128#32
  ![v1661.toNat, 256, 128]
def k0_off100 (i : grid0.Coords) (c0_i32_535 : BitVec 32) : Fin 3 → Nat :=
  let arg0 : BitVec 32 := BitVec.ofNat 32 (i 0).val
  let c2_i32_534 : BitVec 32 := 2#32
  let v1665 : BitVec 32 := Scalar.muli arg0 c2_i32_534
  let v1666 : BitVec 32 := Scalar.addi v1665 c0_i32_535
  let v1667 : Index := Scalar.indexCast v1666
  let c2_536 : Index := 2#32
  let c128_537 : Index := 128#32
  ![v1667.toNat, 2, 128]
def k0_off101 (i : grid0.Coords) (c0_i32_696 : BitVec 32) : Fin 3 → Nat :=
  let arg0 : BitVec 32 := BitVec.ofNat 32 (i 0).val
  let c2_i32_695 : BitVec 32 := 2#32
  let v2154 : BitVec 32 := Scalar.muli arg0 c2_i32_695
  let v2155 : BitVec 32 := Scalar.addi v2154 c0_i32_696
  let v2156 : Index := Scalar.indexCast v2155
  let c384_697 : Index := 384#32
  let c0_698 : Index := 0#32
  ![v2156.toNat, 384, 0]
def k0_off102 (i : grid0.Coords) (c0_i32_700 : BitVec 32) : Fin 3 → Nat :=
  let arg0 : BitVec 32 := BitVec.ofNat 32 (i 0).val
  let c2_i32_699 : BitVec 32 := 2#32
  let v2160 : BitVec 32 := Scalar.muli arg0 c2_i32_699
  let v2161 : BitVec 32 := Scalar.addi v2160 c0_i32_700
  let v2162 : Index := Scalar.indexCast v2161
  let c3_701 : Index := 3#32
  let c0_702 : Index := 0#32
  ![v2162.toNat, 3, 0]
def k0_off103 (i : grid0.Coords) (c0_i32_750 : BitVec 32) : Fin 3 → Nat :=
  let arg0 : BitVec 32 := BitVec.ofNat 32 (i 0).val
  let c2_i32_749 : BitVec 32 := 2#32
  let v2318 : BitVec 32 := Scalar.muli arg0 c2_i32_749
  let v2319 : BitVec 32 := Scalar.addi v2318 c0_i32_750
  let v2320 : Index := Scalar.indexCast v2319
  let c384_751 : Index := 384#32
  let c128_752 : Index := 128#32
  ![v2320.toNat, 384, 128]
def k0_off104 (i : grid0.Coords) (c0_i32_754 : BitVec 32) : Fin 3 → Nat :=
  let arg0 : BitVec 32 := BitVec.ofNat 32 (i 0).val
  let c2_i32_753 : BitVec 32 := 2#32
  let v2324 : BitVec 32 := Scalar.muli arg0 c2_i32_753
  let v2325 : BitVec 32 := Scalar.addi v2324 c0_i32_754
  let v2326 : Index := Scalar.indexCast v2325
  let c3_755 : Index := 3#32
  let c128_756 : Index := 128#32
  ![v2326.toNat, 3, 128]
def k0_off105 (i : grid0.Coords) (c0_i32_914 : BitVec 32) : Fin 3 → Nat :=
  let arg0 : BitVec 32 := BitVec.ofNat 32 (i 0).val
  let c2_i32_913 : BitVec 32 := 2#32
  let v2813 : BitVec 32 := Scalar.muli arg0 c2_i32_913
  let v2814 : BitVec 32 := Scalar.addi v2813 c0_i32_914
  let v2815 : Index := Scalar.indexCast v2814
  let c512_915 : Index := 512#32
  let c0_916 : Index := 0#32
  ![v2815.toNat, 512, 0]
def k0_off106 (i : grid0.Coords) (c0_i32_918 : BitVec 32) : Fin 3 → Nat :=
  let arg0 : BitVec 32 := BitVec.ofNat 32 (i 0).val
  let c2_i32_917 : BitVec 32 := 2#32
  let v2819 : BitVec 32 := Scalar.muli arg0 c2_i32_917
  let v2820 : BitVec 32 := Scalar.addi v2819 c0_i32_918
  let v2821 : Index := Scalar.indexCast v2820
  let c4_919 : Index := 4#32
  let c0_920 : Index := 0#32
  ![v2821.toNat, 4, 0]
def k0_off107 (i : grid0.Coords) (c0_i32_968 : BitVec 32) : Fin 3 → Nat :=
  let arg0 : BitVec 32 := BitVec.ofNat 32 (i 0).val
  let c2_i32_967 : BitVec 32 := 2#32
  let v2977 : BitVec 32 := Scalar.muli arg0 c2_i32_967
  let v2978 : BitVec 32 := Scalar.addi v2977 c0_i32_968
  let v2979 : Index := Scalar.indexCast v2978
  let c512_969 : Index := 512#32
  let c128_970 : Index := 128#32
  ![v2979.toNat, 512, 128]
def k0_off108 (i : grid0.Coords) (c0_i32_972 : BitVec 32) : Fin 3 → Nat :=
  let arg0 : BitVec 32 := BitVec.ofNat 32 (i 0).val
  let c2_i32_971 : BitVec 32 := 2#32
  let v2983 : BitVec 32 := Scalar.muli arg0 c2_i32_971
  let v2984 : BitVec 32 := Scalar.addi v2983 c0_i32_972
  let v2985 : Index := Scalar.indexCast v2984
  let c4_973 : Index := 4#32
  let c128_974 : Index := 128#32
  ![v2985.toNat, 4, 128]
def k0_off109 (i : grid0.Coords) (c0_i32_1132 : BitVec 32) : Fin 3 → Nat :=
  let arg0 : BitVec 32 := BitVec.ofNat 32 (i 0).val
  let c2_i32_1131 : BitVec 32 := 2#32
  let v3472 : BitVec 32 := Scalar.muli arg0 c2_i32_1131
  let v3473 : BitVec 32 := Scalar.addi v3472 c0_i32_1132
  let v3474 : Index := Scalar.indexCast v3473
  let c640_1133 : Index := 640#32
  let c0_1134 : Index := 0#32
  ![v3474.toNat, 640, 0]
def k0_off110 (i : grid0.Coords) (c0_i32_1136 : BitVec 32) : Fin 3 → Nat :=
  let arg0 : BitVec 32 := BitVec.ofNat 32 (i 0).val
  let c2_i32_1135 : BitVec 32 := 2#32
  let v3478 : BitVec 32 := Scalar.muli arg0 c2_i32_1135
  let v3479 : BitVec 32 := Scalar.addi v3478 c0_i32_1136
  let v3480 : Index := Scalar.indexCast v3479
  let c5_1137 : Index := 5#32
  let c0_1138 : Index := 0#32
  ![v3480.toNat, 5, 0]
def k0_off111 (i : grid0.Coords) (c0_i32_1186 : BitVec 32) : Fin 3 → Nat :=
  let arg0 : BitVec 32 := BitVec.ofNat 32 (i 0).val
  let c2_i32_1185 : BitVec 32 := 2#32
  let v3636 : BitVec 32 := Scalar.muli arg0 c2_i32_1185
  let v3637 : BitVec 32 := Scalar.addi v3636 c0_i32_1186
  let v3638 : Index := Scalar.indexCast v3637
  let c640_1187 : Index := 640#32
  let c128_1188 : Index := 128#32
  ![v3638.toNat, 640, 128]
def k0_off112 (i : grid0.Coords) (c0_i32_1190 : BitVec 32) : Fin 3 → Nat :=
  let arg0 : BitVec 32 := BitVec.ofNat 32 (i 0).val
  let c2_i32_1189 : BitVec 32 := 2#32
  let v3642 : BitVec 32 := Scalar.muli arg0 c2_i32_1189
  let v3643 : BitVec 32 := Scalar.addi v3642 c0_i32_1190
  let v3644 : Index := Scalar.indexCast v3643
  let c5_1191 : Index := 5#32
  let c128_1192 : Index := 128#32
  ![v3644.toNat, 5, 128]
def k0_off113 (i : grid0.Coords) (c0_i32_1350 : BitVec 32) : Fin 3 → Nat :=
  let arg0 : BitVec 32 := BitVec.ofNat 32 (i 0).val
  let c2_i32_1349 : BitVec 32 := 2#32
  let v4131 : BitVec 32 := Scalar.muli arg0 c2_i32_1349
  let v4132 : BitVec 32 := Scalar.addi v4131 c0_i32_1350
  let v4133 : Index := Scalar.indexCast v4132
  let c768_1351 : Index := 768#32
  let c0_1352 : Index := 0#32
  ![v4133.toNat, 768, 0]
def k0_off114 (i : grid0.Coords) (c0_i32_1354 : BitVec 32) : Fin 3 → Nat :=
  let arg0 : BitVec 32 := BitVec.ofNat 32 (i 0).val
  let c2_i32_1353 : BitVec 32 := 2#32
  let v4137 : BitVec 32 := Scalar.muli arg0 c2_i32_1353
  let v4138 : BitVec 32 := Scalar.addi v4137 c0_i32_1354
  let v4139 : Index := Scalar.indexCast v4138
  let c6_1355 : Index := 6#32
  let c0_1356 : Index := 0#32
  ![v4139.toNat, 6, 0]
def k0_off115 (i : grid0.Coords) (c0_i32_1404 : BitVec 32) : Fin 3 → Nat :=
  let arg0 : BitVec 32 := BitVec.ofNat 32 (i 0).val
  let c2_i32_1403 : BitVec 32 := 2#32
  let v4295 : BitVec 32 := Scalar.muli arg0 c2_i32_1403
  let v4296 : BitVec 32 := Scalar.addi v4295 c0_i32_1404
  let v4297 : Index := Scalar.indexCast v4296
  let c768_1405 : Index := 768#32
  let c128_1406 : Index := 128#32
  ![v4297.toNat, 768, 128]
def k0_off116 (i : grid0.Coords) (c0_i32_1408 : BitVec 32) : Fin 3 → Nat :=
  let arg0 : BitVec 32 := BitVec.ofNat 32 (i 0).val
  let c2_i32_1407 : BitVec 32 := 2#32
  let v4301 : BitVec 32 := Scalar.muli arg0 c2_i32_1407
  let v4302 : BitVec 32 := Scalar.addi v4301 c0_i32_1408
  let v4303 : Index := Scalar.indexCast v4302
  let c6_1409 : Index := 6#32
  let c128_1410 : Index := 128#32
  ![v4303.toNat, 6, 128]
def k0_off117 (i : grid0.Coords) (c0_i32_1568 : BitVec 32) : Fin 3 → Nat :=
  let arg0 : BitVec 32 := BitVec.ofNat 32 (i 0).val
  let c2_i32_1567 : BitVec 32 := 2#32
  let v4790 : BitVec 32 := Scalar.muli arg0 c2_i32_1567
  let v4791 : BitVec 32 := Scalar.addi v4790 c0_i32_1568
  let v4792 : Index := Scalar.indexCast v4791
  let c896_1569 : Index := 896#32
  let c0_1570 : Index := 0#32
  ![v4792.toNat, 896, 0]
def k0_off118 (i : grid0.Coords) (c0_i32_1572 : BitVec 32) : Fin 3 → Nat :=
  let arg0 : BitVec 32 := BitVec.ofNat 32 (i 0).val
  let c2_i32_1571 : BitVec 32 := 2#32
  let v4796 : BitVec 32 := Scalar.muli arg0 c2_i32_1571
  let v4797 : BitVec 32 := Scalar.addi v4796 c0_i32_1572
  let v4798 : Index := Scalar.indexCast v4797
  let c7_1573 : Index := 7#32
  let c0_1574 : Index := 0#32
  ![v4798.toNat, 7, 0]
def k0_off119 (i : grid0.Coords) (c0_i32_1622 : BitVec 32) : Fin 3 → Nat :=
  let arg0 : BitVec 32 := BitVec.ofNat 32 (i 0).val
  let c2_i32_1621 : BitVec 32 := 2#32
  let v4954 : BitVec 32 := Scalar.muli arg0 c2_i32_1621
  let v4955 : BitVec 32 := Scalar.addi v4954 c0_i32_1622
  let v4956 : Index := Scalar.indexCast v4955
  let c896_1623 : Index := 896#32
  let c128_1624 : Index := 128#32
  ![v4956.toNat, 896, 128]
def k0_off120 (i : grid0.Coords) (c0_i32_1626 : BitVec 32) : Fin 3 → Nat :=
  let arg0 : BitVec 32 := BitVec.ofNat 32 (i 0).val
  let c2_i32_1625 : BitVec 32 := 2#32
  let v4960 : BitVec 32 := Scalar.muli arg0 c2_i32_1625
  let v4961 : BitVec 32 := Scalar.addi v4960 c0_i32_1626
  let v4962 : Index := Scalar.indexCast v4961
  let c7_1627 : Index := 7#32
  let c128_1628 : Index := 128#32
  ![v4962.toNat, 7, 128]
def k0_off121 (i : grid0.Coords) (c0_i32_1786 : BitVec 32) : Fin 3 → Nat :=
  let arg0 : BitVec 32 := BitVec.ofNat 32 (i 0).val
  let c2_i32_1785 : BitVec 32 := 2#32
  let v5449 : BitVec 32 := Scalar.muli arg0 c2_i32_1785
  let v5450 : BitVec 32 := Scalar.addi v5449 c0_i32_1786
  let v5451 : Index := Scalar.indexCast v5450
  let c1024_1787 : Index := 1024#32
  let c0_1788 : Index := 0#32
  ![v5451.toNat, 1024, 0]
def k0_off122 (i : grid0.Coords) (c0_i32_1790 : BitVec 32) : Fin 3 → Nat :=
  let arg0 : BitVec 32 := BitVec.ofNat 32 (i 0).val
  let c2_i32_1789 : BitVec 32 := 2#32
  let v5455 : BitVec 32 := Scalar.muli arg0 c2_i32_1789
  let v5456 : BitVec 32 := Scalar.addi v5455 c0_i32_1790
  let v5457 : Index := Scalar.indexCast v5456
  let c8_1791 : Index := 8#32
  let c0_1792 : Index := 0#32
  ![v5457.toNat, 8, 0]
def k0_off123 (i : grid0.Coords) (c0_i32_1840 : BitVec 32) : Fin 3 → Nat :=
  let arg0 : BitVec 32 := BitVec.ofNat 32 (i 0).val
  let c2_i32_1839 : BitVec 32 := 2#32
  let v5613 : BitVec 32 := Scalar.muli arg0 c2_i32_1839
  let v5614 : BitVec 32 := Scalar.addi v5613 c0_i32_1840
  let v5615 : Index := Scalar.indexCast v5614
  let c1024_1841 : Index := 1024#32
  let c128_1842 : Index := 128#32
  ![v5615.toNat, 1024, 128]
def k0_off124 (i : grid0.Coords) (c0_i32_1844 : BitVec 32) : Fin 3 → Nat :=
  let arg0 : BitVec 32 := BitVec.ofNat 32 (i 0).val
  let c2_i32_1843 : BitVec 32 := 2#32
  let v5619 : BitVec 32 := Scalar.muli arg0 c2_i32_1843
  let v5620 : BitVec 32 := Scalar.addi v5619 c0_i32_1844
  let v5621 : Index := Scalar.indexCast v5620
  let c8_1845 : Index := 8#32
  let c128_1846 : Index := 128#32
  ![v5621.toNat, 8, 128]
def k0_off125 (i : grid0.Coords) (c0_i32_2004 : BitVec 32) : Fin 3 → Nat :=
  let arg0 : BitVec 32 := BitVec.ofNat 32 (i 0).val
  let c2_i32_2003 : BitVec 32 := 2#32
  let v6108 : BitVec 32 := Scalar.muli arg0 c2_i32_2003
  let v6109 : BitVec 32 := Scalar.addi v6108 c0_i32_2004
  let v6110 : Index := Scalar.indexCast v6109
  let c1152_2005 : Index := 1152#32
  let c0_2006 : Index := 0#32
  ![v6110.toNat, 1152, 0]
def k0_off126 (i : grid0.Coords) (c0_i32_2008 : BitVec 32) : Fin 3 → Nat :=
  let arg0 : BitVec 32 := BitVec.ofNat 32 (i 0).val
  let c2_i32_2007 : BitVec 32 := 2#32
  let v6114 : BitVec 32 := Scalar.muli arg0 c2_i32_2007
  let v6115 : BitVec 32 := Scalar.addi v6114 c0_i32_2008
  let v6116 : Index := Scalar.indexCast v6115
  let c9_2009 : Index := 9#32
  let c0_2010 : Index := 0#32
  ![v6116.toNat, 9, 0]
def k0_off127 (i : grid0.Coords) (c0_i32_2058 : BitVec 32) : Fin 3 → Nat :=
  let arg0 : BitVec 32 := BitVec.ofNat 32 (i 0).val
  let c2_i32_2057 : BitVec 32 := 2#32
  let v6272 : BitVec 32 := Scalar.muli arg0 c2_i32_2057
  let v6273 : BitVec 32 := Scalar.addi v6272 c0_i32_2058
  let v6274 : Index := Scalar.indexCast v6273
  let c1152_2059 : Index := 1152#32
  let c128_2060 : Index := 128#32
  ![v6274.toNat, 1152, 128]
def k0_off128 (i : grid0.Coords) (c0_i32_2062 : BitVec 32) : Fin 3 → Nat :=
  let arg0 : BitVec 32 := BitVec.ofNat 32 (i 0).val
  let c2_i32_2061 : BitVec 32 := 2#32
  let v6278 : BitVec 32 := Scalar.muli arg0 c2_i32_2061
  let v6279 : BitVec 32 := Scalar.addi v6278 c0_i32_2062
  let v6280 : Index := Scalar.indexCast v6279
  let c9_2063 : Index := 9#32
  let c128_2064 : Index := 128#32
  ![v6280.toNat, 9, 128]
def k0_off129 (i : grid0.Coords) (c0_i32_2222 : BitVec 32) : Fin 3 → Nat :=
  let arg0 : BitVec 32 := BitVec.ofNat 32 (i 0).val
  let c2_i32_2221 : BitVec 32 := 2#32
  let v6767 : BitVec 32 := Scalar.muli arg0 c2_i32_2221
  let v6768 : BitVec 32 := Scalar.addi v6767 c0_i32_2222
  let v6769 : Index := Scalar.indexCast v6768
  let c1280_2223 : Index := 1280#32
  let c0_2224 : Index := 0#32
  ![v6769.toNat, 1280, 0]
def k0_off130 (i : grid0.Coords) (c0_i32_2226 : BitVec 32) : Fin 3 → Nat :=
  let arg0 : BitVec 32 := BitVec.ofNat 32 (i 0).val
  let c2_i32_2225 : BitVec 32 := 2#32
  let v6773 : BitVec 32 := Scalar.muli arg0 c2_i32_2225
  let v6774 : BitVec 32 := Scalar.addi v6773 c0_i32_2226
  let v6775 : Index := Scalar.indexCast v6774
  let c10_2227 : Index := 10#32
  let c0_2228 : Index := 0#32
  ![v6775.toNat, 10, 0]
def k0_off131 (i : grid0.Coords) (c0_i32_2276 : BitVec 32) : Fin 3 → Nat :=
  let arg0 : BitVec 32 := BitVec.ofNat 32 (i 0).val
  let c2_i32_2275 : BitVec 32 := 2#32
  let v6931 : BitVec 32 := Scalar.muli arg0 c2_i32_2275
  let v6932 : BitVec 32 := Scalar.addi v6931 c0_i32_2276
  let v6933 : Index := Scalar.indexCast v6932
  let c1280_2277 : Index := 1280#32
  let c128_2278 : Index := 128#32
  ![v6933.toNat, 1280, 128]
def k0_off132 (i : grid0.Coords) (c0_i32_2280 : BitVec 32) : Fin 3 → Nat :=
  let arg0 : BitVec 32 := BitVec.ofNat 32 (i 0).val
  let c2_i32_2279 : BitVec 32 := 2#32
  let v6937 : BitVec 32 := Scalar.muli arg0 c2_i32_2279
  let v6938 : BitVec 32 := Scalar.addi v6937 c0_i32_2280
  let v6939 : Index := Scalar.indexCast v6938
  let c10_2281 : Index := 10#32
  let c128_2282 : Index := 128#32
  ![v6939.toNat, 10, 128]
def k0_off133 (i : grid0.Coords) (c0_i32_2440 : BitVec 32) : Fin 3 → Nat :=
  let arg0 : BitVec 32 := BitVec.ofNat 32 (i 0).val
  let c2_i32_2439 : BitVec 32 := 2#32
  let v7426 : BitVec 32 := Scalar.muli arg0 c2_i32_2439
  let v7427 : BitVec 32 := Scalar.addi v7426 c0_i32_2440
  let v7428 : Index := Scalar.indexCast v7427
  let c1408_2441 : Index := 1408#32
  let c0_2442 : Index := 0#32
  ![v7428.toNat, 1408, 0]
def k0_off134 (i : grid0.Coords) (c0_i32_2444 : BitVec 32) : Fin 3 → Nat :=
  let arg0 : BitVec 32 := BitVec.ofNat 32 (i 0).val
  let c2_i32_2443 : BitVec 32 := 2#32
  let v7432 : BitVec 32 := Scalar.muli arg0 c2_i32_2443
  let v7433 : BitVec 32 := Scalar.addi v7432 c0_i32_2444
  let v7434 : Index := Scalar.indexCast v7433
  let c11_2445 : Index := 11#32
  let c0_2446 : Index := 0#32
  ![v7434.toNat, 11, 0]
def k0_off135 (i : grid0.Coords) (c0_i32_2494 : BitVec 32) : Fin 3 → Nat :=
  let arg0 : BitVec 32 := BitVec.ofNat 32 (i 0).val
  let c2_i32_2493 : BitVec 32 := 2#32
  let v7590 : BitVec 32 := Scalar.muli arg0 c2_i32_2493
  let v7591 : BitVec 32 := Scalar.addi v7590 c0_i32_2494
  let v7592 : Index := Scalar.indexCast v7591
  let c1408_2495 : Index := 1408#32
  let c128_2496 : Index := 128#32
  ![v7592.toNat, 1408, 128]
def k0_off136 (i : grid0.Coords) (c0_i32_2498 : BitVec 32) : Fin 3 → Nat :=
  let arg0 : BitVec 32 := BitVec.ofNat 32 (i 0).val
  let c2_i32_2497 : BitVec 32 := 2#32
  let v7596 : BitVec 32 := Scalar.muli arg0 c2_i32_2497
  let v7597 : BitVec 32 := Scalar.addi v7596 c0_i32_2498
  let v7598 : Index := Scalar.indexCast v7597
  let c11_2499 : Index := 11#32
  let c128_2500 : Index := 128#32
  ![v7598.toNat, 11, 128]
def k0_off137 (i : grid0.Coords) (c0_i32_2658 : BitVec 32) : Fin 3 → Nat :=
  let arg0 : BitVec 32 := BitVec.ofNat 32 (i 0).val
  let c2_i32_2657 : BitVec 32 := 2#32
  let v8085 : BitVec 32 := Scalar.muli arg0 c2_i32_2657
  let v8086 : BitVec 32 := Scalar.addi v8085 c0_i32_2658
  let v8087 : Index := Scalar.indexCast v8086
  let c1536_2659 : Index := 1536#32
  let c0_2660 : Index := 0#32
  ![v8087.toNat, 1536, 0]
def k0_off138 (i : grid0.Coords) (c0_i32_2662 : BitVec 32) : Fin 3 → Nat :=
  let arg0 : BitVec 32 := BitVec.ofNat 32 (i 0).val
  let c2_i32_2661 : BitVec 32 := 2#32
  let v8091 : BitVec 32 := Scalar.muli arg0 c2_i32_2661
  let v8092 : BitVec 32 := Scalar.addi v8091 c0_i32_2662
  let v8093 : Index := Scalar.indexCast v8092
  let c12_2663 : Index := 12#32
  let c0_2664 : Index := 0#32
  ![v8093.toNat, 12, 0]
def k0_off139 (i : grid0.Coords) (c0_i32_2712 : BitVec 32) : Fin 3 → Nat :=
  let arg0 : BitVec 32 := BitVec.ofNat 32 (i 0).val
  let c2_i32_2711 : BitVec 32 := 2#32
  let v8249 : BitVec 32 := Scalar.muli arg0 c2_i32_2711
  let v8250 : BitVec 32 := Scalar.addi v8249 c0_i32_2712
  let v8251 : Index := Scalar.indexCast v8250
  let c1536_2713 : Index := 1536#32
  let c128_2714 : Index := 128#32
  ![v8251.toNat, 1536, 128]
def k0_off140 (i : grid0.Coords) (c0_i32_2716 : BitVec 32) : Fin 3 → Nat :=
  let arg0 : BitVec 32 := BitVec.ofNat 32 (i 0).val
  let c2_i32_2715 : BitVec 32 := 2#32
  let v8255 : BitVec 32 := Scalar.muli arg0 c2_i32_2715
  let v8256 : BitVec 32 := Scalar.addi v8255 c0_i32_2716
  let v8257 : Index := Scalar.indexCast v8256
  let c12_2717 : Index := 12#32
  let c128_2718 : Index := 128#32
  ![v8257.toNat, 12, 128]
def k0_off141 (i : grid0.Coords) (c0_i32_2876 : BitVec 32) : Fin 3 → Nat :=
  let arg0 : BitVec 32 := BitVec.ofNat 32 (i 0).val
  let c2_i32_2875 : BitVec 32 := 2#32
  let v8744 : BitVec 32 := Scalar.muli arg0 c2_i32_2875
  let v8745 : BitVec 32 := Scalar.addi v8744 c0_i32_2876
  let v8746 : Index := Scalar.indexCast v8745
  let c1664_2877 : Index := 1664#32
  let c0_2878 : Index := 0#32
  ![v8746.toNat, 1664, 0]
def k0_off142 (i : grid0.Coords) (c0_i32_2880 : BitVec 32) : Fin 3 → Nat :=
  let arg0 : BitVec 32 := BitVec.ofNat 32 (i 0).val
  let c2_i32_2879 : BitVec 32 := 2#32
  let v8750 : BitVec 32 := Scalar.muli arg0 c2_i32_2879
  let v8751 : BitVec 32 := Scalar.addi v8750 c0_i32_2880
  let v8752 : Index := Scalar.indexCast v8751
  let c13_2881 : Index := 13#32
  let c0_2882 : Index := 0#32
  ![v8752.toNat, 13, 0]
def k0_off143 (i : grid0.Coords) (c0_i32_2930 : BitVec 32) : Fin 3 → Nat :=
  let arg0 : BitVec 32 := BitVec.ofNat 32 (i 0).val
  let c2_i32_2929 : BitVec 32 := 2#32
  let v8908 : BitVec 32 := Scalar.muli arg0 c2_i32_2929
  let v8909 : BitVec 32 := Scalar.addi v8908 c0_i32_2930
  let v8910 : Index := Scalar.indexCast v8909
  let c1664_2931 : Index := 1664#32
  let c128_2932 : Index := 128#32
  ![v8910.toNat, 1664, 128]
def k0_off144 (i : grid0.Coords) (c0_i32_2934 : BitVec 32) : Fin 3 → Nat :=
  let arg0 : BitVec 32 := BitVec.ofNat 32 (i 0).val
  let c2_i32_2933 : BitVec 32 := 2#32
  let v8914 : BitVec 32 := Scalar.muli arg0 c2_i32_2933
  let v8915 : BitVec 32 := Scalar.addi v8914 c0_i32_2934
  let v8916 : Index := Scalar.indexCast v8915
  let c13_2935 : Index := 13#32
  let c128_2936 : Index := 128#32
  ![v8916.toNat, 13, 128]
def k0_off145 (i : grid0.Coords) (c0_i32_3048 : BitVec 32) : Fin 2 → Nat :=
  let c0_3049 : Index := 0#32
  let arg0 : BitVec 32 := BitVec.ofNat 32 (i 0).val
  let c4_i32_3047 : BitVec 32 := 4#32
  let v9249 : BitVec 32 := Scalar.muli arg0 c4_i32_3047
  let v9250 : BitVec 32 := Scalar.addi v9249 c0_i32_3048
  let v9251 : Index := Scalar.indexCast v9250
  ![0, v9251.toNat]
def k0_off146 (i : grid0.Coords) (c0_i32_3076 : BitVec 32) : Fin 2 → Nat :=
  let c1_3077 : Index := 1#32
  let arg0 : BitVec 32 := BitVec.ofNat 32 (i 0).val
  let c4_i32_3075 : BitVec 32 := 4#32
  let v9301 : BitVec 32 := Scalar.muli arg0 c4_i32_3075
  let v9302 : BitVec 32 := Scalar.addi v9301 c0_i32_3076
  let v9303 : Index := Scalar.indexCast v9302
  ![1, v9303.toNat]
def k0_off147 (i : grid0.Coords) (c0_i32_3104 : BitVec 32) : Fin 2 → Nat :=
  let c2_3105 : Index := 2#32
  let arg0 : BitVec 32 := BitVec.ofNat 32 (i 0).val
  let c4_i32_3103 : BitVec 32 := 4#32
  let v9353 : BitVec 32 := Scalar.muli arg0 c4_i32_3103
  let v9354 : BitVec 32 := Scalar.addi v9353 c0_i32_3104
  let v9355 : Index := Scalar.indexCast v9354
  ![2, v9355.toNat]
def k0_off148 (i : grid0.Coords) (c0_i32_3132 : BitVec 32) : Fin 2 → Nat :=
  let c3_3133 : Index := 3#32
  let arg0 : BitVec 32 := BitVec.ofNat 32 (i 0).val
  let c4_i32_3131 : BitVec 32 := 4#32
  let v9405 : BitVec 32 := Scalar.muli arg0 c4_i32_3131
  let v9406 : BitVec 32 := Scalar.addi v9405 c0_i32_3132
  let v9407 : Index := Scalar.indexCast v9406
  ![3, v9407.toNat]
def k0_off149 (i : grid0.Coords) (c0_i32_3160 : BitVec 32) : Fin 2 → Nat :=
  let c4_3161 : Index := 4#32
  let arg0 : BitVec 32 := BitVec.ofNat 32 (i 0).val
  let c4_i32_3159 : BitVec 32 := 4#32
  let v9457 : BitVec 32 := Scalar.muli arg0 c4_i32_3159
  let v9458 : BitVec 32 := Scalar.addi v9457 c0_i32_3160
  let v9459 : Index := Scalar.indexCast v9458
  ![4, v9459.toNat]
def k0_off150 (i : grid0.Coords) (c0_i32_3188 : BitVec 32) : Fin 2 → Nat :=
  let c5_3189 : Index := 5#32
  let arg0 : BitVec 32 := BitVec.ofNat 32 (i 0).val
  let c4_i32_3187 : BitVec 32 := 4#32
  let v9509 : BitVec 32 := Scalar.muli arg0 c4_i32_3187
  let v9510 : BitVec 32 := Scalar.addi v9509 c0_i32_3188
  let v9511 : Index := Scalar.indexCast v9510
  ![5, v9511.toNat]
def k0_off151 (i : grid0.Coords) (c0_i32_3216 : BitVec 32) : Fin 2 → Nat :=
  let c6_3217 : Index := 6#32
  let arg0 : BitVec 32 := BitVec.ofNat 32 (i 0).val
  let c4_i32_3215 : BitVec 32 := 4#32
  let v9561 : BitVec 32 := Scalar.muli arg0 c4_i32_3215
  let v9562 : BitVec 32 := Scalar.addi v9561 c0_i32_3216
  let v9563 : Index := Scalar.indexCast v9562
  ![6, v9563.toNat]
def k0_off152 (i : grid0.Coords) (c0_i32_3244 : BitVec 32) : Fin 2 → Nat :=
  let c7_3245 : Index := 7#32
  let arg0 : BitVec 32 := BitVec.ofNat 32 (i 0).val
  let c4_i32_3243 : BitVec 32 := 4#32
  let v9613 : BitVec 32 := Scalar.muli arg0 c4_i32_3243
  let v9614 : BitVec 32 := Scalar.addi v9613 c0_i32_3244
  let v9615 : Index := Scalar.indexCast v9614
  ![7, v9615.toNat]
def k0_off153 (i : grid0.Coords) (c0_i32_3272 : BitVec 32) : Fin 2 → Nat :=
  let c8_3273 : Index := 8#32
  let arg0 : BitVec 32 := BitVec.ofNat 32 (i 0).val
  let c4_i32_3271 : BitVec 32 := 4#32
  let v9665 : BitVec 32 := Scalar.muli arg0 c4_i32_3271
  let v9666 : BitVec 32 := Scalar.addi v9665 c0_i32_3272
  let v9667 : Index := Scalar.indexCast v9666
  ![8, v9667.toNat]
def k0_off154 (i : grid0.Coords) (c0_i32_3300 : BitVec 32) : Fin 2 → Nat :=
  let c9_3301 : Index := 9#32
  let arg0 : BitVec 32 := BitVec.ofNat 32 (i 0).val
  let c4_i32_3299 : BitVec 32 := 4#32
  let v9717 : BitVec 32 := Scalar.muli arg0 c4_i32_3299
  let v9718 : BitVec 32 := Scalar.addi v9717 c0_i32_3300
  let v9719 : Index := Scalar.indexCast v9718
  ![9, v9719.toNat]
def k0_off155 (i : grid0.Coords) (c0_i32_3328 : BitVec 32) : Fin 2 → Nat :=
  let c10_3329 : Index := 10#32
  let arg0 : BitVec 32 := BitVec.ofNat 32 (i 0).val
  let c4_i32_3327 : BitVec 32 := 4#32
  let v9769 : BitVec 32 := Scalar.muli arg0 c4_i32_3327
  let v9770 : BitVec 32 := Scalar.addi v9769 c0_i32_3328
  let v9771 : Index := Scalar.indexCast v9770
  ![10, v9771.toNat]
def k0_off156 (i : grid0.Coords) (c0_i32_3356 : BitVec 32) : Fin 2 → Nat :=
  let c11_3357 : Index := 11#32
  let arg0 : BitVec 32 := BitVec.ofNat 32 (i 0).val
  let c4_i32_3355 : BitVec 32 := 4#32
  let v9821 : BitVec 32 := Scalar.muli arg0 c4_i32_3355
  let v9822 : BitVec 32 := Scalar.addi v9821 c0_i32_3356
  let v9823 : Index := Scalar.indexCast v9822
  ![11, v9823.toNat]
def k0_off157 (i : grid0.Coords) (c0_i32_3384 : BitVec 32) : Fin 2 → Nat :=
  let c12_3385 : Index := 12#32
  let arg0 : BitVec 32 := BitVec.ofNat 32 (i 0).val
  let c4_i32_3383 : BitVec 32 := 4#32
  let v9873 : BitVec 32 := Scalar.muli arg0 c4_i32_3383
  let v9874 : BitVec 32 := Scalar.addi v9873 c0_i32_3384
  let v9875 : Index := Scalar.indexCast v9874
  ![12, v9875.toNat]
def k0_off158 (i : grid0.Coords) (c0_i32_3412 : BitVec 32) : Fin 2 → Nat :=
  let c13_3413 : Index := 13#32
  let arg0 : BitVec 32 := BitVec.ofNat 32 (i 0).val
  let c4_i32_3411 : BitVec 32 := 4#32
  let v9925 : BitVec 32 := Scalar.muli arg0 c4_i32_3411
  let v9926 : BitVec 32 := Scalar.addi v9925 c0_i32_3412
  let v9927 : Index := Scalar.indexCast v9926
  ![13, v9927.toNat]
def k0_off159 (i : grid0.Coords) (c0_i32_3440 : BitVec 32) : Fin 2 → Nat :=
  let c14 : Index := 14#32
  let arg0 : BitVec 32 := BitVec.ofNat 32 (i 0).val
  let c4_i32_3439 : BitVec 32 := 4#32
  let v9977 : BitVec 32 := Scalar.muli arg0 c4_i32_3439
  let v9978 : BitVec 32 := Scalar.addi v9977 c0_i32_3440
  let v9979 : Index := Scalar.indexCast v9978
  ![14, v9979.toNat]
def k0_off160 (i : grid0.Coords) (c0_i32_3466 : BitVec 32) : Fin 2 → Nat :=
  let c15 : Index := 15#32
  let arg0 : BitVec 32 := BitVec.ofNat 32 (i 0).val
  let c4_i32_3465 : BitVec 32 := 4#32
  let v10029 : BitVec 32 := Scalar.muli arg0 c4_i32_3465
  let v10030 : BitVec 32 := Scalar.addi v10029 c0_i32_3466
  let v10031 : Index := Scalar.indexCast v10030
  ![15, v10031.toNat]
def k0_cond4 (i : grid0.Coords) : BitVec 1 :=
  let arg0 : BitVec 32 := BitVec.ofNat 32 (i 0).val
  let c11_i32_4 : BitVec 32 := 11#32
  let v11 : BitVec 1 := Scalar.cmpi .sge arg0 c11_i32_4
  let c18_i32 : BitVec 32 := 18#32
  let v12 : BitVec 1 := Scalar.cmpi .slt arg0 c18_i32
  let v13 : BitVec 1 := Scalar.andi v11 v12
  let v14 : BitVec 32 := Scalar.extui v13
  let c0_i32_5 : BitVec 32 := 0#32
  let v15 : BitVec 1 := Scalar.cmpi .ne v14 c0_i32_5
  v15

def k0_off161 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v160 : Index := Scalar.indexCast v23
  let c0_30 : Index := 0#32
  ![v160.toNat, 0]
def k0_off162 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v177 : Index := Scalar.indexCast v23
  let c128_38 : Index := 128#32
  ![v177.toNat, 128]
def k0_off163 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v195 : Index := Scalar.indexCast v23
  let c256_46 : Index := 256#32
  ![v195.toNat, 256]
def k0_off164 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v213 : Index := Scalar.indexCast v23
  let c384_54 : Index := 384#32
  ![v213.toNat, 384]
def k0_off165 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v231 : Index := Scalar.indexCast v23
  let c512_62 : Index := 512#32
  ![v231.toNat, 512]
def k0_off166 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v249 : Index := Scalar.indexCast v23
  let c640_70 : Index := 640#32
  ![v249.toNat, 640]
def k0_off167 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v267 : Index := Scalar.indexCast v23
  let c768_78 : Index := 768#32
  ![v267.toNat, 768]
def k0_off168 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v285 : Index := Scalar.indexCast v23
  let c896_86 : Index := 896#32
  ![v285.toNat, 896]
def k0_off169 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v303 : Index := Scalar.indexCast v23
  let c1024_94 : Index := 1024#32
  ![v303.toNat, 1024]
def k0_off170 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v321 : Index := Scalar.indexCast v23
  let c1152_102 : Index := 1152#32
  ![v321.toNat, 1152]
def k0_off171 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v339 : Index := Scalar.indexCast v23
  let c1280_110 : Index := 1280#32
  ![v339.toNat, 1280]
def k0_off172 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v357 : Index := Scalar.indexCast v23
  let c1408_118 : Index := 1408#32
  ![v357.toNat, 1408]
def k0_off173 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v375 : Index := Scalar.indexCast v23
  let c1536_126 : Index := 1536#32
  ![v375.toNat, 1536]
def k0_off174 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v393 : Index := Scalar.indexCast v23
  let c1664_134 : Index := 1664#32
  ![v393.toNat, 1664]
def k0_off175 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v411 : Index := Scalar.indexCast v23
  let c1792_142 : Index := 1792#32
  ![v411.toNat, 1792]
def k0_off176 (i : grid0.Coords) : Fin 2 → Nat :=
  let arg0 : BitVec 32 := BitVec.ofNat 32 (i 0).val
  let c11_i32_9 : BitVec 32 := 11#32
  let v22 : BitVec 32 := Scalar.subi arg0 c11_i32_9
  let c256_i32 : BitVec 32 := 256#32
  let v23 : BitVec 32 := Scalar.muli v22 c256_i32
  let v429 : Index := Scalar.indexCast v23
  let c1920_150 : Index := 1920#32
  ![v429.toNat, 1920]
def k0_off177 (i : grid0.Coords) : Fin 3 → Nat :=
  let arg0 : BitVec 32 := BitVec.ofNat 32 (i 0).val
  let c11_i32_240 : BitVec 32 := 11#32
  let v691 : BitVec 32 := Scalar.subi arg0 c11_i32_240
  let v692 : Index := Scalar.indexCast v691
  let c0_241 : Index := 0#32
  let c0_242 : Index := 0#32
  ![v692.toNat, 0, 0]
def k0_off178 (i : grid0.Coords) : Fin 3 → Nat :=
  let arg0 : BitVec 32 := BitVec.ofNat 32 (i 0).val
  let c11_i32_240 : BitVec 32 := 11#32
  let v691 : BitVec 32 := Scalar.subi arg0 c11_i32_240
  let v696 : Index := Scalar.indexCast v691
  let c0_243 : Index := 0#32
  let c0_244 : Index := 0#32
  ![v696.toNat, 0, 0]
def k0_off179 (i : grid0.Coords) : Fin 3 → Nat :=
  let arg0 : BitVec 32 := BitVec.ofNat 32 (i 0).val
  let c11_i32_240 : BitVec 32 := 11#32
  let v691 : BitVec 32 := Scalar.subi arg0 c11_i32_240
  let v705 : Index := Scalar.indexCast v691
  let c1 : Index := 1#32
  let c0_247 : Index := 0#32
  ![v705.toNat, 1, 0]
def k0_off180 (i : grid0.Coords) : Fin 3 → Nat :=
  let arg0 : BitVec 32 := BitVec.ofNat 32 (i 0).val
  let c11_i32_240 : BitVec 32 := 11#32
  let v691 : BitVec 32 := Scalar.subi arg0 c11_i32_240
  let v709 : Index := Scalar.indexCast v691
  let c128_248 : Index := 128#32
  let c0_249 : Index := 0#32
  ![v709.toNat, 128, 0]
def k0_off181 (i : grid0.Coords) : Fin 3 → Nat :=
  let arg0 : BitVec 32 := BitVec.ofNat 32 (i 0).val
  let c11_i32_240 : BitVec 32 := 11#32
  let v691 : BitVec 32 := Scalar.subi arg0 c11_i32_240
  let v718 : Index := Scalar.indexCast v691
  let c2 : Index := 2#32
  let c0_252 : Index := 0#32
  ![v718.toNat, 2, 0]
def k0_off182 (i : grid0.Coords) : Fin 3 → Nat :=
  let arg0 : BitVec 32 := BitVec.ofNat 32 (i 0).val
  let c11_i32_240 : BitVec 32 := 11#32
  let v691 : BitVec 32 := Scalar.subi arg0 c11_i32_240
  let v722 : Index := Scalar.indexCast v691
  let c256_253 : Index := 256#32
  let c0_254 : Index := 0#32
  ![v722.toNat, 256, 0]
def k0_off183 (i : grid0.Coords) : Fin 3 → Nat :=
  let arg0 : BitVec 32 := BitVec.ofNat 32 (i 0).val
  let c11_i32_240 : BitVec 32 := 11#32
  let v691 : BitVec 32 := Scalar.subi arg0 c11_i32_240
  let v731 : Index := Scalar.indexCast v691
  let c3 : Index := 3#32
  let c0_257 : Index := 0#32
  ![v731.toNat, 3, 0]
def k0_off184 (i : grid0.Coords) : Fin 3 → Nat :=
  let arg0 : BitVec 32 := BitVec.ofNat 32 (i 0).val
  let c11_i32_240 : BitVec 32 := 11#32
  let v691 : BitVec 32 := Scalar.subi arg0 c11_i32_240
  let v735 : Index := Scalar.indexCast v691
  let c384_258 : Index := 384#32
  let c0_259 : Index := 0#32
  ![v735.toNat, 384, 0]
def k0_off185 (i : grid0.Coords) : Fin 3 → Nat :=
  let arg0 : BitVec 32 := BitVec.ofNat 32 (i 0).val
  let c11_i32_240 : BitVec 32 := 11#32
  let v691 : BitVec 32 := Scalar.subi arg0 c11_i32_240
  let v744 : Index := Scalar.indexCast v691
  let c4 : Index := 4#32
  let c0_262 : Index := 0#32
  ![v744.toNat, 4, 0]
def k0_off186 (i : grid0.Coords) : Fin 3 → Nat :=
  let arg0 : BitVec 32 := BitVec.ofNat 32 (i 0).val
  let c11_i32_240 : BitVec 32 := 11#32
  let v691 : BitVec 32 := Scalar.subi arg0 c11_i32_240
  let v748 : Index := Scalar.indexCast v691
  let c512_263 : Index := 512#32
  let c0_264 : Index := 0#32
  ![v748.toNat, 512, 0]
def k0_off187 (i : grid0.Coords) : Fin 3 → Nat :=
  let arg0 : BitVec 32 := BitVec.ofNat 32 (i 0).val
  let c11_i32_240 : BitVec 32 := 11#32
  let v691 : BitVec 32 := Scalar.subi arg0 c11_i32_240
  let v757 : Index := Scalar.indexCast v691
  let c5 : Index := 5#32
  let c0_267 : Index := 0#32
  ![v757.toNat, 5, 0]
def k0_off188 (i : grid0.Coords) : Fin 3 → Nat :=
  let arg0 : BitVec 32 := BitVec.ofNat 32 (i 0).val
  let c11_i32_240 : BitVec 32 := 11#32
  let v691 : BitVec 32 := Scalar.subi arg0 c11_i32_240
  let v761 : Index := Scalar.indexCast v691
  let c640_268 : Index := 640#32
  let c0_269 : Index := 0#32
  ![v761.toNat, 640, 0]
def k0_off189 (i : grid0.Coords) : Fin 3 → Nat :=
  let arg0 : BitVec 32 := BitVec.ofNat 32 (i 0).val
  let c11_i32_240 : BitVec 32 := 11#32
  let v691 : BitVec 32 := Scalar.subi arg0 c11_i32_240
  let v770 : Index := Scalar.indexCast v691
  let c6 : Index := 6#32
  let c0_272 : Index := 0#32
  ![v770.toNat, 6, 0]
def k0_off190 (i : grid0.Coords) : Fin 3 → Nat :=
  let arg0 : BitVec 32 := BitVec.ofNat 32 (i 0).val
  let c11_i32_240 : BitVec 32 := 11#32
  let v691 : BitVec 32 := Scalar.subi arg0 c11_i32_240
  let v774 : Index := Scalar.indexCast v691
  let c768_273 : Index := 768#32
  let c0_274 : Index := 0#32
  ![v774.toNat, 768, 0]
def k0_off191 (i : grid0.Coords) : Fin 3 → Nat :=
  let arg0 : BitVec 32 := BitVec.ofNat 32 (i 0).val
  let c11_i32_240 : BitVec 32 := 11#32
  let v691 : BitVec 32 := Scalar.subi arg0 c11_i32_240
  let v783 : Index := Scalar.indexCast v691
  let c7 : Index := 7#32
  let c0_277 : Index := 0#32
  ![v783.toNat, 7, 0]
def k0_off192 (i : grid0.Coords) : Fin 3 → Nat :=
  let arg0 : BitVec 32 := BitVec.ofNat 32 (i 0).val
  let c11_i32_240 : BitVec 32 := 11#32
  let v691 : BitVec 32 := Scalar.subi arg0 c11_i32_240
  let v787 : Index := Scalar.indexCast v691
  let c896_278 : Index := 896#32
  let c0_279 : Index := 0#32
  ![v787.toNat, 896, 0]
def k0_off193 (i : grid0.Coords) : Fin 3 → Nat :=
  let arg0 : BitVec 32 := BitVec.ofNat 32 (i 0).val
  let c11_i32_240 : BitVec 32 := 11#32
  let v691 : BitVec 32 := Scalar.subi arg0 c11_i32_240
  let v796 : Index := Scalar.indexCast v691
  let c8 : Index := 8#32
  let c0_282 : Index := 0#32
  ![v796.toNat, 8, 0]
def k0_off194 (i : grid0.Coords) : Fin 3 → Nat :=
  let arg0 : BitVec 32 := BitVec.ofNat 32 (i 0).val
  let c11_i32_240 : BitVec 32 := 11#32
  let v691 : BitVec 32 := Scalar.subi arg0 c11_i32_240
  let v800 : Index := Scalar.indexCast v691
  let c1024_283 : Index := 1024#32
  let c0_284 : Index := 0#32
  ![v800.toNat, 1024, 0]
def k0_off195 (i : grid0.Coords) : Fin 3 → Nat :=
  let arg0 : BitVec 32 := BitVec.ofNat 32 (i 0).val
  let c11_i32_240 : BitVec 32 := 11#32
  let v691 : BitVec 32 := Scalar.subi arg0 c11_i32_240
  let v809 : Index := Scalar.indexCast v691
  let c9 : Index := 9#32
  let c0_287 : Index := 0#32
  ![v809.toNat, 9, 0]
def k0_off196 (i : grid0.Coords) : Fin 3 → Nat :=
  let arg0 : BitVec 32 := BitVec.ofNat 32 (i 0).val
  let c11_i32_240 : BitVec 32 := 11#32
  let v691 : BitVec 32 := Scalar.subi arg0 c11_i32_240
  let v813 : Index := Scalar.indexCast v691
  let c1152_288 : Index := 1152#32
  let c0_289 : Index := 0#32
  ![v813.toNat, 1152, 0]
def k0_off197 (i : grid0.Coords) : Fin 3 → Nat :=
  let arg0 : BitVec 32 := BitVec.ofNat 32 (i 0).val
  let c11_i32_240 : BitVec 32 := 11#32
  let v691 : BitVec 32 := Scalar.subi arg0 c11_i32_240
  let v822 : Index := Scalar.indexCast v691
  let c10 : Index := 10#32
  let c0_292 : Index := 0#32
  ![v822.toNat, 10, 0]
def k0_off198 (i : grid0.Coords) : Fin 3 → Nat :=
  let arg0 : BitVec 32 := BitVec.ofNat 32 (i 0).val
  let c11_i32_240 : BitVec 32 := 11#32
  let v691 : BitVec 32 := Scalar.subi arg0 c11_i32_240
  let v826 : Index := Scalar.indexCast v691
  let c1280_293 : Index := 1280#32
  let c0_294 : Index := 0#32
  ![v826.toNat, 1280, 0]
def k0_off199 (i : grid0.Coords) : Fin 3 → Nat :=
  let arg0 : BitVec 32 := BitVec.ofNat 32 (i 0).val
  let c11_i32_240 : BitVec 32 := 11#32
  let v691 : BitVec 32 := Scalar.subi arg0 c11_i32_240
  let v835 : Index := Scalar.indexCast v691
  let c11 : Index := 11#32
  let c0_297 : Index := 0#32
  ![v835.toNat, 11, 0]
def k0_off200 (i : grid0.Coords) : Fin 3 → Nat :=
  let arg0 : BitVec 32 := BitVec.ofNat 32 (i 0).val
  let c11_i32_240 : BitVec 32 := 11#32
  let v691 : BitVec 32 := Scalar.subi arg0 c11_i32_240
  let v839 : Index := Scalar.indexCast v691
  let c1408_298 : Index := 1408#32
  let c0_299 : Index := 0#32
  ![v839.toNat, 1408, 0]
def k0_off201 (i : grid0.Coords) : Fin 3 → Nat :=
  let arg0 : BitVec 32 := BitVec.ofNat 32 (i 0).val
  let c11_i32_240 : BitVec 32 := 11#32
  let v691 : BitVec 32 := Scalar.subi arg0 c11_i32_240
  let v848 : Index := Scalar.indexCast v691
  let c12 : Index := 12#32
  let c0_302 : Index := 0#32
  ![v848.toNat, 12, 0]
def k0_off202 (i : grid0.Coords) : Fin 3 → Nat :=
  let arg0 : BitVec 32 := BitVec.ofNat 32 (i 0).val
  let c11_i32_240 : BitVec 32 := 11#32
  let v691 : BitVec 32 := Scalar.subi arg0 c11_i32_240
  let v852 : Index := Scalar.indexCast v691
  let c1536_303 : Index := 1536#32
  let c0_304 : Index := 0#32
  ![v852.toNat, 1536, 0]
def k0_off203 (i : grid0.Coords) : Fin 3 → Nat :=
  let arg0 : BitVec 32 := BitVec.ofNat 32 (i 0).val
  let c11_i32_240 : BitVec 32 := 11#32
  let v691 : BitVec 32 := Scalar.subi arg0 c11_i32_240
  let v861 : Index := Scalar.indexCast v691
  let c13 : Index := 13#32
  let c0_307 : Index := 0#32
  ![v861.toNat, 13, 0]
def k0_off204 (i : grid0.Coords) : Fin 3 → Nat :=
  let arg0 : BitVec 32 := BitVec.ofNat 32 (i 0).val
  let c11_i32_240 : BitVec 32 := 11#32
  let v691 : BitVec 32 := Scalar.subi arg0 c11_i32_240
  let v865 : Index := Scalar.indexCast v691
  let c1664_308 : Index := 1664#32
  let c0_309 : Index := 0#32
  ![v865.toNat, 1664, 0]
def k0_cond5 (i : grid0.Coords) : BitVec 1 :=
  let arg0 : BitVec 32 := BitVec.ofNat 32 (i 0).val
  let c18_i32_6 : BitVec 32 := 18#32
  let v16 : BitVec 1 := Scalar.cmpi .sge arg0 c18_i32_6
  let v17 : BitVec 32 := Scalar.extui v16
  let c0_i32_7 : BitVec 32 := 0#32
  let v18 : BitVec 1 := Scalar.cmpi .ne v17 c0_i32_7
  v18

def k0_off205 (i : grid0.Coords) : Fin 3 → Nat :=
  let arg0 : BitVec 32 := BitVec.ofNat 32 (i 0).val
  let c11_i32_9 : BitVec 32 := 11#32
  let v22 : BitVec 32 := Scalar.subi arg0 c11_i32_9
  let v23 : Index := Scalar.indexCast v22
  let c0 : Index := 0#32
  let c0_10 : Index := 0#32
  ![v23.toNat, 0, 0]
def k0_off206 (i : grid0.Coords) : Fin 3 → Nat :=
  let arg0 : BitVec 32 := BitVec.ofNat 32 (i 0).val
  let c11_i32_9 : BitVec 32 := 11#32
  let v22 : BitVec 32 := Scalar.subi arg0 c11_i32_9
  let v27 : Index := Scalar.indexCast v22
  let c0_11 : Index := 0#32
  let c0_12 : Index := 0#32
  ![v27.toNat, 0, 0]
def k0_off207 (i : grid0.Coords) : Fin 3 → Nat :=
  let arg0 : BitVec 32 := BitVec.ofNat 32 (i 0).val
  let c11_i32_9 : BitVec 32 := 11#32
  let v22 : BitVec 32 := Scalar.subi arg0 c11_i32_9
  let v36 : Index := Scalar.indexCast v22
  let c1 : Index := 1#32
  let c0_15 : Index := 0#32
  ![v36.toNat, 1, 0]
def k0_off208 (i : grid0.Coords) : Fin 3 → Nat :=
  let arg0 : BitVec 32 := BitVec.ofNat 32 (i 0).val
  let c11_i32_9 : BitVec 32 := 11#32
  let v22 : BitVec 32 := Scalar.subi arg0 c11_i32_9
  let v40 : Index := Scalar.indexCast v22
  let c128 : Index := 128#32
  let c0_16 : Index := 0#32
  ![v40.toNat, 128, 0]
def k0_off209 (i : grid0.Coords) : Fin 3 → Nat :=
  let arg0 : BitVec 32 := BitVec.ofNat 32 (i 0).val
  let c11_i32_9 : BitVec 32 := 11#32
  let v22 : BitVec 32 := Scalar.subi arg0 c11_i32_9
  let v49 : Index := Scalar.indexCast v22
  let c2 : Index := 2#32
  let c0_19 : Index := 0#32
  ![v49.toNat, 2, 0]
def k0_off210 (i : grid0.Coords) : Fin 3 → Nat :=
  let arg0 : BitVec 32 := BitVec.ofNat 32 (i 0).val
  let c11_i32_9 : BitVec 32 := 11#32
  let v22 : BitVec 32 := Scalar.subi arg0 c11_i32_9
  let v53 : Index := Scalar.indexCast v22
  let c256 : Index := 256#32
  let c0_20 : Index := 0#32
  ![v53.toNat, 256, 0]
def k0_off211 (i : grid0.Coords) : Fin 3 → Nat :=
  let arg0 : BitVec 32 := BitVec.ofNat 32 (i 0).val
  let c11_i32_9 : BitVec 32 := 11#32
  let v22 : BitVec 32 := Scalar.subi arg0 c11_i32_9
  let v62 : Index := Scalar.indexCast v22
  let c3 : Index := 3#32
  let c0_23 : Index := 0#32
  ![v62.toNat, 3, 0]
def k0_off212 (i : grid0.Coords) : Fin 3 → Nat :=
  let arg0 : BitVec 32 := BitVec.ofNat 32 (i 0).val
  let c11_i32_9 : BitVec 32 := 11#32
  let v22 : BitVec 32 := Scalar.subi arg0 c11_i32_9
  let v66 : Index := Scalar.indexCast v22
  let c384 : Index := 384#32
  let c0_24 : Index := 0#32
  ![v66.toNat, 384, 0]
def k0_off213 (i : grid0.Coords) : Fin 3 → Nat :=
  let arg0 : BitVec 32 := BitVec.ofNat 32 (i 0).val
  let c11_i32_9 : BitVec 32 := 11#32
  let v22 : BitVec 32 := Scalar.subi arg0 c11_i32_9
  let v75 : Index := Scalar.indexCast v22
  let c4 : Index := 4#32
  let c0_27 : Index := 0#32
  ![v75.toNat, 4, 0]
def k0_off214 (i : grid0.Coords) : Fin 3 → Nat :=
  let arg0 : BitVec 32 := BitVec.ofNat 32 (i 0).val
  let c11_i32_9 : BitVec 32 := 11#32
  let v22 : BitVec 32 := Scalar.subi arg0 c11_i32_9
  let v79 : Index := Scalar.indexCast v22
  let c512 : Index := 512#32
  let c0_28 : Index := 0#32
  ![v79.toNat, 512, 0]
def k0_off215 (i : grid0.Coords) : Fin 3 → Nat :=
  let arg0 : BitVec 32 := BitVec.ofNat 32 (i 0).val
  let c11_i32_9 : BitVec 32 := 11#32
  let v22 : BitVec 32 := Scalar.subi arg0 c11_i32_9
  let v88 : Index := Scalar.indexCast v22
  let c5 : Index := 5#32
  let c0_31 : Index := 0#32
  ![v88.toNat, 5, 0]
def k0_off216 (i : grid0.Coords) : Fin 3 → Nat :=
  let arg0 : BitVec 32 := BitVec.ofNat 32 (i 0).val
  let c11_i32_9 : BitVec 32 := 11#32
  let v22 : BitVec 32 := Scalar.subi arg0 c11_i32_9
  let v92 : Index := Scalar.indexCast v22
  let c640 : Index := 640#32
  let c0_32 : Index := 0#32
  ![v92.toNat, 640, 0]
def k0_off217 (i : grid0.Coords) : Fin 3 → Nat :=
  let arg0 : BitVec 32 := BitVec.ofNat 32 (i 0).val
  let c11_i32_9 : BitVec 32 := 11#32
  let v22 : BitVec 32 := Scalar.subi arg0 c11_i32_9
  let v101 : Index := Scalar.indexCast v22
  let c6 : Index := 6#32
  let c0_35 : Index := 0#32
  ![v101.toNat, 6, 0]
def k0_off218 (i : grid0.Coords) : Fin 3 → Nat :=
  let arg0 : BitVec 32 := BitVec.ofNat 32 (i 0).val
  let c11_i32_9 : BitVec 32 := 11#32
  let v22 : BitVec 32 := Scalar.subi arg0 c11_i32_9
  let v105 : Index := Scalar.indexCast v22
  let c768 : Index := 768#32
  let c0_36 : Index := 0#32
  ![v105.toNat, 768, 0]
def k0_off219 (i : grid0.Coords) : Fin 3 → Nat :=
  let arg0 : BitVec 32 := BitVec.ofNat 32 (i 0).val
  let c11_i32_9 : BitVec 32 := 11#32
  let v22 : BitVec 32 := Scalar.subi arg0 c11_i32_9
  let v114 : Index := Scalar.indexCast v22
  let c7 : Index := 7#32
  let c0_39 : Index := 0#32
  ![v114.toNat, 7, 0]
def k0_off220 (i : grid0.Coords) : Fin 3 → Nat :=
  let arg0 : BitVec 32 := BitVec.ofNat 32 (i 0).val
  let c11_i32_9 : BitVec 32 := 11#32
  let v22 : BitVec 32 := Scalar.subi arg0 c11_i32_9
  let v118 : Index := Scalar.indexCast v22
  let c896 : Index := 896#32
  let c0_40 : Index := 0#32
  ![v118.toNat, 896, 0]
def k0_off221 (i : grid0.Coords) : Fin 3 → Nat :=
  let arg0 : BitVec 32 := BitVec.ofNat 32 (i 0).val
  let c11_i32_9 : BitVec 32 := 11#32
  let v22 : BitVec 32 := Scalar.subi arg0 c11_i32_9
  let v127 : Index := Scalar.indexCast v22
  let c8 : Index := 8#32
  let c0_43 : Index := 0#32
  ![v127.toNat, 8, 0]
def k0_off222 (i : grid0.Coords) : Fin 3 → Nat :=
  let arg0 : BitVec 32 := BitVec.ofNat 32 (i 0).val
  let c11_i32_9 : BitVec 32 := 11#32
  let v22 : BitVec 32 := Scalar.subi arg0 c11_i32_9
  let v131 : Index := Scalar.indexCast v22
  let c1024 : Index := 1024#32
  let c0_44 : Index := 0#32
  ![v131.toNat, 1024, 0]
def k0_off223 (i : grid0.Coords) : Fin 3 → Nat :=
  let arg0 : BitVec 32 := BitVec.ofNat 32 (i 0).val
  let c11_i32_9 : BitVec 32 := 11#32
  let v22 : BitVec 32 := Scalar.subi arg0 c11_i32_9
  let v140 : Index := Scalar.indexCast v22
  let c9 : Index := 9#32
  let c0_47 : Index := 0#32
  ![v140.toNat, 9, 0]
def k0_off224 (i : grid0.Coords) : Fin 3 → Nat :=
  let arg0 : BitVec 32 := BitVec.ofNat 32 (i 0).val
  let c11_i32_9 : BitVec 32 := 11#32
  let v22 : BitVec 32 := Scalar.subi arg0 c11_i32_9
  let v144 : Index := Scalar.indexCast v22
  let c1152 : Index := 1152#32
  let c0_48 : Index := 0#32
  ![v144.toNat, 1152, 0]
def k0_off225 (i : grid0.Coords) : Fin 3 → Nat :=
  let arg0 : BitVec 32 := BitVec.ofNat 32 (i 0).val
  let c11_i32_9 : BitVec 32 := 11#32
  let v22 : BitVec 32 := Scalar.subi arg0 c11_i32_9
  let v153 : Index := Scalar.indexCast v22
  let c10 : Index := 10#32
  let c0_51 : Index := 0#32
  ![v153.toNat, 10, 0]
def k0_off226 (i : grid0.Coords) : Fin 3 → Nat :=
  let arg0 : BitVec 32 := BitVec.ofNat 32 (i 0).val
  let c11_i32_9 : BitVec 32 := 11#32
  let v22 : BitVec 32 := Scalar.subi arg0 c11_i32_9
  let v157 : Index := Scalar.indexCast v22
  let c1280 : Index := 1280#32
  let c0_52 : Index := 0#32
  ![v157.toNat, 1280, 0]
def k0_off227 (i : grid0.Coords) : Fin 3 → Nat :=
  let arg0 : BitVec 32 := BitVec.ofNat 32 (i 0).val
  let c11_i32_9 : BitVec 32 := 11#32
  let v22 : BitVec 32 := Scalar.subi arg0 c11_i32_9
  let v166 : Index := Scalar.indexCast v22
  let c11 : Index := 11#32
  let c0_55 : Index := 0#32
  ![v166.toNat, 11, 0]
def k0_off228 (i : grid0.Coords) : Fin 3 → Nat :=
  let arg0 : BitVec 32 := BitVec.ofNat 32 (i 0).val
  let c11_i32_9 : BitVec 32 := 11#32
  let v22 : BitVec 32 := Scalar.subi arg0 c11_i32_9
  let v170 : Index := Scalar.indexCast v22
  let c1408 : Index := 1408#32
  let c0_56 : Index := 0#32
  ![v170.toNat, 1408, 0]
def k0_off229 (i : grid0.Coords) : Fin 3 → Nat :=
  let arg0 : BitVec 32 := BitVec.ofNat 32 (i 0).val
  let c11_i32_9 : BitVec 32 := 11#32
  let v22 : BitVec 32 := Scalar.subi arg0 c11_i32_9
  let v179 : Index := Scalar.indexCast v22
  let c12 : Index := 12#32
  let c0_59 : Index := 0#32
  ![v179.toNat, 12, 0]
def k0_off230 (i : grid0.Coords) : Fin 3 → Nat :=
  let arg0 : BitVec 32 := BitVec.ofNat 32 (i 0).val
  let c11_i32_9 : BitVec 32 := 11#32
  let v22 : BitVec 32 := Scalar.subi arg0 c11_i32_9
  let v183 : Index := Scalar.indexCast v22
  let c1536 : Index := 1536#32
  let c0_60 : Index := 0#32
  ![v183.toNat, 1536, 0]
def k0_off231 (i : grid0.Coords) : Fin 3 → Nat :=
  let arg0 : BitVec 32 := BitVec.ofNat 32 (i 0).val
  let c11_i32_9 : BitVec 32 := 11#32
  let v22 : BitVec 32 := Scalar.subi arg0 c11_i32_9
  let v192 : Index := Scalar.indexCast v22
  let c13 : Index := 13#32
  let c0_63 : Index := 0#32
  ![v192.toNat, 13, 0]
def k0_off232 (i : grid0.Coords) : Fin 3 → Nat :=
  let arg0 : BitVec 32 := BitVec.ofNat 32 (i 0).val
  let c11_i32_9 : BitVec 32 := 11#32
  let v22 : BitVec 32 := Scalar.subi arg0 c11_i32_9
  let v196 : Index := Scalar.indexCast v22
  let c1664 : Index := 1664#32
  let c0_64 : Index := 0#32
  ![v196.toNat, 1664, 0]
def k0_cond6 (i : grid0.Coords) : BitVec 1 :=
  let arg0 : BitVec 32 := BitVec.ofNat 32 (i 0).val
  let c32_i32 : BitVec 32 := 32#32
  let v19 : BitVec 1 := Scalar.cmpi .eq arg0 c32_i32
  let v20 : BitVec 32 := Scalar.extui v19
  let c0_i32_8 : BitVec 32 := 0#32
  let v21 : BitVec 1 := Scalar.cmpi .ne v20 c0_i32_8
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c11_i32 : BitVec 32 := 11#32
  let v0 : BitVec 1 := Scalar.cmpi .slt arg0 c11_i32
  let c6_i32 : BitVec 32 := 6#32
  let v1 : BitVec 32 := Scalar.minsi arg0 c6_i32
  let c11_i32_0 : BitVec 32 := 11#32
  let v2 : BitVec 32 := Scalar.subi arg0 c11_i32_0
  let c6_i32_1 : BitVec 32 := 6#32
  let v3 : BitVec 32 := Scalar.minsi v2 c6_i32_1
  let v4 : BitVec 32 := Scalar.select v0 v1 v3
  let c0_i32 : BitVec 32 := 0#32
  let c0_i32_2 : BitVec 32 := 0#32
  ![v4.toNat, c0_i32.toNat]

def cc0_transform_4 (i : grid0.Coords) : Fin 2 → Nat :=
  let arg0 : BitVec 32 := BitVec.ofNat 32 (i 0).val
  let c11_i32 : BitVec 32 := 11#32
  let v0 : BitVec 1 := Scalar.cmpi .slt arg0 c11_i32
  let c6_i32 : BitVec 32 := 6#32
  let v1 : BitVec 32 := Scalar.minsi arg0 c6_i32
  let c11_i32_0 : BitVec 32 := 11#32
  let v2 : BitVec 32 := Scalar.subi arg0 c11_i32_0
  let c6_i32_1 : BitVec 32 := 6#32
  let v3 : BitVec 32 := Scalar.minsi v2 c6_i32_1
  let v4 : BitVec 32 := Scalar.select v0 v1 v3
  let c0_i32 : BitVec 32 := 0#32
  let c0_i32_2 : BitVec 32 := 0#32
  ![v4.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

abbrev stage0_0 : Fin 1 → Memref sig .tc .smem S16x44 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S14x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1792x512 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x44 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1792x512 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S14x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S1x1792x2048 : Shape := ⟨3, ![1, 1792, 2048]⟩
abbrev S1x1792x16 : Shape := ⟨3, ![1, 1792, 16]⟩
abbrev S2048 : Shape := ⟨1, ![2048]⟩
abbrev S2048x5632 : Shape := ⟨2, ![2048, 5632]⟩
abbrev S16x44 : Shape := ⟨2, ![16, 44]⟩
abbrev S1x1792x5632 : Shape := ⟨3, ![1, 1792, 5632]⟩
abbrev S1792x2048 : Shape := ⟨2, ![1792, 2048]⟩
abbrev S1792x16 : Shape := ⟨2, ![1792, 16]⟩
abbrev S1x2048 : Shape := ⟨2, ![1, 2048]⟩
abbrev S1792x5632 : Shape := ⟨2, ![1792, 5632]⟩
abbrev S14x2048 : Shape := ⟨2, ![14, 2048]⟩
abbrev S1792x44 : Shape := ⟨2, ![1792, 44]⟩
abbrev S14x5632 : Shape := ⟨2, ![14, 5632]⟩
abbrev S1792x16x1 : Shape := ⟨3, ![1792, 16, 1]⟩
abbrev S1792x16x128 : Shape := ⟨3, ![1792, 16, 128]⟩
abbrev S1792 : Shape := ⟨1, ![1792]⟩
abbrev S1792x1 : Shape := ⟨2, ![1792, 1]⟩
abbrev S14x128x2048 : Shape := ⟨3, ![14, 128, 2048]⟩
abbrev S14x2048x252 : Shape := ⟨3, ![14, 2048, 252]⟩
abbrev S14x2048x1 : Shape := ⟨3, ![14, 2048, 1]⟩
abbrev S14x1x2048 : Shape := ⟨3, ![14, 1, 2048]⟩
abbrev S1792x44x128 : Shape := ⟨3, ![1792, 44, 128]⟩
abbrev S1792x44x252 : Shape := ⟨3, ![1792, 44, 252]⟩
abbrev S1792x44x1 : Shape := ⟨3, ![1792, 44, 1]⟩
abbrev S14x128x5632 : Shape := ⟨3, ![14, 128, 5632]⟩
abbrev S14x5632x252 : Shape := ⟨3, ![14, 5632, 252]⟩
abbrev S14x5632x1 : Shape := ⟨3, ![14, 5632, 1]⟩
abbrev S14x1x5632 : Shape := ⟨3, ![14, 1, 5632]⟩
abbrev S16x44x1 : Shape := ⟨3, ![16, 44, 1]⟩
abbrev S16x44x128 : Shape := ⟨3, ![16, 44, 128]⟩
abbrev S16x5632 : Shape := ⟨2, ![16, 5632]⟩
abbrev S16x1x5632 : Shape := ⟨3, ![16, 1, 5632]⟩
abbrev S16x128x5632 : Shape := ⟨3, ![16, 128, 5632]⟩

abbrev nBuf : Space → Nat
  | .hbm => 19
  | .vmem => 15
  | .smem => 0
  | _ => 0

abbrev bufTy : (tb : Table) → Fin (tcTables nBuf tb) → BufTy
  | .hbm, ⟨0, _⟩ => ⟨S1x1792x2048, .fp8e4m3⟩
  | .hbm, ⟨1, _⟩ => ⟨S1x1792x16, .f32⟩
  | .hbm, ⟨2, _⟩ => ⟨S2048, .f32⟩
  | .hbm, ⟨3, _⟩ => ⟨S2048x5632, .fp8e4m3⟩
  | .hbm, ⟨4, _⟩ => ⟨S16x44, .f32⟩
  | .hbm, ⟨5, _⟩ => ⟨S1x1792x5632, .bf16⟩
  | .hbm, ⟨6, _⟩ => ⟨S1792x2048, .fp8e4m3⟩
  | .hbm, ⟨7, _⟩ => ⟨S1792x16, .f32⟩
  | .hbm, ⟨8, _⟩ => ⟨S1x2048, .f32⟩
  | .hbm, ⟨9, _⟩ => ⟨S1792x5632, .bf16⟩
  | .hbm, ⟨10, _⟩ => ⟨S1792x2048, .bf16⟩
  | .hbm, ⟨11, _⟩ => ⟨S2048x5632, .f32⟩
  | .hbm, ⟨12, _⟩ => ⟨S1x2048, .f32⟩
  | .hbm, ⟨13, _⟩ => ⟨S1792x2048, .fp8e4m3⟩
  | .hbm, ⟨14, _⟩ => ⟨S14x2048, .f32⟩
  | .hbm, ⟨15, _⟩ => ⟨S1792x5632, .fp8e5m2⟩
  | .hbm, ⟨16, _⟩ => ⟨S1792x44, .f32⟩
  | .hbm, ⟨17, _⟩ => ⟨S1792x5632, .fp8e5m2⟩
  | .hbm, ⟨18, _⟩ => ⟨S14x5632, .f32⟩
  | .local _ .vmem, ⟨0, _⟩ => ⟨S1792x2048, .fp8e4m3⟩
  | .local _ .vmem, ⟨1, _⟩ => ⟨S1792x16, .f32⟩
  | .local _ .vmem, ⟨2, _⟩ => ⟨S1x2048, .f32⟩
  | .local _ .vmem, ⟨3, _⟩ => ⟨S2048x5632, .fp8e4m3⟩
  | .local _ .vmem, ⟨4, _⟩ => ⟨S16x44, .f32⟩
  | .local _ .vmem, ⟨5, _⟩ => ⟨S1792x5632, .bf16⟩
  | .local _ .vmem, ⟨6, _⟩ => ⟨S1792x2048, .bf16⟩
  | .local _ .vmem, ⟨7, _⟩ => ⟨S2048x5632, .f32⟩
  | .local _ .vmem, ⟨8, _⟩ => ⟨S1x2048, .f32⟩
  | .local _ .vmem, ⟨9, _⟩ => ⟨S1792x2048, .fp8e4m3⟩
  | .local _ .vmem, ⟨10, _⟩ => ⟨S14x2048, .f32⟩
  | .local _ .vmem, ⟨11, _⟩ => ⟨S1792x5632, .fp8e5m2⟩
  | .local _ .vmem, ⟨12, _⟩ => ⟨S1792x44, .f32⟩
  | .local _ .vmem, ⟨13, _⟩ => ⟨S1792x5632, .fp8e5m2⟩
  | .local _ .vmem, ⟨14, _⟩ => ⟨S14x5632, .f32⟩
  | _, _ => ⟨S1x1792x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1792x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x44 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1792x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1792x5632 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1792x44 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1792x5632 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S14x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Model.lean ====
/-
  Programs over a fixed family of memrefs, read as functions on what the memrefs hold.

  `ME` has two effects: load a rectangle of one memref of the family, store a whole rectangle of one. `comp` reads a
  program of these as a kernel program; `run` reads it as a function on states, a state giving each memref's contents.
  `wp_comp`: from ownership of the family at a state, the kernel program ends with the family at the state `run` gives.
-/
module

public import Idealize.ShloMosaic.Lib.Pipeline.FrameBody
public import Idealize.ShloMosaic.Lib.Tactic

@[expose] public section

noncomputable section

namespace Cert.Model

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The names, spaces, shapes and element types of a family of memrefs. -/
structure Fam where
  B : Type
  dec : DecidableEq B
  fin : Fintype B
  sp : B → CoreSpace
  sh : B → Shape
  el : B → EltTy

attribute [instance] Fam.dec Fam.fin

variable {nD : Nat} {τ : Topo} {sig : RefSig} {Val : EltTy → Type} {Λ : Labels}

/-- The memrefs of a family on a TensorCore. -/
abbrev Fam.Mems (D : Fam) (sig : RefSig) := (b : D.B) → Memref sig Kind.tc (D.sp b : Space) (D.sh b) (D.el b)

/-- What the memrefs hold. -/
abbrev Fam.State (D : Fam) (Val : EltTy → Type) := (b : D.B) → (D.sh b).Idx → Val (D.el b)

/-- Load a rectangle, or store one whole. -/
inductive ME (D : Fam) (Val : EltTy → Type) (m : D.Mems sig) : Type → Type where
  | load (b : D.B) (r : LoadRect (D.sh b)) (h : (m b).view.LoadsAt r) : ME D Val m (r.shape.Idx → Val (D.el b))
  | store (b : D.B) (r : Rect (D.sh b)) (w : r.shape.Idx → Val (D.el b)) (h : ((m b).access r).Stores Finset.univ) : ME D Val m PUnit

variable {D : Fam} {m : D.Mems sig} {α β : Type}

/-- A program of loads and stores as a kernel program. -/
def comp : Prog (ME D Val m) α → Prog (TpuEff nD τ sig Val Λ (Proc.tc : Proc τ)) α
  | .ret a => .ret a
  | .op (.load b r h) k => .op (.load (m b) r h) fun x => comp (k x)
  | .op (.store b r w h) k => .op (.store (m b) r w Finset.univ h (.inl rfl)) fun x => comp (k x)

/-- A state with a rectangle of one memref replaced. -/
def upd (σ : D.State Val) (b : D.B) (r : Rect (D.sh b)) (w : r.shape.Idx → Val (D.el b)) : D.State Val :=
  Function.update σ b (r.overlay (σ b) w)

/-- A program of loads and stores as a function on states. -/
def run : Prog (ME D Val m) α → D.State Val → α × D.State Val
  | .ret a, σ => (a, σ)
  | .op (.load b r _) k, σ => run (k fun x => σ b (r.idx x)) σ
  | .op (.store b r w _) k, σ => run (k ⟨⟩) (upd σ b r w)

@[simp] theorem run_ret (a : α) (σ : D.State Val) : run (.ret a : Prog (ME D Val m) α) σ = (a, σ) := rfl
@[simp] theorem run_pure (a : α) (σ : D.State Val) : run (pure a : Prog (ME D Val m) α) σ = (a, σ) := rfl

theorem run_bind (p : Prog (ME D Val m) α) (k : α → Prog (ME D Val m) β) (σ : D.State Val) :
    run (p >>= k) σ = run (k (run p σ).1) (run p σ).2 := by
  induction p generalizing σ with
  | ret a => rfl
  | op e c ih =>
    cases e with
    | load b r h => exact ih _ σ
    | store b r w h => exact ih _ _

theorem comp_bind (p : Prog (ME D Val m) α) (k : α → Prog (ME D Val m) β) :
    (comp (p >>= k) : Prog (TpuEff nD τ sig Val Λ (Proc.tc : Proc τ)) β) = comp p >>= fun a => comp (k a) := by
  induction p with
  | ret a => rfl
  | op e c ih =>
    cases e with
    | load b r h => exact congrArg (Prog.op _) (funext fun x => ih x)
    | store b r w h => exact congrArg (Prog.op _) (funext fun x => ih x)

variable {Ix : Type} [DecidableEq Ix] {Name : Type} [DecidableEq Name] {U : Type} [URA U] {Lvl : Type} [Preorder Lvl]

local notation "𝕄" => MT nD τ sig Ix Val Name U Lvl

/-- The family owned at a state. -/
def held (c : Dev nD) (m : D.Mems sig) (σ : D.State Val) : sProp 𝕄 :=
  bigSep Finset.univ fun b => owns (c : Thread nD τ) (m b) fullShare (σ b)

theorem held_take (c : Dev nD) (σ : D.State Val) (b : D.B) :
    (held c m σ : sProp 𝕄) = iprop(owns (c : Thread nD τ) (m b) fullShare (σ b)
      ∗ bigSep (Finset.univ.erase b) fun b => owns (c : Thread nD τ) (m b) fullShare (σ b)) :=
  bigSep_erase (Finset.mem_univ b)

theorem held_put (c : Dev nD) (σ : D.State Val) (b : D.B) (X : (D.sh b).Idx → Val (D.el b)) :
    (held c m (Function.update σ b X) : sProp 𝕄) = iprop(owns (c : Thread nD τ) (m b) fullShare X
      ∗ bigSep (Finset.univ.erase b) fun b => owns (c : Thread nD τ) (m b) fullShare (σ b)) := by
  rw [held_take c _ b, Function.update_self]
  congr 1
  exact bigSep_congr fun i hi => by rw [Function.update_of_ne (Finset.ne_of_mem_erase hi)]

theorem wp_comp (defs : Defs nD τ sig Val Λ) (𝒱 : Variants) (c : Dev nD) (bd) (E : Set Name)
    (p : Prog (ME D Val m) α) (σ : D.State Val) :
    (held c m σ : sProp 𝕄) ⊢ wp frame (wpE defs 𝒱 (c : Thread nD τ) bd) E (comp p)
      fun a => iprop(⌜a = (run p σ).1⌝ ∗ held c m (run p σ).2) := by
  induction p generalizing σ with
  | ret a =>
    refine BIBase.Entails.trans ?_ (le_wp_ret _ _ _ a _)
    iintro H
    isplitr
    · ipureintro; rfl
    iexact H
  | op e k ih =>
    cases e with
    | load b r h =>
      rw [held_take c σ b]
      unfold owns
      iintro ⟨⟨%f, %hf, H⟩, Hr⟩
      iapply wp_load 𝒱 (c : Thread nD τ) bd E (by exact View.setOn_subset_set _ _) $$ H
      iintro H
      have hx : (m b).view.readAt Val r f = fun x => σ b (r.idx x) := by
        funext x; rw [View.readAt_apply, hf]
      rw [hx]
      iapply ih (fun x => σ b (r.idx x)) σ
      rw [held_take c σ b]
      unfold owns
      isplitl [H]
      · iexists f
        isplitr
        · ipureintro; exact hf
        · iexact H
      · iexact Hr
    | store b r w h =>
      rw [held_take c σ b]
      unfold owns
      iintro ⟨⟨%f, %hf, H⟩, Hr⟩
      iapply wp_store 𝒱 (c : Thread nD τ) bd E (View.setOn_subset_set _ _ |>.trans ((m b).view.set_slice_subset r)) $$ H
      iintro H
      iapply ih ⟨⟩ (upd σ b r w)
      unfold upd
      rw [held_put c σ b]
      unfold owns
      isplitl [H]
      · iexists ((m b).access r).write Val f w Finset.univ
        isplitr
        · ipureintro
          funext y
          by_cases hy : y ∈ r.set
          · obtain ⟨x, rfl⟩ : ∃ x, r.emb x = y := by
              rw [← Rect.map_emb_univ] at hy
              obtain ⟨x, -, hx⟩ := Finset.mem_map.mp hy
              exact ⟨x, hx⟩
            rw [Rect.overlay_emb]
            exact View.read_slice_write_emb r f w (Finset.mem_univ x)
          · rw [Rect.overlay_of_not_mem _ _ _ hy, ← hf]
            exact View.read_slice_write_of_not_mem r f w _ (by rw [Rect.map_emb_univ]; exact hy)
        · iexact H
      · iexact Hr

end Cert.Model
-- ==== Proof.Code.lean ====
/-
  The kernel's body as a program with loops over the family of its 23 memrefs (`Model.lean`), at any float operations.

  The names follow the kernel's Python: `quantX`, `quantDy`, `dgrad`, `normBackward`, `wgrad`. What a block computes
  from the tiles it loads is a function of its own (`xnTile`, `rowCodes`, …), which the value proofs read.
-/
module

public import proofs.«01_k».proof.Proof.Model

@[expose] public section

set_option maxRecDepth 4096

noncomputable section

namespace Cert.Code

open Idealize.ShloMosaic Idealize.SL.Sem
open Cert.Model

/-! ## The memrefs -/

/-- The kernel's memrefs, in the order of its arguments. -/
inductive B
  | a1 | a2 | a3 | a4 | a5 | a6 | a7 | a8 | a9 | a10 | a11 | a12 | a13 | a14 | a15 | a16 | a17 | a18 | a19 | a20 | a21 | a22 | a23
  deriving DecidableEq

instance : Fintype B where
  elems := ⟨[B.a1, B.a2, B.a3, B.a4, B.a5, B.a6, B.a7, B.a8, B.a9, B.a10, B.a11, B.a12, B.a13, B.a14, B.a15, B.a16, B.a17, B.a18, B.a19, B.a20, B.a21,
    B.a22, B.a23], by decide⟩
  complete := by intro b; cases b <;> decide

abbrev M1 (n : Nat) : Shape := ⟨1, ![n]⟩
abbrev M2 (r c : Nat) : Shape := ⟨2, ![r, c]⟩
abbrev M3 (a r c : Nat) : Shape := ⟨3, ![a, r, c]⟩

@[reducible] def sp : B → CoreSpace
  | .a1 => .smem
  | .a2 | .a3 | .a4 | .a5 | .a6 | .a7 | .a8 | .a9 | .a10 | .a11 | .a12 | .a13 | .a14 | .a15 | .a16 | .a17 | .a18 | .a19
  | .a20 | .a21 | .a22 | .a23 => .vmem

@[reducible] def sh : B → Shape
  | .a1 => M2 16 44 | .a2 => M2 1792 512 | .a3 => M2 2048 512 | .a4 => M2 256 2048 | .a5 => M2 256 16 | .a6 => M2 1 2048
  | .a7 => M2 256 2048 | .a8 => M2 2048 256 | .a9 => M2 1 2048 | .a10 => M2 256 2048 | .a11 => M2 14 2048
  | .a12 => M2 1792 512 | .a13 => M2 1792 44 | .a14 => M2 1792 512 | .a15 => M2 14 512 | .a16 => M2 1792 2048
  | .a17 => M2 2048 1792 | .a18 => M2 1792 512 | .a19 => M2 2048 512 | .a20 => M3 22 1792 256 | .a21 => M3 22 14 256
  | .a22 => M2 1792 256 | .a23 => M2 8 2048

@[reducible] def el : B → EltTy
  | .a1 => .f32 | .a2 => .bf16 | .a3 => .fp8e4m3 | .a4 => .fp8e4m3 | .a5 => .f32 | .a6 => .f32
  | .a7 => .bf16 | .a8 => .f32 | .a9 => .f32 | .a10 => .fp8e4m3 | .a11 => .f32
  | .a12 => .fp8e5m2 | .a13 => .f32 | .a14 => .fp8e5m2 | .a15 => .f32 | .a16 => .f32
  | .a17 => .bf16 | .a18 => .bf16 | .a19 => .bf16 | .a20 => .fp8e5m2 | .a21 => .f32
  | .a22 => .bf16 | .a23 => .f32

@[reducible] def fam : Fam := ⟨B, inferInstance, inferInstance, sp, sh, el⟩

variable {F : FTy → Type} [FloatOps F] {sig : RefSig} (m : fam.Mems sig)

/-- Programs over the kernel's memrefs. -/
abbrev P (F : FTy → Type) [FloatOps F] {sig : RefSig} (m : fam.Mems sig) (α : Type) := Prog (ME fam (Elt F) m) α

/-! ## Loops -/

section Loop
variable {E : Type → Type} {α : Type} {n : Nat}

/-- The trips from `s`, `r` of them to go. -/
def loopGo (f : (k : Nat) → k < n → α → Prog E α) : (r s : Nat) → s + r = n → α → Prog E α
  | 0, _, _, a => .ret a
  | r + 1, s, h, a => (f s (by omega) a).bind fun b => loopGo f r (s + 1) (by omega) b

/-- The trips from `s` to `n`, carrying a value. -/
def loop (n s : Nat) (h : s ≤ n) (a : α) (f : (k : Nat) → k < n → α → Prog E α) : Prog E α :=
  loopGo f (n - s) s (by omega) a

end Loop

/-! ## Loads and stores -/

theorem inb2 {R C r c a b : Nat} (h1 : a + r ≤ R) (h2 : b + c ≤ C) :
    ∀ i : Fin 2, (![a, b] : Fin 2 → Nat) i + (![r, c] : Fin 2 → Nat) i ≤ (![R, C] : Fin 2 → Nat) i := by
  intro i; fin_cases i
  · exact h1
  · exact h2

theorem inb3 {A R C x r c a b d : Nat} (h0 : d + x ≤ A) (h1 : a + r ≤ R) (h2 : b + c ≤ C) :
    ∀ i : Fin 3, (![d, a, b] : Fin 3 → Nat) i + (![x, r, c] : Fin 3 → Nat) i ≤ (![A, R, C] : Fin 3 → Nat) i := by
  intro i; fin_cases i
  · exact h0
  · exact h1
  · exact h2

variable {m} in
/-- Load a rectangle. -/
abbrev ld (b : B) (r : Rect (sh b)) (h : (m b).view.LoadsAt r.toLoadRect) : P F m (r.shape.Idx → Elt F (el b)) :=
  .op (.load b r.toLoadRect h) .ret

variable {m} in
/-- Store a rectangle. -/
abbrev st (b : B) (r : Rect (sh b)) (w : r.shape.Idx → Elt F (el b)) (h : ((m b).access r).Stores Finset.univ) : P F m PUnit :=
  .op (.store b r w h) .ret

/-- The rectangles of the kernel: of given sizes at given offsets. -/
abbrev R2 {R C : Nat} (a b r c : Nat) (h1 : a + r ≤ R) (h2 : b + c ≤ C) : Rect (M2 R C) :=
  Rect.unit (s := M2 R C) ![a, b] (M2 r c).size (inb2 h1 h2)
abbrev R3 {A R C : Nat} (d a b x r c : Nat) (h0 : d + x ≤ A) (h1 : a + r ≤ R) (h2 : b + c ≤ C) : Rect (M3 A R C) :=
  Rect.unit (s := M3 A R C) ![d, a, b] (M3 x r c).size (inb3 h0 h1 h2)

theorem slices2 {R C r c a b : Nat} (h1 : a + r ≤ R) (h2 : b + c ≤ C) : (M2 R C).Slices ![a, b] (M2 r c) :=
  ⟨rfl, fun i => by
    fin_cases i
    · exact h1
    · exact h2⟩

/-! ## Scales -/

/-- One step of the search for the exponent field: the bit pattern grows by `k` where the float it would be is at most `b`. -/
def searchStep {s : Shape} (b : FVec F s .f32) (v : IVec s 32) (k : BitVec 32) : IVec s 32 :=
  select (cmpf .oge b (bitcastToFloat .f32 (addi v (broadcast s k)))) (addi v (broadcast s k)) v

/-- The exponent field of `b`'s bit pattern. -/
def expField {s : Shape} (b : FVec F s .f32) : IVec s 32 :=
  searchStep b (searchStep b (searchStep b (searchStep b (searchStep b (searchStep b (searchStep b (searchStep b
    (broadcast s 0#32) 1056964608#32) 528482304#32) 268435456#32) 134217728#32) 67108864#32) 33554432#32) 16777216#32) 8388608#32

/-- The bit pattern of the scale of a group whose largest magnitude over the format's largest is `b`. -/
def scaleBits {s : Shape} (b : FVec F s .f32) : IVec s 32 :=
  select (cmpf .oeq b (broadcast s (Scalar.ofBits .f32 0x00000000#32))) (broadcast s 1065353216#32)
    (addi (expField b) (broadcast s 8388608#32))

def scale {s : Shape} (b : FVec F s .f32) : FVec F s .f32 := bitcastToFloat .f32 (scaleBits b)

def invScale {s : Shape} (b : FVec F s .f32) : FVec F s .f32 :=
  bitcastToFloat .f32 (subi (broadcast s 2130706432#32) (scaleBits b))

/-! ## The quantiser of the normalised activations -/

/-- A tile of the dequantised input: codes times the scales of column group `c`. -/
def xfTile (c : Nat) (hc : c < 16) (codes : FVec F (M2 256 128) .fp8e4m3) (xs : FVec F (M2 256 16) .f32) : FVec F (M2 256 128) .f32 :=
  mulf (extf .f32 (shapeCast (M2 256 128) codes (by decide)) (by decide))
    (broadcastTo (M2 256 128) (extractStridedSlice (M2 256 1) ![0, c] (shapeCast (M2 256 16) xs (by decide))
      (slices2 (by omega) (by omega))) (by decide))

/-- The reciprocal root mean square of the rows, from the sum of the tiles' squares. -/
def rmsInv (q : FVec F (M2 256 128) .f32) : FVec F (M2 256 1) .f32 :=
  rsqrt (addf (mulf (shapeCast (M2 256 1) (multiReduction .add [1] (M1 256) q 0x00000000#32 (by decide) (.inl rfl) rfl) (by decide))
    (broadcast (M2 256 1) (Scalar.ofBits .f32 0x3A000000#32))) (broadcast (M2 256 1) (Scalar.ofBits .f32 0x358637BD#32)))

/-- The normalised tile. -/
def xhatTile (xf : FVec F (M2 256 128) .f32) (r : FVec F (M2 256 1) .f32) : FVec F (M2 256 128) .f32 :=
  mulf xf (broadcastTo (M2 256 128) r (by decide))

/-- A tile of gains over the rows. -/
def gRows (g : FVec F (M2 1 128) .f32) : FVec F (M2 256 128) .f32 :=
  broadcastTo (M2 256 128) (shapeCast (M2 1 128) g (by decide)) (by decide)

/-- Half `t` of a normalised tile: the rows of one token group. -/
def xnHalf (t : Nat) (ht : t < 2) (v : FVec F (M2 256 128) .f32) : FVec F (M2 128 128) .f32 :=
  extractStridedSlice (M2 128 128) ![128 * t, 0] v (slices2 (by omega) (by omega))

/-- The largest magnitudes of the columns over the largest e4m3, of a tile's half. -/
def xnAmax (v : FVec F (M2 128 128) .f32) : FVec F (M2 1 128) .f32 :=
  mulf (shapeCast (M2 1 128) (multiReduction .maximumf [0] (M1 128) (absf v) 0xFF800000#32 (by decide) (.inl rfl) rfl) (by decide))
    (broadcast (M2 1 128) (Scalar.ofBits .f32 0x3B124925#32))

def xnCodes (v : FVec F (M2 128 128) .f32) : FVec F (M2 128 128) .fp8e4m3 :=
  truncf .fp8e4m3 (minimumf (broadcast (M2 128 128) (Scalar.ofBits .f32 0x43E00000#32))
    (maximumf (broadcast (M2 128 128) (Scalar.ofBits .f32 0xC3E00000#32))
      (mulf v (broadcastTo (M2 128 128) (invScale (xnAmax v)) (by decide))))) (by decide)

/-- The rows of scales with row `row` replaced. -/
def xnScaleRows (row : BitVec 32) (v : FVec F (M2 128 128) .f32) (old : FVec F (M2 14 128) .f32) : FVec F (M2 14 128) .f32 :=
  select (cmpi .eq (iota .tc (M2 14 128) 32 [0] (by decide)) (broadcast (M2 14 128) row))
    (broadcastTo (M2 14 128) (shapeCast (M2 1 128) (scale (xnAmax v)) (by decide)) (by decide))
    (shapeCast (M2 14 128) old (by decide))

/-- The tile's half, quantised and dequantised, transposed. -/
def xqtTile (v : FVec F (M2 128 128) .f32) : FVec F (M2 128 128) .bf16 :=
  shapeCast (M2 128 128) (transpose (M2 128 128) [1, 0] (mulf (extf .bf16 (xnCodes v) (by decide))
    (broadcastTo (M2 128 128) (truncf .bf16 (scale (xnAmax v)) (by decide)) (by decide))) (by decide)) (by decide)

/-! ## The quantisers of the output gradient -/

def dyTile (d : FVec F (M2 128 128) .bf16) : FVec F (M2 128 128) .bf16 := shapeCast (M2 128 128) d (by decide)

/-- The largest magnitudes of the rows of a tile over the largest e5m2. -/
def rowAmax (v : FVec F (M2 128 128) .bf16) : FVec F (M2 128 1) .f32 :=
  mulf (shapeCast (M2 128 1) (multiReduction .maximumf [1] (M1 128) (extf .f32 (absf v) (by decide)) 0xFF800000#32 (by decide)
    (.inl rfl) rfl) (by decide)) (broadcast (M2 128 1) (Scalar.ofBits .f32 0x37924925#32))

/-- The largest magnitudes of the columns of a tile over the largest e5m2. -/
def colAmax (v : FVec F (M2 128 128) .bf16) : FVec F (M2 1 128) .f32 :=
  mulf (extf .f32 (shapeCast (M2 1 128) (multiReduction .maximumf [0] (M1 128) (absf v) 0xFF80#16 (by decide)
    (.inr rfl) rfl) (by decide)) (by decide)) (broadcast (M2 1 128) (Scalar.ofBits .f32 0x37924925#32))

/-- A tile scaled and clipped to e5m2, given the reciprocal scales of its elements. -/
def e5Codes (v inv : FVec F (M2 128 128) .bf16) : FVec F (M2 128 128) .fp8e5m2 :=
  truncf .fp8e5m2 (minimumf (broadcast (M2 128 128) (Scalar.truncf .bf16 (by decide) (Scalar.ofBits .f32 0x47600000#32)))
    (maximumf (broadcast (M2 128 128) (Scalar.truncf .bf16 (by decide) (Scalar.ofBits .f32 0xC7600000#32))) (mulf v inv))) (by decide)

def rowCodes (v : FVec F (M2 128 128) .bf16) : FVec F (M2 128 128) .fp8e5m2 :=
  e5Codes v (broadcastTo (M2 128 128) (truncf .bf16 (invScale (rowAmax v)) (by decide)) (by decide))

def colCodes (v : FVec F (M2 128 128) .bf16) : FVec F (M2 128 128) .fp8e5m2 :=
  e5Codes v (broadcastTo (M2 128 128) (truncf .bf16 (invScale (colAmax v)) (by decide)) (by decide))

/-- The lanes of row scales with lane `lane` replaced. -/
def rowScaleLanes (lane : BitVec 32) (v : FVec F (M2 128 128) .bf16) (rs : FVec F (M2 128 44) .f32) : FVec F (M2 128 44) .f32 :=
  select (cmpi .eq (iota .tc (M2 128 44) 32 [1] (by decide)) (broadcast (M2 128 44) lane))
    (broadcastTo (M2 128 44) (shapeCast (M2 128 1) (scale (rowAmax v)) (by decide)) (by decide)) rs

/-- The tile, quantised by rows and dequantised. -/
def dyqTile (v : FVec F (M2 128 128) .bf16) : FVec F (M2 128 128) .bf16 :=
  shapeCast (M2 128 128) (mulf (extf .bf16 (rowCodes v) (by decide))
    (broadcastTo (M2 128 128) (truncf .bf16 (scale (rowAmax v)) (by decide)) (by decide))) (by decide)

/-! ## The products -/

/-- A tile of the dequantised weights. -/
def wqTile (s : F .f32) (w : FVec F (M2 128 128) .fp8e4m3) : FVec F (M2 128 128) .bf16 :=
  shapeCast (M2 128 128) (mulf (extf .bf16 w (by decide))
    (broadcastTo (M2 128 128) (truncf .bf16 (broadcast (M2 1 128) s) (by decide)) (by decide))) (by decide)

def dotNT : DotDims (M2 1792 512) (M2 256 512) (M2 1792 256) where
  lhsContracting := [1]
  rhsContracting := [1]
  lhsNonContracting := [0]
  rhsNonContracting := [0]
  lhsBatch := []
  rhsBatch := []
  wf := by decide

def dotNN : DotDims (M2 2048 1792) (M2 1792 256) (M2 2048 256) where
  lhsContracting := [1]
  rhsContracting := [0]
  lhsNonContracting := [0]
  rhsNonContracting := [1]
  lhsBatch := []
  rhsBatch := []
  wf := by decide

/-- A strip of the input gradient's accumulator with one block of columns' product added. -/
def accStrip (acc : FVec F (M2 1792 256) .f32) (a : FVec F (M2 1792 512) .bf16) (b : FVec F (M2 256 512) .bf16) : FVec F (M2 1792 256) .f32 :=
  shapeCast (M2 1792 256) (addf acc (matmul dotNT none a b (constant (M2 1792 256) .f32 0x00000000#32))) (by decide)

/-- A block of rows of one half of the dequantised output gradient. -/
def dqTile (s : FVec F (M3 1 1 256) .f32) (c : FVec F (M3 1 128 256) .fp8e5m2) : FVec F (M2 128 256) .bf16 :=
  shapeCast (M2 128 256) (mulf (extf .bf16 (shapeCast (M2 128 256) c (by decide)) (by decide))
    (broadcastTo (M2 128 256) (truncf .bf16 (shapeCast (M2 1 256) s (by decide)) (by decide)) (by decide))) (by decide)

def dwTile (a : FVec F (M2 2048 1792) .bf16) (b : FVec F (M2 1792 256) .bf16) : FVec F (M2 2048 256) .f32 :=
  matmul dotNN none a b (constant (M2 2048 256) .f32 0x00000000#32)

/-! ## The normalisation's backward pass -/

def dgTile (old : FVec F (M2 8 128) .f32) (acc xhat : FVec F (M2 256 128) .f32) : FVec F (M2 8 128) .f32 :=
  shapeCast (M2 8 128) (addf old (multiReduction .add [0] (M2 8 128) (shapeCast (M3 32 8 128) (mulf acc xhat) (by decide))
    0x00000000#32 (by decide) (.inl rfl) rfl)) (by decide)

def sTile (acc xhat : FVec F (M2 256 128) .f32) (g : FVec F (M2 1 128) .f32) : FVec F (M2 256 128) .f32 :=
  mulf (mulf acc (gRows g)) xhat

def rowMean (s : FVec F (M2 256 128) .f32) : FVec F (M2 256 1) .f32 :=
  mulf (shapeCast (M2 256 1) (multiReduction .add [1] (M1 256) s 0x00000000#32 (by decide) (.inl rfl) rfl) (by decide))
    (broadcast (M2 256 1) (Scalar.ofBits .f32 0x3A000000#32))

def dxTile (acc xf : FVec F (M2 256 128) .f32) (g : FVec F (M2 1 128) .f32) (r c : FVec F (M2 256 1) .f32) : FVec F (M2 256 128) .bf16 :=
  truncf .bf16 (mulf (broadcastTo (M2 256 128) r (by decide))
    (subf (mulf acc (gRows g)) (mulf (xhatTile xf r) (broadcastTo (M2 256 128) c (by decide))))) (by decide)

/-! ## The program -/

variable (hm : ∀ b, (m b).IsWhole)

section Evidence
variable {m}

/-- Whole rows of words: the row offset and the number of rows are multiples of `p`. -/
theorem packed2 {p R C a b r c : Nat} {h1 : a + r ≤ R} {h2 : b + c ≤ C} (ha : p ∣ a) (hr : p ∣ r) :
    (R2 a b r c h1 h2).PackedRows p := .inr ⟨Nat.le_refl 2, rfl, .inl ⟨ha, hr⟩⟩

theorem packed3 {p A R C d a b x r c : Nat} {h0 : d + x ≤ A} {h1 : a + r ≤ R} {h2 : b + c ≤ C} (ha : p ∣ a) (hr : p ∣ r) :
    (R3 d a b x r c h0 h1 h2).PackedRows p := .inr ⟨(Nat.le_succ 2 : 2 ≤ 3), rfl, .inl ⟨ha, hr⟩⟩

end Evidence

/-- `p ∣ 128 * k` where `p` divides 128. -/
theorem dvd128 {p k : Nat} (h : p ∣ 128) : p ∣ 128 * k := h.mul_right k

/-- The tiles of the dequantised input and the sum of their squares. -/
def loadX : P F m ((Nat → FVec F (M2 256 128) .f32) × FVec F (M2 256 128) .f32) := do
  let xs ← ld .a5 (R2 0 0 256 16 (by decide) (by decide)) (View.loadsAt_vmem (by decide))
  let c0 ← ld .a4 (R2 0 0 256 128 (by decide) (by decide)) (View.loadsAt_vmem (by decide))
  loop 16 1 (by decide) (fun _ => xfTile 0 (by decide) c0 xs, mulf (xfTile 0 (by decide) c0 xs) (xfTile 0 (by decide) c0 xs))
    fun c hc a => do
      let codes ← ld .a4 (R2 0 (128 * c) 256 128 (by decide) (by omega)) (View.loadsAt_vmem (by exact (by decide : 0 < (M2 256 128).numel)))
      pure (fun j => bif Nat.beq j c then xfTile c hc codes xs else a.1 j,
        addf a.2 (mulf (xfTile c hc codes xs) (xfTile c hc codes xs)))

/-- The step as the kernel's 32-bit integer. -/
abbrev stp (n : Nat) : BitVec 32 := BitVec.ofNat 32 n

/-- The column of the transposed activations where token group `2n + t` starts, as the kernel computes it. -/
def xqtOff (n t : Nat) : Nat :=
  (Scalar.indexCast (Scalar.muli (Scalar.addi (Scalar.muli (stp n) 2#32) (BitVec.ofNat 32 t)) 128#32) : Index).toNat

theorem xqtOff_eq {n t : Nat} (hn : n < 7) (ht : t < 2) : xqtOff n t = (2 * n + t) * 128 :=
  (by decide +kernel : ∀ n : Fin 7, ∀ t : Fin 2, xqtOff n t = (2 * n.val + t.val) * 128) ⟨n, hn⟩ ⟨t, ht⟩

/-- The slab of half `h` of column block `n`, as the kernel computes it. -/
def slabOff (n h : Nat) : Nat :=
  (Scalar.indexCast (Scalar.addi (Scalar.muli (stp n) 2#32) (BitVec.ofNat 32 h)) : Index).toNat

theorem slabOff_eq {n h : Nat} (hn : n < 11) (hh : h < 2) : slabOff n h = 2 * n + h :=
  (by decide +kernel : ∀ n : Fin 11, ∀ h : Fin 2, slabOff n h = 2 * n.val + h.val) ⟨n, hn⟩ ⟨h, hh⟩

/-- The column of the weights' scales for column group `cb` of block `n`, as the kernel computes it. -/
def wsOff (n cb : Nat) : Nat :=
  (Scalar.indexCast (Scalar.addi (Scalar.muli (stp n) 4#32) (BitVec.ofNat 32 cb)) : Index).toNat

theorem wsOff_eq {n cb : Nat} (hn : n < 11) (hc : cb < 4) : wsOff n cb = 4 * n + cb :=
  (by decide +kernel : ∀ n : Fin 11, ∀ c : Fin 4, wsOff n c = 4 * n.val + c.val) ⟨n, hn⟩ ⟨cb, hc⟩

/-- The row of the accumulator where the block of step `n` starts, as the kernel computes it. -/
def accOff (n : Nat) : Nat := (Scalar.indexCast (Scalar.muli (Scalar.subi (stp n) 11#32) 256#32) : Index).toNat

theorem accOff_eq {n : Nat} (h1 : 11 ≤ n) (h2 : n < 18) : accOff n = 256 * (n - 11) :=
  (by decide +kernel : ∀ n : Fin 18, 11 ≤ n.val → accOff n = 256 * (n.val - 11)) ⟨n, h2⟩ h1

/-- The slab the step `n` multiplies, as the kernel computes it. -/
def dqOff (n : Nat) : Nat := (Scalar.indexCast (Scalar.subi (stp n) 11#32) : Index).toNat

theorem dqOff_eq {n : Nat} (h1 : 11 ≤ n) (h2 : n < 33) : dqOff n = n - 11 :=
  (by decide +kernel : ∀ n : Fin 33, 11 ≤ n.val → dqOff n = n.val - 11) ⟨n, h2⟩ h1

/-- One token group of one column block of the activations. -/
def quantXHalf (n : Nat) (hn : n < 7) (c : Nat) (hc : c < 16) (t : Nat) (ht : t < 2) (v : FVec F (M2 256 128) .f32) : P F m PUnit := do
  let _ ← ld .a10 (R2 (128 * t) (128 * c) 128 128 (by omega) (by omega)) (View.loadsAt_vmem (by exact (by decide : 0 < (M2 128 128).numel)))
  st .a10 (R2 (128 * t) (128 * c) 128 128 (by omega) (by omega)) (xnCodes (xnHalf t ht v))
    (View.stores_vmem (by exact (by decide : 0 < (M2 128 128).numel))
      ((hm .a10).storeExact_slice rfl _ (packed2 (dvd128 (by decide)) (by decide))) (fun _ => rfl))
  let old ← ld .a11 (R2 0 (128 * c) 14 128 (by omega) (by omega)) (View.loadsAt_vmem (by exact (by decide : 0 < (M2 14 128).numel)))
  let _ ← ld .a11 (R2 0 (128 * c) 14 128 (by omega) (by omega)) (View.loadsAt_vmem (by exact (by decide : 0 < (M2 14 128).numel)))
  st .a11 (R2 0 (128 * c) 14 128 (by omega) (by omega))
    (xnScaleRows (Scalar.addi (Scalar.muli (stp n) 2#32) (BitVec.ofNat 32 t)) (xnHalf t ht v) old)
    (View.stores_vmem_bits_univ (by exact (by decide : 0 < (M2 14 128).numel)) rfl)
  let _ ← ld .a17 (R2 (128 * c) (xqtOff n t) 128 128 (by omega) (by rw [xqtOff_eq hn ht]; omega))
    (View.loadsAt_vmem (by exact (by decide : 0 < (M2 128 128).numel)))
  st .a17 (R2 (128 * c) (xqtOff n t) 128 128 (by omega) (by rw [xqtOff_eq hn ht]; omega)) (xqtTile (xnHalf t ht v))
    (View.stores_vmem (by exact (by decide : 0 < (M2 128 128).numel))
      ((hm .a17).storeExact_slice rfl _ (packed2 (dvd128 (by decide)) (by decide))) (fun _ => rfl))

def quantX (n : Nat) (hn : n < 7) : P F m PUnit := do
  let x ← loadX m
  loop 16 0 (by decide) ⟨⟩ fun c hc _ => do
    let g ← ld .a6 (R2 0 (128 * c) 1 128 (by decide) (by omega)) (View.loadsAt_vmem (by exact (by decide : 0 < (M2 1 128).numel)))
    loop 2 0 (by decide) ⟨⟩ fun t ht _ =>
      quantXHalf m hm n hn c hc t ht (mulf (xhatTile (x.1 c) (rmsInv x.2)) (gRows g))

/-- One tile of the output gradient: its codes and scales both ways. -/
def quantDyTile (n : Nat) (hn : n < 11) (tb : Nat) (ht : tb < 14) (cb : Nat) (hc : cb < 4) (rs : FVec F (M2 128 44) .f32) :
    P F m (FVec F (M2 128 44) .f32) := do
  let d ← ld .a2 (R2 (128 * tb) (128 * cb) 128 128 (by omega) (by omega)) (View.loadsAt_vmem (by exact (by decide : 0 < (M2 128 128).numel)))
  let _ ← ld .a12 (R2 (128 * tb) (128 * cb) 128 128 (by omega) (by omega)) (View.loadsAt_vmem (by exact (by decide : 0 < (M2 128 128).numel)))
  st .a12 (R2 (128 * tb) (128 * cb) 128 128 (by omega) (by omega)) (rowCodes (dyTile d))
    (View.stores_vmem (by exact (by decide : 0 < (M2 128 128).numel))
      ((hm .a12).storeExact_slice rfl _ (packed2 (dvd128 (by decide)) (by decide))) (fun _ => rfl))
  let _ ← ld .a18 (R2 (128 * tb) (128 * cb) 128 128 (by omega) (by omega)) (View.loadsAt_vmem (by exact (by decide : 0 < (M2 128 128).numel)))
  st .a18 (R2 (128 * tb) (128 * cb) 128 128 (by omega) (by omega)) (dyqTile (dyTile d))
    (View.stores_vmem (by exact (by decide : 0 < (M2 128 128).numel))
      ((hm .a18).storeExact_slice rfl _ (packed2 (dvd128 (by decide)) (by decide))) (fun _ => rfl))
  let _ ← ld .a14 (R2 (128 * tb) (128 * cb) 128 128 (by omega) (by omega)) (View.loadsAt_vmem (by exact (by decide : 0 < (M2 128 128).numel)))
  st .a14 (R2 (128 * tb) (128 * cb) 128 128 (by omega) (by omega)) (colCodes (dyTile d))
    (View.stores_vmem (by exact (by decide : 0 < (M2 128 128).numel))
      ((hm .a14).storeExact_slice rfl _ (packed2 (dvd128 (by decide)) (by decide))) (fun _ => rfl))
  let _ ← ld .a15 (R2 tb (128 * cb) 1 128 (by omega) (by omega)) (View.loadsAt_vmem (by exact (by decide : 0 < (M2 1 128).numel)))
  st .a15 (R2 tb (128 * cb) 1 128 (by omega) (by omega)) (scale (colAmax (dyTile d)))
    (View.stores_vmem_bits_univ (by exact (by decide : 0 < (M2 1 128).numel)) rfl)
  let _ ← ld .a20 (R3 (slabOff n (cb / 2)) (128 * tb) (128 * (cb % 2)) 1 128 128 (by rw [slabOff_eq hn (by omega)]; omega) (by omega) (by omega))
    (View.loadsAt_vmem (by exact (by decide : 0 < (M3 1 128 128).numel)))
  st .a20 (R3 (slabOff n (cb / 2)) (128 * tb) (128 * (cb % 2)) 1 128 128 (by rw [slabOff_eq hn (by omega)]; omega) (by omega) (by omega))
    (shapeCast (M3 1 128 128) (colCodes (dyTile d)) (by decide))
    (View.stores_vmem (by exact (by decide : 0 < (M3 1 128 128).numel))
      ((hm .a20).storeExact_slice rfl _ (packed3 (dvd128 (by decide)) (by decide))) (fun _ => rfl))
  let _ ← ld .a21 (R3 (slabOff n (cb / 2)) tb (128 * (cb % 2)) 1 1 128 (by rw [slabOff_eq hn (by omega)]; omega) (by omega) (by omega))
    (View.loadsAt_vmem (by exact (by decide : 0 < (M3 1 1 128).numel)))
  st .a21 (R3 (slabOff n (cb / 2)) tb (128 * (cb % 2)) 1 1 128 (by rw [slabOff_eq hn (by omega)]; omega) (by omega) (by omega))
    (shapeCast (M3 1 1 128) (scale (colAmax (dyTile d))) (by decide))
    (View.stores_vmem_bits_univ (by exact (by decide : 0 < (M3 1 1 128).numel)) rfl)
  pure (rowScaleLanes (Scalar.addi (Scalar.muli (stp n) 4#32) (BitVec.ofNat 32 cb)) (dyTile d) rs)

def quantDy (n : Nat) (hn : n < 11) : P F m PUnit :=
  loop 14 0 (by decide) ⟨⟩ fun tb ht _ => do
    let old ← ld .a13 (R2 (128 * tb) 0 128 44 (by omega) (by omega)) (View.loadsAt_vmem (by exact (by decide : 0 < (M2 128 44).numel)))
    let rs ← loop 4 0 (by decide) (shapeCast (s := M2 128 44) (M2 128 44) old (by decide)) fun cb hc rs => quantDyTile m hm n hn tb ht cb hc rs
    let _ ← ld .a13 (R2 (128 * tb) 0 128 44 (by omega) (by omega)) (View.loadsAt_vmem (by exact (by decide : 0 < (M2 128 44).numel)))
    st .a13 (R2 (128 * tb) 0 128 44 (by omega) (by omega)) rs (View.stores_vmem_bits_univ (by exact (by decide : 0 < (M2 128 44).numel)) rfl)

theorem numel11 : (M2 1 1).numel = 1 := rfl

/-- One tile of the dequantised weights. -/
def wqBlock (n : Nat) (hn : n < 11) (ib : Nat) (hi : ib < 16) (cb : Nat) (hc : cb < 4) : P F m PUnit := do
  let s ← ld .a1 (R2 ib (wsOff n cb) 1 1 (by omega) (by rw [wsOff_eq hn hc]; omega)) (View.loadsAt_rect (View.loads_smem_one rfl numel11))
  let w ← ld .a3 (R2 (128 * ib) (128 * cb) 128 128 (by omega) (by omega)) (View.loadsAt_vmem (by exact (by decide : 0 < (M2 128 128).numel)))
  let _ ← ld .a19 (R2 (128 * ib) (128 * cb) 128 128 (by omega) (by omega)) (View.loadsAt_vmem (by exact (by decide : 0 < (M2 128 128).numel)))
  st .a19 (R2 (128 * ib) (128 * cb) 128 128 (by omega) (by omega))
    (wqTile (s (Shape.Idx.first (s := M2 1 1) (numel11.symm ▸ Nat.one_pos))) w)
    (View.stores_vmem (by exact (by decide : 0 < (M2 128 128).numel))
      ((hm .a19).storeExact_slice rfl _ (packed2 (dvd128 (by decide)) (by decide))) (fun _ => rfl))

/-- One strip of the accumulator. -/
def accBlock (it : Nat) (hi : it < 8) : P F m PUnit := do
  let acc ← ld .a16 (R2 0 (256 * it) 1792 256 (by omega) (by omega)) (View.loadsAt_vmem (by exact (by decide : 0 < (M2 1792 256).numel)))
  let a ← ld .a18 (R2 0 0 1792 512 (by omega) (by omega)) (View.loadsAt_vmem (by exact (by decide : 0 < (M2 1792 512).numel)))
  let b ← ld .a19 (R2 (256 * it) 0 256 512 (by omega) (by omega)) (View.loadsAt_vmem (by exact (by decide : 0 < (M2 256 512).numel)))
  let _ ← ld .a16 (R2 0 (256 * it) 1792 256 (by omega) (by omega)) (View.loadsAt_vmem (by exact (by decide : 0 < (M2 1792 256).numel)))
  st .a16 (R2 0 (256 * it) 1792 256 (by omega) (by omega)) (accStrip acc a b)
    (View.stores_vmem_bits_univ (by exact (by decide : 0 < (M2 1792 256).numel)) rfl)

def dgrad (n : Nat) (hn : n < 11) : P F m PUnit := do
  loop 16 0 (by decide) ⟨⟩ fun ib hi _ => loop 4 0 (by decide) ⟨⟩ fun cb hc _ => wqBlock m hm n hn ib hi cb hc
  loop 8 0 (by decide) ⟨⟩ fun it hi _ => accBlock m it hi

/-- The first pass of the backward normalisation: the gain's partial sums, and the tiles of which the row means are taken. -/
def nbFirst (n : Nat) (h1 : 11 ≤ n) (h2 : n < 18) (x : Nat → FVec F (M2 256 128) .f32) (r : FVec F (M2 256 1) .f32)
    (c : Nat) (hc : c < 16) : P F m (FVec F (M2 256 128) .f32) := do
  let acc ← ld .a16 (R2 (accOff n) (128 * c) 256 128 (by rw [accOff_eq h1 h2]; omega) (by omega)) (View.loadsAt_vmem (by exact (by decide : 0 < (M2 256 128).numel)))
  let old ← ld .a23 (R2 0 (128 * c) 8 128 (by omega) (by omega)) (View.loadsAt_vmem (by exact (by decide : 0 < (M2 8 128).numel)))
  let _ ← ld .a23 (R2 0 (128 * c) 8 128 (by omega) (by omega)) (View.loadsAt_vmem (by exact (by decide : 0 < (M2 8 128).numel)))
  st .a23 (R2 0 (128 * c) 8 128 (by omega) (by omega)) (dgTile old acc (xhatTile (x c) r))
    (View.stores_vmem_bits_univ (by exact (by decide : 0 < (M2 8 128).numel)) rfl)
  let g ← ld .a6 (R2 0 (128 * c) 1 128 (by omega) (by omega)) (View.loadsAt_vmem (by exact (by decide : 0 < (M2 1 128).numel)))
  pure (sTile acc (xhatTile (x c) r) g)

/-- The second pass: one column block of the input gradient. -/
def nbSecond (n : Nat) (h1 : 11 ≤ n) (h2 : n < 18) (x : Nat → FVec F (M2 256 128) .f32) (r mean : FVec F (M2 256 1) .f32)
    (c : Nat) (hc : c < 16) : P F m PUnit := do
  let acc ← ld .a16 (R2 (accOff n) (128 * c) 256 128 (by rw [accOff_eq h1 h2]; omega) (by omega)) (View.loadsAt_vmem (by exact (by decide : 0 < (M2 256 128).numel)))
  let g ← ld .a6 (R2 0 (128 * c) 1 128 (by omega) (by omega)) (View.loadsAt_vmem (by exact (by decide : 0 < (M2 1 128).numel)))
  let _ ← ld .a7 (R2 0 (128 * c) 256 128 (by omega) (by omega)) (View.loadsAt_vmem (by exact (by decide : 0 < (M2 256 128).numel)))
  st .a7 (R2 0 (128 * c) 256 128 (by omega) (by omega)) (dxTile acc (x c) g r mean)
    (View.stores_vmem (by exact (by decide : 0 < (M2 256 128).numel))
      ((hm .a7).storeExact_slice rfl _ (packed2 (by decide) (by decide))) (fun _ => rfl))

def normBackward (n : Nat) (h1 : 11 ≤ n) (h2 : n < 18) : P F m PUnit := do
  let x ← loadX m
  let s0 ← nbFirst m n h1 h2 x.1 (rmsInv x.2) 0 (by decide)
  let s ← loop 16 1 (by decide) s0 fun c hc s => do
    let d ← nbFirst m n h1 h2 x.1 (rmsInv x.2) c hc
    pure (addf s d)
  loop 16 0 (by decide) ⟨⟩ fun c hc _ => nbSecond m hm n h1 h2 x.1 (rmsInv x.2) (rowMean s) c hc

/-- One block of rows of the dequantised half. -/
def dqBlock (n : Nat) (h1 : 11 ≤ n) (h2 : n < 33) (tb : Nat) (ht : tb < 14) : P F m PUnit := do
  let s ← ld .a21 (R3 (dqOff n) tb 0 1 1 256 (by rw [dqOff_eq h1 h2]; omega) (by omega) (by omega)) (View.loadsAt_vmem (by exact (by decide : 0 < (M3 1 1 256).numel)))
  let c ← ld .a20 (R3 (dqOff n) (128 * tb) 0 1 128 256 (by rw [dqOff_eq h1 h2]; omega) (by omega) (by omega)) (View.loadsAt_vmem (by exact (by decide : 0 < (M3 1 128 256).numel)))
  let _ ← ld .a22 (R2 (128 * tb) 0 128 256 (by omega) (by omega)) (View.loadsAt_vmem (by exact (by decide : 0 < (M2 128 256).numel)))
  st .a22 (R2 (128 * tb) 0 128 256 (by omega) (by omega)) (dqTile s c)
    (View.stores_vmem (by exact (by decide : 0 < (M2 128 256).numel))
      ((hm .a22).storeExact_slice rfl _ (packed2 (dvd128 (by decide)) (by decide))) (fun _ => rfl))

def wgrad (n : Nat) (h1 : 11 ≤ n) (h2 : n < 33) : P F m PUnit := do
  loop 14 0 (by decide) ⟨⟩ fun tb ht _ => dqBlock m hm n h1 h2 tb ht
  let a ← ld .a17 (R2 0 0 2048 1792 (by omega) (by omega)) (View.loadsAt_vmem (by exact (by decide : 0 < (M2 2048 1792).numel)))
  let b ← ld .a22 (R2 0 0 1792 256 (by omega) (by omega)) (View.loadsAt_vmem (by exact (by decide : 0 < (M2 1792 256).numel)))
  let _ ← ld .a8 (R2 0 0 2048 256 (by omega) (by omega)) (View.loadsAt_vmem (by exact (by decide : 0 < (M2 2048 256).numel)))
  st .a8 (R2 0 0 2048 256 (by omega) (by omega)) (dwTile a b) (View.stores_vmem_bits_univ (by exact (by decide : 0 < (M2 2048 256).numel)) rfl)

/-- The accumulators set to zero. -/
def clear : P F m PUnit := do
  let _ ← ld .a16 (R2 0 0 1792 2048 (by omega) (by omega)) (View.loadsAt_vmem (by exact (by decide : 0 < (M2 1792 2048).numel)))
  st .a16 (R2 0 0 1792 2048 (by omega) (by omega))
    (shapeCast (M2 1792 2048) (broadcast (M2 1792 2048) (Scalar.ofBits .f32 0x00000000#32 : F .f32)) (by decide))
    (View.stores_vmem_bits_univ (by exact (by decide : 0 < (M2 1792 2048).numel)) rfl)
  let _ ← ld .a13 (R2 0 0 1792 44 (by omega) (by omega)) (View.loadsAt_vmem (by exact (by decide : 0 < (M2 1792 44).numel)))
  st .a13 (R2 0 0 1792 44 (by omega) (by omega)) (broadcast (M2 1792 44) (Scalar.ofBits .f32 0x00000000#32 : F .f32))
    (View.stores_vmem_bits_univ (by exact (by decide : 0 < (M2 1792 44).numel)) rfl)
  let _ ← ld .a23 (R2 0 0 8 2048 (by omega) (by omega)) (View.loadsAt_vmem (by exact (by decide : 0 < (M2 8 2048).numel)))
  st .a23 (R2 0 0 8 2048 (by omega) (by omega))
    (shapeCast (M2 8 2048) (broadcast (M2 8 2048) (Scalar.ofBits .f32 0x00000000#32 : F .f32)) (by decide))
    (View.stores_vmem_bits_univ (by exact (by decide : 0 < (M2 8 2048).numel)) rfl)

def dgSum (d : FVec F (M2 8 2048) .f32) : FVec F (M2 1 2048) .f32 :=
  shapeCast (M2 1 2048) (multiReduction .add [0] (M1 2048) d 0x00000000#32 (by decide) (.inl rfl) rfl) (by decide)

/-- The gain's gradient from its partial sums. -/
def dgammaOut : P F m PUnit := do
  let d ← ld .a23 (R2 0 0 8 2048 (by omega) (by omega)) (View.loadsAt_vmem (by exact (by decide : 0 < (M2 8 2048).numel)))
  let _ ← ld .a9 (R2 0 0 1 2048 (by omega) (by omega)) (View.loadsAt_vmem (by exact (by decide : 0 < (M2 1 2048).numel)))
  st .a9 (R2 0 0 1 2048 (by omega) (by omega)) (dgSum d) (View.stores_vmem_bits_univ (by exact (by decide : 0 < (M2 1 2048).numel)) rfl)

/-- The body at step `n`. -/
def body (n : Nat) (hn : n < 33) : P F m PUnit :=
  (if n = 0 then clear m else pure ⟨⟩).bind fun _ =>
  if h : n < 7 then do quantX m hm n h; quantDy m hm n (by omega); dgrad m hm n (by omega)
  else if h2 : n < 11 then do quantDy m hm n h2; dgrad m hm n h2
  else if h3 : n < 18 then do normBackward m hm n (by omega) h3; wgrad m hm n (by omega) hn
  else (wgrad m hm n (by omega) hn).bind fun _ => if n = 32 then dgammaOut m else pure ⟨⟩

end Cert.Code
-- ==== Proof.Contract.lean ====
module

public import proofs.«01_k».proof.Proof.Code
public import Idealize.ShloMosaic.Lib.Pipeline.Frame

/-! What a step of the body must keep for the whole launch to be described, and what an output array holds when
every write-back writes a block of one array. -/

@[expose] public section

noncomputable section

namespace Cert.Code

open Idealize.ShloMosaic Idealize.SL Idealize.SL.RA Idealize.SL.Sem
open Cert.Model

/-- The buffers the launch fetches blocks into. -/
def B.isIn : B → Bool
  | .a1 | .a2 | .a3 | .a4 | .a5 | .a6 => true
  | _ => false

/-- The buffers the launch writes back. -/
def B.isOut : B → Bool
  | .a7 | .a8 | .a9 | .a10 | .a11 | .a12 | .a13 | .a14 | .a15 => true
  | _ => false

/-- At which steps a buffer is written back. -/
def flushes : B → Nat → Bool
  | .a7, n => (decide (11 ≤ n) && decide (n ≤ 16)) || decide (n = 32)
  | .a8, n => decide (11 ≤ n)
  | .a10, n => decide (n ≤ 5) || decide (n = 32)
  | .a12, n | .a14, n | .a15, n => decide (n ≤ 9) || decide (n = 32)
  | _, n => decide (n = 32)

/-- What is kept from step to step: `J` of the buffers no window stages, `G` of an output buffer after a step,
`In` what an input buffer holds at a step. -/
structure Contract (F : FTy → Type) [FloatOps F] (sig : RefSig) where
  J : Nat → fam.State (Elt F) → Prop
  G : (b : B) → Nat → ((sh b).Idx → Elt F (el b)) → Prop
  In : (b : B) → Nat → ((sh b).Idx → Elt F (el b))
  start : ∀ σ, J 0 σ
  congr : ∀ n (σ σ' : fam.State (Elt F)), (∀ b, b.isIn = false → b.isOut = false → σ b = σ' b) → J n σ → J n σ'
  step : ∀ (m : fam.Mems sig) (hm : ∀ b, (m b).IsWhole) (n : Nat) (hn : n < 33) (σ : fam.State (Elt F)), J n σ →
    (∀ b, b.isIn = true → σ b = In b n) →
    (∀ b, b.isOut = true → n ≠ 0 → flushes b (n - 1) = false → G b (n - 1) (σ b)) →
    J (n + 1) (run (body m hm n hn) σ).2 ∧ (∀ b, b.isIn = true → (run (body m hm n hn) σ).2 b = σ b)
      ∧ ∀ b, b.isOut = true → G b n ((run (body m hm n hn) σ).2 b)

end Cert.Code

namespace Cert.Launch

open Idealize.ShloMosaic Idealize.SL Idealize.SL.RA Idealize.SL.Sem Idealize.ShloMosaic.Pipeline

variable {nD : Nat} {τ : Topo} {sig : RefSig} {Val : EltTy → Type} {Ix Name U Lvl : Type} [DecidableEq Ix] [DecidableEq Name] [URA U]
  {Λ₀ : Labels} {cfg : Cfg sig Λ₀} {c : Dev nD}

/-- An output array every write-back of which writes a block of `A`, the blocks covering it, ends at `A`. -/
theorem arrAt_eq (rd : RDat τ Val Ix Name U Lvl cfg c) (w : Fin cfg.W)
    (A : Buf Val ((cfg.win w).arr.view.loc (c.tc : Thread nD τ)))
    (hw : ∀ u X, (cfg.win w).flush u = true → rd.Leaves w u X →
      (cfg.win w).cut (cfg.grid.coords u) X = ((cfg.win w).blk u).view.read Val A)
    (hc : ∀ i : (cfg.win w).arr.view.ty.Idx, ∃ u x, (cfg.win w).flush u = true ∧ (((cfg.win w).blk u).view.emb x : (cfg.win w).arr.view.ty.Idx) = i)
    (G : Buf Val ((cfg.win w).arr.view.loc (c.tc : Thread nD τ))) (h : rd.ArrAt w cfg.N G) : G = A := by
  have key : ∀ n, ∀ G, rd.ArrAt w n G → ∀ u : Fin cfg.N, u.val < n → (cfg.win w).flush u = true →
      ∀ x, G (((cfg.win w).blk u).view.emb x) = A (((cfg.win w).blk u).view.emb x) := by
    intro n
    induction n with
    | zero => intro G _ u hu; omega
    | succ n ih =>
      intro G hG u hu hf x
      unfold RDat.ArrAt at hG
      by_cases hn : n < cfg.N
      · rw [dif_pos hn] at hG
        by_cases hfl : (cfg.win w).flush ⟨n, hn⟩ = true
        · rw [if_pos hfl] at hG
          obtain ⟨G₀, X, h0, hl, rfl⟩ := hG
          rw [hw _ _ hfl hl]
          by_cases hm : ((cfg.win w).blk u).view.emb x ∈ ((cfg.win w).blk ⟨n, hn⟩).view.setOn Finset.univ
          · obtain ⟨y, -, hy⟩ := Finset.mem_map.mp hm
            rw [← hy, View.write_emb_of_mem _ _ (Finset.mem_univ _), View.read_apply, cast_cast, cast_eq]
          · rw [View.write_of_not_mem _ _ _ hm]
            rcases Nat.lt_succ_iff_lt_or_eq.mp hu with h1 | h1
            · exact ih G₀ h0 u h1 hf x
            · exfalso; apply hm
              have : u = ⟨n, hn⟩ := Fin.ext h1
              subst this
              exact Finset.mem_map_of_mem _ (Finset.mem_univ x)
        · rw [if_neg hfl] at hG
          rcases Nat.lt_succ_iff_lt_or_eq.mp hu with h1 | h1
          · exact ih G hG u h1 hf x
          · have e : u = ⟨n, hn⟩ := Fin.ext h1
            exact absurd (e ▸ hf) hfl
      · rw [dif_neg hn] at hG
        exact ih G hG u (Nat.lt_of_lt_of_le u.isLt (Nat.le_of_not_lt hn)) hf x
  funext i
  obtain ⟨u, x, hf, rfl⟩ := hc i
  exact key cfg.N G h u u.isLt hf x

end Cert.Launch
-- ==== Proof.EqK.lean ====
module

public import proofs.«01_k».proof.Kernel
public import proofs.«01_k».proof.Proof.Code

/-! The printed body of the kernel is the body written in `Code`, at every step of its grid. -/

public section

set_option maxRecDepth 100000

noncomputable section

namespace Cert.Kernel

open Idealize.ShloMosaic Idealize.SL.Sem
open Cert.Model

variable {F : FTy → Type} [FloatOps F] [Facts]

/-- The buffers of a step as one family. -/
@[expose] def mk (arg1 : Memref sig .tc .smem S16x44 .f32) (arg2 : Memref sig .tc .vmem S1792x512 .bf16) (arg3 : Memref sig .tc .vmem S2048x512 .fp8e4m3) (arg4 : Memref sig .tc .vmem S256x2048 .fp8e4m3) (arg5 : Memref sig .tc .vmem S256x16 .f32) (arg6 : Memref sig .tc .vmem S1x2048 .f32) (arg7 : Memref sig .tc .vmem S256x2048 .bf16) (arg8 : Memref sig .tc .vmem S2048x256 .f32) (arg9 : Memref sig .tc .vmem S1x2048 .f32) (arg10 : Memref sig .tc .vmem S256x2048 .fp8e4m3) (arg11 : Memref sig .tc .vmem S14x2048 .f32) (arg12 : Memref sig .tc .vmem S1792x512 .fp8e5m2) (arg13 : Memref sig .tc .vmem S1792x44 .f32) (arg14 : Memref sig .tc .vmem S1792x512 .fp8e5m2) (arg15 : Memref sig .tc .vmem S14x512 .f32) (arg16 : Memref sig .tc .vmem S1792x2048 .f32) (arg17 : Memref sig .tc .vmem S2048x1792 .bf16) (arg18 : Memref sig .tc .vmem S1792x512 .bf16) (arg19 : Memref sig .tc .vmem S2048x512 .bf16) (arg20 : Memref sig .tc .vmem S22x1792x256 .fp8e5m2) (arg21 : Memref sig .tc .vmem S22x14x256 .f32) (arg22 : Memref sig .tc .vmem S1792x256 .bf16) (arg23 : Memref sig .tc .vmem S8x2048 .f32) : Code.fam.Mems sig
  | .a1 => arg1
  | .a2 => arg2
  | .a3 => arg3
  | .a4 => arg4
  | .a5 => arg5
  | .a6 => arg6
  | .a7 => arg7
  | .a8 => arg8
  | .a9 => arg9
  | .a10 => arg10
  | .a11 => arg11
  | .a12 => arg12
  | .a13 => arg13
  | .a14 => arg14
  | .a15 => arg15
  | .a16 => arg16
  | .a17 => arg17
  | .a18 => arg18
  | .a19 => arg19
  | .a20 => arg20
  | .a21 => arg21
  | .a22 => arg22
  | .a23 => arg23

theorem cond1 : ∀ i : grid0.Coords, k0_cond1 i = 1#1 ↔ (i 0).val = 0 := by decide +kernel
theorem cond2 : ∀ i : grid0.Coords, k0_cond2 i = 1#1 ↔ (i 0).val < 7 := by decide +kernel
theorem cond3 : ∀ i : grid0.Coords, k0_cond3 i = 1#1 ↔ 7 ≤ (i 0).val ∧ (i 0).val < 11 := by decide +kernel
theorem cond4 : ∀ i : grid0.Coords, k0_cond4 i = 1#1 ↔ 11 ≤ (i 0).val ∧ (i 0).val < 18 := by decide +kernel
theorem cond5 : ∀ i : grid0.Coords, k0_cond5 i = 1#1 ↔ 18 ≤ (i 0).val := by decide +kernel
theorem cond6 : ∀ i : grid0.Coords, k0_cond6 i = 1#1 ↔ (i 0).val = 32 := by decide +kernel

/-- The printed body is the body of `Code`. -/
theorem cc0_eq (i : grid0.Coords) (arg1 : Memref sig .tc .smem S16x44 .f32) (harg1 : arg1.IsWhole) (arg2 : Memref sig .tc .vmem S1792x512 .bf16) (harg2 : arg2.IsWhole) (arg3 : Memref sig .tc .vmem S2048x512 .fp8e4m3) (harg3 : arg3.IsWhole) (arg4 : Memref sig .tc .vmem S256x2048 .fp8e4m3) (harg4 : arg4.IsWhole) (arg5 : Memref sig .tc .vmem S256x16 .f32) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S2048x256 .f32) (harg8 : arg8.IsWhole) (arg9 : Memref sig .tc .vmem S1x2048 .f32) (harg9 : arg9.IsWhole) (arg10 : Memref sig .tc .vmem S256x2048 .fp8e4m3) (harg10 : arg10.IsWhole) (arg11 : Memref sig .tc .vmem S14x2048 .f32) (harg11 : arg11.IsWhole) (arg12 : Memref sig .tc .vmem S1792x512 .fp8e5m2) (harg12 : arg12.IsWhole) (arg13 : Memref sig .tc .vmem S1792x44 .f32) (harg13 : arg13.IsWhole) (arg14 : Memref sig .tc .vmem S1792x512 .fp8e5m2) (harg14 : arg14.IsWhole) (arg15 : Memref sig .tc .vmem S14x512 .f32) (harg15 : arg15.IsWhole) (arg16 : Memref sig .tc .vmem S1792x2048 .f32) (harg16 : arg16.IsWhole) (arg17 : Memref sig .tc .vmem S2048x1792 .bf16) (harg17 : arg17.IsWhole) (arg18 : Memref sig .tc .vmem S1792x512 .bf16) (harg18 : arg18.IsWhole) (arg19 : Memref sig .tc .vmem S2048x512 .bf16) (harg19 : arg19.IsWhole) (arg20 : Memref sig .tc .vmem S22x1792x256 .fp8e5m2) (harg20 : arg20.IsWhole) (arg21 : Memref sig .tc .vmem S22x14x256 .f32) (harg21 : arg21.IsWhole) (arg22 : Memref sig .tc .vmem S1792x256 .bf16) (harg22 : arg22.IsWhole) (arg23 : Memref sig .tc .vmem S8x2048 .f32) (harg23 : arg23.IsWhole) :
    cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = comp (m := mk arg1 arg2 arg3 arg4 arg5 arg6 arg7 arg8 arg9 arg10 arg11 arg12 arg13 arg14 arg15 arg16 arg17 arg18 arg19 arg20 arg21 arg22 arg23) (Code.body (mk arg1 arg2 arg3 arg4 arg5 arg6 arg7 arg8 arg9 arg10 arg11 arg12 arg13 arg14 arg15 arg16 arg17 arg18 arg19 arg20 arg21 arg22 arg23) (by intro b; cases b <;> assumption) (i 0).val (by exact (i 0).isLt)) := by
  have hlt : (i 0).val < 33 := (i 0).isLt
  unfold cc0_rmsnorm_linear_bwd Code.body
  by_cases d0 : (i 0).val = 0
  · have d1 : (i 0).val < 7 := by omega
    have k1 : k0_cond1 i = 1#1 := by rw [cond1]; omega
    have k2 : k0_cond2 i = 1#1 := by rw [cond2]; omega
    have k3 : ¬ k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, if_pos d0, d1, ↓reduceDIte, ↓reduceIte]
    sl_kernel_rfl
  by_cases d1 : (i 0).val < 7
  · have k1 : ¬ k0_cond1 i = 1#1 := by rw [cond1]; omega
    have k2 : k0_cond2 i = 1#1 := by rw [cond2]; omega
    have k3 : ¬ k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, ↓reduceDIte, ↓reduceIte]
    sl_kernel_rfl
  by_cases d2 : (i 0).val < 11
  · have k1 : ¬ k0_cond1 i = 1#1 := by rw [cond1]; omega
    have k2 : ¬ k0_cond2 i = 1#1 := by rw [cond2]; omega
    have k3 : k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, d2, ↓reduceDIte, ↓reduceIte]
    sl_kernel_rfl
  by_cases d3 : (i 0).val < 18
  · have k1 : ¬ k0_cond1 i = 1#1 := by rw [cond1]; omega
    have k2 : ¬ k0_cond2 i = 1#1 := by rw [cond2]; omega
    have k3 : ¬ k0_cond3 i = 1#1 := by rw [cond3]; omega
    have k4 : k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, d2, d3, ↓reduceDIte, ↓reduceIte]
    sl_kernel_rfl
  by_cases d4 : (i 0).val = 32
  · have k1 : ¬ k0_cond1 i = 1#1 := by rw [cond1]; omega
    have k2 : ¬ k0_cond2 i = 1#1 := by rw [cond2]; omega
    have k3 : ¬ k0_cond3 i = 1#1 := by rw [cond3]; omega
    have k4 : ¬ k0_cond4 i = 1#1 := by rw [cond4]; omega
    have k5 : k0_cond5 i = 1#1 := by rw [cond5]; omega
    have k6 : k0_cond6 i = 1#1 := by rw [cond6]; omega
    simp -zeta only [k1, k2, k3, k4, k5, k6, d0, d1, d2, d3, if_pos d4, ↓reduceDIte, ↓reduceIte]
    sl_kernel_rfl
  have k1 : ¬ k0_cond1 i = 1#1 := by rw [cond1]; omega
  have k2 : ¬ k0_cond2 i = 1#1 := by rw [cond2]; omega
  have k3 : ¬ k0_cond3 i = 1#1 := by rw [cond3]; omega
  have k4 : ¬ k0_cond4 i = 1#1 := by rw [cond4]; omega
  have k5 : k0_cond5 i = 1#1 := by rw [cond5]; omega
  have k6 : ¬ k0_cond6 i = 1#1 := by rw [cond6]; omega
  simp -zeta only [k1, k2, k3, k4, k5, k6, d0, d1, d2, d3, d4, ↓reduceDIte, ↓reduceIte]
  sl_kernel_rfl

end Cert.Kernel
-- ==== Proof.RunK.lean ====
module

public import proofs.«01_k».proof.Proof.Gen.Kernel.Frame
public import proofs.«01_k».proof.Proof.Contract
public import proofs.«01_k».proof.Proof.EqK

/-! The launch of the kernel from a contract its steps keep. -/

@[expose] public section

set_option maxRecDepth 16384

noncomputable section

namespace Cert.Kernel.Run

open Cert.Kernel Cert.Kernel.Gen Cert.Model
open Cert.Code (B Contract flushes fam)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contract reads each input's block. -/
structure Reads (C : Contract F sig) (c : Dev nD) : Prop where
  i0 : ∀ t : Fin cfg0.N, C.In .a1 t.val = iblk m c 0 t
  i1 : ∀ t : Fin cfg0.N, C.In .a2 t.val = iblk m c 1 t
  i2 : ∀ t : Fin cfg0.N, C.In .a3 t.val = iblk m c 2 t
  i3 : ∀ t : Fin cfg0.N, C.In .a4 t.val = iblk m c 3 t
  i4 : ∀ t : Fin cfg0.N, C.In .a5 t.val = iblk m c 4 t
  i5 : ∀ t : Fin cfg0.N, C.In .a6 t.val = iblk m c 5 t

/-- The buffers of the body at a point. -/
abbrev bufs (t : Fin cfg0.N) : fam.Mems sig :=
  mk (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)

/-- A state of the body's buffers from what the windows and the scratch hold. -/
def join (Y : (w : Fin cfg0.W) → (cfg0.win w).block.Idx → Elt F (cfg0.win w).elt) (s : fam.State (Elt F)) : fam.State (Elt F)
  | .a1 => Y 0
  | .a2 => Y 1
  | .a3 => Y 2
  | .a4 => Y 3
  | .a5 => Y 4
  | .a6 => Y 5
  | .a7 => Y 6
  | .a8 => Y 7
  | .a9 => Y 8
  | .a10 => Y 9
  | .a11 => Y 10
  | .a12 => Y 11
  | .a13 => Y 12
  | .a14 => Y 13
  | .a15 => Y 14
  | .a16 => s .a16
  | .a17 => s .a17
  | .a18 => s .a18
  | .a19 => s .a19
  | .a20 => s .a20
  | .a21 => s .a21
  | .a22 => s .a22
  | .a23 => s .a23

/-- What the windows hold at a state. -/
def outs (s : fam.State (Elt F)) : (w : Fin cfg0.W) → (cfg0.win w).block.Idx → Elt F (cfg0.win w).elt
  | ⟨0, _⟩ => s .a1
  | ⟨1, _⟩ => s .a2
  | ⟨2, _⟩ => s .a3
  | ⟨3, _⟩ => s .a4
  | ⟨4, _⟩ => s .a5
  | ⟨5, _⟩ => s .a6
  | ⟨6, _⟩ => s .a7
  | ⟨7, _⟩ => s .a8
  | ⟨8, _⟩ => s .a9
  | ⟨9, _⟩ => s .a10
  | ⟨10, _⟩ => s .a11
  | ⟨11, _⟩ => s .a12
  | ⟨12, _⟩ => s .a13
  | ⟨13, _⟩ => s .a14
  | ⟨14, _⟩ => s .a15

theorem join_outs (s : fam.State (Elt F)) : join (outs s) s = s := by
  funext b; cases b <;> rfl

/-- The scratch at a state, its contents kept. -/
def scratch (c : Dev nD) (s : fam.State (Elt F)) : sProp 𝕄 :=
  iprop(owns (c : Thread nD τ) (Memref.whole cc0_scratch0) fullShare (s .a16) ∗ owns (c : Thread nD τ) (Memref.whole cc0_scratch1) fullShare (s .a17) ∗ owns (c : Thread nD τ) (Memref.whole cc0_scratch2) fullShare (s .a18) ∗ owns (c : Thread nD τ) (Memref.whole cc0_scratch3) fullShare (s .a19) ∗ owns (c : Thread nD τ) (Memref.whole cc0_scratch4) fullShare (s .a20) ∗ owns (c : Thread nD τ) (Memref.whole cc0_scratch5) fullShare (s .a21) ∗ owns (c : Thread nD τ) (Memref.whole cc0_scratch6) fullShare (s .a22) ∗ owns (c : Thread nD τ) (Memref.whole cc0_scratch7) fullShare (s .a23))

/-- The launch's proof data of a contract. -/
def rdat (C : Dev nD → Contract F sig) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => (C c).G .a7 t.val X
    | ⟨7, _⟩ => (C c).G .a8 t.val X
    | ⟨8, _⟩ => (C c).G .a9 t.val X
    | ⟨9, _⟩ => (C c).G .a10 t.val X
    | ⟨10, _⟩ => (C c).G .a11 t.val X
    | ⟨11, _⟩ => (C c).G .a12 t.val X
    | ⟨12, _⟩ => (C c).G .a13 t.val X
    | ⟨13, _⟩ => (C c).G .a14 t.val X
    | ⟨14, _⟩ => (C c).G .a15 t.val X
  Φ t := iprop((∃ s, ⌜(C c).J t.val s⌝ ∗ scratch c s) ∗ ∃ r, prngReg c r)
  q _ := fullShare
  owed _ := 0

theorem flush_6 : ∀ t : Fin cfg0.N, (cfg0.win 6).flush t = flushes .a7 t.val := by
  show ∀ t : Fin grid0.N, win0_6.flush t = flushes .a7 t.val
  decide +kernel
theorem flush_7 : ∀ t : Fin cfg0.N, (cfg0.win 7).flush t = flushes .a8 t.val := by
  show ∀ t : Fin grid0.N, win0_7.flush t = flushes .a8 t.val
  decide +kernel
theorem flush_8 : ∀ t : Fin cfg0.N, (cfg0.win 8).flush t = flushes .a9 t.val := by
  show ∀ t : Fin grid0.N, win0_8.flush t = flushes .a9 t.val
  decide +kernel
theorem flush_9 : ∀ t : Fin cfg0.N, (cfg0.win 9).flush t = flushes .a10 t.val := by
  show ∀ t : Fin grid0.N, win0_9.flush t = flushes .a10 t.val
  decide +kernel
theorem flush_10 : ∀ t : Fin cfg0.N, (cfg0.win 10).flush t = flushes .a11 t.val := by
  show ∀ t : Fin grid0.N, win0_10.flush t = flushes .a11 t.val
  decide +kernel
theorem flush_11 : ∀ t : Fin cfg0.N, (cfg0.win 11).flush t = flushes .a12 t.val := by
  show ∀ t : Fin grid0.N, win0_11.flush t = flushes .a12 t.val
  decide +kernel
theorem flush_12 : ∀ t : Fin cfg0.N, (cfg0.win 12).flush t = flushes .a13 t.val := by
  show ∀ t : Fin grid0.N, win0_12.flush t = flushes .a13 t.val
  decide +kernel
theorem flush_13 : ∀ t : Fin cfg0.N, (cfg0.win 13).flush t = flushes .a14 t.val := by
  show ∀ t : Fin grid0.N, win0_13.flush t = flushes .a14 t.val
  decide +kernel
theorem flush_14 : ∀ t : Fin cfg0.N, (cfg0.win 14).flush t = flushes .a15 t.val := by
  show ∀ t : Fin grid0.N, win0_14.flush t = flushes .a15 t.val
  decide +kernel
theorem fetch_6 (t : Fin cfg0.N) : (cfg0.win 6).fetch t = false := Pipeline.Window.fetch_out _ rfl t
theorem fetch_7 (t : Fin cfg0.N) : (cfg0.win 7).fetch t = false := Pipeline.Window.fetch_out _ rfl t
theorem fetch_8 (t : Fin cfg0.N) : (cfg0.win 8).fetch t = false := Pipeline.Window.fetch_out _ rfl t
theorem fetch_9 (t : Fin cfg0.N) : (cfg0.win 9).fetch t = false := Pipeline.Window.fetch_out _ rfl t
theorem fetch_10 (t : Fin cfg0.N) : (cfg0.win 10).fetch t = false := Pipeline.Window.fetch_out _ rfl t
theorem fetch_11 (t : Fin cfg0.N) : (cfg0.win 11).fetch t = false := Pipeline.Window.fetch_out _ rfl t
theorem fetch_12 (t : Fin cfg0.N) : (cfg0.win 12).fetch t = false := Pipeline.Window.fetch_out _ rfl t
theorem fetch_13 (t : Fin cfg0.N) : (cfg0.win 13).fetch t = false := Pipeline.Window.fetch_out _ rfl t
theorem fetch_14 (t : Fin cfg0.N) : (cfg0.win 14).fetch t = false := Pipeline.Window.fetch_out _ rfl t

theorem coord (t : Fin grid0.N) : (grid0.coords t 0).val = t.val := by revert t; decide +kernel

theorem assoc_eq {M : Type} [URA M] (P Q R : sProp M) : iprop((P ∗ Q) ∗ R) = iprop(P ∗ Q ∗ R) :=
  equiv_iff.mp ⟨BI.sep_assoc, BI.sep_assoc'⟩

theorem assoc15 {M : Type} [URA M] (P0 P1 P2 P3 P4 P5 P6 P7 P8 P9 P10 P11 P12 P13 P14 R : sProp M) :
    iprop((P0 ∗ P1 ∗ P2 ∗ P3 ∗ P4 ∗ P5 ∗ P6 ∗ P7 ∗ P8 ∗ P9 ∗ P10 ∗ P11 ∗ P12 ∗ P13 ∗ P14) ∗ R) = iprop(P0 ∗ P1 ∗ P2 ∗ P3 ∗ P4 ∗ P5 ∗ P6 ∗ P7 ∗ P8 ∗ P9 ∗ P10 ∗ P11 ∗ P12 ∗ P13 ∗ P14 ∗ R) := by
  simp only [assoc_eq]

theorem held_eq (c : Dev nD) (t : Fin cfg0.N) (Y) (s : fam.State (Elt F)) :
    (held c (bufs t) (join Y s) : sProp 𝕄)
      = iprop((bigSep Finset.univ fun w => owns (c : Thread nD τ) ((cfg0.win w).stage (cfg0.slots t w)) fullShare (Y w)) ∗ scratch c s) := by
  unfold held scratch
  rw [bigSep_W0, assoc15, bigSep_univ_eq_bigSepL [B.a1, B.a2, B.a3, B.a4, B.a5, B.a6, B.a7, B.a8, B.a9, B.a10, B.a11, B.a12, B.a13, B.a14, B.a15, B.a16, B.a17, B.a18, B.a19, B.a20, B.a21, B.a22, B.a23] (by decide) (by decide)]
  rfl

theorem finds_in (C : Dev nD → Contract F sig) (c : Dev nD) (t : Fin cfg0.N) (Y : (w : Fin cfg0.W) → (cfg0.win w).block.Idx → Elt F (cfg0.win w).elt)
    (hY : ∀ w, (rdat m C c).Finds w t (Y w)) (hR : Reads m (C c) c) (s : fam.State (Elt F)) :
    ∀ b, b.isIn = true → join Y s b = (C c).In b t.val := by
  intro b hb
  cases b
  case a1 =>
    obtain ⟨d, hd⟩ := (rdat m C c).finds_in_eq_fetched 0 rfl (fun _ _ _ => rfl) (fun _ _ _ h => h) t (Y 0) (hY 0)
    exact (hd.trans (show _ = iblk m c 0 t from rfl)).trans (hR.i0 t).symm
  case a2 =>
    obtain ⟨d, hd⟩ := (rdat m C c).finds_in_eq_fetched 1 rfl (fun _ _ _ => rfl) (fun _ _ _ h => h) t (Y 1) (hY 1)
    exact (hd.trans (show _ = iblk m c 1 t from rfl)).trans (hR.i1 t).symm
  case a3 =>
    obtain ⟨d, hd⟩ := (rdat m C c).finds_in_eq_fetched 2 rfl (fun _ _ _ => rfl) (fun _ _ _ h => h) t (Y 2) (hY 2)
    exact (hd.trans (show _ = iblk m c 2 t from rfl)).trans (hR.i2 t).symm
  case a4 =>
    obtain ⟨d, hd⟩ := (rdat m C c).finds_in_eq_fetched 3 rfl (fun _ _ _ => rfl) (fun _ _ _ h => h) t (Y 3) (hY 3)
    exact (hd.trans (show _ = iblk m c 3 t from rfl)).trans (hR.i3 t).symm
  case a5 =>
    obtain ⟨d, hd⟩ := (rdat m C c).finds_in_eq_fetched 4 rfl (fun _ _ _ => rfl) (fun _ _ _ h => h) t (Y 4) (hY 4)
    exact (hd.trans (show _ = iblk m c 4 t from rfl)).trans (hR.i4 t).symm
  case a6 =>
    obtain ⟨d, hd⟩ := (rdat m C c).finds_in_eq_fetched 5 rfl (fun _ _ _ => rfl) (fun _ _ _ h => h) t (Y 5) (hY 5)
    exact (hd.trans (show _ = iblk m c 5 t from rfl)).trans (hR.i5 t).symm
  all_goals exact absurd hb Bool.false_ne_true

theorem finds_out (C : Dev nD → Contract F sig) (c : Dev nD) (t : Fin cfg0.N) (Y : (w : Fin cfg0.W) → (cfg0.win w).block.Idx → Elt F (cfg0.win w).elt)
    (hY : ∀ w, (rdat m C c).Finds w t (Y w)) (s : fam.State (Elt F)) :
    ∀ b, b.isOut = true → t.val ≠ 0 → flushes b (t.val - 1) = false → (C c).G b (t.val - 1) (join Y s b) := by
  intro b hb ht hf
  cases b
  case a7 =>
    rcases ((rdat m C c).finds_of_pos (fetch_6 t) ht _).mp (hY 6) with h | ⟨_, -, h⟩
    · rw [flush_6] at h; exact absurd (h.symm.trans hf) (by decide)
    · exact h
  case a8 =>
    rcases ((rdat m C c).finds_of_pos (fetch_7 t) ht _).mp (hY 7) with h | ⟨_, -, h⟩
    · rw [flush_7] at h; exact absurd (h.symm.trans hf) (by decide)
    · exact h
  case a9 =>
    rcases ((rdat m C c).finds_of_pos (fetch_8 t) ht _).mp (hY 8) with h | ⟨_, -, h⟩
    · rw [flush_8] at h; exact absurd (h.symm.trans hf) (by decide)
    · exact h
  case a10 =>
    rcases ((rdat m C c).finds_of_pos (fetch_9 t) ht _).mp (hY 9) with h | ⟨_, -, h⟩
    · rw [flush_9] at h; exact absurd (h.symm.trans hf) (by decide)
    · exact h
  case a11 =>
    rcases ((rdat m C c).finds_of_pos (fetch_10 t) ht _).mp (hY 10) with h | ⟨_, -, h⟩
    · rw [flush_10] at h; exact absurd (h.symm.trans hf) (by decide)
    · exact h
  case a12 =>
    rcases ((rdat m C c).finds_of_pos (fetch_11 t) ht _).mp (hY 11) with h | ⟨_, -, h⟩
    · rw [flush_11] at h; exact absurd (h.symm.trans hf) (by decide)
    · exact h
  case a13 =>
    rcases ((rdat m C c).finds_of_pos (fetch_12 t) ht _).mp (hY 12) with h | ⟨_, -, h⟩
    · rw [flush_12] at h; exact absurd (h.symm.trans hf) (by decide)
    · exact h
  case a14 =>
    rcases ((rdat m C c).finds_of_pos (fetch_13 t) ht _).mp (hY 13) with h | ⟨_, -, h⟩
    · rw [flush_13] at h; exact absurd (h.symm.trans hf) (by decide)
    · exact h
  case a15 =>
    rcases ((rdat m C c).finds_of_pos (fetch_14 t) ht _).mp (hY 14) with h | ⟨_, -, h⟩
    · rw [flush_14] at h; exact absurd (h.symm.trans hf) (by decide)
    · exact h
  all_goals exact absurd hb Bool.false_ne_true

theorem start_entails (C : Dev nD → Contract F sig) (c : Dev nD) : Pipeline.ΦA spec0 c ⊢ (rdat m C c).Φ 0 := by
  show _ ⊢ iprop((∃ s, ⌜(C c).J 0 s⌝ ∗ scratch c s) ∗ ∃ r, prngReg c r)
  unfold Pipeline.ΦA scratch
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hp⟩
  isplitr [Hp]
  · iexists (fun
      | .a16 => f0
      | .a17 => f1
      | .a18 => f2
      | .a19 => f3
      | .a20 => f4
      | .a21 => f5
      | .a22 => f6
      | .a23 => f7
      | _ => fun _ => Classical.arbitrary _ : fam.State (Elt F))
    isplitr
    · ipureintro; exact (C c).start _
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact Hp

theorem last_entails (C : Dev nD → Contract F sig) (c : Dev nD) : (rdat m C c).Φ (Fin.last (cfgs 0).N) ⊢ Pipeline.ΦA spec0 c := by
  show iprop((∃ s, ⌜(C c).J _ s⌝ ∗ scratch c s) ∗ ∃ r, prngReg c r) ⊢ _
  unfold Pipeline.ΦA scratch
  rw [scopedRest0_eq]
  simp only [owns_whole]
  iintro ⟨⟨%s, -, H0, H1, H2, H3, H4, H5, H6, H7⟩, Hp⟩
  isplitr [Hp]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    iexists _; iexact H7
  · iexact Hp

set_option maxHeartbeats 1000000 in
theorem obligation (C : Dev nD → Contract F sig) (hR : ∀ c, Reads m (C c) c) (𝒱₀ : Variants) (c : Dev nD) :
    (rdat m C c).BodyObligation (defs₀ (F := F)) 𝒱₀ () Set.univ := by
  intro t Y hY
  show _ ⊢ wp frame (wpE (defs₀ (F := F)) 𝒱₀ c none) Set.univ (bodyAt0 t) fun _ =>
    iprop(((∃ s, ⌜(C c).J (t.val + 1) s⌝ ∗ scratch c s) ∗ ∃ r, prngReg c r) ∗ _ ∗ _)
  unfold bodyAt0
  rw [cc0_eq]
  show iprop(((∃ s, ⌜(C c).J t.val s⌝ ∗ scratch c s) ∗ ∃ r, prngReg c r) ∗ _ ∗ _) ⊢ _
  iintro ⟨⟨⟨%s, %hJ, Hs⟩, Hp⟩, Ho, HY⟩
  have hm : ∀ b, (bufs t b).IsWhole := by
    intro b
    cases b
    case a1 => exact stage_whole0 0 _
    case a2 => exact stage_whole0 1 _
    case a3 => exact stage_whole0 2 _
    case a4 => exact stage_whole0 3 _
    case a5 => exact stage_whole0 4 _
    case a6 => exact stage_whole0 5 _
    case a7 => exact stage_whole0 6 _
    case a8 => exact stage_whole0 7 _
    case a9 => exact stage_whole0 8 _
    case a10 => exact stage_whole0 9 _
    case a11 => exact stage_whole0 10 _
    case a12 => exact stage_whole0 11 _
    case a13 => exact stage_whole0 12 _
    case a14 => exact stage_whole0 13 _
    case a15 => exact stage_whole0 14 _
    all_goals exact Memref.isWhole_whole _
  have hst := (C c).step (bufs t) hm (grid0.coords t 0).val (grid0.coords t 0).isLt (join Y s)
    (by rw [coord]; exact (C c).congr _ s _ (by intro b h1 h2; cases b <;> first | rfl | exact absurd h1 (by decide) | exact absurd h2 (by decide)) hJ)
    (by rw [coord]; exact finds_in m C c t Y hY (hR c) s)
    (by rw [coord]; exact finds_out m C c t Y hY s)
  have hwp := wp_comp (Ix := Unit) (Name := ℕ) (U := UR sig nD τ) (Lvl := ℕ) (defs₀ (F := F)) 𝒱₀ c none Set.univ
    (Code.body (bufs t) hm (grid0.coords t 0).val (grid0.coords t 0).isLt) (join Y s)
  rw [held_eq] at hwp
  obtain ⟨hJ', hin, hout⟩ := hst
  generalize (run (Code.body (bufs t) hm (grid0.coords t 0).val (grid0.coords t 0).isLt) (join Y s)).2 = S at hJ' hin hout hwp
  rw [coord] at hJ' hout
  have hS : (held c (bufs t) S : sProp 𝕄)
      = iprop((bigSep Finset.univ fun w => owns (c : Thread nD τ) ((cfg0.win w).stage (cfg0.slots t w)) fullShare (outs S w)) ∗ scratch c S) := by
    rw [← held_eq, join_outs]
  rw [hS] at hwp
  have hafter : ∀ w, (rdat m C c).after w t (Y w) (outs S w) := by
    intro w
    match w with
    | ⟨0, _⟩ => exact hin .a1 rfl
    | ⟨1, _⟩ => exact hin .a2 rfl
    | ⟨2, _⟩ => exact hin .a3 rfl
    | ⟨3, _⟩ => exact hin .a4 rfl
    | ⟨4, _⟩ => exact hin .a5 rfl
    | ⟨5, _⟩ => exact hin .a6 rfl
    | ⟨6, _⟩ => exact hout .a7 rfl
    | ⟨7, _⟩ => exact hout .a8 rfl
    | ⟨8, _⟩ => exact hout .a9 rfl
    | ⟨9, _⟩ => exact hout .a10 rfl
    | ⟨10, _⟩ => exact hout .a11 rfl
    | ⟨11, _⟩ => exact hout .a12 rfl
    | ⟨12, _⟩ => exact hout .a13 rfl
    | ⟨13, _⟩ => exact hout .a14 rfl
    | ⟨14, _⟩ => exact hout .a15 rfl
  have hmono : (bigSep Finset.univ fun w => owns (c : Thread nD τ) ((cfg0.win w).stage (cfg0.slots t w)) fullShare (outs S w) : sProp 𝕄)
      ⊢ bigSep Finset.univ fun w => iprop(∃ X, ⌜(rdat m C c).after w t (Y w) X⌝ ∗ owns (c : Thread nD τ) ((cfg0.win w).stage (cfg0.slots t w)) fullShare X) := by
    have key : ∀ w, (owns (c : Thread nD τ) ((cfg0.win w).stage (cfg0.slots t w)) fullShare (outs S w) : sProp 𝕄)
        ⊢ iprop(∃ X, ⌜(rdat m C c).after w t (Y w) X⌝ ∗ owns (c : Thread nD τ) ((cfg0.win w).stage (cfg0.slots t w)) fullShare X) := by
      intro w
      iintro H
      iexists outs S w
      isplitr
      · ipureintro; exact hafter w
      · iexact H
    exact bigSep_mono fun w _ => key w
  iapply (wp_wand_r (M := 𝕄))
  isplitl [HY Hs]
  · iapply hwp
    isplitl [HY]
    · iexact HY
    · iexact Hs
  · iintro %a ⟨-, HY, Hs⟩
    isplitl [Hs Hp]
    · isplitl [Hs]
      · iexists S
        isplitr
        · ipureintro; exact hJ'
        · iexact Hs
      · iexact Hp
    isplitl [Ho]
    · iexact Ho
    iapply hmono
    iexact HY

set_option backward.isDefEq.respectTransparency.types false in
/-- From a contract, the whole launch. -/
theorem run_main (C : Dev nD → Contract F sig) (hR : ∀ c, Reads m (C c) c) :
    θ_run defs (onTc (τ := τ) (main (F := F))) (s₀ m ρ)
      (fun r => Pipeline.RDat.FramePost (cfgs 0) (rdat m C) (V m) r ∧ r.2.sem = fun _ => 0) :=
  Pipeline.RDat.θ_run_frame_track (Q' := _) cfgs (0 : Fin 1) launch0 defs₀ Variants.none (rdat m C) m ρ main
    (hbody := obligation m C hR Variants.none) (hshare := fun c w => by unfold RDat.share; split <;> rfl)
    (howed := fun _ _ => rfl) (V := V m) (hmain := hmain m Variants.none) (hA := fun _ _ => rfl)
    (hin := fun c => start_entails m C c) (hout := fun c => last_entails m C c)

end Cert.Kernel.Run
-- ==== Proof.Keep.lean ====
module

public import proofs.«01_k».proof.Proof.Contract

/-! The body leaves the buffers it reads its operands from as they were. -/

@[expose] public section

noncomputable section

namespace Cert.Code

open Idealize.ShloMosaic Idealize.SL.Sem
open Cert.Model

variable {F : FTy → Type} [FloatOps F] {sig : RefSig} {m : fam.Mems sig} {α β : Type}

/-- The program leaves every input buffer as it was. -/
structure Keep (p : P F m α) : Prop where
  on : ∀ (σ : fam.State (Elt F)) (b : B), b.isIn = true → (run p σ).2 b = σ b

theorem keep_ret (a : α) : Keep (.ret a : P F m α) := ⟨fun _ _ _ => rfl⟩

theorem keep_bind {p : P F m α} {k : α → P F m β} (hp : Keep p) (hk : ∀ a, Keep (k a)) : Keep (p >>= k) := ⟨fun σ b hb => by
  rw [run_bind]
  exact ((hk _).on _ b hb).trans (hp.on σ b hb)⟩

theorem keep_ld {b : B} {r : Rect (sh b)} {h : (m b).view.LoadsAt r.toLoadRect} : Keep (F := F) (ld b r h) := ⟨fun _ _ _ => rfl⟩

theorem keep_st {b : B} {r : Rect (sh b)} {w : r.shape.Idx → Elt F (el b)} {h : ((m b).access r).Stores Finset.univ}
    (hb : b.isIn = false) : Keep (st b r w h) := ⟨fun σ b' hb' => by
  show upd σ b r w b' = σ b'
  refine Function.update_of_ne ?_ _ _
  rintro rfl
  rw [hb] at hb'
  exact Bool.false_ne_true hb'⟩

theorem keep_loopGo {n : Nat} {f : (k : Nat) → k < n → α → P F m α} (hf : ∀ k h a, Keep (f k h a)) :
    ∀ (r s : Nat) (h : s + r = n) (a : α), Keep (loopGo f r s h a)
  | 0, _, _, a => keep_ret a
  | r + 1, s, h, a => keep_bind (hf _ _ _) fun _ => keep_loopGo hf r (s + 1) _ _

theorem keep_loop {n s : Nat} {h : s ≤ n} {a : α} {f : (k : Nat) → k < n → α → P F m α} (hf : ∀ k h a, Keep (f k h a)) :
    Keep (loop n s h a f) := keep_loopGo hf _ _ _ _

theorem keep_loadX : Keep (loadX m : P F m _) :=
  keep_bind keep_ld fun _ => keep_bind keep_ld fun _ => keep_loop fun _ _ _ => keep_bind keep_ld fun _ => keep_ret _

variable (hm : ∀ b, (m b).IsWhole)

theorem keep_quantXHalf (n hn c hc t ht) (v : FVec F (M2 256 128) .f32) : Keep (quantXHalf m hm n hn c hc t ht v) :=
  keep_bind keep_ld fun _ => keep_bind (keep_st rfl) fun _ => keep_bind keep_ld fun _ => keep_bind keep_ld fun _ =>
    keep_bind (keep_st rfl) fun _ => keep_bind keep_ld fun _ => keep_st rfl

theorem keep_quantX (n hn) : Keep (quantX m hm n hn : P F m _) :=
  keep_bind keep_loadX fun _ => keep_loop fun _ _ _ => keep_bind keep_ld fun _ => keep_loop fun _ _ _ => keep_quantXHalf hm ..

theorem keep_quantDyTile (n hn tb ht cb hc) (rs : FVec F (M2 128 44) .f32) : Keep (quantDyTile m hm n hn tb ht cb hc rs) :=
  keep_bind keep_ld fun _ => keep_bind keep_ld fun _ => keep_bind (keep_st rfl) fun _ => keep_bind keep_ld fun _ =>
    keep_bind (keep_st rfl) fun _ => keep_bind keep_ld fun _ => keep_bind (keep_st rfl) fun _ => keep_bind keep_ld fun _ =>
    keep_bind (keep_st rfl) fun _ => keep_bind keep_ld fun _ => keep_bind (keep_st rfl) fun _ => keep_bind keep_ld fun _ =>
    keep_bind (keep_st rfl) fun _ => keep_ret _

theorem keep_quantDy (n hn) : Keep (quantDy m hm n hn : P F m _) :=
  keep_loop fun _ _ _ => keep_bind keep_ld fun _ => keep_bind (keep_loop fun _ _ _ => keep_quantDyTile hm ..) fun _ =>
    keep_bind keep_ld fun _ => keep_st rfl

theorem keep_dgrad (n hn) : Keep (dgrad m hm n hn : P F m _) :=
  keep_bind (keep_loop fun _ _ _ => keep_loop fun _ _ _ => keep_bind keep_ld fun _ => keep_bind keep_ld fun _ =>
      keep_bind keep_ld fun _ => keep_st rfl) fun _ =>
    keep_loop fun _ _ _ => keep_bind keep_ld fun _ => keep_bind keep_ld fun _ => keep_bind keep_ld fun _ =>
      keep_bind keep_ld fun _ => keep_st rfl

theorem keep_nbFirst (n h1 h2 x) (r : FVec F (M2 256 1) .f32) (c hc) : Keep (nbFirst m n h1 h2 x r c hc) :=
  keep_bind keep_ld fun _ => keep_bind keep_ld fun _ => keep_bind keep_ld fun _ => keep_bind (keep_st rfl) fun _ =>
    keep_bind keep_ld fun _ => keep_ret _

theorem keep_normBackward (n h1 h2) : Keep (normBackward m hm n h1 h2 : P F m _) :=
  keep_bind keep_loadX fun _ => keep_bind (keep_nbFirst ..) fun _ =>
    keep_bind (keep_loop fun _ _ _ => keep_bind (keep_nbFirst ..) fun _ => keep_ret _) fun _ =>
    keep_loop fun _ _ _ => keep_bind keep_ld fun _ => keep_bind keep_ld fun _ => keep_bind keep_ld fun _ => keep_st rfl

theorem keep_wgrad (n h1 h2) : Keep (wgrad m hm n h1 h2 : P F m _) :=
  keep_bind (keep_loop fun _ _ _ => keep_bind keep_ld fun _ => keep_bind keep_ld fun _ => keep_bind keep_ld fun _ => keep_st rfl) fun _ =>
    keep_bind keep_ld fun _ => keep_bind keep_ld fun _ => keep_bind keep_ld fun _ => keep_st rfl

theorem keep_clear : Keep (clear m : P F m _) :=
  keep_bind keep_ld fun _ => keep_bind (keep_st rfl) fun _ => keep_bind keep_ld fun _ => keep_bind (keep_st rfl) fun _ =>
    keep_bind keep_ld fun _ => keep_st rfl

theorem keep_dgammaOut : Keep (dgammaOut m : P F m _) :=
  keep_bind keep_ld fun _ => keep_bind keep_ld fun _ => keep_st rfl

theorem keep_body (n hn) : Keep (body m hm n hn : P F m _) := by
  unfold body
  refine keep_bind ?_ fun _ => ?_
  · split
    · exact keep_clear
    · exact keep_ret _
  · split
    · exact keep_bind (keep_quantX hm ..) fun _ => keep_bind (keep_quantDy hm ..) fun _ => keep_dgrad hm ..
    · split
      · exact keep_bind (keep_quantDy hm ..) fun _ => keep_dgrad hm ..
      · split
        · exact keep_bind (keep_normBackward hm ..) fun _ => keep_wgrad hm ..
        · refine keep_bind (keep_wgrad hm ..) fun _ => ?_
          split
          · exact keep_dgammaOut
          · exact keep_ret _

/-- The contract that says nothing of the outputs. -/
def Contract.any (sig : RefSig) (In : (b : B) → Nat → ((sh b).Idx → Elt F (el b))) : Contract F sig where
  J _ _ := True
  G _ _ _ := True
  In := In
  start _ := trivial
  congr _ _ _ _ _ := trivial
  step _ hm _ _ σ _ _ _ := ⟨trivial, fun b hb => (keep_body hm _ _).on σ b hb, fun _ _ => trivial⟩

end Cert.Code
-- ==== Proof.FrameK.lean ====
module

public import proofs.«01_k».proof.Proof.RunK
public import proofs.«01_k».proof.Proof.Keep

/-! The run leaves the arguments as they were and every semaphore at zero. -/

@[expose] public section

noncomputable section

namespace Cert.Kernel.Run

open Idealize.ShloMosaic Idealize.SL.Sem Idealize.ShloMosaic.Pipeline
open Cert.Model Cert.Code Cert.Kernel Cert.Kernel.Gen

variable {F : FTy → Type} [FloatOps F]
variable (m : (ℓ : Loc nD τ sig) → Buf (Elt F) ℓ) (ρ : Dev nD → PrngReg)

/-- What the input buffers hold at a step. -/
def ins (c : Dev nD) (b : B) (n : Nat) : (sh b).Idx → Elt F (el b) :=
  let t : Fin cfg0.N := if h : n < 33 then ⟨n, h⟩ else ⟨0, by decide⟩
  match b with
  | .a1 => iblk m c 0 t
  | .a2 => iblk m c 1 t
  | .a3 => iblk m c 2 t
  | .a4 => iblk m c 3 t
  | .a5 => iblk m c 4 t
  | .a6 => iblk m c 5 t
  | _ => fun _ => default

theorem fin_dite (t : Fin cfg0.N) : (if h : t.val < 33 then (⟨t.val, h⟩ : Fin cfg0.N) else ⟨0, by decide⟩) = t := dif_pos t.isLt

theorem reads (c : Dev nD) (C : Contract F sig) (h : C.In = ins m c) : Reads m C c where
  i0 t := by rw [h]; exact congrArg (β := (sh .a1).Idx → Elt F (el .a1)) (fun u => iblk m c 0 u) (fin_dite t)
  i1 t := by rw [h]; exact congrArg (β := (sh .a2).Idx → Elt F (el .a2)) (fun u => iblk m c 1 u) (fin_dite t)
  i2 t := by rw [h]; exact congrArg (β := (sh .a3).Idx → Elt F (el .a3)) (fun u => iblk m c 2 u) (fin_dite t)
  i3 t := by rw [h]; exact congrArg (β := (sh .a4).Idx → Elt F (el .a4)) (fun u => iblk m c 3 u) (fin_dite t)
  i4 t := by rw [h]; exact congrArg (β := (sh .a5).Idx → Elt F (el .a5)) (fun u => iblk m c 4 u) (fin_dite t)
  i5 t := by rw [h]; exact congrArg (β := (sh .a6).Idx → Elt F (el .a6)) (fun u => iblk m c 5 u) (fin_dite t)

theorem args_of {C : Dev nD → Contract F sig} {r : PUnit × MemSt nD τ sig (Elt F)} (h : Pipeline.RDat.FramePost (cfgs 0) (rdat m C) (V m) r)
    (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c 2 rfl).trans (V_main_arg3 m c),
   (h.arr_in c 0 rfl).trans (V_main_arg4 m c),
   ((h c).2 main_arg5 (Pipeline.mem_restRefs_of main_arg5 (by decide) (by decide))).trans (V_main_arg5 m c)⟩

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩)
    (run_main m ρ (fun c => Contract.any sig (ins m c)) (fun c => reads m c _ rfl))

end Cert.Kernel.Run
-- ==== Proof.Scale.lean ====
module

public import proofs.«01_k».proof.Proof.Code
public import Idealize.ShloMosaic.Lib.ValueIdx
public import Idealize.ShloMosaic.Lib.IdealHost

/-! The scale of a group: the search over bit patterns finds the exponent the count of powers of two gives. -/

@[expose] public section

noncomputable section

namespace Cert.Spec

open Idealize.ShloMosaic Cert.Code

/-- The powers of two from `2 ^ (-126)` on. -/
def pw (j : ℕ) : EReal := (((2 : ℝ) ^ ((j : ℤ) - 126) : ℝ) : EReal)

open Classical in
/-- How many of the first 252 of them are at most `b`. -/
def cnt (b : EReal) : ℕ := ((Finset.range 252).filter fun j => pw j ≤ b).card

/-- The exponent of the scale of a group whose largest magnitude over the format's largest is `b`. -/
def expo (b : EReal) : EReal := if b = 0 then 0 else (((cnt b : ℝ) - 126 : ℝ) : EReal)

def sc (b : EReal) : EReal := Ideal.exp2 (expo b)
def isc (b : EReal) : EReal := Ideal.exp2 (0 - expo b)

theorem filter_lower (p : ℕ → Prop) [DecidablePred p] (hp : ∀ i j, i ≤ j → p j → p i) (n : ℕ) :
    (Finset.range n).filter p = Finset.range ((Finset.range n).filter p).card := by
  induction n with
  | zero => simp
  | succ n ih =>
    by_cases h : p n
    · have e : (Finset.range (n + 1)).filter p = Finset.range (n + 1) :=
        Finset.filter_true_of_mem fun j hj => hp j n (by simpa [Nat.lt_succ_iff] using hj) h
      rw [e, Finset.card_range]
    · rw [Finset.range_add_one, Finset.filter_insert, if_neg h]
      exact ih

theorem pw_mono {i j : ℕ} (h : i ≤ j) : pw i ≤ pw j := by
  unfold pw
  exact EReal.coe_le_coe_iff.mpr (zpow_le_zpow_right₀ (by norm_num) (by omega))

open Classical in
theorem lt_cnt (b : EReal) (j : ℕ) : j < cnt b ↔ j < 252 ∧ pw j ≤ b := by
  have h := filter_lower (fun j => pw j ≤ b) (fun i j hij h => (pw_mono hij).trans h) 252
  have : j ∈ (Finset.range 252).filter (fun j => pw j ≤ b) ↔ j ∈ Finset.range (cnt b) := by
    conv_lhs => rw [h]
    rfl
  rw [Finset.mem_range, Finset.mem_filter, Finset.mem_range] at this
  exact this.symm

theorem cnt_le (b : EReal) : cnt b ≤ 252 := by
  by_contra h
  exact absurd ((lt_cnt b 252).mp (by omega)).1 (by omega)

/-- The float of exponent field `f` and significand zero. -/
theorem ofBits_field (f : ℕ) (h1 : 1 ≤ f) (h2 : f ≤ 254) :
    Ideal.ofBits .f32 (BitVec.ofNat 32 (8388608 * f)) = (((2 : ℝ) ^ ((f : ℤ) - 127) : ℝ) : EReal) := by
  have e1 : ((BitVec.ofNat 32 (8388608 * f)).extractLsb' (8 + 23) 1 == 1#1) = false := by
    rw [beq_eq_false_iff_ne]
    intro e
    have := congrArg BitVec.toNat e
    simp only [BitVec.extractLsb'_toNat, BitVec.toNat_ofNat, Nat.shiftRight_eq_div_pow] at this
    omega
  have e2 : ((BitVec.ofNat 32 (8388608 * f)).extractLsb' 23 8).toNat = f := by
    simp only [BitVec.extractLsb'_toNat, BitVec.toNat_ofNat, Nat.shiftRight_eq_div_pow]
    omega
  have e3 : ((BitVec.ofNat 32 (8388608 * f)).extractLsb' 0 23).toNat = 0 := by
    simp only [BitVec.extractLsb'_toNat, BitVec.toNat_ofNat, Nat.shiftRight_eq_div_pow]
    omega
  show Ideal.ieee 8 23 _ = _
  unfold Ideal.ieee
  simp only [e1, e2, e3]
  rw [if_neg (by omega), if_neg (by omega)]
  refine congrArg _ ?_
  have : ((f : ℤ) - 127) = ((f : ℤ) - (2 ^ (8 - 1) - 1) - 23) + 23 := by norm_num
  rw [this, zpow_add₀ (by norm_num)]
  norm_num
  ring

theorem ofBits_pw (t : ℕ) (h1 : 1 ≤ t) (h2 : t ≤ 254) : Ideal.ofBits .f32 (BitVec.ofNat 32 (8388608 * t)) = pw (t - 1) := by
  rw [ofBits_field t h1 h2]
  unfold pw
  have : (t : ℤ) - 127 = ((t - 1 : ℕ) : ℤ) - 126 := by omega
  rw [this]

/-- One step of the search on one element. -/
def stepB (b : EReal) (v k : BitVec 32) : BitVec 32 :=
  Scalar.select (Ideal.cmp .oge b (Ideal.ofBits .f32 (v + k))) (v + k) v

theorem stepB_eq (b : EReal) (s k : ℕ) (h1 : 1 ≤ k) (h2 : s + k ≤ 252) :
    stepB b (BitVec.ofNat 32 (8388608 * s)) (BitVec.ofNat 32 (8388608 * k))
      = BitVec.ofNat 32 (8388608 * (if s + k ≤ cnt b then s + k else s)) := by
  have e : BitVec.ofNat 32 (8388608 * s) + BitVec.ofNat 32 (8388608 * k) = BitVec.ofNat 32 (8388608 * (s + k)) := by
    rw [← BitVec.ofNat_add, Nat.mul_add]
  unfold stepB
  rw [e, ofBits_pw _ (by omega) (by omega)]
  have hc : Ideal.cmp .oge b (pw (s + k - 1)) = BitVec.ofBool (decide (pw (s + k - 1) ≤ b)) := rfl
  rw [hc]
  by_cases hb : pw (s + k - 1) ≤ b
  · have : s + k ≤ cnt b := by have := (lt_cnt b (s + k - 1)).mpr ⟨by omega, hb⟩; omega
    rw [if_pos this, decide_eq_true hb]; rfl
  · have : ¬ s + k ≤ cnt b := fun h => hb ((lt_cnt b (s + k - 1)).mp (by omega)).2
    rw [if_neg this, decide_eq_false hb]; rfl

def fieldB (b : EReal) : BitVec 32 :=
  stepB b (stepB b (stepB b (stepB b (stepB b (stepB b (stepB b (stepB b 0#32 1056964608#32) 528482304#32) 268435456#32)
    134217728#32) 67108864#32) 33554432#32) 16777216#32) 8388608#32

theorem fieldB_eq (b : EReal) : fieldB b = BitVec.ofNat 32 (8388608 * cnt b) := by
  have h := cnt_le b
  unfold fieldB
  rw [show (0#32) = BitVec.ofNat 32 (8388608 * 0) from rfl, show (1056964608#32) = BitVec.ofNat 32 (8388608 * 126) from rfl,
    show (528482304#32) = BitVec.ofNat 32 (8388608 * 63) from rfl, show (268435456#32) = BitVec.ofNat 32 (8388608 * 32) from rfl,
    show (134217728#32) = BitVec.ofNat 32 (8388608 * 16) from rfl, show (67108864#32) = BitVec.ofNat 32 (8388608 * 8) from rfl,
    show (33554432#32) = BitVec.ofNat 32 (8388608 * 4) from rfl, show (16777216#32) = BitVec.ofNat 32 (8388608 * 2) from rfl,
    show (8388608#32) = BitVec.ofNat 32 (8388608 * 1) from rfl]
  rw [stepB_eq b _ _ (by omega) (by omega)]
  generalize h1 : (if 0 + 126 ≤ cnt b then 0 + 126 else 0) = s1
  have b1 : s1 ≤ cnt b ∧ cnt b ≤ s1 + 126 ∧ s1 ≤ 126 := by split at h1 <;> omega
  rw [stepB_eq b _ _ (by omega) (by omega)]
  generalize h2 : (if s1 + 63 ≤ cnt b then s1 + 63 else s1) = s2
  have b2 : s2 ≤ cnt b ∧ cnt b ≤ s2 + 63 ∧ s2 ≤ 189 := by split at h2 <;> omega
  rw [stepB_eq b _ _ (by omega) (by omega)]
  generalize h3 : (if s2 + 32 ≤ cnt b then s2 + 32 else s2) = s3
  have b3 : s3 ≤ cnt b ∧ cnt b ≤ s3 + 31 ∧ s3 ≤ 221 := by split at h3 <;> omega
  rw [stepB_eq b _ _ (by omega) (by omega)]
  generalize h4 : (if s3 + 16 ≤ cnt b then s3 + 16 else s3) = s4
  have b4 : s4 ≤ cnt b ∧ cnt b ≤ s4 + 15 ∧ s4 ≤ 237 := by split at h4 <;> omega
  rw [stepB_eq b _ _ (by omega) (by omega)]
  generalize h5 : (if s4 + 8 ≤ cnt b then s4 + 8 else s4) = s5
  have b5 : s5 ≤ cnt b ∧ cnt b ≤ s5 + 7 ∧ s5 ≤ 245 := by split at h5 <;> omega
  rw [stepB_eq b _ _ (by omega) (by omega)]
  generalize h6 : (if s5 + 4 ≤ cnt b then s5 + 4 else s5) = s6
  have b6 : s6 ≤ cnt b ∧ cnt b ≤ s6 + 3 ∧ s6 ≤ 249 := by split at h6 <;> omega
  rw [stepB_eq b _ _ (by omega) (by omega)]
  generalize h7 : (if s6 + 2 ≤ cnt b then s6 + 2 else s6) = s7
  have b7 : s7 ≤ cnt b ∧ cnt b ≤ s7 + 1 ∧ s7 ≤ 251 := by split at h7 <;> omega
  rw [stepB_eq b _ _ (by omega) (by omega)]
  have : (if s7 + 1 ≤ cnt b then s7 + 1 else s7) = cnt b := by split <;> omega
  rw [this]

/-- The bit pattern of the scale of one group. -/
def bitsB (b : EReal) : BitVec 32 :=
  Scalar.select (Ideal.cmp .oeq b (Ideal.ofBits .f32 0x00000000#32)) 1065353216#32 (fieldB b + 8388608#32)

theorem ofBits_zero : Ideal.ofBits .f32 0x00000000#32 = 0 := by simp [Ideal.ofBits, Ideal.ieee]

/-- The pattern's exponent field. -/
theorem bitsB_eq (b : EReal) : bitsB b = BitVec.ofNat 32 (8388608 * (if b = 0 then 127 else cnt b + 1)) := by
  unfold bitsB
  rw [ofBits_zero, fieldB_eq]
  have hc : Ideal.cmp .oeq b 0 = BitVec.ofBool (decide (b = 0)) := rfl
  rw [hc]
  by_cases hb : b = 0
  · rw [decide_eq_true hb, if_pos hb]; rfl
  · rw [decide_eq_false hb, if_neg hb, Nat.mul_add, BitVec.ofNat_add]; rfl

theorem exp2_int (k : ℤ) : Ideal.exp2 (((k : ℝ) : ℝ) : EReal) = (((2 : ℝ) ^ k : ℝ) : EReal) := by
  show ((Real.rpow 2 (k : ℝ) : ℝ) : EReal) = _
  exact congrArg _ (Real.rpow_intCast 2 k)

theorem sc_eq (b : EReal) : Ideal.ofBits .f32 (bitsB b) = sc b := by
  have h := cnt_le b
  rw [bitsB_eq]
  unfold sc expo
  split
  · rw [ofBits_field _ (by omega) (by omega)]
    have := exp2_int 0
    simp only [Int.cast_zero, EReal.coe_zero, zpow_zero] at this
    rw [this]
    norm_num
  · rw [ofBits_field _ (by omega) (by omega)]
    have := exp2_int ((cnt b : ℤ) - 126)
    push_cast at this
    push_cast
    rw [this]
    have e : ((cnt b : ℤ) + 1 - 127) = (cnt b : ℤ) - 126 := by omega
    rw [e]

theorem sub_field (f : ℕ) (h : f ≤ 254) :
    2130706432#32 - BitVec.ofNat 32 (8388608 * f) = BitVec.ofNat 32 (8388608 * (254 - f)) := by
  have e : 2130706432#32 = BitVec.ofNat 32 (8388608 * (254 - f)) + BitVec.ofNat 32 (8388608 * f) := by
    rw [← BitVec.ofNat_add, ← Nat.mul_add, Nat.sub_add_cancel h]
  rw [e, BitVec.add_sub_cancel]

theorem isc_eq (b : EReal) : Ideal.ofBits .f32 (2130706432#32 - bitsB b) = isc b := by
  have h := cnt_le b
  have h2 : (if b = 0 then 127 else cnt b + 1) ≤ 253 ∧ 1 ≤ (if b = 0 then 127 else cnt b + 1) := by split <;> omega
  rw [bitsB_eq, sub_field _ (by omega), ofBits_field _ (by omega) (by omega)]
  unfold isc expo
  by_cases hb : b = 0
  · simp only [if_pos hb]
    have := exp2_int 0
    simp only [Int.cast_zero, EReal.coe_zero, zpow_zero] at this
    rw [sub_zero, this]
    norm_num
  · simp only [if_neg hb]
    have := exp2_int (126 - (cnt b : ℤ))
    rw [Int.cast_sub, Int.cast_natCast, Int.cast_ofNat] at this
    have e0 : (0 : EReal) - (((cnt b : ℝ) - 126 : ℝ) : EReal) = ((126 - (cnt b : ℝ) : ℝ) : EReal) := by
      rw [← EReal.coe_zero, ← EReal.coe_sub]
      congr 1
      ring
    rw [e0, this]
    have e : ((254 - (cnt b + 1) : ℕ) : ℤ) - 127 = 126 - (cnt b : ℤ) := by omega
    rw [e]

/-! The reference's form of the exponent. -/

theorem ofBits_one : Ideal.ofBits .f32 0x3F800000#32 = 1 := Ideal.ofBits_one_f32

theorem ofBits_126 : Ideal.ofBits .f32 0x42FC0000#32 = ((126 : ℝ) : EReal) := by
  simp [Ideal.ofBits, Ideal.ieee, -EReal.coe_mul]; norm_num

/-- The power of two a lane of the reference compares with. -/
theorem lane_pw (j : ℕ) (h : j < 252) :
    Ideal.exp2 ((((BitVec.ofNat 32 j).toInt : ℝ) : EReal) - Ideal.ofBits .f32 0x42FC0000#32) = pw j := by
  have e : (BitVec.ofNat 32 j).toInt = (j : ℤ) := by
    rw [BitVec.toInt_eq_toNat_of_lt (by rw [BitVec.toNat_ofNat]; omega), BitVec.toNat_ofNat]
    omega
  rw [e, ofBits_126, ← EReal.coe_sub]
  have := exp2_int ((j : ℤ) - 126)
  push_cast at this ⊢
  exact this

theorem sum_cnt (b : EReal) :
    ∑ j ∈ Finset.range 252, Scalar.select (Ideal.cmp .oge b (pw j)) (1 : EReal) 0 = ((cnt b : ℝ) : EReal) := by
  classical
  have : ∀ j, Scalar.select (Ideal.cmp .oge b (pw j)) (1 : EReal) 0 = if pw j ≤ b then 1 else 0 := by
    intro j
    have hc : Ideal.cmp .oge b (pw j) = BitVec.ofBool (decide (pw j ≤ b)) := rfl
    rw [hc]
    by_cases hb : pw j ≤ b
    · rw [decide_eq_true hb, if_pos hb]; rfl
    · rw [decide_eq_false hb, if_neg hb]; rfl
  simp only [this]
  rw [Finset.sum_ite, Finset.sum_const_zero, add_zero, Finset.sum_const]
  show (cnt b) • (1 : EReal) = _
  simp

/-- The exponent as the reference computes it, from the largest magnitude `a` and its quotient by the format's largest. -/
theorem expo_ref (a c : EReal) (ha : 0 ≤ a) (hc : 0 < c) :
    Scalar.select (Ideal.cmp .oeq a (Ideal.ofBits .f32 0x00000000#32)) (Ideal.ofBits .f32 0x00000000#32)
      ((∑ j ∈ Finset.range 252, Scalar.select (Ideal.cmp .oge (a * c) (Ideal.exp2 ((((BitVec.ofNat 32 j).toInt : ℝ) : EReal) - Ideal.ofBits .f32 0x42FC0000#32)))
        (Ideal.ofBits .f32 0x3F800000#32) (Ideal.ofBits .f32 0x00000000#32)) - Ideal.ofBits .f32 0x42FC0000#32)
      = expo (a * c) := by
  rw [ofBits_zero, ofBits_one]
  rw [Finset.sum_congr rfl fun j hj => by rw [lane_pw j (Finset.mem_range.mp hj)], sum_cnt, ofBits_126]
  have h0 : Ideal.cmp .oeq a 0 = BitVec.ofBool (decide (a = 0)) := rfl
  rw [h0]
  unfold expo
  have e : a * c = 0 ↔ a = 0 := by
    constructor
    · intro h; rcases mul_eq_zero.mp h with h | h
      · exact h
      · exact absurd h hc.ne'
    · rintro rfl; exact zero_mul c
  by_cases hb : a = 0
  · rw [decide_eq_true hb, if_pos (e.mpr hb)]; rfl
  · rw [decide_eq_false hb, if_neg (fun h => hb (e.mp h)), EReal.coe_sub]; rfl

end Cert.Spec
-- ==== Proof.Of.lean ====
module

public import proofs.«01_k».proof.Proof.Scale
public import Idealize.ShloMosaic.Lib.Pointwise.Reduce
public import Idealize.ShloMosaic.Lib.Pipeline.Value

/-! Vectors as functions of their coordinates, and the operations on them. -/

@[expose] public section

noncomputable section

namespace Cert.Spec

open Idealize.ShloMosaic Cert.Code

variable {α : Type}

def of1 {N : Nat} (f : ℕ → α) : (M1 N).Idx → α := fun y => f (y 0).val
def of2 {R C : Nat} (f : ℕ → ℕ → α) : (M2 R C).Idx → α := fun y => f (y 0).val (y 1).val
def of3 {A R C : Nat} (f : ℕ → ℕ → ℕ → α) : (M3 A R C).Idx → α := fun y => f (y 0).val (y 1).val (y 2).val

theorem of2_congr {R C : Nat} {f g : ℕ → ℕ → α} (h : ∀ i j, i < R → j < C → f i j = g i j) : (of2 f : (M2 R C).Idx → α) = of2 g :=
  funext fun y => h _ _ (y 0).isLt (y 1).isLt

/-- Every vector is the function of its coordinates it is. -/
def ext2 [Inhabited α] {R C : Nat} (x : (M2 R C).Idx → α) : ℕ → ℕ → α := fun i j =>
  if h : i < R ∧ j < C then x (ix2 ⟨i, h.1⟩ ⟨j, h.2⟩) else default

theorem of2_ext2 [Inhabited α] {R C : Nat} (x : (M2 R C).Idx → α) : of2 (ext2 x) = x := funext fun y => by
  show ext2 x (y 0).val (y 1).val = x y
  unfold ext2
  rw [dif_pos ⟨(y 0).isLt, (y 1).isLt⟩]
  exact congrArg x (eq_ix2 y).symm

/-! ## Shape casts -/

theorem pos_of_lt_mul {n B C : ℕ} (h : n < B * C) : 0 < C :=
  Nat.pos_of_ne_zero fun e => by rw [e, Nat.mul_zero] at h; exact absurd h (Nat.not_lt_zero _)

theorem div_lt_of_lt_mul' {n B C : ℕ} (h : n < B * C) : n / C < B := Nat.div_lt_of_lt_mul (by rw [Nat.mul_comm]; exact h)

theorem cast_self {s : Shape} (x : s.Idx → α) (h : s.ShapeCasts s) : shapeCast s x h = x :=
  funext fun j => congrArg x (Shape.reshapeEquiv_self h j)

theorem cast_col {R : Nat} (f : ℕ → α) (h : (M1 R).ShapeCasts (M2 R 1)) : shapeCast (M2 R 1) (of1 f) h = of2 fun i _ => f i := funext fun y => by
  refine (shapeCast_apply _ _ y (ix1 (y 0)) ?_).trans rfl
  rw [Shape.rowMajor_val_one, Shape.rowMajor_val_two]
  have : (y 1).val < 1 := (y 1).isLt
  show (y 0).val = (y 0).val * 1 + (y 1).val
  omega

theorem cast_row {C : Nat} (f : ℕ → α) (h : (M1 C).ShapeCasts (M2 1 C)) : shapeCast (M2 1 C) (of1 f) h = of2 fun _ j => f j := funext fun y => by
  refine (shapeCast_apply _ _ y (ix1 (y 1)) ?_).trans rfl
  rw [Shape.rowMajor_val_one, Shape.rowMajor_val_two]
  have : (y 0).val < 1 := (y 0).isLt
  show (y 1).val = (y 0).val * C + (y 1).val
  rw [show (y 0).val = 0 by omega]; omega

/-- Rows split into groups. -/
theorem cast_rows {R A B C : Nat} (hR : R = A * B) (f : ℕ → ℕ → α) (h : (M2 R C).ShapeCasts (M3 A B C)) :
    shapeCast (M3 A B C) (of2 f) h = of3 fun i j k => f (i * B + j) k := funext fun y => by
  have h0 : (y 0).val < A := (y 0).isLt
  have h1 : (y 1).val < B := (y 1).isLt
  have hb : (y 0).val * B + (y 1).val < R := by
    rw [hR]
    calc (y 0).val * B + (y 1).val < (y 0).val * B + B := by omega
      _ = ((y 0).val + 1) * B := by ring
      _ ≤ A * B := Nat.mul_le_mul_right B h0
  refine (shapeCast_apply _ _ y (ix2 ⟨(y 0).val * B + (y 1).val, hb⟩ (y 2)) ?_).trans rfl
  rw [Shape.rowMajor_val_two, Shape.rowMajor_val_three]
  rfl

/-- Groups of rows merged. -/
theorem cast_unrows {R A B C : Nat} (hR : R = A * B) (f : ℕ → ℕ → ℕ → α) (h : (M3 A B C).ShapeCasts (M2 R C)) :
    shapeCast (M2 R C) (of3 f) h = of2 fun i k => f (i / B) (i % B) k := funext fun y => by
  have h0 : (y 0).val < A * B := hR ▸ (y 0).isLt
  have hB : 0 < B := Nat.pos_of_ne_zero fun e => by rw [e, Nat.mul_zero] at h0; exact absurd h0 (Nat.not_lt_zero _)
  refine (shapeCast_apply _ _ y (ix3 ⟨(y 0).val / B, Nat.div_lt_of_lt_mul (by rw [Nat.mul_comm]; exact h0)⟩
    ⟨(y 0).val % B, Nat.mod_lt _ hB⟩ (y 1)) ?_).trans rfl
  rw [Shape.rowMajor_val_two, Shape.rowMajor_val_three]
  show ((y 0).val / B * B + (y 0).val % B) * C + (y 1).val = (y 0).val * C + (y 1).val
  rw [Nat.div_add_mod']

/-- Columns split into groups. -/
theorem cast_cols {R D B C : Nat} (hD : D = B * C) (f : ℕ → ℕ → α) (h : (M2 R D).ShapeCasts (M3 R B C)) :
    shapeCast (M3 R B C) (of2 f) h = of3 fun i j k => f i (j * C + k) := by
  subst hD
  refine funext fun y => ?_
  have h1 : (y 1).val < B := (y 1).isLt
  have h2 : (y 2).val < C := (y 2).isLt
  have hb : (y 1).val * C + (y 2).val < B * C := by
    calc (y 1).val * C + (y 2).val < (y 1).val * C + C := by omega
      _ = ((y 1).val + 1) * C := by ring
      _ ≤ B * C := Nat.mul_le_mul_right C h1
  refine (shapeCast_apply _ _ y (ix2 (y 0) ⟨(y 1).val * C + (y 2).val, hb⟩) ?_).trans rfl
  rw [Shape.rowMajor_val_two, Shape.rowMajor_val_three]
  show (y 0).val * (B * C) + ((y 1).val * C + (y 2).val) = ((y 0).val * B + (y 1).val) * C + (y 2).val
  ring

/-- Groups of columns merged. -/
theorem cast_uncols {R D B C : Nat} (hD : D = B * C) (f : ℕ → ℕ → ℕ → α) (h : (M3 R B C).ShapeCasts (M2 R D)) :
    shapeCast (M2 R D) (of3 f) h = of2 fun i j => f i (j / C) (j % C) := by
  subst hD
  refine funext fun y => ?_
  have hC : 0 < C := pos_of_lt_mul (y 1).isLt
  refine (shapeCast_apply _ _ y (ix3 (y 0) ⟨(y 1).val / C, div_lt_of_lt_mul' (y 1).isLt⟩
    ⟨(y 1).val % C, Nat.mod_lt _ hC⟩) ?_).trans rfl
  rw [Shape.rowMajor_val_two, Shape.rowMajor_val_three]
  show ((y 0).val * B + (y 1).val / C) * C + (y 1).val % C = (y 0).val * (B * C) + (y 1).val
  rw [Nat.add_mul, Nat.add_assoc, Nat.div_add_mod']; ring

theorem cast_lane {A B : Nat} (f : ℕ → ℕ → α) (h : (M2 A B).ShapeCasts (M3 A B 1)) :
    shapeCast (M3 A B 1) (of2 f) h = of3 fun i j _ => f i j := by
  rw [cast_cols (Nat.mul_one B).symm f h]
  refine funext fun y => ?_
  have : (y 2).val < 1 := (y 2).isLt
  show f (y 0).val ((y 1).val * 1 + (y 2).val) = f (y 0).val (y 1).val
  congr 1; omega

theorem cast_mid {A C : Nat} (f : ℕ → ℕ → α) (h : (M2 A C).ShapeCasts (M3 A 1 C)) :
    shapeCast (M3 A 1 C) (of2 f) h = of3 fun i _ k => f i k := by
  rw [cast_rows (Nat.mul_one A).symm f h]
  refine funext fun y => ?_
  have : (y 1).val < 1 := (y 1).isLt
  show f ((y 0).val * 1 + (y 1).val) (y 2).val = f (y 0).val (y 2).val
  congr 1; omega

theorem cast_slab {R C : Nat} (f : ℕ → ℕ → α) (h : (M2 R C).ShapeCasts (M3 1 R C)) :
    shapeCast (M3 1 R C) (of2 f) h = of3 fun _ i j => f i j := by
  rw [cast_rows (Nat.one_mul R).symm f h]
  refine funext fun y => ?_
  have : (y 0).val < 1 := (y 0).isLt
  show f ((y 0).val * R + (y 1).val) (y 2).val = f (y 1).val (y 2).val
  rw [show (y 0).val = 0 by omega, Nat.zero_mul, Nat.zero_add]

theorem cast_unslab {R C : Nat} (f : ℕ → ℕ → ℕ → α) (h : (M3 1 R C).ShapeCasts (M2 R C)) :
    shapeCast (M2 R C) (of3 f) h = of2 fun i j => f 0 i j := by
  rw [cast_unrows (Nat.one_mul R).symm f h]
  refine funext fun y => ?_
  have : (y 0).val < R := (y 0).isLt
  show f ((y 0).val / R) ((y 0).val % R) (y 1).val = f 0 (y 0).val (y 1).val
  rw [Nat.div_eq_of_lt this, Nat.mod_eq_of_lt this]

/-! ## Broadcasts, slices, transposes -/

theorem bc_col {R C : Nat} (f : ℕ → ℕ → α) (h : (M2 R 1).Broadcasts (M2 R C)) :
    broadcastTo (M2 R C) (of2 f) h = of2 fun i _ => f i 0 := funext fun y => by
  unfold broadcastTo of2
  congr 1
  have : (y 0).val < R := (y 0).isLt
  dsimp only
  split
  · rename_i e
    have e : R = 1 := e
    show 0 = (y 0).val
    omega
  · rfl

theorem bc_row {R C : Nat} (f : ℕ → ℕ → α) (h : (M2 1 C).Broadcasts (M2 R C)) :
    broadcastTo (M2 R C) (of2 f) h = of2 fun _ j => f 0 j := funext fun y => by
  unfold broadcastTo of2
  congr 1
  have : (y 1).val < C := (y 1).isLt
  dsimp only
  split
  · rename_i e
    have e : C = 1 := e
    show 0 = (y 1).val
    omega
  · rfl

theorem app3 (f : ℕ → ℕ → ℕ → α) {a b c a' b' c' : ℕ} (h1 : a = a') (h2 : b = b') (h3 : c = c') : f a b c = f a' b' c' := by
  rw [h1, h2, h3]

theorem coord {n v : ℕ} {p : n = 1 → 0 < n} {q : ¬ n = 1 → v < n} (hv : v < n) :
    (if h1 : n = 1 then (⟨0, p h1⟩ : Fin n) else ⟨v, q h1⟩).val = v := by
  split
  · show 0 = v
    omega
  · rfl

theorem bc_lane {A B C : Nat} (f : ℕ → ℕ → ℕ → α) (h : (M3 A B 1).Broadcasts (M3 A B C)) :
    broadcastTo (M3 A B C) (of3 f) h = of3 fun i j _ => f i j 0 := funext fun y =>
  app3 f (coord (y 0).isLt) (coord (y 1).isLt) rfl

theorem bc_mid {A B C : Nat} (f : ℕ → ℕ → ℕ → α) (h : (M3 A 1 C).Broadcasts (M3 A B C)) :
    broadcastTo (M3 A B C) (of3 f) h = of3 fun i _ k => f i 0 k := funext fun y =>
  app3 f (coord (y 0).isLt) rfl (coord (y 2).isLt)

theorem slice2 {R C r c a b : Nat} (f : ℕ → ℕ → α) (h : (M2 R C).Slices ![a, b] (M2 r c)) :
    extractStridedSlice (M2 r c) ![a, b] (of2 f) h = of2 fun i j => f (a + i) (b + j) := rfl

/-! ## Reductions -/

/-- The largest of `n` values. -/
def mx (n : ℕ) (f : ℕ → EReal) : EReal := (Finset.univ : Finset (Fin n)).sup fun k => f k.val

def ab (x : EReal) : EReal := max x (-x)

theorem ab_nonneg (x : EReal) : 0 ≤ ab x := by
  rcases le_total 0 x with h | h
  · exact h.trans (le_max_left _ _)
  · exact (EReal.neg_nonneg.mpr h).trans (le_max_right _ _)

theorem mx_nonneg {n : ℕ} (h : 0 < n) (f : ℕ → EReal) (hf : ∀ k, 0 ≤ f k) : 0 ≤ mx n f :=
  (hf 0).trans (Finset.le_sup (f := fun k : Fin n => f k.val) (Finset.mem_univ ⟨0, h⟩))

theorem ofBits_bot : Ideal.ofBits .f32 0xFF800000#32 = ⊥ := by simp [Ideal.ofBits, Ideal.ieee]
theorem ofBits_bot16 : Ideal.ofBits .bf16 0xFF80#16 = ⊥ := by simp [Ideal.ofBits, Ideal.ieee]

theorem add_r2_1 {R C : Nat} {φ : FTy} (f : ℕ → ℕ → EReal) (acc) (h : (M2 R C).Reduces [1] (M1 R)) (hφ) (ha) :
    multiReduction (F := Ideal) (φ := φ) .add [1] (M1 R) (of2 f) acc h hφ ha = of1 fun i => ∑ k ∈ Finset.range C, f i k := funext fun y =>
  (Ideal.reduceAdd_r2_a1 h (of2 f) y).trans (Finset.sum_range fun k => f (y 0).val k).symm

theorem add_r2_0 {R C : Nat} {φ : FTy} (f : ℕ → ℕ → EReal) (acc) (h : (M2 R C).Reduces [0] (M1 C)) (hφ) (ha) :
    multiReduction (F := Ideal) (φ := φ) .add [0] (M1 C) (of2 f) acc h hφ ha = of1 fun j => ∑ k ∈ Finset.range R, f k j := funext fun y =>
  (Ideal.reduceAdd_r2_a0 h (of2 f) y).trans (Finset.sum_range fun k => f k (y 0).val).symm

theorem add_r3_0 {A R C : Nat} {φ : FTy} (f : ℕ → ℕ → ℕ → EReal) (acc) (h : (M3 A R C).Reduces [0] (M2 R C)) (hφ) (ha) :
    multiReduction (F := Ideal) (φ := φ) .add [0] (M2 R C) (of3 f) acc h hφ ha = of2 fun i j => ∑ k ∈ Finset.range A, f k i j := funext fun y =>
  (Ideal.reduceAdd_r3_a0 h (of3 f) y).trans (Finset.sum_range fun k => f k (y 0).val (y 1).val).symm

theorem add_r3_2 {A R C : Nat} {φ : FTy} (f : ℕ → ℕ → ℕ → EReal) (acc) (h : (M3 A R C).Reduces [2] (M2 A R)) (hφ) (ha) :
    multiReduction (F := Ideal) (φ := φ) .add [2] (M2 A R) (of3 f) acc h hφ ha = of2 fun i j => ∑ k ∈ Finset.range C, f i j k := funext fun y =>
  (Ideal.reduceAdd_r3_a2 h (of3 f) y).trans (Finset.sum_range fun k => f (y 0).val (y 1).val k).symm

theorem max_r2_1 {R C : Nat} {φ : FTy} (f : ℕ → ℕ → EReal) (acc) (h : (M2 R C).Reduces [1] (M1 R)) (hφ) (ha) (hb : Ideal.ofBits φ acc = ⊥) :
    multiReduction (F := Ideal) (φ := φ) .maximumf [1] (M1 R) (of2 f) acc h hφ ha = of1 fun i => mx C (f i) := funext fun y => by
  show reduceFold h (fun a b : EReal => max a b) (Ideal.ofBits φ acc) (of2 f) y = _
  rw [hb, reduceFold_eq_fold, h.fold_fiber_r2_a1]
  rfl

theorem max_r2_0 {R C : Nat} {φ : FTy} (f : ℕ → ℕ → EReal) (acc) (h : (M2 R C).Reduces [0] (M1 C)) (hφ) (ha) (hb : Ideal.ofBits φ acc = ⊥) :
    multiReduction (F := Ideal) (φ := φ) .maximumf [0] (M1 C) (of2 f) acc h hφ ha = of1 fun j => mx R fun k => f k j := funext fun y => by
  show reduceFold h (fun a b : EReal => max a b) (Ideal.ofBits φ acc) (of2 f) y = _
  rw [hb, reduceFold_eq_fold, h.fold_fiber_r2_a0]
  rfl

theorem max_r3_1 {A R C : Nat} {φ : FTy} (f : ℕ → ℕ → ℕ → EReal) (acc) (h : (M3 A R C).Reduces [1] (M2 A C)) (hφ) (ha) (hb : Ideal.ofBits φ acc = ⊥) :
    multiReduction (F := Ideal) (φ := φ) .maximumf [1] (M2 A C) (of3 f) acc h hφ ha = of2 fun i j => mx R fun k => f i k j := funext fun y => by
  show reduceFold h (fun a b : EReal => max a b) (Ideal.ofBits φ acc) (of3 f) y = _
  rw [hb, reduceFold_eq_fold, h.fold_fiber_r3_a1]
  rfl

theorem max_r3_2 {A R C : Nat} {φ : FTy} (f : ℕ → ℕ → ℕ → EReal) (acc) (h : (M3 A R C).Reduces [2] (M2 A R)) (hφ) (ha) (hb : Ideal.ofBits φ acc = ⊥) :
    multiReduction (F := Ideal) (φ := φ) .maximumf [2] (M2 A R) (of3 f) acc h hφ ha = of2 fun i j => mx C (f i j) := funext fun y => by
  show reduceFold h (fun a b : EReal => max a b) (Ideal.ofBits φ acc) (of3 f) y = _
  rw [hb, reduceFold_eq_fold, h.fold_fiber_r3_a2]
  rfl

/-! ## Scales -/

section
variable {s : Shape} (b : FVec Ideal s .f32) (y : s.Idx)

theorem sel_at {β : Type} (c : IVec s 1) (u v : s.Idx → β) : select c u v y = Scalar.select (c y) (u y) (v y) := rfl
theorem bc_at {β : Type} (x : β) : broadcast s x y = x := rfl
theorem addi_at (v w : IVec s 32) : addi v w y = v y + w y := rfl
theorem subi_at (v w : IVec s 32) : subi v w y = v y - w y := rfl
theorem oge_at (c : FVec Ideal s .f32) : cmpf .oge b c y = Ideal.cmp .oge (b y) (c y) := rfl
theorem oeq_at (c : FVec Ideal s .f32) : cmpf .oeq b c y = Ideal.cmp .oeq (b y) (c y) := rfl
theorem toFloat_at (v : IVec s 32) : (bitcastToFloat .f32 v : FVec Ideal s .f32) y = Ideal.ofBits .f32 (v y) := rfl

theorem searchStep_at (v : IVec s 32) (k : BitVec 32) : searchStep b v k y = stepB (b y) (v y) k := by
  unfold searchStep stepB
  rw [sel_at, oge_at, toFloat_at, addi_at, bc_at]

theorem expField_at : expField b y = fieldB (b y) := by
  unfold expField fieldB
  rw [searchStep_at, searchStep_at, searchStep_at, searchStep_at, searchStep_at, searchStep_at, searchStep_at, searchStep_at,
    bc_at]

theorem scaleBits_at : scaleBits b y = bitsB (b y) := by
  unfold bitsB scaleBits
  rw [sel_at, oeq_at, addi_at, bc_at, bc_at, bc_at, expField_at]
  rfl

theorem scale_at : scale b y = sc (b y) := by
  unfold scale
  rw [toFloat_at, scaleBits_at, sc_eq]

theorem invScale_at : invScale b y = isc (b y) := by
  unfold invScale
  rw [toFloat_at, subi_at, bc_at, scaleBits_at, isc_eq]
end

theorem scale_of2 {R C : Nat} (f : ℕ → ℕ → EReal) :
    scale (F := Ideal) (s := M2 R C) (of2 f) = of2 fun i j => sc (f i j) := funext fun y => scale_at _ y

theorem invScale_of2 {R C : Nat} (f : ℕ → ℕ → EReal) :
    invScale (F := Ideal) (s := M2 R C) (of2 f) = of2 fun i j => isc (f i j) := funext fun y => invScale_at _ y

end Cert.Spec
-- ==== Proof.Tiles.lean ====
module

public import proofs.«01_k».proof.Proof.Of

/-! What the problem's intermediate and final arrays are, as functions of their coordinates, and what the body's tile
functions make of tiles so given. -/

@[expose] public section

noncomputable section

namespace Cert.Spec

open Idealize.ShloMosaic Cert.Code

/-! ## The arrays -/

/-- The six inputs as functions of their coordinates. -/
structure Inp where
  x : ℕ → ℕ → EReal
  xs : ℕ → ℕ → EReal
  g : ℕ → EReal
  w : ℕ → ℕ → EReal
  ws : ℕ → ℕ → EReal
  dy : ℕ → ℕ → EReal

def c4 : EReal := Ideal.ofBits .f32 0x3B124925#32
def c5 : EReal := Ideal.ofBits .f32 0x37924925#32
def hi4 : EReal := Ideal.ofBits .f32 0x43E00000#32
def lo4 : EReal := Ideal.ofBits .f32 0xC3E00000#32
def hi5 : EReal := Ideal.ofBits .f32 0x47600000#32
def lo5 : EReal := Ideal.ofBits .f32 0xC7600000#32
def inv2048 : EReal := Ideal.ofBits .f32 0x3A000000#32
def eps : EReal := Ideal.ofBits .f32 0x358637BD#32

def clip4 (v : EReal) : EReal := min hi4 (max lo4 v)
def clip5 (v : EReal) : EReal := min hi5 (max lo5 v)

namespace Inp
variable (I : Inp)

/-- The output gradient by rows: the largest magnitude of a group over the format's largest, codes, scales, dequantised. -/
def rb (i c : ℕ) : EReal := mx 128 (fun k => ab (I.dy i (128 * c + k))) * c5
def rcode (i j : ℕ) : EReal := clip5 (I.dy i j * isc (I.rb i (j / 128)))
def rscale (i c : ℕ) : EReal := sc (I.rb i c)
def dyq (i j : ℕ) : EReal := I.rcode i j * I.rscale i (j / 128)

/-- The output gradient by columns. -/
def cb (t j : ℕ) : EReal := mx 128 (fun k => ab (I.dy (128 * t + k) j)) * c5
def ccode (i j : ℕ) : EReal := clip5 (I.dy i j * isc (I.cb (i / 128) j))
def cscale (t j : ℕ) : EReal := sc (I.cb t j)
def dq (i j : ℕ) : EReal := I.ccode i j * I.cscale (i / 128) j

/-- The normalised activations. -/
def xf (i j : ℕ) : EReal := I.x i j * I.xs i (j / 128)
def rinv (i : ℕ) : EReal := Ideal.rsqrt ((∑ k ∈ Finset.range 2048, I.xf i k * I.xf i k) * inv2048 + eps)
def xhat (i j : ℕ) : EReal := I.xf i j * I.rinv i
def xn (i j : ℕ) : EReal := I.xhat i j * I.g j
def xb (t j : ℕ) : EReal := mx 128 (fun k => ab (I.xn (128 * t + k) j)) * c4
def xcode (i j : ℕ) : EReal := clip4 (I.xn i j * isc (I.xb (i / 128) j))
def xscale (t j : ℕ) : EReal := sc (I.xb t j)
def xq (i j : ℕ) : EReal := I.xcode i j * I.xscale (i / 128) j

/-- The products. -/
def wq (i j : ℕ) : EReal := I.w i j * I.ws (i / 128) (j / 128)
def acc (n i j : ℕ) : EReal := ∑ k ∈ Finset.range n, I.dyq i k * I.wq j k
def dxn (i j : ℕ) : EReal := I.acc 5632 i j
def dw (i j : ℕ) : EReal := ∑ t ∈ Finset.range 1792, I.xq t i * I.dq t j

/-- The backward pass of the normalisation. -/
def dg (j : ℕ) : EReal := ∑ i ∈ Finset.range 1792, I.dxn i j * I.xhat i j
def mean (i : ℕ) : EReal := (∑ j ∈ Finset.range 2048, I.dxn i j * I.g j * I.xhat i j) * inv2048
def dx (i j : ℕ) : EReal := I.rinv i * (I.dxn i j * I.g j - I.xhat i j * I.mean i)

end Inp

/-! ## Operations element by element -/

section
variable {R C A : Nat} {φ φ' : FTy} (f g : ℕ → ℕ → EReal) (f3 g3 : ℕ → ℕ → ℕ → EReal)

theorem mul2 : mulf (F := Ideal) (s := M2 R C) (φ := φ) (of2 f) (of2 g) = of2 fun i j => f i j * g i j := rfl
theorem add2 : addf (F := Ideal) (s := M2 R C) (φ := φ) (of2 f) (of2 g) = of2 fun i j => f i j + g i j := rfl
theorem sub2 : subf (F := Ideal) (s := M2 R C) (φ := φ) (of2 f) (of2 g) = of2 fun i j => f i j - g i j := rfl
theorem min2 : minimumf (F := Ideal) (s := M2 R C) (φ := φ) (of2 f) (of2 g) = of2 fun i j => min (f i j) (g i j) := rfl
theorem max2 : maximumf (F := Ideal) (s := M2 R C) (φ := φ) (of2 f) (of2 g) = of2 fun i j => max (f i j) (g i j) := rfl
theorem abs2 : absf (F := Ideal) (s := M2 R C) (φ := φ) (of2 f) = of2 fun i j => ab (f i j) := rfl
theorem ext_2 (h : φ.bits < φ'.bits) : extf (F := Ideal) (s := M2 R C) (φ := φ) φ' (of2 f) h = of2 f := rfl
theorem trunc2 (h : φ'.bits < φ.bits) : truncf (F := Ideal) (s := M2 R C) (φ := φ) φ' (of2 f) h = of2 f := rfl
theorem rsqrt2 : rsqrt (F := Ideal) (s := M2 R C) (φ := φ) (of2 f) = of2 fun i j => Ideal.rsqrt (f i j) := rfl
theorem exp2_2 : exp2 (F := Ideal) (s := M2 R C) (φ := φ) (of2 f) = of2 fun i j => Ideal.exp2 (f i j) := rfl
theorem bc2 (b : BitVec 32) : broadcast (M2 R C) (Scalar.ofBits (F := Ideal) .f32 b) = of2 fun _ _ => Ideal.ofBits .f32 b := rfl
theorem bct2 (b : BitVec 32) (h) : broadcast (M2 R C) (Scalar.truncf (F := Ideal) (φ := .f32) .bf16 h (Scalar.ofBits .f32 b)) = of2 fun _ _ => Ideal.ofBits .f32 b := rfl
theorem mul3 : mulf (F := Ideal) (s := M3 A R C) (φ := φ) (of3 f3) (of3 g3) = of3 fun a i j => f3 a i j * g3 a i j := rfl
theorem min3 : minimumf (F := Ideal) (s := M3 A R C) (φ := φ) (of3 f3) (of3 g3) = of3 fun a i j => min (f3 a i j) (g3 a i j) := rfl
theorem max3 : maximumf (F := Ideal) (s := M3 A R C) (φ := φ) (of3 f3) (of3 g3) = of3 fun a i j => max (f3 a i j) (g3 a i j) := rfl
theorem abs3 : absf (F := Ideal) (s := M3 A R C) (φ := φ) (of3 f3) = of3 fun a i j => ab (f3 a i j) := rfl
theorem trunc3 (h : φ'.bits < φ.bits) : truncf (F := Ideal) (s := M3 A R C) (φ := φ) φ' (of3 f3) h = of3 f3 := rfl
theorem bc3 (b : BitVec 32) : broadcast (M3 A R C) (Scalar.ofBits (F := Ideal) .f32 b) = of3 fun _ _ _ => Ideal.ofBits .f32 b := rfl
end

/-- A tile loaded from a buffer given by coordinates. -/
theorem at2 {α : Type} {R C a b r c : Nat} (h1 : a + r ≤ R) (h2 : b + c ≤ C) (f : ℕ → ℕ → α) :
    (fun x => (of2 f : (M2 R C).Idx → α) ((R2 a b r c h1 h2).idx x)) = (of2 fun i j => f (a + i) (b + j) : (M2 r c).Idx → α) := by
  funext x
  show f (a + 1 * (x 0).val) (b + 1 * (x 1).val) = f (a + (x 0).val) (b + (x 1).val)
  rw [Nat.one_mul, Nat.one_mul]

/-! ## The tiles of the output gradient -/

section Dy
variable (f : ℕ → ℕ → EReal)

theorem dyTile_of2 : dyTile (F := Ideal) (of2 f) = of2 f := cast_self _ _

theorem rowAmax_of2 : rowAmax (F := Ideal) (of2 f) = of2 fun i _ => mx 128 (fun k => ab (f i k)) * c5 := by
  unfold rowAmax
  rw [abs2, ext_2]; erw [max_r2_1 _ _ _ _ _ ofBits_bot]; rw [cast_col, bc2, mul2]
  rfl

theorem colAmax_of2 : colAmax (F := Ideal) (of2 f) = of2 fun _ j => mx 128 (fun k => ab (f k j)) * c5 := by
  unfold colAmax
  rw [abs2]; erw [max_r2_0 _ _ _ _ _ ofBits_bot16]; rw [cast_row, ext_2, bc2, mul2]
  rfl

theorem e5Codes_of2 (g : ℕ → ℕ → EReal) : e5Codes (F := Ideal) (of2 f) (of2 g) = of2 fun i j => clip5 (f i j * g i j) := by
  unfold e5Codes
  rw [bct2, bct2, mul2, max2, min2, trunc2]
  rfl

theorem rowCodes_of2 : rowCodes (F := Ideal) (of2 f) = of2 fun i j => clip5 (f i j * isc (mx 128 (fun k => ab (f i k)) * c5)) := by
  unfold rowCodes
  rw [rowAmax_of2, invScale_of2, trunc2, bc_col, e5Codes_of2]

theorem colCodes_of2 : colCodes (F := Ideal) (of2 f) = of2 fun i j => clip5 (f i j * isc (mx 128 (fun k => ab (f k j)) * c5)) := by
  unfold colCodes
  rw [colAmax_of2, invScale_of2, trunc2, bc_row, e5Codes_of2]

theorem dyqTile_of2 : dyqTile (F := Ideal) (of2 f) =
    of2 fun i j => clip5 (f i j * isc (mx 128 (fun k => ab (f i k)) * c5)) * sc (mx 128 (fun k => ab (f i k)) * c5) := by
  unfold dyqTile
  rw [cast_self, rowCodes_of2, ext_2, rowAmax_of2, scale_of2, trunc2, bc_col, mul2]

/-- A choice by lane. -/
theorem lane_sel {β : Type} (a l : ℕ) (ha : a < 4294967296) (hl : l < 4294967296) (u v : β) :
    Scalar.select (IntOp.cmpi .eq (BitVec.ofNat 32 a) (BitVec.ofNat 32 l)) u v = if a = l then u else v := by
  by_cases e : a = l
  · subst e; simp [Scalar.select, IntOp.cmpi]
  · have : BitVec.ofNat 32 a ≠ BitVec.ofNat 32 l := fun h => e (by
      have := congrArg BitVec.toNat h
      rw [BitVec.toNat_ofNat, BitVec.toNat_ofNat, Nat.mod_eq_of_lt ha, Nat.mod_eq_of_lt hl] at this
      exact this)
    rw [if_neg e]
    unfold Scalar.select IntOp.cmpi
    refine if_neg fun h => ?_
    have h' : BitVec.ofBool (BitVec.ofNat 32 a == BitVec.ofNat 32 l) = 1#1 := h
    rw [beq_false_of_ne this] at h'
    exact absurd h' (by decide)

theorem iota_col {R C : ℕ} (h) (x : (M2 R C).Idx) : iota .tc (M2 R C) 32 [1] h x = BitVec.ofNat 32 (x 1).val := by
  refine congrArg (BitVec.ofNat 32) (?_ : 0 * C + (x 1).val = (x 1).val)
  rw [Nat.zero_mul, Nat.zero_add]

theorem iota_row {R C : ℕ} (h) (x : (M2 R C).Idx) : iota .tc (M2 R C) 32 [0] h x = BitVec.ofNat 32 (x 0).val := by
  refine congrArg (BitVec.ofNat 32) (?_ : 0 * R + (x 0).val = (x 0).val)
  rw [Nat.zero_mul, Nat.zero_add]

theorem cmpi_at {s : Shape} (p) (a b : IVec s 32) (x : s.Idx) : cmpi p a b x = IntOp.cmpi p (a x) (b x) := rfl

theorem rowScaleLanes_at (l : ℕ) (hl : l < 44) (d : FVec Ideal (M2 128 128) .bf16) (rs : FVec Ideal (M2 128 44) .f32) (x : (M2 128 44).Idx) :
    rowScaleLanes (BitVec.ofNat 32 l) d rs x =
      if (x 1).val = l then (broadcastTo (M2 128 44) (scale (rowAmax d)) (by decide) : FVec Ideal (M2 128 44) .f32) x else rs x := by
  have hx : (x 1).val < 44 := (x 1).isLt
  unfold rowScaleLanes
  rw [cast_self, sel_at, cmpi_at, iota_col, bc_at]
  exact lane_sel (x 1).val l (Nat.lt_trans hx (by decide)) (Nat.lt_trans hl (by decide)) _ _

theorem rowScaleBc_of2 : broadcastTo (M2 128 44) (scale (rowAmax (F := Ideal) (of2 f))) (by decide) =
    of2 fun i _ => sc (mx 128 (fun k => ab (f i k)) * c5) := by
  rw [rowAmax_of2, scale_of2, bc_col]
end Dy

end Cert.Spec
-- ==== Proof.XTiles.lean ====
module

public import proofs.«01_k».proof.Proof.Tiles
public import Idealize.ShloMosaic.Lib.MatmulPlain

/-! What the body's functions of the activations, the products and the backward pass make of tiles given by coordinates. -/

@[expose] public section

noncomputable section

namespace Cert.Spec

open Idealize.ShloMosaic Cert.Code

/-! ## Sums by blocks -/

theorem sum_blocks (B : ℕ) (f : ℕ → EReal) (n : ℕ) :
    ∑ l ∈ Finset.range B, ∑ c ∈ Finset.range n, f (B * c + l) = ∑ k ∈ Finset.range (B * n), f k := by
  induction n with
  | zero => simp
  | succ n ih =>
    rw [Nat.mul_succ, Finset.sum_range_add, ← ih, ← Finset.sum_add_distrib]
    exact Finset.sum_congr rfl fun l _ => Finset.sum_range_succ _ _

theorem ofBits_zero' : Ideal.ofBits .f32 0x00000000#32 = 0 := by simp [Ideal.ofBits, Ideal.ieee]

/-! ## Loads and transposes -/

theorem at3 {α : Type} {A R C d a b u r c : Nat} (h0 : d + u ≤ A) (h1 : a + r ≤ R) (h2 : b + c ≤ C) (f : ℕ → ℕ → ℕ → α) :
    (fun x => (of3 f : (M3 A R C).Idx → α) ((R3 d a b u r c h0 h1 h2).idx x)) =
      (of3 fun k i j => f (d + k) (a + i) (b + j) : (M3 u r c).Idx → α) := by
  funext x
  show f (d + 1 * (x 0).val) (a + 1 * (x 1).val) (b + 1 * (x 2).val) = f (d + (x 0).val) (a + (x 1).val) (b + (x 2).val)
  rw [Nat.one_mul, Nat.one_mul, Nat.one_mul]

theorem transpose2 {α : Type} {R C : Nat} (f : ℕ → ℕ → α) (h : (M2 R C).Transposes [1, 0] (M2 C R)) :
    transpose (M2 C R) [1, 0] (of2 f) h = of2 fun i j => f j i := funext fun y => by
  refine (transpose_apply [1, 0] (of2 f) h y (ix2 (y 1) (y 0)) fun b => ?_).trans rfl
  match b with
  | ⟨0, _⟩ => rfl
  | ⟨1, _⟩ => rfl

/-! ## The products -/

theorem matmul_NN {M K N : Nat} {φ₁ φ₂ : FTy} (f g : ℕ → ℕ → EReal) (prec) :
    matmul (F := Ideal) (φ₁ := φ₁) (φ₂ := φ₂) (DotDims.plain M K N) prec (of2 f) (of2 g) (constant (M2 M N) .f32 0x00000000#32) =
      of2 fun i j => ∑ k ∈ Finset.range K, f i k * g k j := funext fun y => by
  have e := Ideal.matmul_plain_apply (φ₁ := φ₁) (φ₂ := φ₂) prec (of2 f : (M2 M K).Idx → EReal) (of2 g : (M2 K N).Idx → EReal)
    (constant (F := Ideal) (M2 M N) .f32 0x00000000#32) (y 0) (y 1)
  rw [eq_ix2 y]
  refine e.trans ?_
  show Ideal.ofBits .f32 0x00000000#32 + ∑ k : Fin K, f (y 0).val k.val * g k.val (y 1).val = _
  rw [ofBits_zero', zero_add]
  exact (Finset.sum_range fun k => f (y 0).val k * g k (y 1).val).symm

theorem matmul_NT {M K N : Nat} {φ₁ φ₂ : FTy} (f g : ℕ → ℕ → EReal) (prec) :
    matmul (F := Ideal) (φ₁ := φ₁) (φ₂ := φ₂) (DotDims.transposedRhs M K N) prec (of2 f) (of2 g) (constant (M2 M N) .f32 0x00000000#32) =
      of2 fun i j => ∑ k ∈ Finset.range K, f i k * g j k := funext fun y => by
  have e := Ideal.matmul_transposedRhs_apply (φ₁ := φ₁) (φ₂ := φ₂) prec (of2 f : (M2 M K).Idx → EReal) (of2 g : (M2 N K).Idx → EReal)
    (constant (F := Ideal) (M2 M N) .f32 0x00000000#32) (y 0) (y 1)
  rw [eq_ix2 y]
  refine e.trans ?_
  show Ideal.ofBits .f32 0x00000000#32 + ∑ k : Fin K, f (y 0).val k.val * g (y 1).val k.val = _
  rw [ofBits_zero', zero_add]
  exact (Finset.sum_range fun k => f (y 0).val k * g (y 1).val k).symm

theorem wqTile_of2 (s : EReal) (f : ℕ → ℕ → EReal) : wqTile (F := Ideal) s (of2 f) = of2 fun i j => f i j * s := by
  unfold wqTile
  refine (cast_self _ _).trans ?_
  have e : (truncf .bf16 (broadcast (M2 1 128) s : FVec Ideal (M2 1 128) .f32) (by decide) : FVec Ideal (M2 1 128) .bf16) = of2 fun _ _ => s := rfl
  rw [ext_2, e, bc_row, mul2]

theorem accStrip_of2 (o f g : ℕ → ℕ → EReal) : accStrip (F := Ideal) (of2 o) (of2 f) (of2 g) =
    of2 fun i j => o i j + ∑ k ∈ Finset.range 512, f i k * g j k := by
  unfold accStrip
  refine (cast_self _ _).trans ?_
  have e : matmul (F := Ideal) (φ₁ := .bf16) (φ₂ := .bf16) dotNT none (of2 f) (of2 g) (constant (M2 1792 256) .f32 0x00000000#32) =
      of2 fun i j => ∑ k ∈ Finset.range 512, f i k * g j k := matmul_NT f g none
  rw [e, add2]

theorem dqTile_of3 (s c : ℕ → ℕ → ℕ → EReal) : dqTile (F := Ideal) (of3 s) (of3 c) = of2 fun i j => c 0 i j * s 0 0 j := by
  unfold dqTile
  refine (cast_self _ _).trans ?_
  rw [cast_unslab, cast_unslab, ext_2, trunc2, bc_row, mul2]

theorem dwTile_of2 (f g : ℕ → ℕ → EReal) : dwTile (F := Ideal) (of2 f) (of2 g) = of2 fun i j => ∑ k ∈ Finset.range 1792, f i k * g k j :=
  matmul_NN f g none

/-! ## The activations -/

section
variable (f g : ℕ → ℕ → EReal)

theorem xfTile_of2 (c hc) : xfTile (F := Ideal) c hc (of2 f) (of2 g) = of2 fun i j => f i j * g i c := by
  unfold xfTile
  rw [cast_self, cast_self, ext_2, slice2, bc_col, mul2]
  exact of2_congr fun i j _ _ => by rw [Nat.zero_add, Nat.add_zero]

theorem rmsInv_of2 : rmsInv (F := Ideal) (of2 f) = of2 fun i _ => Ideal.rsqrt ((∑ k ∈ Finset.range 128, f i k) * inv2048 + eps) := by
  unfold rmsInv
  erw [add_r2_1]; rw [cast_col, bc2, mul2, bc2, add2, rsqrt2]
  rfl

theorem xhatTile_of2 : xhatTile (F := Ideal) (of2 f) (of2 g) = of2 fun i j => f i j * g i 0 := by
  unfold xhatTile
  rw [bc_col, mul2]

theorem gRows_of2 : gRows (F := Ideal) (of2 g) = of2 fun _ j => g 0 j := by
  unfold gRows
  rw [cast_self, bc_row]

theorem xnHalf_of2 (t ht) : xnHalf (F := Ideal) t ht (of2 f) = of2 fun i j => f (128 * t + i) j := by
  unfold xnHalf
  rw [slice2]
  exact of2_congr fun i j _ _ => by rw [Nat.zero_add]

theorem xnAmax_of2 : xnAmax (F := Ideal) (of2 f) = of2 fun _ j => mx 128 (fun k => ab (f k j)) * c4 := by
  unfold xnAmax
  rw [abs2]; erw [max_r2_0 _ _ _ _ _ ofBits_bot]; rw [cast_row, bc2, mul2]
  rfl

theorem xnCodes_of2 : xnCodes (F := Ideal) (of2 f) = of2 fun i j => clip4 (f i j * isc (mx 128 (fun k => ab (f k j)) * c4)) := by
  unfold xnCodes
  rw [xnAmax_of2, invScale_of2, bc_row, mul2, bc2, bc2, max2, min2, trunc2]
  rfl

theorem xqtTile_of2 : xqtTile (F := Ideal) (of2 f) =
    of2 fun j i => clip4 (f i j * isc (mx 128 (fun k => ab (f k j)) * c4)) * sc (mx 128 (fun k => ab (f k j)) * c4) := by
  unfold xqtTile
  refine (cast_self _ _).trans ?_
  rw [xnCodes_of2, ext_2, xnAmax_of2, scale_of2, trunc2, bc_row, mul2, transpose2]

theorem xnScaleBc_of2 : broadcastTo (M2 14 128) (shapeCast (M2 1 128) (scale (xnAmax (F := Ideal) (of2 f))) (by decide)) (by decide) =
    of2 fun _ j => sc (mx 128 (fun k => ab (f k j)) * c4) := by
  rw [cast_self, xnAmax_of2, scale_of2, bc_row]
end

theorem xnScaleRows_at (l : ℕ) (hl : l < 14) (v : FVec Ideal (M2 128 128) .f32) (old : FVec Ideal (M2 14 128) .f32) (x : (M2 14 128).Idx) :
    xnScaleRows (BitVec.ofNat 32 l) v old x = if (x 0).val = l then
      (broadcastTo (M2 14 128) (shapeCast (M2 1 128) (scale (xnAmax v)) (by decide)) (by decide) : FVec Ideal (M2 14 128) .f32) x else old x := by
  have hx : (x 0).val < 14 := (x 0).isLt
  unfold xnScaleRows
  rw [cast_self old, sel_at, cmpi_at, iota_row, bc_at]
  exact lane_sel (x 0).val l (Nat.lt_trans hx (by decide)) (Nat.lt_trans hl (by decide)) _ _

/-! ## The backward pass -/

section
variable (o f h : ℕ → ℕ → EReal)

theorem dgTile_of2 : dgTile (F := Ideal) (of2 o) (of2 f) (of2 h) = of2 fun i j => o i j + ∑ k ∈ Finset.range 32, f (k * 8 + i) j * h (k * 8 + i) j := by
  unfold dgTile
  refine (cast_self _ _).trans ?_
  rw [mul2, cast_rows (A := 32) (B := 8) (by decide)]
  erw [add_r3_0]
  rw [add2]

theorem sTile_of2 (g : ℕ → ℕ → EReal) : sTile (F := Ideal) (of2 f) (of2 h) (of2 g) = of2 fun i j => f i j * g 0 j * h i j := by
  unfold sTile
  rw [gRows_of2, mul2, mul2]

theorem rowMean_of2 : rowMean (F := Ideal) (of2 f) = of2 fun i _ => (∑ k ∈ Finset.range 128, f i k) * inv2048 := by
  unfold rowMean
  erw [add_r2_1]; rw [cast_col, bc2, mul2]
  rfl

theorem dxTile_of2 (g r c : ℕ → ℕ → EReal) : dxTile (F := Ideal) (of2 f) (of2 h) (of2 g) (of2 r) (of2 c) =
    of2 fun i j => r i 0 * (f i j * g 0 j - h i j * r i 0 * c i 0) := by
  unfold dxTile
  rw [gRows_of2, xhatTile_of2, bc_col, bc_col, mul2, mul2, sub2, mul2, trunc2]

theorem dgSum_of2 : dgSum (F := Ideal) (of2 f) = of2 fun _ j => ∑ k ∈ Finset.range 8, f k j := by
  unfold dgSum
  erw [add_r2_0]; rw [cast_row]
end

end Cert.Spec
-- ==== Proof.Exec.lean ====
module

public import proofs.«01_k».proof.Proof.Keep

/-! Running the body's pieces: what a load reads, what a store leaves, and what a loop keeps. -/

@[expose] public section

noncomputable section

namespace Cert.Code

open Idealize.ShloMosaic Idealize.SL.Sem
open Cert.Model

variable {F : FTy → Type} [FloatOps F] {sig : RefSig} {m : fam.Mems sig} {α β : Type}

theorem run_ld {b : B} {r : Rect (sh b)} {h : (m b).view.LoadsAt r.toLoadRect} (σ : fam.State (Elt F)) :
    run (ld (F := F) b r h) σ = (fun x => σ b (r.idx x), σ) := rfl

theorem run_st {b : B} {r : Rect (sh b)} {w : r.shape.Idx → Elt F (el b)} {h : ((m b).access r).Stores Finset.univ} (σ : fam.State (Elt F)) :
    run (st b r w h) σ = (⟨⟩, upd σ b r w) := rfl

theorem upd_ne (σ : fam.State (Elt F)) (b b' : B) (r : Rect (sh b)) (w : r.shape.Idx → Elt F (el b)) (h : b' ≠ b) :
    upd σ b r w b' = σ b' := Function.update_of_ne h _ _

theorem upd_hit (σ : fam.State (Elt F)) (b : B) (r : Rect (sh b)) (w : r.shape.Idx → Elt F (el b)) (x : r.shape.Idx) :
    upd σ b r w b (r.idx x) = w x := by
  unfold upd
  rw [Function.update_self]
  exact Rect.overlay_emb r _ _ x

theorem upd_off (σ : fam.State (Elt F)) (b : B) (r : Rect (sh b)) (w : r.shape.Idx → Elt F (el b)) (y : (sh b).Idx)
    (h : ∀ x, r.idx x ≠ y) : upd σ b r w b y = σ b y := by
  unfold upd
  rw [Function.update_self]
  exact Rect.overlay_of_not_mem r _ _ fun hm => by
    obtain ⟨x, hx⟩ := r.exists_idx_of_mem hm
    exact h x hx

/-! ## What a piece leaves alone -/

/-- The program leaves one element of one buffer as it was. -/
structure Leaves (b : B) (y : (sh b).Idx) (p : P F m α) : Prop where
  on : ∀ σ : fam.State (Elt F), (run p σ).2 b y = σ b y

variable {b : B} {y : (sh b).Idx}

theorem leaves_ret (a : α) : Leaves b y (.ret a : P F m α) := ⟨fun _ => rfl⟩

theorem leaves_bind {p : P F m α} {k : α → P F m β} (hp : Leaves b y p) (hk : ∀ a, Leaves b y (k a)) : Leaves b y (p >>= k) := ⟨fun σ => by
  rw [run_bind]
  exact ((hk _).on _).trans (hp.on σ)⟩

theorem leaves_ld {b' : B} {r : Rect (sh b')} {h : (m b').view.LoadsAt r.toLoadRect} : Leaves b y (ld (F := F) b' r h) := ⟨fun _ => rfl⟩

theorem leaves_st {b' : B} {r : Rect (sh b')} {w : r.shape.Idx → Elt F (el b')} {h : ((m b').access r).Stores Finset.univ} (hb : b ≠ b') :
    Leaves b y (st b' r w h) := ⟨fun σ => congrFun (upd_ne σ b' b r w hb) y⟩

theorem leaves_off {r : Rect (sh b)} {w : r.shape.Idx → Elt F (el b)} {h : ((m b).access r).Stores Finset.univ} (hb : ∀ x, r.idx x ≠ y) :
    Leaves b y (st b r w h) := ⟨fun σ => upd_off σ b r w y hb⟩

/-- The rectangle of one buffer does not hold an element of another, or of the same. -/
def Off (b : B) (y : (sh b).Idx) (b' : B) (r : Rect (sh b')) : Prop := ∀ (e : b = b') (x : r.shape.Idx), r.idx x ≠ (e ▸ y : (sh b').Idx)

theorem off_ne {b' : B} {r : Rect (sh b')} (h : b ≠ b') : Off b y b' r := fun e => absurd e h

theorem off_mk {r : Rect (sh b)} (h : ∀ x, r.idx x ≠ y) : Off b y b r := fun _ x => h x

theorem leaves_sto {b' : B} {r : Rect (sh b')} {w : r.shape.Idx → Elt F (el b')} {h : ((m b').access r).Stores Finset.univ} (ho : Off b y b' r) :
    Leaves b y (st b' r w h) := by
  by_cases e : b = b'
  · subst e; exact leaves_off (ho rfl)
  · exact leaves_st e

theorem leaves_loopGo {n : Nat} {f : (k : Nat) → k < n → α → P F m α} (hf : ∀ k h a, Leaves b y (f k h a)) :
    ∀ (r s : Nat) (h : s + r = n) (a : α), Leaves b y (loopGo f r s h a)
  | 0, _, _, a => leaves_ret a
  | r + 1, s, h, a => leaves_bind (hf _ _ _) fun _ => leaves_loopGo hf r (s + 1) _ _

theorem leaves_loop {n s : Nat} {h : s ≤ n} {a : α} {f : (k : Nat) → k < n → α → P F m α} (hf : ∀ k h a, Leaves b y (f k h a)) :
    Leaves b y (loop n s h a f) := leaves_loopGo hf _ _ _ _

/-! ## Loops -/

theorem loopGo_inv {n : Nat} {f : (k : Nat) → k < n → α → P F m α} (I : Nat → α → fam.State (Elt F) → Prop)
    (hf : ∀ k h a σ, I k a σ → I (k + 1) (run (f k h a) σ).1 (run (f k h a) σ).2) :
    ∀ (r s : Nat) (h : s + r = n) (a : α) (σ : fam.State (Elt F)), I s a σ → I n (run (loopGo f r s h a) σ).1 (run (loopGo f r s h a) σ).2
  | 0, s, h, a, σ, hI => by
    have : s = n := by omega
    exact this ▸ hI
  | r + 1, s, h, a, σ, hI => by
    show I n (run ((f s _ a) >>= fun b => loopGo f r (s + 1) _ b) σ).1 (run ((f s _ a) >>= fun b => loopGo f r (s + 1) _ b) σ).2
    rw [run_bind]
    exact loopGo_inv I hf r (s + 1) _ _ _ (hf s _ a σ hI)

/-- What every trip carries on holds at the end. -/
theorem loop_inv {n s : Nat} {h : s ≤ n} {a : α} {f : (k : Nat) → k < n → α → P F m α} (I : Nat → α → fam.State (Elt F) → Prop)
    (σ : fam.State (Elt F)) (h0 : I s a σ) (hf : ∀ k h a σ, I k a σ → I (k + 1) (run (f k h a) σ).1 (run (f k h a) σ).2) :
    I n (run (loop n s h a f) σ).1 (run (loop n s h a f) σ).2 := loopGo_inv I hf _ _ _ a σ h0

/-- An element only trip `k₀` writes holds what that trip writes there, whatever it starts from among the states the trips keep. -/
theorem loop_at {n s : Nat} {h : s ≤ n} {a : α} {f : (k : Nat) → k < n → α → P F m α} (K : fam.State (Elt F) → Prop)
    (hK : ∀ k h a σ, K σ → K (run (f k h a) σ).2) (k₀ : Nat) (hs : s ≤ k₀) (hn : k₀ < n) (v : Elt F (el b))
    (hit : ∀ h a σ, K σ → (run (f k₀ h a) σ).2 b y = v) (miss : ∀ k h a, k ≠ k₀ → Leaves b y (f k h a))
    (σ : fam.State (Elt F)) (h0 : K σ) : (run (loop n s h a f) σ).2 b y = v := by
  refine (loop_inv (fun k _ σ => K σ ∧ (k₀ < k → σ b y = v)) σ ⟨h0, fun h => absurd h (by omega)⟩ ?_).2 hn
  intro k h a σ hI
  refine ⟨hK k h a σ hI.1, fun hk => ?_⟩
  by_cases e : k = k₀
  · subst e; exact hit h a σ hI.1
  · rw [(miss k h a e).on σ]
    exact hI.2 (by omega)

/-- The inputs hold what `σ₀` holds. -/
def SameIn (σ₀ σ : fam.State (Elt F)) : Prop := ∀ b : B, b.isIn = true → σ b = σ₀ b

theorem Keep.same {p : P F m α} (hp : Keep p) {σ₀ σ : fam.State (Elt F)} (h : SameIn σ₀ σ) : SameIn σ₀ (run p σ).2 :=
  fun b hb => (hp.on σ b hb).trans (h b hb)

/-! ## Coordinates in rectangles -/

theorem off2_row {R C a b r c : Nat} {h1 : a + r ≤ R} {h2 : b + c ≤ C} {y : (M2 R C).Idx} (h : (y 0).val < a ∨ a + r ≤ (y 0).val) (x) :
    (R2 a b r c h1 h2).idx x ≠ y := by
  rintro rfl
  have e : ((R2 a b r c h1 h2).idx x 0).val = a + 1 * (x 0).val := rfl
  have l : (x 0).val < r := (x 0).isLt
  omega

theorem off2_col {R C a b r c : Nat} {h1 : a + r ≤ R} {h2 : b + c ≤ C} {y : (M2 R C).Idx} (h : (y 1).val < b ∨ b + c ≤ (y 1).val) (x) :
    (R2 a b r c h1 h2).idx x ≠ y := by
  rintro rfl
  have e : ((R2 a b r c h1 h2).idx x 1).val = b + 1 * (x 1).val := rfl
  have l : (x 1).val < c := (x 1).isLt
  omega

theorem off3 {A R C d a b u r c : Nat} {h0 : d + u ≤ A} {h1 : a + r ≤ R} {h2 : b + c ≤ C} {y : (M3 A R C).Idx}
    (h : ((y 0).val < d ∨ d + u ≤ (y 0).val) ∨ ((y 1).val < a ∨ a + r ≤ (y 1).val) ∨ ((y 2).val < b ∨ b + c ≤ (y 2).val)) (x) :
    (R3 d a b u r c h0 h1 h2).idx x ≠ y := by
  rintro rfl
  have e0 : ((R3 d a b u r c h0 h1 h2).idx x 0).val = d + 1 * (x 0).val := rfl
  have e1 : ((R3 d a b u r c h0 h1 h2).idx x 1).val = a + 1 * (x 1).val := rfl
  have e2 : ((R3 d a b u r c h0 h1 h2).idx x 2).val = b + 1 * (x 2).val := rfl
  have l0 : (x 0).val < u := (x 0).isLt
  have l1 : (x 1).val < r := (x 1).isLt
  have l2 : (x 2).val < c := (x 2).isLt
  omega

theorem in2 {R C a b r c : Nat} {h1 : a + r ≤ R} {h2 : b + c ≤ C} (y : (M2 R C).Idx)
    (h : a ≤ (y 0).val ∧ (y 0).val < a + r ∧ b ≤ (y 1).val ∧ (y 1).val < b + c) :
    ∃ x : (M2 r c).Idx, (R2 a b r c h1 h2).idx x = y ∧ (x 0).val = (y 0).val - a ∧ (x 1).val = (y 1).val - b := by
  refine ⟨fun i => match i with | ⟨0, _⟩ => ⟨(y 0).val - a, by show _ < r; omega⟩ | ⟨1, _⟩ => ⟨(y 1).val - b, by show _ < c; omega⟩, ?_, rfl, rfl⟩
  funext i
  apply Fin.ext
  match i with
  | ⟨0, _⟩ => show a + 1 * ((y 0).val - a) = (y 0).val; omega
  | ⟨1, _⟩ => show b + 1 * ((y 1).val - b) = (y 1).val; omega

theorem in3 {A R C d a b u r c : Nat} {h0 : d + u ≤ A} {h1 : a + r ≤ R} {h2 : b + c ≤ C} (y : (M3 A R C).Idx)
    (h : (d ≤ (y 0).val ∧ (y 0).val < d + u) ∧ a ≤ (y 1).val ∧ (y 1).val < a + r ∧ b ≤ (y 2).val ∧ (y 2).val < b + c) :
    ∃ x : (M3 u r c).Idx, (R3 d a b u r c h0 h1 h2).idx x = y ∧ (x 0).val = (y 0).val - d ∧ (x 1).val = (y 1).val - a ∧ (x 2).val = (y 2).val - b := by
  refine ⟨fun i => match i with
    | ⟨0, _⟩ => ⟨(y 0).val - d, by show _ < u; omega⟩
    | ⟨1, _⟩ => ⟨(y 1).val - a, by show _ < r; omega⟩
    | ⟨2, _⟩ => ⟨(y 2).val - b, by show _ < c; omega⟩, ?_, rfl, rfl, rfl⟩
  funext i
  apply Fin.ext
  match i with
  | ⟨0, _⟩ => show d + 1 * ((y 0).val - d) = (y 0).val; omega
  | ⟨1, _⟩ => show a + 1 * ((y 1).val - a) = (y 1).val; omega
  | ⟨2, _⟩ => show b + 1 * ((y 2).val - b) = (y 2).val; omega

theorem upd_self (σ : fam.State (Elt F)) (b : B) (r : Rect (sh b)) (w : r.shape.Idx → Elt F (el b)) : upd σ b r w b = r.overlay (σ b) w :=
  Function.update_self _ _ _

theorem at_ne (σ : fam.State (Elt F)) (b b' : B) (r : Rect (sh b')) (w : r.shape.Idx → Elt F (el b')) (h : b ≠ b') (y : (sh b).Idx) :
    upd σ b' r w b y = σ b y := congrFun (upd_ne σ b' b r w h) y

theorem at_self (σ : fam.State (Elt F)) (b : B) (r : Rect (sh b)) (w : r.shape.Idx → Elt F (el b)) (y : (sh b).Idx) :
    upd σ b r w b y = r.overlay (σ b) w y := congrFun (upd_self σ b r w) y

end Cert.Code
-- ==== Proof.DyVal.lean ====
module

public import proofs.«01_k».proof.Proof.Exec
public import proofs.«01_k».proof.Proof.Tiles

/-! What the quantiser of the output gradient leaves in each buffer. -/

@[expose] public section

noncomputable section

namespace Cert.Spec

open Idealize.ShloMosaic Idealize.SL.Sem
open Cert.Model Cert.Code

abbrev S := fam.State (Elt Ideal)

variable {sig : RefSig} {m : fam.Mems sig} (hm : ∀ b, (m b).IsWhole) (I : Inp)

/-! ## Reading what was stored -/

theorem overlay2 {α : Type} {R C a b r c : ℕ} {h1 : a + r ≤ R} {h2 : b + c ≤ C} (X : (M2 R C).Idx → α) {w : (M2 r c).Idx → α} {f : ℕ → ℕ → α}
    (hw : w = of2 f) (y : (M2 R C).Idx) (hy : a ≤ (y 0).val ∧ (y 0).val < a + r ∧ b ≤ (y 1).val ∧ (y 1).val < b + c) :
    (R2 a b r c h1 h2).overlay X w y = f ((y 0).val - a) ((y 1).val - b) := by
  obtain ⟨x, hx, e0, e1⟩ := in2 (h1 := h1) (h2 := h2) y hy
  subst hw
  rw [← e0, ← e1, ← hx]
  exact Rect.overlay_emb (R2 a b r c h1 h2) X (of2 f) x

theorem overlay3 {α : Type} {A R C d a b u r c : ℕ} {h0 : d + u ≤ A} {h1 : a + r ≤ R} {h2 : b + c ≤ C} (X : (M3 A R C).Idx → α)
    {w : (M3 u r c).Idx → α} {f : ℕ → ℕ → ℕ → α} (hw : w = of3 f) (y : (M3 A R C).Idx)
    (hy : (d ≤ (y 0).val ∧ (y 0).val < d + u) ∧ a ≤ (y 1).val ∧ (y 1).val < a + r ∧ b ≤ (y 2).val ∧ (y 2).val < b + c) :
    (R3 d a b u r c h0 h1 h2).overlay X w y = f ((y 0).val - d) ((y 1).val - a) ((y 2).val - b) := by
  obtain ⟨x, hx, e0, e1, e2⟩ := in3 (h0 := h0) (h1 := h1) (h2 := h2) y hy
  subst hw
  rw [← e0, ← e1, ← e2, ← hx]
  exact Rect.overlay_emb (R3 d a b u r c h0 h1 h2) X (of3 f) x

/-- The block of the output gradient at a step. -/
def HasDy (n : ℕ) (σ : S) : Prop := σ .a2 = of2 fun i j => I.dy i (512 * n + j)

theorem HasDy.keep {n : ℕ} {α : Type} {p : P Ideal m α} (hp : Keep p) {σ : S} (h : HasDy I n σ) : HasDy I n (run p σ).2 :=
  (hp.on σ .a2 rfl).trans h

/-- The tile a trip loads. -/
abbrev dyAt (σ : S) (tb cb : ℕ) (ht : tb < 14) (hc : cb < 4) : FVec Ideal (M2 128 128) .bf16 :=
  fun x => σ .a2 ((R2 (128 * tb) (128 * cb) 128 128 (by omega) (by omega)).idx x)

theorem dyAt_eq {n : ℕ} {σ : S} (h : HasDy I n σ) {tb cb : ℕ} (ht : tb < 14) (hc : cb < 4) :
    dyTile (dyAt σ tb cb ht hc) = of2 fun i j => I.dy (128 * tb + i) (128 * (4 * n + cb) + j) := by
  refine (cast_self _ _).trans ?_
  unfold dyAt
  rw [show σ .a2 = _ from h]
  refine (at2 _ _ _).trans (of2_congr fun i j _ _ => ?_)
  exact congrArg (I.dy _) (by omega)

section Tile
variable (n : ℕ) (hn : n < 11) (tb : ℕ) (ht : tb < 14) (cb : ℕ) (hc : cb < 4) (rs : FVec Ideal (M2 128 44) .f32)

theorem dyTile_state (σ : S) : (run (quantDyTile m hm n hn tb ht cb hc rs) σ).2 =
    upd (upd (upd (upd (upd (upd σ
      .a12 (R2 (128 * tb) (128 * cb) 128 128 (by omega) (by omega)) (rowCodes (dyTile (dyAt σ tb cb ht hc))))
      .a18 (R2 (128 * tb) (128 * cb) 128 128 (by omega) (by omega)) (dyqTile (dyTile (dyAt σ tb cb ht hc))))
      .a14 (R2 (128 * tb) (128 * cb) 128 128 (by omega) (by omega)) (colCodes (dyTile (dyAt σ tb cb ht hc))))
      .a15 (R2 tb (128 * cb) 1 128 (by omega) (by omega)) (scale (colAmax (dyTile (dyAt σ tb cb ht hc)))))
      .a20 (R3 (slabOff n (cb / 2)) (128 * tb) (128 * (cb % 2)) 1 128 128 (by rw [slabOff_eq hn (by omega)]; omega) (by omega) (by omega))
        (shapeCast (M3 1 128 128) (colCodes (dyTile (dyAt σ tb cb ht hc))) (by decide)))
      .a21 (R3 (slabOff n (cb / 2)) tb (128 * (cb % 2)) 1 1 128 (by rw [slabOff_eq hn (by omega)]; omega) (by omega) (by omega))
        (shapeCast (M3 1 1 128) (scale (colAmax (dyTile (dyAt σ tb cb ht hc)))) (by decide)) := rfl

theorem dyTile_out (σ : S) : (run (quantDyTile m hm n hn tb ht cb hc rs) σ).1 =
    rowScaleLanes (Scalar.addi (Scalar.muli (stp n) 4#32) (BitVec.ofNat 32 cb)) (dyTile (dyAt σ tb cb ht hc)) rs := rfl

theorem tile_rcode (i j : ℕ) (hj : j < 128) : clip5 (I.dy (128 * tb + i) (128 * (4 * n + cb) + j) *
    isc (mx 128 (fun k => ab (I.dy (128 * tb + i) (128 * (4 * n + cb) + k))) * c5)) = I.rcode (128 * tb + i) (512 * n + (128 * cb + j)) := by
  unfold Inp.rcode Inp.rb
  rw [show (512 * n + (128 * cb + j)) / 128 = 4 * n + cb by omega, show 512 * n + (128 * cb + j) = 128 * (4 * n + cb) + j by omega]

theorem tile_ccode (i j : ℕ) (hi : i < 128) : clip5 (I.dy (128 * tb + i) (128 * (4 * n + cb) + j) *
    isc (mx 128 (fun k => ab (I.dy (128 * tb + k) (128 * (4 * n + cb) + j))) * c5)) = I.ccode (128 * tb + i) (512 * n + (128 * cb + j)) := by
  unfold Inp.ccode Inp.cb
  rw [show (128 * tb + i) / 128 = tb by omega, show 512 * n + (128 * cb + j) = 128 * (4 * n + cb) + j by omega]

theorem tile_cscale (j : ℕ) : sc (mx 128 (fun k => ab (I.dy (128 * tb + k) (128 * (4 * n + cb) + j))) * c5) = I.cscale tb (512 * n + (128 * cb + j)) := by
  unfold Inp.cscale Inp.cb
  rw [show 512 * n + (128 * cb + j) = 128 * (4 * n + cb) + j by omega]

variable {σ : S} (h : HasDy I n σ)
include h

theorem tile_a12 (y : (M2 1792 512).Idx) (hy : 128 * tb ≤ (y 0).val ∧ (y 0).val < 128 * tb + 128 ∧ 128 * cb ≤ (y 1).val ∧ (y 1).val < 128 * cb + 128) :
    (run (quantDyTile m hm n hn tb ht cb hc rs) σ).2 .a12 y = I.rcode (y 0).val (512 * n + (y 1).val) := by
  refine (congrFun (congrFun (dyTile_state hm n hn tb ht cb hc rs σ) .a12) y).trans ?_
  refine (at_ne _ .a12 _ _ _ (by decide) y).trans ?_
  refine (at_ne _ .a12 _ _ _ (by decide) y).trans ?_
  refine (at_ne _ .a12 _ _ _ (by decide) y).trans ?_
  refine (at_ne _ .a12 _ _ _ (by decide) y).trans ?_
  refine (at_ne _ .a12 _ _ _ (by decide) y).trans ?_
  refine (at_self _ .a12 _ _ y).trans ?_
  refine (overlay2 _ ((congrArg rowCodes (dyAt_eq I h ht hc)).trans (rowCodes_of2 _)) y hy).trans ?_
  refine (tile_rcode I n tb cb _ _ (by omega)).trans ?_
  rw [show 128 * tb + ((y 0).val - 128 * tb) = (y 0).val by omega, show 128 * cb + ((y 1).val - 128 * cb) = (y 1).val by omega]

theorem tile_a14 (y : (M2 1792 512).Idx) (hy : 128 * tb ≤ (y 0).val ∧ (y 0).val < 128 * tb + 128 ∧ 128 * cb ≤ (y 1).val ∧ (y 1).val < 128 * cb + 128) :
    (run (quantDyTile m hm n hn tb ht cb hc rs) σ).2 .a14 y = I.ccode (y 0).val (512 * n + (y 1).val) := by
  refine (congrFun (congrFun (dyTile_state hm n hn tb ht cb hc rs σ) .a14) y).trans ?_
  refine (at_ne _ .a14 _ _ _ (by decide) y).trans ?_
  refine (at_ne _ .a14 _ _ _ (by decide) y).trans ?_
  refine (at_ne _ .a14 _ _ _ (by decide) y).trans ?_
  refine (at_self _ .a14 _ _ y).trans ?_
  refine (overlay2 _ ((congrArg colCodes (dyAt_eq I h ht hc)).trans (colCodes_of2 _)) y hy).trans ?_
  refine (tile_ccode I n tb cb _ _ (by omega)).trans ?_
  rw [show 128 * tb + ((y 0).val - 128 * tb) = (y 0).val by omega, show 128 * cb + ((y 1).val - 128 * cb) = (y 1).val by omega]

theorem tile_a18 (y : (M2 1792 512).Idx) (hy : 128 * tb ≤ (y 0).val ∧ (y 0).val < 128 * tb + 128 ∧ 128 * cb ≤ (y 1).val ∧ (y 1).val < 128 * cb + 128) :
    (run (quantDyTile m hm n hn tb ht cb hc rs) σ).2 .a18 y = I.dyq (y 0).val (512 * n + (y 1).val) := by
  refine (congrFun (congrFun (dyTile_state hm n hn tb ht cb hc rs σ) .a18) y).trans ?_
  refine (at_ne _ .a18 _ _ _ (by decide) y).trans ?_
  refine (at_ne _ .a18 _ _ _ (by decide) y).trans ?_
  refine (at_ne _ .a18 _ _ _ (by decide) y).trans ?_
  refine (at_ne _ .a18 _ _ _ (by decide) y).trans ?_
  refine (at_self _ .a18 _ _ y).trans ?_
  refine (overlay2 _ ((congrArg dyqTile (dyAt_eq I h ht hc)).trans (dyqTile_of2 _)) y hy).trans ?_
  refine (congrArg (· * sc (mx 128 (fun k => ab (I.dy (128 * tb + ((y 0).val - 128 * tb)) (128 * (4 * n + cb) + k))) * c5))
    (tile_rcode I n tb cb _ _ (by omega))).trans ?_
  rw [show 128 * tb + ((y 0).val - 128 * tb) = (y 0).val by omega, show 128 * cb + ((y 1).val - 128 * cb) = (y 1).val by omega]
  unfold Inp.dyq Inp.rscale Inp.rb
  rw [show (512 * n + (y 1).val) / 128 = 4 * n + cb by omega]

theorem tile_a15 (y : (M2 14 512).Idx) (hy : tb ≤ (y 0).val ∧ (y 0).val < tb + 1 ∧ 128 * cb ≤ (y 1).val ∧ (y 1).val < 128 * cb + 128) :
    (run (quantDyTile m hm n hn tb ht cb hc rs) σ).2 .a15 y = I.cscale (y 0).val (512 * n + (y 1).val) := by
  refine (congrFun (congrFun (dyTile_state hm n hn tb ht cb hc rs σ) .a15) y).trans ?_
  refine (at_ne _ .a15 _ _ _ (by decide) y).trans ?_
  refine (at_ne _ .a15 _ _ _ (by decide) y).trans ?_
  refine (at_self _ .a15 _ _ y).trans ?_
  refine (overlay2 _ ((congrArg (fun v => scale (colAmax v)) (dyAt_eq I h ht hc)).trans ((congrArg scale (colAmax_of2 _)).trans (scale_of2 _))) y hy).trans ?_
  refine (tile_cscale I n tb cb _).trans ?_
  rw [show 128 * cb + ((y 1).val - 128 * cb) = (y 1).val by omega, show (y 0).val = tb by omega]

theorem tile_a20 (y : (M3 22 1792 256).Idx) (hy : (2 * n + cb / 2 ≤ (y 0).val ∧ (y 0).val < 2 * n + cb / 2 + 1) ∧
      128 * tb ≤ (y 1).val ∧ (y 1).val < 128 * tb + 128 ∧ 128 * (cb % 2) ≤ (y 2).val ∧ (y 2).val < 128 * (cb % 2) + 128) :
    (run (quantDyTile m hm n hn tb ht cb hc rs) σ).2 .a20 y = I.ccode (y 1).val (256 * (y 0).val + (y 2).val) := by
  refine (congrFun (congrFun (dyTile_state hm n hn tb ht cb hc rs σ) .a20) y).trans ?_
  refine (at_ne _ .a20 _ _ _ (by decide) y).trans ?_
  refine (at_self _ .a20 _ _ y).trans ?_
  have hs : slabOff n (cb / 2) = 2 * n + cb / 2 := slabOff_eq hn (by omega)
  refine (overlay3 _ ((congrArg (fun v => shapeCast (M3 1 128 128) (colCodes v) (by decide)) (dyAt_eq I h ht hc)).trans
    ((congrArg (fun v => shapeCast (M3 1 128 128) v (by decide)) (colCodes_of2 _)).trans (cast_slab _ _))) y (by rw [hs]; exact hy)).trans ?_
  refine (tile_ccode I n tb cb _ _ (by omega)).trans ?_
  rw [show 128 * tb + ((y 1).val - 128 * tb) = (y 1).val by omega]
  exact congrArg (I.ccode _) (by omega)

theorem tile_a21 (y : (M3 22 14 256).Idx) (hy : (2 * n + cb / 2 ≤ (y 0).val ∧ (y 0).val < 2 * n + cb / 2 + 1) ∧
      tb ≤ (y 1).val ∧ (y 1).val < tb + 1 ∧ 128 * (cb % 2) ≤ (y 2).val ∧ (y 2).val < 128 * (cb % 2) + 128) :
    (run (quantDyTile m hm n hn tb ht cb hc rs) σ).2 .a21 y = I.cscale (y 1).val (256 * (y 0).val + (y 2).val) := by
  refine (congrFun (congrFun (dyTile_state hm n hn tb ht cb hc rs σ) .a21) y).trans ?_
  refine (at_self _ .a21 _ _ y).trans ?_
  have hs : slabOff n (cb / 2) = 2 * n + cb / 2 := slabOff_eq hn (by omega)
  refine (overlay3 _ ((congrArg (fun v => shapeCast (M3 1 1 128) (scale (colAmax v)) (by decide)) (dyAt_eq I h ht hc)).trans
    ((congrArg (fun v => shapeCast (M3 1 1 128) v (by decide)) ((congrArg scale (colAmax_of2 _)).trans (scale_of2 _))).trans (cast_slab _ _))) y
      (by rw [hs]; exact hy)).trans ?_
  refine (tile_cscale I n tb cb _).trans ?_
  rw [show (y 1).val = tb by omega]
  exact congrArg (I.cscale _) (by omega)

end Tile

theorem leaves_quantDyTile {b : B} {y : (sh b).Idx} (n hn tb ht cb hc) (rs : FVec Ideal (M2 128 44) .f32)
    (h12 : Off b y .a12 (R2 (128 * tb) (128 * cb) 128 128 (by omega) (by omega)))
    (h18 : Off b y .a18 (R2 (128 * tb) (128 * cb) 128 128 (by omega) (by omega)))
    (h14 : Off b y .a14 (R2 (128 * tb) (128 * cb) 128 128 (by omega) (by omega)))
    (h15 : Off b y .a15 (R2 tb (128 * cb) 1 128 (by omega) (by omega)))
    (h20 : Off b y .a20 (R3 (slabOff n (cb / 2)) (128 * tb) (128 * (cb % 2)) 1 128 128 (by rw [slabOff_eq hn (by omega)]; omega) (by omega) (by omega)))
    (h21 : Off b y .a21 (R3 (slabOff n (cb / 2)) tb (128 * (cb % 2)) 1 1 128 (by rw [slabOff_eq hn (by omega)]; omega) (by omega) (by omega))) :
    Leaves b y (quantDyTile m hm n hn tb ht cb hc rs) :=
  leaves_bind leaves_ld fun _ => leaves_bind leaves_ld fun _ => leaves_bind (leaves_sto h12) fun _ => leaves_bind leaves_ld fun _ =>
    leaves_bind (leaves_sto h18) fun _ => leaves_bind leaves_ld fun _ => leaves_bind (leaves_sto h14) fun _ => leaves_bind leaves_ld fun _ =>
    leaves_bind (leaves_sto h15) fun _ => leaves_bind leaves_ld fun _ => leaves_bind (leaves_sto h20) fun _ => leaves_bind leaves_ld fun _ =>
    leaves_bind (leaves_sto h21) fun _ => leaves_ret _

/-- A buffer the quantiser of the output gradient does not store to. -/
theorem leaves_quantDy {b : B} {y : (sh b).Idx} (n hn) (h12 : b ≠ .a12) (h18 : b ≠ .a18) (h14 : b ≠ .a14) (h15 : b ≠ .a15) (h20 : b ≠ .a20)
    (h21 : b ≠ .a21) (h13 : b ≠ .a13) : Leaves b y (quantDy m hm n hn : P Ideal m _) :=
  leaves_loop fun _ _ _ => leaves_bind leaves_ld fun _ => leaves_bind (leaves_loop fun _ _ _ => leaves_quantDyTile hm _ _ _ _ _ _ _ (off_ne h12) (off_ne h18)
    (off_ne h14) (off_ne h15) (off_ne h20) (off_ne h21)) fun _ => leaves_bind leaves_ld fun _ => leaves_st h13

/-- One row of tiles. -/
def dyRow (n : ℕ) (hn : n < 11) (tb : ℕ) (ht : tb < 14) : P Ideal m PUnit := do
  let old ← ld .a13 (R2 (128 * tb) 0 128 44 (by omega) (by omega)) (View.loadsAt_vmem (by exact (by decide : 0 < (M2 128 44).numel)))
  let rs ← loop 4 0 (by decide) (shapeCast (s := M2 128 44) (M2 128 44) old (by decide)) fun cb hc rs => quantDyTile m hm n hn tb ht cb hc rs
  let _ ← ld .a13 (R2 (128 * tb) 0 128 44 (by omega) (by omega)) (View.loadsAt_vmem (by exact (by decide : 0 < (M2 128 44).numel)))
  st .a13 (R2 (128 * tb) 0 128 44 (by omega) (by omega)) rs (View.stores_vmem_bits_univ (by exact (by decide : 0 < (M2 128 44).numel)) rfl)

theorem quantDy_rows (n hn) : quantDy m hm n hn = loop 14 0 (by decide) ⟨⟩ fun tb ht _ => dyRow hm n hn tb ht := rfl

theorem keep_dyRow (n hn tb ht) : Keep (dyRow (m := m) hm n hn tb ht) :=
  keep_bind keep_ld fun _ => keep_bind (keep_loop fun _ _ _ => keep_quantDyTile hm ..) fun _ =>
      keep_bind keep_ld fun _ => keep_st rfl

/-- The lanes of row scales a row of tiles starts from, and the four trips over its tiles. -/
def oldLanes (σ : S) (tb : ℕ) (ht : tb < 14) : FVec Ideal (M2 128 44) .f32 :=
  shapeCast (s := M2 128 44) (M2 128 44) (fun x => σ .a13 ((R2 (128 * tb) 0 128 44 (by omega) (by omega)).idx x)) (by decide)

def dyTiles (n : ℕ) (hn : n < 11) (tb : ℕ) (ht : tb < 14) (rs : FVec Ideal (M2 128 44) .f32) : P Ideal m (FVec Ideal (M2 128 44) .f32) :=
  loop 4 0 (by decide) rs fun cb hc rs => quantDyTile m hm n hn tb ht cb hc rs

theorem dyRow_state (n hn tb ht) (σ : S) : (run (dyRow (m := m) hm n hn tb ht) σ).2 =
    upd (run (dyTiles (m := m) hm n hn tb ht (oldLanes σ tb ht)) σ).2 .a13 (R2 (128 * tb) 0 128 44 (by omega) (by omega))
      (run (dyTiles (m := m) hm n hn tb ht (oldLanes σ tb ht)) σ).1 := by
  unfold dyRow dyTiles oldLanes
  rw [run_bind, run_bind]
  rfl

theorem leaves_dyRow {b : B} {y : (sh b).Idx} (n hn tb ht) (h13 : b ≠ .a13)
    (hq : ∀ cb hc rs, Leaves b y (quantDyTile (F := Ideal) m hm n hn tb ht cb hc rs)) : Leaves b y (dyRow (m := m) hm n hn tb ht) := by
  unfold dyRow
  refine leaves_bind leaves_ld fun _ => leaves_bind (leaves_loop fun cb hc rs => hq cb hc rs) fun _ => leaves_bind leaves_ld fun _ => ?_
  exact leaves_st h13

/-- An element one tile's trip stores. -/
theorem quantDy_at {b : B} {y : (sh b).Idx} (n hn) (h13 : b ≠ .a13) (tb : ℕ) (ht : tb < 14) (cb : ℕ) (hc : cb < 4) (v : Elt Ideal (el b))
    (hit : ∀ rs (σ : S), HasDy I n σ → (run (quantDyTile m hm n hn tb ht cb hc rs) σ).2 b y = v)
    (miss : ∀ tb' ht' cb' hc' rs, tb' ≠ tb ∨ cb' ≠ cb → Leaves b y (quantDyTile (F := Ideal) m hm n hn tb' ht' cb' hc' rs))
    (σ : S) (h : HasDy I n σ) : (run (quantDy m hm n hn) σ).2 b y = v := by
  rw [quantDy_rows]
  refine loop_at (HasDy I n) (fun k hk _ σ h => HasDy.keep I (keep_dyRow hm ..) h) tb (by omega) ht v (fun _ _ σ h => ?_) (fun k hk _ e => ?_) σ h
  · rw [dyRow_state]
    refine (at_ne _ b .a13 _ _ h13 y).trans ?_
    unfold dyTiles
    refine loop_at (HasDy I n) (fun k hk _ σ h => ?_) cb (by omega) hc v (fun _ rs σ h => hit rs σ h) (fun k hk rs e => ?_) _ h
    · exact HasDy.keep I (keep_quantDyTile hm ..) h
    · exact miss _ _ _ _ _ (.inr e)
  · exact leaves_dyRow hm n hn k hk h13 fun cb' hc' rs => miss k hk cb' hc' rs (.inl e)

end Cert.Spec
-- ==== Proof.DyOut.lean ====
module

public import proofs.«01_k».proof.Proof.DyVal

/-! The buffers after the quantiser of the output gradient. -/

@[expose] public section

noncomputable section

namespace Cert.Spec

open Idealize.ShloMosaic Idealize.SL.Sem
open Cert.Model Cert.Code

variable {sig : RefSig} {m : fam.Mems sig} (hm : ∀ b, (m b).IsWhole) (I : Inp)

theorem off_block {R C tb cb : ℕ} {h1 : 128 * tb + 128 ≤ R} {h2 : 128 * cb + 128 ≤ C} {y : (M2 R C).Idx}
    (h : tb ≠ (y 0).val / 128 ∨ cb ≠ (y 1).val / 128) (x) : (R2 (128 * tb) (128 * cb) 128 128 h1 h2).idx x ≠ y := by
  rcases h with h | h
  · exact off2_row (by omega) x
  · exact off2_col (by omega) x

theorem off_line {R C tb cb : ℕ} {h1 : tb + 1 ≤ R} {h2 : 128 * cb + 128 ≤ C} {y : (M2 R C).Idx}
    (h : tb ≠ (y 0).val ∨ cb ≠ (y 1).val / 128) (x) : (R2 tb (128 * cb) 1 128 h1 h2).idx x ≠ y := by
  rcases h with h | h
  · exact off2_row (by omega) x
  · exact off2_col (by omega) x

section
variable (n : ℕ) (hn : n < 11) (σ : S)

theorem dy_a12 (h : HasDy I n σ) (y : (M2 1792 512).Idx) : (run (quantDy m hm n hn) σ).2 .a12 y = I.rcode (y 0).val (512 * n + (y 1).val) := by
  have h0 : (y 0).val < 1792 := (y 0).isLt
  have h1 : (y 1).val < 512 := (y 1).isLt
  refine quantDy_at hm I (b := .a12) (y := y) n hn (by decide) ((y 0).val / 128) (by omega) ((y 1).val / 128) (by omega) _
    (fun rs σ h => tile_a12 hm I n hn _ _ _ _ rs h y (by omega)) (fun tb' ht' cb' hc' rs e => ?_) σ h
  exact leaves_quantDyTile hm _ _ _ _ _ _ _ (off_mk (off_block e)) (off_ne (by decide)) (off_ne (by decide)) (off_ne (by decide))
    (off_ne (by decide)) (off_ne (by decide))

theorem dy_a18 (h : HasDy I n σ) (y : (M2 1792 512).Idx) : (run (quantDy m hm n hn) σ).2 .a18 y = I.dyq (y 0).val (512 * n + (y 1).val) := by
  have h0 : (y 0).val < 1792 := (y 0).isLt
  have h1 : (y 1).val < 512 := (y 1).isLt
  refine quantDy_at hm I (b := .a18) (y := y) n hn (by decide) ((y 0).val / 128) (by omega) ((y 1).val / 128) (by omega) _
    (fun rs σ h => tile_a18 hm I n hn _ _ _ _ rs h y (by omega)) (fun tb' ht' cb' hc' rs e => ?_) σ h
  exact leaves_quantDyTile hm _ _ _ _ _ _ _ (off_ne (by decide)) (off_mk (off_block e)) (off_ne (by decide)) (off_ne (by decide))
    (off_ne (by decide)) (off_ne (by decide))

theorem dy_a14 (h : HasDy I n σ) (y : (M2 1792 512).Idx) : (run (quantDy m hm n hn) σ).2 .a14 y = I.ccode (y 0).val (512 * n + (y 1).val) := by
  have h0 : (y 0).val < 1792 := (y 0).isLt
  have h1 : (y 1).val < 512 := (y 1).isLt
  refine quantDy_at hm I (b := .a14) (y := y) n hn (by decide) ((y 0).val / 128) (by omega) ((y 1).val / 128) (by omega) _
    (fun rs σ h => tile_a14 hm I n hn _ _ _ _ rs h y (by omega)) (fun tb' ht' cb' hc' rs e => ?_) σ h
  exact leaves_quantDyTile hm _ _ _ _ _ _ _ (off_ne (by decide)) (off_ne (by decide)) (off_mk (off_block e)) (off_ne (by decide))
    (off_ne (by decide)) (off_ne (by decide))

theorem dy_a15 (h : HasDy I n σ) (y : (M2 14 512).Idx) : (run (quantDy m hm n hn) σ).2 .a15 y = I.cscale (y 0).val (512 * n + (y 1).val) := by
  have h0 : (y 0).val < 14 := (y 0).isLt
  have h1 : (y 1).val < 512 := (y 1).isLt
  refine quantDy_at hm I (b := .a15) (y := y) n hn (by decide) (y 0).val (by omega) ((y 1).val / 128) (by omega) _
    (fun rs σ h => tile_a15 hm I n hn _ _ _ _ rs h y (by omega)) (fun tb' ht' cb' hc' rs e => ?_) σ h
  exact leaves_quantDyTile hm _ _ _ _ _ _ _ (off_ne (by decide)) (off_ne (by decide)) (off_ne (by decide)) (off_mk (off_line e))
    (off_ne (by decide)) (off_ne (by decide))

theorem dy_a20 (h : HasDy I n σ) (y : (M3 22 1792 256).Idx) (hy : (y 0).val / 2 = n) :
    (run (quantDy m hm n hn) σ).2 .a20 y = I.ccode (y 1).val (256 * (y 0).val + (y 2).val) := by
  have h0 : (y 0).val < 22 := (y 0).isLt
  have h1 : (y 1).val < 1792 := (y 1).isLt
  have h2 : (y 2).val < 256 := (y 2).isLt
  refine quantDy_at hm I (b := .a20) (y := y) n hn (by decide) ((y 1).val / 128) (by omega) (2 * ((y 0).val - 2 * n) + (y 2).val / 128) (by omega) _
    (fun rs σ h => tile_a20 hm I n hn _ _ _ _ rs h y (by omega)) (fun tb' ht' cb' hc' rs e => ?_) σ h
  refine leaves_quantDyTile hm _ _ _ _ _ _ _ (off_ne (by decide)) (off_ne (by decide)) (off_ne (by decide)) (off_ne (by decide))
    (off_mk (off3 ?_)) (off_ne (by decide))
  have hs : slabOff n (cb' / 2) = 2 * n + cb' / 2 := slabOff_eq hn (by omega)
  omega

theorem dy_a21 (h : HasDy I n σ) (y : (M3 22 14 256).Idx) (hy : (y 0).val / 2 = n) :
    (run (quantDy m hm n hn) σ).2 .a21 y = I.cscale (y 1).val (256 * (y 0).val + (y 2).val) := by
  have h0 : (y 0).val < 22 := (y 0).isLt
  have h1 : (y 1).val < 14 := (y 1).isLt
  have h2 : (y 2).val < 256 := (y 2).isLt
  refine quantDy_at hm I (b := .a21) (y := y) n hn (by decide) (y 1).val (by omega) (2 * ((y 0).val - 2 * n) + (y 2).val / 128) (by omega) _
    (fun rs σ h => tile_a21 hm I n hn _ _ _ _ rs h y (by omega)) (fun tb' ht' cb' hc' rs e => ?_) σ h
  refine leaves_quantDyTile hm _ _ _ _ _ _ _ (off_ne (by decide)) (off_ne (by decide)) (off_ne (by decide)) (off_ne (by decide))
    (off_ne (by decide)) (off_mk (off3 ?_))
  have hs : slabOff n (cb' / 2) = 2 * n + cb' / 2 := slabOff_eq hn (by omega)
  omega

/-- The slabs of other column blocks stay. -/
theorem dy_a20_off (y : (M3 22 1792 256).Idx) (hy : (y 0).val / 2 ≠ n) : Leaves (F := Ideal) .a20 y (quantDy m hm n hn) := by
  rw [quantDy_rows]
  refine leaves_loop fun tb ht _ => leaves_dyRow hm n hn tb ht (by decide) fun cb hc rs => ?_
  refine leaves_quantDyTile hm _ _ _ _ _ _ _ (off_ne (by decide)) (off_ne (by decide)) (off_ne (by decide)) (off_ne (by decide))
    (off_mk (off3 ?_)) (off_ne (by decide))
  have hs : slabOff n (cb / 2) = 2 * n + cb / 2 := slabOff_eq hn (by omega)
  omega

theorem dy_a21_off (y : (M3 22 14 256).Idx) (hy : (y 0).val / 2 ≠ n) : Leaves (F := Ideal) .a21 y (quantDy m hm n hn) := by
  rw [quantDy_rows]
  refine leaves_loop fun tb ht _ => leaves_dyRow hm n hn tb ht (by decide) fun cb hc rs => ?_
  refine leaves_quantDyTile hm _ _ _ _ _ _ _ (off_ne (by decide)) (off_ne (by decide)) (off_ne (by decide)) (off_ne (by decide))
    (off_ne (by decide)) (off_mk (off3 ?_))
  have hs : slabOff n (cb / 2) = 2 * n + cb / 2 := slabOff_eq hn (by omega)
  omega

/-! ## The lanes of row scales -/

include hn in
theorem lane_eq (cb : ℕ) (hc : cb < 4) : Scalar.addi (Scalar.muli (stp n) 4#32) (BitVec.ofNat 32 cb) = BitVec.ofNat 32 (4 * n + cb) :=
  (by decide +kernel : ∀ n : Fin 11, ∀ c : Fin 4, Scalar.addi (Scalar.muli (stp n) 4#32) (BitVec.ofNat 32 c) = BitVec.ofNat 32 (4 * n.val + c.val))
    ⟨n, hn⟩ ⟨cb, hc⟩

theorem tiles_in (tb ht) (rs : FVec Ideal (M2 128 44) .f32) (h : HasDy I n σ) (x : (M2 128 44).Idx) (hx : (x 1).val / 4 = n) :
    (run (dyTiles (m := m) hm n hn tb ht rs) σ).1 x = I.rscale (128 * tb + (x 0).val) (x 1).val := by
  unfold dyTiles
  refine (loop_inv (fun k (r : FVec Ideal (M2 128 44) .f32) σ => HasDy I n σ ∧ ((x 1).val < 4 * n + k → r x = I.rscale (128 * tb + (x 0).val) (x 1).val)) σ
    ⟨h, fun hk => absurd hk (by omega)⟩ ?_).2 (by omega)
  intro cb hc r σ hI
  refine ⟨HasDy.keep I (keep_quantDyTile hm ..) hI.1, fun hk => ?_⟩
  rw [dyTile_out, lane_eq n hn cb hc, rowScaleLanes_at _ (by omega)]
  by_cases e : (x 1).val = 4 * n + cb
  · rw [if_pos e, dyAt_eq I hI.1, rowScaleBc_of2, e]
    rfl
  · rw [if_neg e]
    exact hI.2 (by omega)

theorem tiles_out (tb ht) (rs : FVec Ideal (M2 128 44) .f32) (x : (M2 128 44).Idx) (hx : (x 1).val / 4 ≠ n) :
    (run (dyTiles (m := m) hm n hn tb ht rs) σ).1 x = rs x := by
  unfold dyTiles
  refine loop_inv (fun k (r : FVec Ideal (M2 128 44) .f32) _ => r x = rs x) σ rfl ?_
  intro cb hc r σ hI
  rw [dyTile_out, lane_eq n hn cb hc, rowScaleLanes_at _ (by omega), if_neg (by omega)]
  exact hI

theorem overlay_idx {R C a b r c : ℕ} {h1 : a + r ≤ R} {h2 : b + c ≤ C} {α : Type} (X : (M2 R C).Idx → α) (w : (M2 r c).Idx → α)
    (x : (M2 r c).Idx) : (R2 a b r c h1 h2).overlay X w ((R2 a b r c h1 h2).idx x) = w x :=
  Rect.overlay_emb (R2 a b r c h1 h2) X w x

theorem leaves_dyTiles {b : B} {y : (sh b).Idx} (tb ht rs) (hq : ∀ cb hc rs, Leaves b y (quantDyTile (F := Ideal) m hm n hn tb ht cb hc rs)) :
    Leaves b y (dyTiles (m := m) hm n hn tb ht rs) := leaves_loop fun cb hc rs => hq cb hc rs

theorem dy_a13 (h : HasDy I n σ) (y : (M2 1792 44).Idx) (hy : (y 1).val / 4 = n) :
    (run (quantDy m hm n hn) σ).2 .a13 y = I.rscale (y 0).val (y 1).val := by
  have h0 : (y 0).val < 1792 := (y 0).isLt
  have h1 : (y 1).val < 44 := (y 1).isLt
  rw [quantDy_rows]
  refine loop_at (b := .a13) (y := y) (HasDy I n) (fun k hk _ σ h => HasDy.keep I (keep_dyRow hm ..) h) ((y 0).val / 128) (by omega) (by omega) _
    (fun hk _ σ h => ?_) (fun k hk _ e => ?_) σ h
  · rw [dyRow_state]
    refine (at_self _ .a13 _ _ y).trans ?_
    obtain ⟨x, hx, e0, e1⟩ := in2 (R := 1792) (C := 44) (a := 128 * ((y 0).val / 128)) (b := 0) (r := 128) (c := 44) (h1 := by omega) (h2 := by omega) y (by omega)
    refine (congrArg _ hx.symm).trans ((overlay_idx _ _ x).trans ?_)
    refine (tiles_in hm I n hn σ _ _ _ h x (by omega)).trans ?_
    rw [show 128 * ((y 0).val / 128) + (x 0).val = (y 0).val by omega, show (x 1).val = (y 1).val by omega]
  · unfold dyRow
    refine leaves_bind leaves_ld fun _ => leaves_bind (leaves_loop fun cb hc rs => ?_) fun _ => leaves_bind leaves_ld fun _ => ?_
    · exact leaves_quantDyTile hm _ _ _ _ _ _ _ (off_ne (by decide)) (off_ne (by decide)) (off_ne (by decide)) (off_ne (by decide))
        (off_ne (by decide)) (off_ne (by decide))
    · exact leaves_off (off2_row (by omega))

theorem dy_a13_off (y : (M2 1792 44).Idx) (hy : (y 1).val / 4 ≠ n) : Leaves (F := Ideal) .a13 y (quantDy m hm n hn) := by
  have h0 : (y 0).val < 1792 := (y 0).isLt
  have h1 : (y 1).val < 44 := (y 1).isLt
  rw [quantDy_rows]
  refine leaves_loop fun tb ht _ => ⟨fun σ => ?_⟩
  rw [dyRow_state]
  refine (at_self _ .a13 _ _ y).trans ?_
  by_cases e : 128 * tb ≤ (y 0).val ∧ (y 0).val < 128 * tb + 128
  · obtain ⟨x, hx, e0, e1⟩ := in2 (R := 1792) (C := 44) (a := 128 * tb) (b := 0) (r := 128) (c := 44) (h1 := by omega) (h2 := by omega) y (by omega)
    refine (congrArg _ hx.symm).trans ((overlay_idx _ _ x).trans ?_)
    refine (tiles_out hm n hn σ _ _ _ x (by omega)).trans ?_
    unfold oldLanes
    rw [cast_self, hx]
  · refine (Rect.overlay_of_not_mem (R2 (128 * tb) 0 128 44 _ _) _ _ fun hmem => ?_).trans ?_
    · obtain ⟨x, hx⟩ := (R2 (128 * tb) 0 128 44 (by omega) (by omega) : Rect (M2 1792 44)).exists_idx_of_mem hmem
      exact off2_row (by omega) x hx
    · exact (leaves_dyTiles hm n hn tb ht _ fun cb hc rs => leaves_quantDyTile hm _ _ _ _ _ _ _ (off_ne (by decide)) (off_ne (by decide))
        (off_ne (by decide)) (off_ne (by decide)) (off_ne (by decide)) (off_ne (by decide))).on σ

end

end Cert.Spec
-- ==== Proof.Steps.lean ====
module

public import proofs.«01_k».proof.Proof.DyOut

/-! The body's steps: which pieces run, and what each piece leaves alone. -/

@[expose] public section

noncomputable section

namespace Cert.Code

open Idealize.ShloMosaic Idealize.SL.Sem
open Cert.Model

variable {F : FTy → Type} [FloatOps F] {sig : RefSig} {m : fam.Mems sig} (hm : ∀ b, (m b).IsWhole)
variable {b : B} {y : (sh b).Idx}

theorem leaves_clear (h16 : b ≠ .a16) (h13 : b ≠ .a13) (h23 : b ≠ .a23) : Leaves b y (clear m : P F m _) :=
  leaves_bind leaves_ld fun _ => leaves_bind (leaves_st h16) fun _ => leaves_bind leaves_ld fun _ => leaves_bind (leaves_st h13) fun _ =>
    leaves_bind leaves_ld fun _ => leaves_st h23

theorem leaves_loadX : Leaves b y (loadX m : P F m _) :=
  leaves_bind leaves_ld fun _ => leaves_bind leaves_ld fun _ => leaves_loop fun _ _ _ => leaves_bind leaves_ld fun _ => leaves_ret _

theorem leaves_quantXHalf (n hn c hc t ht) (v : FVec F (M2 256 128) .f32)
    (h10 : Off b y .a10 (R2 (128 * t) (128 * c) 128 128 (by omega) (by omega)))
    (h11 : Off b y .a11 (R2 0 (128 * c) 14 128 (by omega) (by omega)))
    (h17 : Off b y .a17 (R2 (128 * c) (xqtOff n t) 128 128 (by omega) (by rw [xqtOff_eq hn ht]; omega))) :
    Leaves b y (quantXHalf m hm n hn c hc t ht v) :=
  leaves_bind leaves_ld fun _ => leaves_bind (leaves_sto h10) fun _ => leaves_bind leaves_ld fun _ => leaves_bind leaves_ld fun _ =>
    leaves_bind (leaves_sto h11) fun _ => leaves_bind leaves_ld fun _ => leaves_sto h17

theorem leaves_quantX (n hn) (h10 : b ≠ .a10) (h11 : b ≠ .a11) (h17 : b ≠ .a17) : Leaves b y (quantX m hm n hn : P F m _) :=
  leaves_bind leaves_loadX fun _ => leaves_loop fun _ _ _ => leaves_bind leaves_ld fun _ => leaves_loop fun _ _ _ =>
    leaves_quantXHalf hm _ _ _ _ _ _ _ (off_ne h10) (off_ne h11) (off_ne h17)

theorem leaves_dgrad (n hn) (h19 : b ≠ .a19) (h16 : b ≠ .a16) : Leaves b y (dgrad m hm n hn : P F m _) :=
  leaves_bind (leaves_loop fun _ _ _ => leaves_loop fun _ _ _ => leaves_bind leaves_ld fun _ => leaves_bind leaves_ld fun _ =>
      leaves_bind leaves_ld fun _ => leaves_st h19) fun _ =>
    leaves_loop fun _ _ _ => leaves_bind leaves_ld fun _ => leaves_bind leaves_ld fun _ => leaves_bind leaves_ld fun _ =>
      leaves_bind leaves_ld fun _ => leaves_st h16

theorem leaves_nbFirst (n h1 h2 x) (r : FVec F (M2 256 1) .f32) (c hc) (h23 : Off b y .a23 (R2 0 (128 * c) 8 128 (by omega) (by omega))) :
    Leaves b y (nbFirst m n h1 h2 x r c hc) :=
  leaves_bind leaves_ld fun _ => leaves_bind leaves_ld fun _ => leaves_bind leaves_ld fun _ => leaves_bind (leaves_sto h23) fun _ =>
    leaves_bind leaves_ld fun _ => leaves_ret _

theorem leaves_nbSecond (n h1 h2 x) (r s : FVec F (M2 256 1) .f32) (c hc) (h7 : Off b y .a7 (R2 0 (128 * c) 256 128 (by omega) (by omega))) :
    Leaves b y (nbSecond m hm n h1 h2 x r s c hc) :=
  leaves_bind leaves_ld fun _ => leaves_bind leaves_ld fun _ => leaves_bind leaves_ld fun _ => leaves_sto h7

theorem leaves_normBackward (n h1 h2) (h23 : b ≠ .a23) (h7 : b ≠ .a7) : Leaves b y (normBackward m hm n h1 h2 : P F m _) :=
  leaves_bind leaves_loadX fun _ => leaves_bind (leaves_nbFirst _ _ _ _ _ _ _ (off_ne h23)) fun _ =>
    leaves_bind (leaves_loop fun _ _ _ => leaves_bind (leaves_nbFirst _ _ _ _ _ _ _ (off_ne h23)) fun _ => leaves_ret _) fun _ =>
    leaves_loop fun _ _ _ => leaves_nbSecond hm _ _ _ _ _ _ _ _ (off_ne h7)

theorem leaves_wgrad (n h1 h2) (h22 : b ≠ .a22) (h8 : b ≠ .a8) : Leaves b y (wgrad m hm n h1 h2 : P F m _) :=
  leaves_bind (leaves_loop fun _ _ _ => leaves_bind leaves_ld fun _ => leaves_bind leaves_ld fun _ => leaves_bind leaves_ld fun _ => leaves_st h22) fun _ =>
    leaves_bind leaves_ld fun _ => leaves_bind leaves_ld fun _ => leaves_bind leaves_ld fun _ => leaves_st h8

theorem leaves_dgammaOut (h9 : b ≠ .a9) : Leaves b y (dgammaOut m : P F m _) :=
  leaves_bind leaves_ld fun _ => leaves_bind leaves_ld fun _ => leaves_st h9

/-! ## The steps -/

/-- What runs first. -/
def pre (n : ℕ) : P F m PUnit := if n = 0 then clear m else .ret ⟨⟩

/-- The first part of a step before the quantiser of the output gradient. -/
def head (n : ℕ) : P F m PUnit := (pre n).bind fun _ => if h : n < 7 then quantX m hm n h else .ret ⟨⟩

theorem keep_pre (n) : Keep (pre n : P F m _) := by
  unfold pre; split
  · exact keep_clear
  · exact keep_ret _

theorem keep_head (n) : Keep (head hm n : P F m _) := by
  unfold head
  refine keep_bind (keep_pre n) fun _ => ?_
  split
  · exact keep_quantX hm ..
  · exact keep_ret _

theorem leaves_pre (n) (h : n = 0 → b ≠ .a16 ∧ b ≠ .a13 ∧ b ≠ .a23) : Leaves b y (pre n : P F m _) := by
  unfold pre; split
  · rename_i e; exact leaves_clear (h e).1 (h e).2.1 (h e).2.2
  · exact leaves_ret _

theorem leaves_head (n) (h : n = 0 → b ≠ .a16 ∧ b ≠ .a13 ∧ b ≠ .a23) (h' : n < 7 → b ≠ .a10 ∧ b ≠ .a11 ∧ b ≠ .a17) :
    Leaves b y (head hm n : P F m _) := by
  unfold head
  refine leaves_bind (leaves_pre n h) fun _ => ?_
  split
  · rename_i e; exact leaves_quantX hm _ _ (h' e).1 (h' e).2.1 (h' e).2.2
  · exact leaves_ret _

theorem pre_later (n : ℕ) (h : n ≠ 0) (σ : fam.State (Elt F)) : (run (pre (m := m) n) σ).2 = σ := by
  unfold pre; rw [if_neg h]; rfl

/-- The steps that quantise the output gradient. -/
theorem body_early (n : ℕ) (hn : n < 33) (h : n < 11) (σ : fam.State (Elt F)) :
    (run (body m hm n hn) σ).2 = (run (dgrad m hm n h) (run (quantDy m hm n h) (run (head hm n) σ).2).2).2 := by
  unfold body
  refine (congrArg Prod.snd (run_bind _ _ _)).trans ?_
  show (run _ (run (pre n) σ).2).2 = _
  have hh : (run (head hm n) σ).2 = (run (if h : n < 7 then quantX m hm n h else .ret ⟨⟩ : P F m PUnit) (run (pre n) σ).2).2 :=
    congrArg Prod.snd (run_bind _ _ _)
  rw [hh]
  by_cases h7 : n < 7
  · rw [dif_pos h7, run_bind, run_bind, dif_pos h7]
  · rw [dif_neg h7, dif_pos h, run_bind, dif_neg h7]
    rfl

theorem body_mid (n : ℕ) (hn : n < 33) (h1 : 11 ≤ n) (h2 : n < 18) (σ : fam.State (Elt F)) :
    (run (body m hm n hn) σ).2 = (run (wgrad m hm n h1 hn) (run (normBackward m hm n h1 h2) σ).2).2 := by
  unfold body
  refine (congrArg Prod.snd (run_bind _ _ _)).trans ?_
  show (run _ (run (pre n) σ).2).2 = _
  rw [pre_later n (by omega), dif_neg (by omega), dif_neg (by omega), dif_pos h2, run_bind]

theorem body_late (n : ℕ) (hn : n < 33) (h : 18 ≤ n) (σ : fam.State (Elt F)) :
    (run (body m hm n hn) σ).2 = (run (if n = 32 then dgammaOut m else .ret ⟨⟩ : P F m PUnit) (run (wgrad m hm n (by omega) hn) σ).2).2 := by
  unfold body
  refine (congrArg Prod.snd (run_bind _ _ _)).trans ?_
  show (run _ (run (pre n) σ).2).2 = _
  rw [pre_later n (by omega), dif_neg (by omega), dif_neg (by omega), dif_neg (by omega)]
  exact congrArg Prod.snd (run_bind _ _ _)

/-- A buffer the later steps do not store to. -/
theorem leaves_after (n : ℕ) (hn : n < 33) (h : 11 ≤ n) (h22 : b ≠ .a22) (h8 : b ≠ .a8) (h23 : n < 18 → b ≠ .a23 ∧ b ≠ .a7) (h9 : n = 32 → b ≠ .a9) (σ : fam.State (Elt F)) :
    (run (body m hm n hn) σ).2 b y = σ b y := by
  by_cases h2 : n < 18
  · rw [body_mid hm n hn h h2]
    exact ((leaves_wgrad hm _ _ _ h22 h8).on _).trans ((leaves_normBackward hm _ _ _ (h23 h2).1 (h23 h2).2).on _)
  · rw [body_late hm n hn (by omega)]
    refine Eq.trans ?_ ((leaves_wgrad hm n (by omega) hn h22 h8).on σ)
    by_cases e : n = 32
    · rw [if_pos e]; exact (leaves_dgammaOut (h9 e)).on _
    · rw [if_neg e]; rfl

end Cert.Code

namespace Cert.Spec

open Idealize.ShloMosaic Idealize.SL.Sem
open Cert.Model Cert.Code

variable {sig : RefSig} {m : fam.Mems sig} (hm : ∀ b, (m b).IsWhole) (I : Inp)

section
variable (n : ℕ) (hn : n < 33) (h : n < 11) {σ : S} (hd : HasDy I n σ)

include hd in
/-- A buffer only the quantiser of the output gradient stores to, after an early step. -/
theorem early_dy {b : B} {y : (sh b).Idx} {v : Elt Ideal (el b)} (h19 : b ≠ .a19) (h16 : b ≠ .a16)
    (hq : ∀ σ, HasDy I n σ → (run (quantDy m hm n h) σ).2 b y = v) : (run (body m hm n hn) σ).2 b y = v := by
  rw [body_early hm n hn h]
  exact ((leaves_dgrad hm _ _ h19 h16).on _).trans (hq _ (HasDy.keep I (keep_head hm n) hd))

theorem early_off {b : B} {y : (sh b).Idx} (h19 : b ≠ .a19) (h16 : b ≠ .a16) (h0 : n = 0 → b ≠ .a16 ∧ b ≠ .a13 ∧ b ≠ .a23)
    (h' : n < 7 → b ≠ .a10 ∧ b ≠ .a11 ∧ b ≠ .a17)
    (hq : Leaves (F := Ideal) b y (quantDy m hm n h)) : (run (body m hm n hn) σ).2 b y = σ b y := by
  rw [body_early hm n hn h]
  exact ((leaves_dgrad hm _ _ h19 h16).on _).trans ((hq.on _).trans ((leaves_head hm n h0 h').on σ))
end

/-- What the output gradient's codes and scales hold after a step. -/
def GDy (n : ℕ) : (b : B) → ((sh b).Idx → Elt Ideal (el b)) → Prop
  | .a12, X => ∀ y : (M2 1792 512).Idx, X y = I.rcode (y 0).val (512 * min n 10 + (y 1).val)
  | .a13, X => ∀ y : (M2 1792 44).Idx, (y 1).val / 4 ≤ n → X y = I.rscale (y 0).val (y 1).val
  | .a14, X => ∀ y : (M2 1792 512).Idx, X y = I.ccode (y 0).val (512 * min n 10 + (y 1).val)
  | .a15, X => ∀ y : (M2 14 512).Idx, X y = I.cscale (y 0).val (512 * min n 10 + (y 1).val)
  | _, _ => True

theorem gdy_step (n : ℕ) (hn : n < 33) (σ : S) (hin : n < 11 → HasDy I n σ)
    (hG : ∀ b : B, b.isOut = true → n ≠ 0 → flushes b (n - 1) = false → GDy I (n - 1) b (σ b)) :
    ∀ b : B, GDy I n b ((run (body m hm n hn) σ).2 b) := by
  intro b
  by_cases h : n < 11
  · cases b
    case a12 =>
      intro y
      rw [Nat.min_eq_left (by omega)]
      exact early_dy hm I n hn h (hin h) (by decide) (by decide) fun σ hd => dy_a12 hm I n h σ hd y
    case a14 =>
      intro y
      rw [Nat.min_eq_left (by omega)]
      exact early_dy hm I n hn h (hin h) (by decide) (by decide) fun σ hd => dy_a14 hm I n h σ hd y
    case a15 =>
      intro y
      rw [Nat.min_eq_left (by omega)]
      exact early_dy hm I n hn h (hin h) (by decide) (by decide) fun σ hd => dy_a15 hm I n h σ hd y
    case a13 =>
      intro y hy
      by_cases e : (y 1).val / 4 = n
      · exact early_dy hm I n hn h (hin h) (by decide) (by decide) fun σ hd => dy_a13 hm I n h σ hd y e
      · refine (early_off hm n hn h (by decide) (by decide) (fun e0 => absurd hy (by omega)) (fun _ => by decide) (dy_a13_off hm n h y e)).trans ?_
        exact hG .a13 rfl (by omega) (decide_eq_false (by omega)) y (by omega)
    all_goals trivial
  · have hf : (decide (n - 1 ≤ 9) || decide (n - 1 = 32)) = false := by
      rw [decide_eq_false (by omega), decide_eq_false (by omega)]; rfl
    have hmin : min n 10 = min (n - 1) 10 := by omega
    cases b
    case a12 =>
      intro y
      rw [hmin]
      exact (leaves_after hm n hn (by omega) (by decide) (by decide) (fun _ => by decide) (fun _ => by decide) σ).trans
        (hG .a12 rfl (by omega) hf y)
    case a14 =>
      intro y
      rw [hmin]
      exact (leaves_after hm n hn (by omega) (by decide) (by decide) (fun _ => by decide) (fun _ => by decide) σ).trans
        (hG .a14 rfl (by omega) hf y)
    case a15 =>
      intro y
      rw [hmin]
      exact (leaves_after hm n hn (by omega) (by decide) (by decide) (fun _ => by decide) (fun _ => by decide) σ).trans
        (hG .a15 rfl (by omega) hf y)
    case a13 =>
      intro y _
      have h1 : (y 1).val < 44 := (y 1).isLt
      exact (leaves_after hm n hn (by omega) (by decide) (by decide) (fun _ => by decide) (fun _ => by decide) σ).trans
        (hG .a13 rfl (by omega) (decide_eq_false (by omega)) y (by omega))
    all_goals trivial

end Cert.Spec
-- ==== Proof.XVal.lean ====
module

public import proofs.«01_k».proof.Proof.XTiles
public import proofs.«01_k».proof.Proof.Steps

/-! What the quantiser of the activations leaves in each buffer. -/

@[expose] public section

noncomputable section

namespace Cert.Spec

open Idealize.ShloMosaic Idealize.SL.Sem
open Cert.Model Cert.Code

variable {sig : RefSig} {m : fam.Mems sig} (hm : ∀ b, (m b).IsWhole) (I : Inp)

/-- The blocks of the input, of its scales and of the gain, of row block `q`. -/
structure HasX (q : ℕ) (σ : S) : Prop where
  x : σ .a4 = of2 fun i j => I.x (256 * q + i) j
  xs : σ .a5 = of2 fun i j => I.xs (256 * q + i) j
  g : σ .a6 = of2 fun _ j => I.g j

theorem HasX.keep {q : ℕ} {α : Type} {p : P Ideal m α} (hp : Keep p) {σ : S} (h : HasX I q σ) : HasX I q (run p σ).2 :=
  ⟨(hp.on σ .a4 rfl).trans h.x, (hp.on σ .a5 rfl).trans h.xs, (hp.on σ .a6 rfl).trans h.g⟩

abbrev xsAt (σ : S) : FVec Ideal (M2 256 16) .f32 := fun x => σ .a5 ((R2 0 0 256 16 (by decide) (by decide)).idx x)
abbrev xcAt (σ : S) (c : ℕ) (hc : c < 16) : FVec Ideal (M2 256 128) .fp8e4m3 :=
  fun x => σ .a4 ((R2 0 (128 * c) 256 128 (by decide) (by omega)).idx x)
abbrev gAt (σ : S) (c : ℕ) (hc : c < 16) : FVec Ideal (M2 1 128) .f32 :=
  fun x => σ .a6 ((R2 0 (128 * c) 1 128 (by decide) (by omega)).idx x)

section
variable {q : ℕ} {σ : S} (h : HasX I q σ)
include h

theorem xcAt_eq (c : ℕ) (hc : c < 16) : xcAt σ c hc = of2 fun i j => I.x (256 * q + (0 + i)) (128 * c + j) := by
  unfold xcAt
  rw [h.x]
  exact at2 _ _ _

theorem xsAt_eq : xsAt σ = of2 fun i j => I.xs (256 * q + (0 + i)) (0 + j) := by
  unfold xsAt
  rw [h.xs]
  exact at2 _ _ _

theorem xf_eq (c : ℕ) (hc : c < 16) : xfTile c hc (xcAt σ c hc) (xsAt σ) = of2 fun i j => I.xf (256 * q + i) (128 * c + j) := by
  rw [xcAt_eq I h, xsAt_eq I h]
  refine (xfTile_of2 _ _ c hc).trans (of2_congr fun i j _ hj => ?_)
  unfold Inp.xf
  rw [Nat.zero_add, Nat.zero_add, show (128 * c + j) / 128 = c by omega]

theorem g_eq (c : ℕ) (hc : c < 16) : gAt σ c hc = of2 fun _ j => I.g (128 * c + j) := by
  unfold gAt
  rw [h.g]
  exact at2 _ _ _
end

/-- The tiles after the first. -/
def xLoop (xs : FVec Ideal (M2 256 16) .f32) (c0 : FVec Ideal (M2 256 128) .fp8e4m3) :
    P Ideal m ((Nat → FVec Ideal (M2 256 128) .f32) × FVec Ideal (M2 256 128) .f32) :=
  loop 16 1 (by decide) (fun _ => xfTile 0 (by decide) c0 xs, mulf (xfTile 0 (by decide) c0 xs) (xfTile 0 (by decide) c0 xs))
    fun c hc a => do
      let codes ← ld .a4 (R2 0 (128 * c) 256 128 (by decide) (by omega)) (View.loadsAt_vmem (by exact (by decide : 0 < (M2 256 128).numel)))
      pure (fun j => bif Nat.beq j c then xfTile c hc codes xs else a.1 j,
        addf a.2 (mulf (xfTile c hc codes xs) (xfTile c hc codes xs)))

theorem loadX_run (σ : S) : run (loadX m) σ = run (xLoop (m := m) (xsAt σ) (xcAt σ 0 (by decide))) σ := rfl

/-- What is known of the loaded tiles. -/
structure XTilesOk (q : ℕ) (x : (Nat → FVec Ideal (M2 256 128) .f32) × FVec Ideal (M2 256 128) .f32) : Prop where
  tile : ∀ c, c < 16 → x.1 c = of2 fun i j => I.xf (256 * q + i) (128 * c + j)
  sq : x.2 = of2 fun i l => ∑ c ∈ Finset.range 16, I.xf (256 * q + i) (128 * c + l) * I.xf (256 * q + i) (128 * c + l)

theorem loadX_ok {q : ℕ} (σ : S) (h : HasX I q σ) : (run (loadX m) σ).2 = σ ∧ XTilesOk I q (run (loadX m) σ).1 := by
  rw [loadX_run]
  unfold xLoop
  have key := loop_inv (m := m) (fun k (a : (Nat → FVec Ideal (M2 256 128) .f32) × FVec Ideal (M2 256 128) .f32) σ' => σ' = σ ∧
      (∀ c, c < k → a.1 c = of2 fun i j => I.xf (256 * q + i) (128 * c + j)) ∧
      a.2 = of2 fun i l => ∑ c ∈ Finset.range k, I.xf (256 * q + i) (128 * c + l) * I.xf (256 * q + i) (128 * c + l)) σ
    (n := 16) (s := 1) (h := by decide)
    (a := (fun _ => xfTile 0 (by decide) (xcAt σ 0 (by decide)) (xsAt σ), mulf (xfTile 0 (by decide) (xcAt σ 0 (by decide)) (xsAt σ)) (xfTile 0 (by decide) (xcAt σ 0 (by decide)) (xsAt σ))))
    (f := fun c hc a => do
      let codes ← ld .a4 (R2 0 (128 * c) 256 128 (by decide) (by omega)) (View.loadsAt_vmem (by exact (by decide : 0 < (M2 256 128).numel)))
      pure (fun j => bif Nat.beq j c then xfTile c hc codes (xsAt σ) else a.1 j,
        addf a.2 (mulf (xfTile c hc codes (xsAt σ)) (xfTile c hc codes (xsAt σ))))) ⟨rfl, ?_, ?_⟩ ?_
  · exact ⟨key.1, key.2.1, key.2.2⟩
  · intro c hc
    obtain rfl : c = 0 := by omega
    exact xf_eq I h 0 (by decide)
  · refine (congrArg₂ (mulf (F := Ideal)) (xf_eq I h 0 (by decide)) (xf_eq I h 0 (by decide))).trans ?_
    rw [mul2]
    exact of2_congr fun i j _ _ => (Finset.sum_range_one fun c => I.xf (256 * q + i) (128 * c + j) * I.xf (256 * q + i) (128 * c + j)).symm
  · rintro k hk a σ' ⟨rfl, h1, h2⟩
    refine ⟨rfl, fun c hc => ?_, ?_⟩
    · show (bif Nat.beq c k then xfTile k hk (xcAt σ' k hk) (xsAt σ') else a.1 c) = _
      by_cases e : c = k
      · subst e
        rw [show Nat.beq c c = true from Nat.beq_refl c, cond_true]
        exact xf_eq I h c hk
      · rw [show Nat.beq c k = false from by
          cases hb : Nat.beq c k with
          | false => rfl
          | true => exact absurd (Nat.eq_of_beq_eq_true hb) e, cond_false]
        exact h1 c (by omega)
    · show addf a.2 (mulf (xfTile k hk (xcAt σ' k hk) (xsAt σ')) (xfTile k hk (xcAt σ' k hk) (xsAt σ'))) = _
      rw [h2, xf_eq I h k hk, mul2, add2]
      exact of2_congr fun i j _ _ => (Finset.sum_range_succ _ _).symm

theorem rinv_ok {q : ℕ} {x : (Nat → FVec Ideal (M2 256 128) .f32) × FVec Ideal (M2 256 128) .f32} (h : XTilesOk I q x) :
    rmsInv x.2 = of2 fun i _ => I.rinv (256 * q + i) := by
  rw [h.sq, rmsInv_of2]
  refine of2_congr fun i j _ _ => ?_
  unfold Inp.rinv
  rw [sum_blocks 128 (fun k => I.xf (256 * q + i) k * I.xf (256 * q + i) k) 16]

theorem xhat_ok {q : ℕ} {x : (Nat → FVec Ideal (M2 256 128) .f32) × FVec Ideal (M2 256 128) .f32} (h : XTilesOk I q x) (c : ℕ) (hc : c < 16) :
    xhatTile (x.1 c) (rmsInv x.2) = of2 fun i j => I.xhat (256 * q + i) (128 * c + j) := by
  rw [rinv_ok I h, h.tile c hc, xhatTile_of2]
  rfl

/-! ## One token group of one column block -/

theorem overlay_rows {c : ℕ} (hc : c < 16) {row : BitVec 32} {l : ℕ} (hl : l < 14) (hrow : row = BitVec.ofNat 32 l) (v : FVec Ideal (M2 128 128) .f32)
    (X O : (M2 14 2048).Idx → EReal) (f : ℕ → ℕ → EReal)
    (hf : (broadcastTo (M2 14 128) (shapeCast (M2 1 128) (scale (xnAmax v)) (by decide)) (by decide) : FVec Ideal (M2 14 128) .f32) = of2 f)
    (y : (M2 14 2048).Idx) (h1 : 128 * c ≤ (y 1).val ∧ (y 1).val < 128 * c + 128) :
    (R2 0 (128 * c) 14 128 (by omega) (by omega)).overlay X
      (xnScaleRows row v (fun x => O ((R2 0 (128 * c) 14 128 (by omega) (by omega)).idx x))) y = if (y 0).val = l then f (y 0).val ((y 1).val - 128 * c) else O y := by
  subst hrow
  have hy0 : (y 0).val < 14 := (y 0).isLt
  obtain ⟨x, hx, e0, e1⟩ := in2 (R := 14) (C := 2048) (a := 0) (b := 128 * c) (r := 14) (c := 128) (h1 := by omega) (h2 := by omega) y (by omega)
  rw [← e1, ← hx]
  refine (overlay_idx _ _ x).trans ?_
  refine (xnScaleRows_at l hl _ _ x).trans ?_
  have e : ((R2 (R := 14) (C := 2048) 0 (128 * c) 14 128 (by omega) (by omega)).idx x 0).val = (x 0).val := by rw [hx, e0]; omega
  rw [e, hf]
  rfl

section Half
variable (n : ℕ) (hn : n < 7) (c : ℕ) (hc : c < 16) (t : ℕ) (ht : t < 2) (v : FVec Ideal (M2 256 128) .f32)

theorem half_state (σ : S) : (run (quantXHalf m hm n hn c hc t ht v) σ).2 =
    upd (upd (upd σ
      .a10 (R2 (128 * t) (128 * c) 128 128 (by omega) (by omega)) (xnCodes (xnHalf t ht v)))
      .a11 (R2 0 (128 * c) 14 128 (by omega) (by omega)) (xnScaleRows (Scalar.addi (Scalar.muli (stp n) 2#32) (BitVec.ofNat 32 t)) (xnHalf t ht v)
        (fun x => σ .a11 ((R2 0 (128 * c) 14 128 (by omega) (by omega)).idx x))))
      .a17 (R2 (128 * c) (xqtOff n t) 128 128 (by omega) (by rw [xqtOff_eq hn ht]; omega)) (xqtTile (xnHalf t ht v)) := rfl

include hn ht in
theorem tokRow_eq : Scalar.addi (Scalar.muli (stp n) 2#32) (BitVec.ofNat 32 t) = BitVec.ofNat 32 (2 * n + t) :=
  (by decide +kernel : ∀ n : Fin 7, ∀ t : Fin 2, Scalar.addi (Scalar.muli (stp n) 2#32) (BitVec.ofNat 32 t) = BitVec.ofNat 32 (2 * n.val + t.val))
    ⟨n, hn⟩ ⟨t, ht⟩

theorem half_xb (j : ℕ) : mx 128 (fun k => ab (I.xn (256 * n + (128 * t + k)) (128 * c + j))) * c4 = I.xb (2 * n + t) (128 * c + j) := by
  unfold Inp.xb
  exact congrArg (· * c4) (congrArg (mx 128) (funext fun k => by rw [show 256 * n + (128 * t + k) = 128 * (2 * n + t) + k by omega]))

/-- The tile of normalised activations. -/
abbrev xnT : FVec Ideal (M2 256 128) .f32 := of2 fun i j => I.xn (256 * n + i) (128 * c + j)

theorem half_a10 (σ : S) (y : (M2 256 2048).Idx)
    (hy : 128 * t ≤ (y 0).val ∧ (y 0).val < 128 * t + 128 ∧ 128 * c ≤ (y 1).val ∧ (y 1).val < 128 * c + 128) :
    (run (quantXHalf m hm n hn c hc t ht (xnT I n c)) σ).2 .a10 y = I.xcode (256 * n + (y 0).val) (y 1).val := by
  refine (congrFun (congrFun (half_state hm n hn c hc t ht _ σ) .a10) y).trans ?_
  refine (at_ne _ .a10 _ _ _ (by decide) y).trans ?_
  refine (at_ne _ .a10 _ _ _ (by decide) y).trans ?_
  refine (at_self _ .a10 _ _ y).trans ?_
  refine (overlay2 _ ((congrArg xnCodes (xnHalf_of2 _ t ht)).trans (xnCodes_of2 _)) y hy).trans ?_
  dsimp only
  rw [half_xb]
  unfold Inp.xcode
  rw [show 256 * n + (128 * t + ((y 0).val - 128 * t)) = 256 * n + (y 0).val by omega, show 128 * c + ((y 1).val - 128 * c) = (y 1).val by omega,
    show (256 * n + (y 0).val) / 128 = 2 * n + t by omega]

theorem half_a17 (σ : S) (y : (M2 2048 1792).Idx)
    (hy : 128 * c ≤ (y 0).val ∧ (y 0).val < 128 * c + 128 ∧ 128 * (2 * n + t) ≤ (y 1).val ∧ (y 1).val < 128 * (2 * n + t) + 128) :
    (run (quantXHalf m hm n hn c hc t ht (xnT I n c)) σ).2 .a17 y = I.xq (y 1).val (y 0).val := by
  refine (congrFun (congrFun (half_state hm n hn c hc t ht _ σ) .a17) y).trans ?_
  refine (at_self _ .a17 _ _ y).trans ?_
  have ho := xqtOff_eq hn ht
  refine (overlay2 _ ((congrArg xqtTile (xnHalf_of2 _ t ht)).trans (xqtTile_of2 _)) y (by omega)).trans ?_
  dsimp only
  rw [half_xb, ho]
  unfold Inp.xq Inp.xscale Inp.xcode
  rw [show 256 * n + (128 * t + ((y 1).val - (2 * n + t) * 128)) = (y 1).val by omega, show 128 * c + ((y 0).val - 128 * c) = (y 0).val by omega,
    show (y 1).val / 128 = 2 * n + t by omega]

theorem half_a11 (σ : S) (y : (M2 14 2048).Idx) (h0 : (y 0).val = 2 * n + t) (h1 : 128 * c ≤ (y 1).val ∧ (y 1).val < 128 * c + 128) :
    (run (quantXHalf m hm n hn c hc t ht (xnT I n c)) σ).2 .a11 y = I.xscale (y 0).val (y 1).val := by
  refine (congrFun (congrFun (half_state hm n hn c hc t ht _ σ) .a11) y).trans ?_
  refine (at_ne _ .a11 _ _ _ (by decide) y).trans ?_
  refine (at_self _ .a11 _ _ y).trans ?_
  refine (overlay_rows hc (l := 2 * n + t) (by omega) (tokRow_eq n hn t ht) _ _ _ _ ((congrArg (fun v : FVec Ideal (M2 128 128) .f32 =>
    (broadcastTo (M2 14 128) (shapeCast (M2 1 128) (scale (xnAmax v)) (by decide)) (by decide) : FVec Ideal (M2 14 128) .f32))
    (xnHalf_of2 _ t ht)).trans (xnScaleBc_of2 _)) y h1).trans ?_
  rw [if_pos h0, half_xb, h0, show 128 * c + ((y 1).val - 128 * c) = (y 1).val by omega]
  rfl

/-- The other rows of scales stay. -/
theorem half_a11_off (y : (M2 14 2048).Idx) (h0 : (y 0).val ≠ 2 * n + t ∨ c ≠ (y 1).val / 128) :
    Leaves .a11 y (quantXHalf m hm n hn c hc t ht v) := ⟨fun σ => by
  refine (congrFun (congrFun (half_state hm n hn c hc t ht v σ) .a11) y).trans ?_
  refine (at_ne _ .a11 _ _ _ (by decide) y).trans ?_
  by_cases h1 : 128 * c ≤ (y 1).val ∧ (y 1).val < 128 * c + 128
  · refine (at_self _ .a11 _ _ y).trans ?_
    refine (overlay_rows hc (l := 2 * n + t) (by omega) (tokRow_eq n hn t ht) _ _ (σ .a11) _ (of2_ext2 _).symm y h1).trans ?_
    rw [if_neg (by omega)]
  · refine (upd_off _ .a11 _ _ y (off2_col (by omega))).trans ?_
    exact at_ne _ .a11 _ _ _ (by decide) y⟩

end Half

/-! ## All column blocks -/

def xCol (n : ℕ) (hn : n < 7) (x : (Nat → FVec Ideal (M2 256 128) .f32) × FVec Ideal (M2 256 128) .f32) (c : ℕ) (hc : c < 16) : P Ideal m PUnit := do
  let g ← ld .a6 (R2 0 (128 * c) 1 128 (by decide) (by omega)) (View.loadsAt_vmem (by exact (by decide : 0 < (M2 1 128).numel)))
  loop 2 0 (by decide) ⟨⟩ fun t ht _ =>
    quantXHalf m hm n hn c hc t ht (mulf (xhatTile (x.1 c) (rmsInv x.2)) (gRows g))

def xCols (n : ℕ) (hn : n < 7) (x : (Nat → FVec Ideal (M2 256 128) .f32) × FVec Ideal (M2 256 128) .f32) : P Ideal m PUnit :=
  loop 16 0 (by decide) ⟨⟩ fun c hc _ => xCol hm n hn x c hc

def xHalves (n : ℕ) (hn : n < 7) (c : ℕ) (hc : c < 16) (w : FVec Ideal (M2 256 128) .f32) : P Ideal m PUnit :=
  loop 2 0 (by decide) ⟨⟩ fun t ht _ => quantXHalf m hm n hn c hc t ht w

theorem quantX_state (n hn) (σ : S) : (run (quantX m hm n hn) σ).2 = (run (xCols hm n hn (run (loadX m) σ).1) (run (loadX m) σ).2).2 := by
  unfold quantX
  exact congrArg Prod.snd (run_bind _ _ _)

theorem xCol_state (n hn x c hc) (σ : S) : (run (xCol (m := m) hm n hn x c hc) σ).2 =
    (run (xHalves (m := m) hm n hn c hc (mulf (xhatTile (x.1 c) (rmsInv x.2)) (gRows (gAt σ c hc)))) σ).2 := rfl

theorem keep_xCol (n hn x c hc) : Keep (xCol (m := m) hm n hn x c hc) :=
  keep_bind keep_ld fun _ => keep_loop fun _ _ _ => keep_quantXHalf hm ..

theorem leaves_xHalves {b : B} {y : (sh b).Idx} (n hn c hc w) (hq : ∀ t ht, Leaves b y (quantXHalf (F := Ideal) m hm n hn c hc t ht w)) :
    Leaves b y (xHalves (m := m) hm n hn c hc w) := leaves_loop fun t ht _ => hq t ht

theorem xn_tile {n : ℕ} {x : (Nat → FVec Ideal (M2 256 128) .f32) × FVec Ideal (M2 256 128) .f32} (hx : XTilesOk I n x) {σ : S} (h : HasX I n σ)
    (c : ℕ) (hc : c < 16) : mulf (xhatTile (x.1 c) (rmsInv x.2)) (gRows (gAt σ c hc)) = xnT I n c := by
  rw [xhat_ok I hx c hc, g_eq I h c hc, gRows_of2, mul2]
  rfl

/-- An element one trip stores. -/
theorem quantX_at {b : B} {y : (sh b).Idx} (n hn) (c : ℕ) (hc : c < 16) (t : ℕ) (ht : t < 2) (v : Elt Ideal (el b))
    (hit : ∀ σ : S, (run (quantXHalf m hm n hn c hc t ht (xnT I n c)) σ).2 b y = v)
    (miss : ∀ c' hc' t' ht' w, c' ≠ c ∨ t' ≠ t → Leaves (F := Ideal) b y (quantXHalf m hm n hn c' hc' t' ht' w))
    (σ : S) (h : HasX I n σ) : (run (quantX m hm n hn) σ).2 b y = v := by
  rw [quantX_state]
  obtain ⟨e, hx⟩ := loadX_ok (m := m) I σ h
  rw [e]
  unfold xCols
  refine loop_at (b := b) (y := y) (HasX I n) (fun k hk _ σ h => HasX.keep I (keep_xCol hm ..) h) c (by omega) hc v (fun _ _ σ h => ?_) (fun k hk _ e => ?_) σ h
  · rw [xCol_state, xn_tile I hx h c hc]
    unfold xHalves
    refine loop_at (b := b) (y := y) (fun _ => True) (fun _ _ _ _ _ => trivial) t (by omega) ht v (fun _ _ σ _ => hit σ) (fun k hk _ e => ?_) σ trivial
    exact miss _ _ _ _ _ (.inr e)
  · exact ⟨fun σ => by
      rw [xCol_state]
      exact (leaves_xHalves hm n hn k hk _ fun t' ht' => miss _ _ _ _ _ (.inl e)).on σ⟩

/-- An element no trip stores. -/
theorem quantX_off {b : B} {y : (sh b).Idx} (n hn) (miss : ∀ c' hc' t' ht' w, Leaves (F := Ideal) b y (quantXHalf m hm n hn c' hc' t' ht' w)) :
    Leaves (F := Ideal) b y (quantX m hm n hn) :=
  leaves_bind (leaves_bind leaves_ld fun _ => leaves_bind leaves_ld fun _ => leaves_loop fun _ _ _ => leaves_bind leaves_ld fun _ => leaves_ret _) fun _ =>
    leaves_loop fun c hc _ => leaves_bind leaves_ld fun _ => leaves_loop fun t ht _ => miss c hc t ht _

section Out
variable (n : ℕ) (hn : n < 7) (σ : S)

theorem x_a10 (h : HasX I n σ) (y : (M2 256 2048).Idx) : (run (quantX m hm n hn) σ).2 .a10 y = I.xcode (256 * n + (y 0).val) (y 1).val := by
  have h0 : (y 0).val < 256 := (y 0).isLt
  have h1 : (y 1).val < 2048 := (y 1).isLt
  refine quantX_at hm I (b := .a10) (y := y) n hn ((y 1).val / 128) (by omega) ((y 0).val / 128) (by omega) _
    (fun σ => half_a10 hm I n hn _ _ _ _ σ y (by omega)) (fun c' hc' t' ht' w e => ?_) σ h
  exact leaves_quantXHalf hm _ _ _ _ _ _ _ (off_mk (off_block e.symm)) (off_ne (by decide)) (off_ne (by decide))

theorem x_a11 (h : HasX I n σ) (y : (M2 14 2048).Idx) (hy : (y 0).val / 2 = n) :
    (run (quantX m hm n hn) σ).2 .a11 y = I.xscale (y 0).val (y 1).val := by
  have h0 : (y 0).val < 14 := (y 0).isLt
  have h1 : (y 1).val < 2048 := (y 1).isLt
  refine quantX_at hm I (b := .a11) (y := y) n hn ((y 1).val / 128) (by omega) ((y 0).val % 2) (by omega) _
    (fun σ => half_a11 hm I n hn _ _ _ _ σ y (by omega) (by omega)) (fun c' hc' t' ht' w e => ?_) σ h
  exact half_a11_off hm n hn _ _ _ _ w y (by omega)

theorem x_a11_off (y : (M2 14 2048).Idx) (hy : (y 0).val / 2 ≠ n) : Leaves (F := Ideal) .a11 y (quantX m hm n hn) :=
  quantX_off hm n hn fun c' hc' t' ht' w => half_a11_off hm n hn _ _ _ _ w y (.inl (by omega))

theorem x_a17 (h : HasX I n σ) (y : (M2 2048 1792).Idx) (hy : (y 1).val / 256 = n) :
    (run (quantX m hm n hn) σ).2 .a17 y = I.xq (y 1).val (y 0).val := by
  have h0 : (y 0).val < 2048 := (y 0).isLt
  have h1 : (y 1).val < 1792 := (y 1).isLt
  refine quantX_at hm I (b := .a17) (y := y) n hn ((y 0).val / 128) (by omega) ((y 1).val / 128 % 2) (by omega) _
    (fun σ => half_a17 hm I n hn _ _ _ _ σ y (by omega)) (fun c' hc' t' ht' w e => ?_) σ h
  have ho := xqtOff_eq hn ht'
  refine leaves_quantXHalf hm _ _ _ _ _ _ _ (off_ne (by decide)) (off_ne (by decide)) (off_mk ?_)
  rcases e with e | e
  · exact off2_row (by omega)
  · exact off2_col (by omega)

theorem x_a17_off (y : (M2 2048 1792).Idx) (hy : (y 1).val / 256 ≠ n) : Leaves (F := Ideal) .a17 y (quantX m hm n hn) :=
  quantX_off hm n hn fun c' hc' t' ht' w => by
    have ho := xqtOff_eq hn ht'
    exact leaves_quantXHalf hm _ _ _ _ _ _ _ (off_ne (by decide)) (off_ne (by decide)) (off_mk (off2_col (by omega)))

end Out

end Cert.Spec
-- ==== Proof.WVal.lean ====
module

public import proofs.«01_k».proof.Proof.XVal

/-! What the two products leave in their buffers. -/

@[expose] public section

noncomputable section

namespace Cert.Spec

open Idealize.ShloMosaic Idealize.SL.Sem
open Cert.Model Cert.Code

variable {sig : RefSig} {m : fam.Mems sig} (hm : ∀ b, (m b).IsWhole) (I : Inp)

/-! ## The weights' gradient -/

/-- The codes and scales by columns, of all column blocks. -/
structure HasCols (σ : S) : Prop where
  c : σ .a20 = of3 fun k i j => I.ccode i (256 * k + j)
  s : σ .a21 = of3 fun k i j => I.cscale i (256 * k + j)

section Wgrad
variable (n : ℕ) (h1 : 11 ≤ n) (h2 : n < 33)

theorem dqBlock_state (tb ht) (σ : S) : (run (dqBlock m hm n h1 h2 tb ht) σ).2 =
    upd σ .a22 (R2 (128 * tb) 0 128 256 (by omega) (by omega)) (dqTile (F := Ideal)
      (fun x => σ .a21 ((R3 (dqOff n) tb 0 1 1 256 (by rw [dqOff_eq h1 h2]; omega) (by omega) (by omega)).idx x))
      (fun x => σ .a20 ((R3 (dqOff n) (128 * tb) 0 1 128 256 (by rw [dqOff_eq h1 h2]; omega) (by omega) (by omega)).idx x))) := rfl

theorem dq_s (tb : ℕ) (ht : tb < 14) {σ : S} (h : HasCols I σ) :
    (fun x => σ .a21 ((R3 (dqOff n) tb 0 1 1 256 (by rw [dqOff_eq h1 h2]; omega) (by omega) (by omega)).idx x)) =
      of3 fun k i j => I.cscale (tb + i) (256 * (dqOff n + k) + (0 + j)) := by
  rw [h.s]
  exact at3 _ _ _ _

theorem dq_c (tb : ℕ) (ht : tb < 14) {σ : S} (h : HasCols I σ) :
    (fun x => σ .a20 ((R3 (dqOff n) (128 * tb) 0 1 128 256 (by rw [dqOff_eq h1 h2]; omega) (by omega) (by omega)).idx x)) =
      of3 fun k i j => I.ccode (128 * tb + i) (256 * (dqOff n + k) + (0 + j)) := by
  rw [h.c]
  exact at3 _ _ _ _

theorem dq_eq (tb : ℕ) (ht : tb < 14) {σ : S} (h : HasCols I σ) : dqTile (F := Ideal)
      (fun x => σ .a21 ((R3 (dqOff n) tb 0 1 1 256 (by rw [dqOff_eq h1 h2]; omega) (by omega) (by omega)).idx x))
      (fun x => σ .a20 ((R3 (dqOff n) (128 * tb) 0 1 128 256 (by rw [dqOff_eq h1 h2]; omega) (by omega) (by omega)).idx x)) =
    of2 fun i j => I.dq (128 * tb + i) (256 * (n - 11) + j) := by
  rw [dq_s I n h1 h2 tb ht h, dq_c I n h1 h2 tb ht h, dqTile_of3]
  refine of2_congr fun i j hi _ => ?_
  unfold Inp.dq
  rw [show (128 * tb + i) / 128 = tb by omega, dqOff_eq h1 h2, Nat.add_zero, Nat.add_zero, Nat.zero_add]

def dqRows : P Ideal m PUnit := loop 14 0 (by decide) ⟨⟩ fun tb ht _ => dqBlock m hm n h1 h2 tb ht

theorem leaves_dqBlock {b : B} {y : (sh b).Idx} (tb ht) (h22 : Off b y .a22 (R2 (128 * tb) 0 128 256 (by omega) (by omega))) :
    Leaves (F := Ideal) b y (dqBlock m hm n h1 h2 tb ht) :=
  leaves_bind leaves_ld fun _ => leaves_bind leaves_ld fun _ => leaves_bind leaves_ld fun _ => leaves_sto h22

theorem cols_keep (tb ht) {σ : S} (h : HasCols I σ) : HasCols I (run (dqBlock m hm n h1 h2 tb ht) σ).2 :=
  ⟨(funext fun y => (leaves_dqBlock hm n h1 h2 tb ht (b := .a20) (y := y) (off_ne (by decide))).on σ).trans h.c,
    (funext fun y => (leaves_dqBlock hm n h1 h2 tb ht (b := .a21) (y := y) (off_ne (by decide))).on σ).trans h.s⟩

theorem dqRows_a22 (σ : S) (h : HasCols I σ) : (run (dqRows (m := m) hm n h1 h2) σ).2 .a22 = of2 fun i j => I.dq i (256 * (n - 11) + j) := by
  funext y
  change (M2 1792 256).Idx at y
  have h0 : (y 0).val < 1792 := (y 0).isLt
  have h1' : (y 1).val < 256 := (y 1).isLt
  unfold dqRows
  refine loop_at (b := .a22) (y := y) (HasCols I) (fun k hk _ σ h => cols_keep hm I n h1 h2 k hk h) ((y 0).val / 128) (by omega) (by omega) _
    (fun hk _ σ h => ?_) (fun k hk _ e => ?_) σ h
  · refine (congrFun (congrFun (dqBlock_state hm n h1 h2 _ hk σ) .a22) y).trans ?_
    refine (at_self _ .a22 _ _ y).trans ?_
    refine (overlay2 _ (dq_eq I n h1 h2 _ hk h) y (by omega)).trans ?_
    show I.dq _ _ = I.dq _ _
    rw [show 128 * ((y 0).val / 128) + ((y 0).val - 128 * ((y 0).val / 128)) = (y 0).val by omega, Nat.sub_zero]
  · exact leaves_dqBlock hm n h1 h2 k hk (off_mk (off2_row (by omega)))

theorem wgrad_state (σ : S) : (run (wgrad m hm n h1 h2) σ).2 =
    upd (run (dqRows (m := m) hm n h1 h2) σ).2 .a8 (R2 0 0 2048 256 (by decide) (by decide)) (dwTile (F := Ideal)
      (fun x => (run (dqRows (m := m) hm n h1 h2) σ).2 .a17 ((R2 0 0 2048 1792 (by decide) (by decide)).idx x))
      (fun x => (run (dqRows (m := m) hm n h1 h2) σ).2 .a22 ((R2 0 0 1792 256 (by decide) (by decide)).idx x))) := by
  unfold wgrad dqRows
  refine (congrArg Prod.snd (run_bind _ _ _)).trans ?_
  rfl

theorem w_a8 (σ : S) (h : HasCols I σ) (hx : σ .a17 = of2 fun j i => I.xq i j) (y : (M2 2048 256).Idx) :
    (run (wgrad m hm n h1 h2) σ).2 .a8 y = I.dw (y 0).val (256 * (n - 11) + (y 1).val) := by
  have h0 : (y 0).val < 2048 := (y 0).isLt
  have h1' : (y 1).val < 256 := (y 1).isLt
  have e17 : (run (dqRows (m := m) hm n h1 h2) σ).2 .a17 = of2 fun j i => I.xq i j :=
    (funext fun y => (leaves_loop fun k hk _ => leaves_dqBlock hm n h1 h2 k hk (b := .a17) (y := y) (off_ne (by decide))).on σ).trans hx
  have ea : (fun x => (run (dqRows (m := m) hm n h1 h2) σ).2 .a17 ((R2 0 0 2048 1792 (by decide) (by decide)).idx x)) =
      of2 fun j i => I.xq (0 + i) (0 + j) := by rw [e17]; exact at2 _ _ _
  have eb : (fun x => (run (dqRows (m := m) hm n h1 h2) σ).2 .a22 ((R2 0 0 1792 256 (by decide) (by decide)).idx x)) =
      of2 fun i j => I.dq (0 + i) (256 * (n - 11) + (0 + j)) := by rw [dqRows_a22 hm I n h1 h2 σ h]; exact at2 _ _ _
  refine (congrFun (congrFun (wgrad_state hm n h1 h2 σ) .a8) y).trans ?_
  refine (at_self _ .a8 _ _ y).trans ?_
  refine (overlay2 _ ((congrArg₂ (dwTile (F := Ideal)) ea eb).trans (dwTile_of2 _ _)) y (by omega)).trans ?_
  unfold Inp.dw
  refine Finset.sum_congr rfl fun k _ => ?_
  simp only [Nat.zero_add, Nat.sub_zero]

end Wgrad

/-! ## The input's gradient before the normalisation -/

/-- The weights' codes and scales at a step. -/
structure HasW (n : ℕ) (σ : S) : Prop where
  s : σ .a1 = of2 fun i j => I.ws i j
  w : σ .a3 = of2 fun i j => I.w i (512 * n + j)

theorem HasW.keep {n : ℕ} {α : Type} {p : P Ideal m α} (hp : Keep p) {σ : S} (h : HasW I n σ) : HasW I n (run p σ).2 :=
  ⟨(hp.on σ .a1 rfl).trans h.s, (hp.on σ .a3 rfl).trans h.w⟩

theorem accBlock_state (it : ℕ) (hi : it < 8) (σ : S) : (run (accBlock m it hi) σ).2 =
    upd σ .a16 (R2 0 (256 * it) 1792 256 (by omega) (by omega)) (accStrip (F := Ideal)
      (fun x => σ .a16 ((R2 0 (256 * it) 1792 256 (by omega) (by omega)).idx x))
      (fun x => σ .a18 ((R2 0 0 1792 512 (by omega) (by omega)).idx x))
      (fun x => σ .a19 ((R2 (256 * it) 0 256 512 (by omega) (by omega)).idx x))) := rfl

section Dgrad
variable (n : ℕ) (hn : n < 11)

theorem wqBlock_state (ib hi cb hc) (σ : S) : (run (wqBlock m hm n hn ib hi cb hc) σ).2 =
    upd σ .a19 (R2 (128 * ib) (128 * cb) 128 128 (by omega) (by omega)) (wqTile (F := Ideal)
      (σ .a1 ((R2 ib (wsOff n cb) 1 1 (by omega) (by rw [wsOff_eq hn hc]; omega)).idx (Shape.Idx.first (s := M2 1 1) (numel11.symm ▸ Nat.one_pos))))
      (fun x => σ .a3 ((R2 (128 * ib) (128 * cb) 128 128 (by omega) (by omega)).idx x))) := rfl

theorem ws_at (ib : ℕ) (hi : ib < 16) (cb : ℕ) (hc : cb < 4) {σ : S} (h : HasW I n σ) (x : (M2 1 1).Idx) :
    σ .a1 ((R2 ib (wsOff n cb) 1 1 (by omega) (by rw [wsOff_eq hn hc]; omega)).idx x) = I.ws ib (4 * n + cb) := by
  rw [h.s]
  have h0 : (x 0).val < 1 := (x 0).isLt
  have h1 : (x 1).val < 1 := (x 1).isLt
  show I.ws (ib + 1 * (x 0).val) (wsOff n cb + 1 * (x 1).val) = _
  rw [wsOff_eq hn hc, show ib + 1 * (x 0).val = ib by omega, show 4 * n + cb + 1 * (x 1).val = 4 * n + cb by omega]

theorem wq_eq (ib : ℕ) (hi : ib < 16) (cb : ℕ) (hc : cb < 4) {σ : S} (h : HasW I n σ) : wqTile (F := Ideal)
      (σ .a1 ((R2 ib (wsOff n cb) 1 1 (by omega) (by rw [wsOff_eq hn hc]; omega)).idx (Shape.Idx.first (s := M2 1 1) (numel11.symm ▸ Nat.one_pos))))
      (fun x => σ .a3 ((R2 (128 * ib) (128 * cb) 128 128 (by omega) (by omega)).idx x)) =
    of2 fun i j => I.wq (128 * ib + i) (512 * n + (128 * cb + j)) := by
  have e : (fun x => σ .a3 ((R2 (128 * ib) (128 * cb) 128 128 (by omega) (by omega)).idx x)) =
      (of2 fun i j => I.w (128 * ib + i) (512 * n + (128 * cb + j)) : (M2 128 128).Idx → EReal) := by rw [h.w]; exact at2 _ _ _
  refine (congrArg₂ (wqTile (F := Ideal)) (ws_at I n hn ib hi cb hc h _) e).trans ((wqTile_of2 _ _).trans (of2_congr fun i j _ _ => ?_))
  unfold Inp.wq
  rw [show (128 * ib + i) / 128 = ib by omega, show (512 * n + (128 * cb + j)) / 128 = 4 * n + cb by omega]

theorem leaves_wqBlock {b : B} {y : (sh b).Idx} (ib hi cb hc) (h19 : Off b y .a19 (R2 (128 * ib) (128 * cb) 128 128 (by omega) (by omega))) :
    Leaves (F := Ideal) b y (wqBlock m hm n hn ib hi cb hc) :=
  leaves_bind leaves_ld fun _ => leaves_bind leaves_ld fun _ => leaves_bind leaves_ld fun _ => leaves_sto h19

def wqRow (ib : ℕ) (hi : ib < 16) : P Ideal m PUnit := loop 4 0 (by decide) ⟨⟩ fun cb hc _ => wqBlock m hm n hn ib hi cb hc
def wqRows : P Ideal m PUnit := loop 16 0 (by decide) ⟨⟩ fun ib hi _ => wqRow hm n hn ib hi
def accRows : P Ideal m PUnit := loop 8 0 (by decide) ⟨⟩ fun it hi _ => accBlock m it hi

theorem keep_wqBlock (ib hi cb hc) : Keep (F := Ideal) (wqBlock m hm n hn ib hi cb hc) :=
  keep_bind keep_ld fun _ => keep_bind keep_ld fun _ => keep_bind keep_ld fun _ => keep_st rfl

theorem keep_wqRow (ib hi) : Keep (wqRow (m := m) hm n hn ib hi) := keep_loop fun _ _ _ => keep_wqBlock hm ..

theorem dgrad_state (σ : S) : (run (dgrad m hm n hn) σ).2 = (run (accRows (m := m)) (run (wqRows (m := m) hm n hn) σ).2).2 := by
  unfold dgrad
  exact congrArg Prod.snd (run_bind _ _ _)

theorem wqRows_a19 (σ : S) (h : HasW I n σ) : (run (wqRows (m := m) hm n hn) σ).2 .a19 = of2 fun i j => I.wq i (512 * n + j) := by
  funext y
  change (M2 2048 512).Idx at y
  have h0 : (y 0).val < 2048 := (y 0).isLt
  have h1 : (y 1).val < 512 := (y 1).isLt
  unfold wqRows
  refine loop_at (b := .a19) (y := y) (HasW I n) (fun k hk _ σ h => HasW.keep I (keep_wqRow hm ..) h) ((y 0).val / 128) (by omega) (by omega) _
    (fun hk _ σ h => ?_) (fun k hk _ e => ?_) σ h
  · unfold wqRow
    refine loop_at (b := .a19) (y := y) (HasW I n) (fun k hk _ σ h => HasW.keep I (keep_wqBlock hm ..) h) ((y 1).val / 128) (by omega) (by omega) _
      (fun hc _ σ h => ?_) (fun k hk _ e => ?_) σ h
    · refine (congrFun (congrFun (wqBlock_state hm n hn _ hk _ hc σ) .a19) y).trans ?_
      refine (at_self _ .a19 _ _ y).trans ?_
      refine (overlay2 _ (wq_eq I n hn _ hk _ hc h) y (by omega)).trans ?_
      show I.wq _ _ = I.wq _ _
      rw [show 128 * ((y 0).val / 128) + ((y 0).val - 128 * ((y 0).val / 128)) = (y 0).val by omega,
        show 128 * ((y 1).val / 128) + ((y 1).val - 128 * ((y 1).val / 128)) = (y 1).val by omega]
    · exact leaves_wqBlock hm n hn _ _ k hk (off_mk (off_block (.inr e)))
  · unfold wqRow
    exact leaves_loop fun cb hc _ => leaves_wqBlock hm n hn k hk cb hc (off_mk (off_block (.inl e)))

theorem leaves_wqRows {b : B} {y : (sh b).Idx} (h19 : b ≠ .a19) : Leaves b y (wqRows (m := m) hm n hn) :=
  leaves_loop fun _ _ _ => leaves_loop fun _ _ _ => leaves_wqBlock hm n hn _ _ _ _ (off_ne h19)

theorem acc_next (i j : ℕ) : I.acc (512 * n) i j + ∑ k ∈ Finset.range 512, I.dyq i (512 * n + k) * I.wq j (512 * n + k) = I.acc (512 * (n + 1)) i j := by
  unfold Inp.acc
  rw [Nat.mul_succ, Finset.sum_range_add]

theorem accRows_a16 (σ : S) (h16 : σ .a16 = of2 fun i j => I.acc (512 * n) i j) (h18 : σ .a18 = of2 fun i j => I.dyq i (512 * n + j))
    (h19 : σ .a19 = of2 fun i j => I.wq i (512 * n + j)) : (run (accRows (m := m)) σ).2 .a16 = of2 fun i j => I.acc (512 * (n + 1)) i j := by
  unfold accRows
  have key := (loop_inv (m := m) (n := 8) (s := 0) (h := by decide) (a := PUnit.unit) (f := fun it hi _ => accBlock m it hi)
    (fun k (_ : PUnit) σ => (σ .a18 = of2 fun i j => I.dyq i (512 * n + j)) ∧ (σ .a19 = of2 fun i j => I.wq i (512 * n + j)) ∧
      σ .a16 = of2 fun i j => if j / 256 < k then I.acc (512 * (n + 1)) i j else I.acc (512 * n) i j) σ ⟨h18, h19, ?_⟩ ?_).2.2
  · refine key.trans (of2_congr fun i j _ hj => ?_)
    rw [if_pos (by omega)]
  · refine h16.trans (of2_congr fun i j _ _ => ?_)
    rw [if_neg (by omega)]
  · rintro it hi - σ ⟨h18, h19, h16⟩
    have e0 : (fun x => σ .a16 ((R2 0 (256 * it) 1792 256 (by omega) (by omega)).idx x)) =
        (of2 fun i j => I.acc (512 * n) i (256 * it + j) : (M2 1792 256).Idx → EReal) := by
      rw [h16]
      refine (at2 _ _ _).trans (of2_congr fun i j _ hj => ?_)
      rw [if_neg (by omega), Nat.zero_add]
    have e1 : (fun x => σ .a18 ((R2 0 0 1792 512 (by omega) (by omega)).idx x)) =
        (of2 fun i j => I.dyq (0 + i) (512 * n + (0 + j)) : (M2 1792 512).Idx → EReal) := by rw [h18]; exact at2 _ _ _
    have e2 : (fun x => σ .a19 ((R2 (256 * it) 0 256 512 (by omega) (by omega)).idx x)) =
        (of2 fun i j => I.wq (256 * it + i) (512 * n + (0 + j)) : (M2 256 512).Idx → EReal) := by rw [h19]; exact at2 _ _ _
    refine ⟨?_, ?_, ?_⟩
    · exact (funext fun y => (congrFun (congrFun (accBlock_state it hi σ) .a18) y).trans (at_ne _ .a18 _ _ _ (by decide) y)).trans h18
    · exact (funext fun y => (congrFun (congrFun (accBlock_state it hi σ) .a19) y).trans (at_ne _ .a19 _ _ _ (by decide) y)).trans h19
    · funext y
      change (M2 1792 2048).Idx at y
      have h0 : (y 0).val < 1792 := (y 0).isLt
      refine (congrFun (congrFun (accBlock_state it hi σ) .a16) y).trans ?_
      by_cases hy : 256 * it ≤ (y 1).val ∧ (y 1).val < 256 * it + 256
      · refine (at_self _ .a16 _ _ y).trans ?_
        refine (overlay2 _ ((congr (congrArg₂ (accStrip (F := Ideal)) e0 e1) e2).trans (accStrip_of2 _ _ _)) y (by omega)).trans ?_
        show _ = if (y 1).val / 256 < it + 1 then _ else _
        rw [if_pos (by omega)]
        simp only [Nat.zero_add, Nat.sub_zero, show 256 * it + ((y 1).val - 256 * it) = (y 1).val by omega]
        exact acc_next I n _ _
      · refine (upd_off _ .a16 _ _ y (off2_col (by omega))).trans ?_
        refine (congrFun h16 y).trans ?_
        show (if (y 1).val / 256 < it then _ else _) = if (y 1).val / 256 < it + 1 then _ else _
        by_cases e : (y 1).val / 256 < it
        · rw [if_pos e, if_pos (by omega)]
        · rw [if_neg e, if_neg (by omega)]

theorem d_a16 (σ : S) (hw : HasW I n σ) (h16 : σ .a16 = of2 fun i j => I.acc (512 * n) i j) (h18 : σ .a18 = of2 fun i j => I.dyq i (512 * n + j)) :
    (run (dgrad m hm n hn) σ).2 .a16 = of2 fun i j => I.acc (512 * (n + 1)) i j := by
  rw [dgrad_state]
  refine accRows_a16 I n _ ?_ ?_ (wqRows_a19 hm I n hn σ hw)
  · exact (funext fun y => (leaves_wqRows hm n hn (b := .a16) (y := y) (by decide)).on σ).trans h16
  · exact (funext fun y => (leaves_wqRows hm n hn (b := .a18) (y := y) (by decide)).on σ).trans h18

end Dgrad

end Cert.Spec
-- ==== Proof.NVal.lean ====
module

public import proofs.«01_k».proof.Proof.WVal

/-! What the backward pass of the normalisation leaves in its buffers. -/

@[expose] public section

noncomputable section

namespace Cert.Spec

open Idealize.ShloMosaic Idealize.SL.Sem
open Cert.Model Cert.Code

variable {sig : RefSig} {m : fam.Mems sig} (hm : ∀ b, (m b).IsWhole) (I : Inp)

/-- The gain's partial sums after `q` row blocks. -/
def Inp.dgp (q l j : ℕ) : EReal := ∑ b ∈ Finset.range (32 * q), I.dxn (8 * b + l) j * I.xhat (8 * b + l) j

/-- The terms of the row means. -/
def Inp.ds (i j : ℕ) : EReal := I.dxn i j * I.g j * I.xhat i j

theorem dgp_next (q l j : ℕ) :
    I.dgp q l j + ∑ k ∈ Finset.range 32, I.dxn (256 * q + (k * 8 + l)) j * I.xhat (256 * q + (k * 8 + l)) j = I.dgp (q + 1) l j := by
  unfold Inp.dgp
  rw [Nat.mul_succ, Finset.sum_range_add]
  refine congrArg (_ + ·) (Finset.sum_congr rfl fun k _ => ?_)
  rw [show 8 * (32 * q + k) + l = 256 * q + (k * 8 + l) by omega]

theorem dg_sum (j : ℕ) : ∑ l ∈ Finset.range 8, I.dgp 7 l j = I.dg j := by
  unfold Inp.dgp Inp.dg
  exact sum_blocks 8 (fun i => I.dxn i j * I.xhat i j) 224

abbrev XT := (Nat → FVec Ideal (M2 256 128) .f32) × FVec Ideal (M2 256 128) .f32

abbrev dgAt (σ : S) (c : ℕ) (hc : c < 16) : FVec Ideal (M2 8 128) .f32 :=
  fun x => σ .a23 ((R2 0 (128 * c) 8 128 (by omega) (by omega)).idx x)

section Norm
variable (n : ℕ) (h1 : 11 ≤ n) (h2 : n < 18)

/-- The inputs and the finished accumulator. -/
structure HasN (σ : S) : Prop where
  x : HasX I (n - 11) σ
  a : σ .a16 = of2 fun i j => I.dxn i j

theorem HasN.keep {α : Type} {p : P Ideal m α} (hp : Keep p) (hl : ∀ y, Leaves .a16 y p) {σ : S} (h : HasN I n σ) : HasN I n (run p σ).2 :=
  ⟨h.x.keep I hp, (funext fun y => (hl y).on σ).trans h.a⟩

abbrev accAt (σ : S) (c : ℕ) (hc : c < 16) : FVec Ideal (M2 256 128) .f32 :=
  fun x => σ .a16 ((R2 (accOff n) (128 * c) 256 128 (by rw [accOff_eq h1 h2]; omega) (by omega)).idx x)

theorem accAt_eq {σ : S} (h : HasN I n σ) (c : ℕ) (hc : c < 16) :
    accAt n h1 h2 σ c hc = of2 fun i j => I.dxn (256 * (n - 11) + i) (128 * c + j) := by
  unfold accAt
  rw [h.a]
  refine (at2 _ _ _).trans (of2_congr fun i j _ _ => ?_)
  rw [accOff_eq h1 h2]

theorem nbFirst_state (x : XT) (c : ℕ) (hc : c < 16) (σ : S) : (run (nbFirst m n h1 h2 x.1 (rmsInv x.2) c hc) σ).2 =
    upd σ .a23 (R2 0 (128 * c) 8 128 (by omega) (by omega)) (dgTile (F := Ideal) (dgAt σ c hc) (accAt n h1 h2 σ c hc) (xhatTile (x.1 c) (rmsInv x.2))) := rfl

theorem nbFirst_out (x : XT) (c : ℕ) (hc : c < 16) (σ : S) : (run (nbFirst m n h1 h2 x.1 (rmsInv x.2) c hc) σ).1 =
    sTile (F := Ideal) (accAt n h1 h2 σ c hc) (xhatTile (x.1 c) (rmsInv x.2)) (gAt σ c hc) := rfl

theorem nbFirst_keepN (x : XT) (c hc) {σ : S} (h : HasN I n σ) : HasN I n (run (nbFirst m n h1 h2 x.1 (rmsInv x.2) c hc) σ).2 :=
  h.keep I n (keep_nbFirst ..) fun y => leaves_nbFirst _ _ _ _ _ _ _ (off_ne (by decide))

theorem nbFirst_s {x : XT} (hx : XTilesOk I (n - 11) x) (c : ℕ) (hc : c < 16) {σ : S} (h : HasN I n σ) :
    (run (nbFirst m n h1 h2 x.1 (rmsInv x.2) c hc) σ).1 = of2 fun i l => I.ds (256 * (n - 11) + i) (128 * c + l) := by
  rw [nbFirst_out, accAt_eq I n h1 h2 h c hc, xhat_ok I hx c hc, g_eq I h.x c hc, sTile_of2]
  rfl

theorem nbFirst_d {x : XT} (hx : XTilesOk I (n - 11) x) (c : ℕ) (hc : c < 16) {σ : S} (h : HasN I n σ)
    (hd : σ .a23 = of2 fun l j => if j / 128 < c then I.dgp (n - 11 + 1) l j else I.dgp (n - 11) l j) :
    (run (nbFirst m n h1 h2 x.1 (rmsInv x.2) c hc) σ).2 .a23 =
      of2 fun l j => if j / 128 < c + 1 then I.dgp (n - 11 + 1) l j else I.dgp (n - 11) l j := by
  have e0 : dgAt σ c hc = of2 fun l j => I.dgp (n - 11) l (128 * c + j) := by
    unfold dgAt
    rw [hd]
    refine (at2 _ _ _).trans (of2_congr fun i j _ hj => ?_)
    rw [if_neg (by omega), Nat.zero_add]
  funext y
  change (M2 8 2048).Idx at y
  have h0 : (y 0).val < 8 := (y 0).isLt
  refine (congrFun (congrFun (nbFirst_state n h1 h2 x c hc σ) .a23) y).trans ?_
  by_cases hy : 128 * c ≤ (y 1).val ∧ (y 1).val < 128 * c + 128
  · refine (at_self _ .a23 _ _ y).trans ?_
    refine (overlay2 _ ((congr (congrArg₂ (dgTile (F := Ideal)) e0 (accAt_eq I n h1 h2 h c hc)) (xhat_ok I hx c hc)).trans (dgTile_of2 _ _ _)) y (by omega)).trans ?_
    show _ = if (y 1).val / 128 < c + 1 then _ else _
    rw [if_pos (by omega), show 128 * c + ((y 1).val - 128 * c) = (y 1).val by omega, Nat.sub_zero]
    exact dgp_next I (n - 11) _ _
  · refine (upd_off _ .a23 _ _ y (off2_col (by omega))).trans ?_
    refine (congrFun hd y).trans ?_
    show (if (y 1).val / 128 < c then _ else _) = if (y 1).val / 128 < c + 1 then _ else _
    by_cases e : (y 1).val / 128 < c
    · rw [if_pos e, if_pos (by omega)]
    · rw [if_neg e, if_neg (by omega)]

/-! ## The second pass -/

theorem nbSecond_state (x : XT) (mean : FVec Ideal (M2 256 1) .f32) (c : ℕ) (hc : c < 16) (σ : S) :
    (run (nbSecond m hm n h1 h2 x.1 (rmsInv x.2) mean c hc) σ).2 =
    upd σ .a7 (R2 0 (128 * c) 256 128 (by omega) (by omega)) (dxTile (F := Ideal) (accAt n h1 h2 σ c hc) (x.1 c) (gAt σ c hc) (rmsInv x.2) mean) := rfl

theorem keep_second (x : Nat → FVec Ideal (M2 256 128) .f32) (r mean : FVec Ideal (M2 256 1) .f32) (c hc) :
    Keep (nbSecond m hm n h1 h2 x r mean c hc) :=
  keep_bind keep_ld fun _ => keep_bind keep_ld fun _ => keep_bind keep_ld fun _ => keep_st rfl

theorem nbSecond_keepN (x : XT) (mean c hc) {σ : S} (h : HasN I n σ) : HasN I n (run (nbSecond m hm n h1 h2 x.1 (rmsInv x.2) mean c hc) σ).2 :=
  h.keep I n (keep_second hm ..) fun y => leaves_nbSecond hm _ _ _ _ _ _ _ _ (off_ne (by decide))

theorem dx_eq {x : XT} (hx : XTilesOk I (n - 11) x) (c : ℕ) (hc : c < 16) {σ : S} (h : HasN I n σ) :
    dxTile (F := Ideal) (accAt n h1 h2 σ c hc) (x.1 c) (gAt σ c hc) (rmsInv x.2) (of2 fun i _ => I.mean (256 * (n - 11) + i)) =
      of2 fun i j => I.dx (256 * (n - 11) + i) (128 * c + j) := by
  rw [accAt_eq I n h1 h2 h c hc, hx.tile c hc, g_eq I h.x c hc, rinv_ok I hx, dxTile_of2]
  rfl

def seconds (x : XT) (mean : FVec Ideal (M2 256 1) .f32) : P Ideal m PUnit :=
  loop 16 0 (by decide) ⟨⟩ fun c hc _ => nbSecond m hm n h1 h2 x.1 (rmsInv x.2) mean c hc

theorem seconds_a7 {x : XT} (hx : XTilesOk I (n - 11) x) (σ : S) (h : HasN I n σ) (y : (M2 256 2048).Idx) :
    (run (seconds (m := m) hm n h1 h2 x (of2 fun i _ => I.mean (256 * (n - 11) + i))) σ).2 .a7 y = I.dx (256 * (n - 11) + (y 0).val) (y 1).val := by
  have h0 : (y 0).val < 256 := (y 0).isLt
  have h1' : (y 1).val < 2048 := (y 1).isLt
  unfold seconds
  refine loop_at (b := .a7) (y := y) (HasN I n) (fun k hk _ σ h => nbSecond_keepN hm I n h1 h2 x _ k hk h) ((y 1).val / 128) (by omega) (by omega) _
    (fun hk _ σ h => ?_) (fun k hk _ e => ?_) σ h
  · refine (congrFun (congrFun (nbSecond_state hm n h1 h2 x _ _ hk σ) .a7) y).trans ?_
    refine (at_self _ .a7 _ _ y).trans ?_
    refine (overlay2 _ (dx_eq I n h1 h2 hx _ hk h) y (by omega)).trans ?_
    show I.dx _ _ = I.dx _ _
    rw [show 128 * ((y 1).val / 128) + ((y 1).val - 128 * ((y 1).val / 128)) = (y 1).val by omega, Nat.sub_zero]
  · exact leaves_nbSecond hm _ _ _ _ _ _ _ _ (off_mk (off2_col (by omega)))

theorem leaves_seconds {b : B} {y : (sh b).Idx} (x : XT) (mean) (h7 : b ≠ .a7) : Leaves b y (seconds (m := m) hm n h1 h2 x mean) :=
  leaves_loop fun _ _ _ => leaves_nbSecond hm _ _ _ _ _ _ _ _ (off_ne h7)

/-! ## Both passes -/

def firsts (x : XT) (s0 : FVec Ideal (M2 256 128) .f32) : P Ideal m (FVec Ideal (M2 256 128) .f32) :=
  loop 16 1 (by decide) s0 fun c hc s => do
    let d ← nbFirst m n h1 h2 x.1 (rmsInv x.2) c hc
    pure (addf s d)

/-- The passes, after the tiles are loaded. -/
def passes (x : XT) : P Ideal m PUnit := do
  let s0 ← nbFirst m n h1 h2 x.1 (rmsInv x.2) 0 (by decide)
  let s ← firsts n h1 h2 x s0
  seconds hm n h1 h2 x (rowMean s)

theorem normBackward_state (σ : S) : (run (normBackward m hm n h1 h2) σ).2 = (run (passes (m := m) hm n h1 h2 (run (loadX m) σ).1) (run (loadX m) σ).2).2 := by
  unfold normBackward
  exact congrArg Prod.snd (run_bind _ _ _)

/-- The state after the first pass, and the sums it carries. -/
def mid (x : XT) (σ : S) : FVec Ideal (M2 256 128) .f32 × S :=
  run (firsts (m := m) n h1 h2 x (run (nbFirst m n h1 h2 x.1 (rmsInv x.2) 0 (by decide)) σ).1) (run (nbFirst m n h1 h2 x.1 (rmsInv x.2) 0 (by decide)) σ).2

theorem passes_state (x : XT) (σ : S) : (run (passes (m := m) hm n h1 h2 x) σ).2 =
    (run (seconds (m := m) hm n h1 h2 x (rowMean (mid (m := m) n h1 h2 x σ).1)) (mid (m := m) n h1 h2 x σ).2).2 := by
  unfold passes mid
  refine (congrArg Prod.snd (run_bind _ _ _)).trans ?_
  exact congrArg Prod.snd (run_bind _ _ _)

theorem step_state (x : XT) (c : ℕ) (hc : c < 16) (s : FVec Ideal (M2 256 128) .f32) (σ : S) :
    run (do let d ← nbFirst m n h1 h2 x.1 (rmsInv x.2) c hc; pure (addf s d)) σ =
      (addf s (run (nbFirst m n h1 h2 x.1 (rmsInv x.2) c hc) σ).1, (run (nbFirst m n h1 h2 x.1 (rmsInv x.2) c hc) σ).2) :=
  run_bind _ _ _

theorem mid_ok {x : XT} (hx : XTilesOk I (n - 11) x) (σ : S) (h : HasN I n σ) (hd : σ .a23 = of2 fun l j => I.dgp (n - 11) l j) :
    HasN I n (mid (m := m) n h1 h2 x σ).2 ∧ (mid (m := m) n h1 h2 x σ).2 .a23 = (of2 fun l j => I.dgp (n - 11 + 1) l j) ∧
      (mid (m := m) n h1 h2 x σ).1 = of2 fun i l => ∑ c ∈ Finset.range 16, I.ds (256 * (n - 11) + i) (128 * c + l) := by
  have hd0 : σ .a23 = of2 fun l j => if j / 128 < 0 then I.dgp (n - 11 + 1) l j else I.dgp (n - 11) l j :=
    hd.trans (of2_congr fun i j _ _ => (if_neg (by omega)).symm)
  have key := loop_inv (m := m) (n := 16) (s := 1) (h := by decide) (a := (run (nbFirst m n h1 h2 x.1 (rmsInv x.2) 0 (by decide)) σ).1)
    (f := fun c hc s => do let d ← nbFirst m n h1 h2 x.1 (rmsInv x.2) c hc; pure (addf s d))
    (fun k (s : FVec Ideal (M2 256 128) .f32) σ => HasN I n σ ∧
      (σ .a23 = of2 fun l j => if j / 128 < k then I.dgp (n - 11 + 1) l j else I.dgp (n - 11) l j) ∧
      s = of2 fun i l => ∑ c ∈ Finset.range k, I.ds (256 * (n - 11) + i) (128 * c + l)) (run (nbFirst m n h1 h2 x.1 (rmsInv x.2) 0 (by decide)) σ).2
    ⟨nbFirst_keepN I n h1 h2 x _ _ h, nbFirst_d I n h1 h2 hx 0 (by decide) h hd0, (nbFirst_s I n h1 h2 hx 0 (by decide) h).trans
      (of2_congr fun i l _ _ => (Finset.sum_range_one fun c => I.ds (256 * (n - 11) + i) (128 * c + l)).symm)⟩ ?_
  · refine ⟨key.1, key.2.1.trans (of2_congr fun i j _ hj => ?_), key.2.2⟩
    rw [if_pos (by omega)]
  · rintro c hc s σ ⟨h, hd, hs⟩
    rw [step_state]
    refine ⟨nbFirst_keepN (m := m) I n h1 h2 x c hc h, nbFirst_d (m := m) I n h1 h2 hx c hc h hd, ?_⟩
    refine (congrArg₂ (addf (F := Ideal)) hs (nbFirst_s I n h1 h2 hx c hc h)).trans ?_
    rw [add2]
    exact of2_congr fun i l _ _ => (Finset.sum_range_succ _ _).symm

theorem mean_ok : rowMean (F := Ideal) (of2 fun i l => ∑ c ∈ Finset.range 16, I.ds (256 * (n - 11) + i) (128 * c + l)) =
    of2 fun i _ => I.mean (256 * (n - 11) + i) := by
  rw [rowMean_of2]
  refine of2_congr fun i _ _ _ => ?_
  rw [sum_blocks 128 (fun k => I.ds (256 * (n - 11) + i) k) 16]
  rfl

theorem norm_ok (σ : S) (h : HasN I n σ) (hd : σ .a23 = of2 fun l j => I.dgp (n - 11) l j) :
    (∀ y : (M2 256 2048).Idx, (run (normBackward m hm n h1 h2) σ).2 .a7 y = I.dx (256 * (n - 11) + (y 0).val) (y 1).val) ∧
    (run (normBackward m hm n h1 h2) σ).2 .a23 = of2 fun l j => I.dgp (n - 11 + 1) l j := by
  obtain ⟨e, hx⟩ := loadX_ok (m := m) I σ h.x
  rw [normBackward_state, e, passes_state]
  obtain ⟨k1, k2, k3⟩ := mid_ok (m := m) I n h1 h2 hx σ h hd
  rw [k3, mean_ok I n]
  exact ⟨fun y => seconds_a7 hm I n h1 h2 hx _ k1 y, (funext fun y => (leaves_seconds hm n h1 h2 _ _ (b := .a23) (y := y) (by decide)).on _).trans k2⟩

end Norm

theorem dgammaOut_state (σ : S) : (run (dgammaOut m) σ).2 = upd σ .a9 (R2 0 0 1 2048 (by decide) (by decide)) (dgSum (F := Ideal)
    (fun x => σ .a23 ((R2 0 0 8 2048 (by decide) (by decide)).idx x))) := rfl

theorem dgamma_ok (σ : S) (hd : σ .a23 = of2 fun l j => I.dgp 7 l j) (y : (M2 1 2048).Idx) : (run (dgammaOut m) σ).2 .a9 y = I.dg (y 1).val := by
  have h0 : (y 0).val < 1 := (y 0).isLt
  have h1 : (y 1).val < 2048 := (y 1).isLt
  have e : (fun x => σ .a23 ((R2 0 0 8 2048 (by decide) (by decide)).idx x)) =
      (of2 fun l j => I.dgp 7 (0 + l) (0 + j) : (M2 8 2048).Idx → EReal) := by rw [hd]; exact at2 _ _ _
  refine (congrFun (congrFun (dgammaOut_state σ) .a9) y).trans ?_
  refine (at_self _ .a9 _ _ y).trans ?_
  refine (overlay2 _ ((congrArg (dgSum (F := Ideal)) e).trans (dgSum_of2 _)) y (by omega)).trans ?_
  simp only [Nat.zero_add, Nat.sub_zero]
  exact dg_sum I _

end Cert.Spec
-- ==== Proof.AllSteps.lean ====
module

public import proofs.«01_k».proof.Proof.NVal

/-! Every step of the body, for all results: what it keeps in the scratch buffers and what it leaves in the buffers written
back. -/

@[expose] public section

noncomputable section

namespace Cert.Spec

open Idealize.ShloMosaic Idealize.SL.Sem
open Cert.Model Cert.Code

/-- What the scratch buffers hold before a step. -/
structure JAll (I : Inp) (n : ℕ) (σ : S) : Prop where
  q : ∀ y : (M2 2048 1792).Idx, (y 1).val / 256 < n → σ .a17 y = I.xq (y 1).val (y 0).val
  c : ∀ y : (M3 22 1792 256).Idx, (y 0).val / 2 < n → σ .a20 y = I.ccode (y 1).val (256 * (y 0).val + (y 2).val)
  s : ∀ y : (M3 22 14 256).Idx, (y 0).val / 2 < n → σ .a21 y = I.cscale (y 1).val (256 * (y 0).val + (y 2).val)
  a : 0 < n → σ .a16 = of2 fun i j => I.acc (512 * min n 11) i j
  d : 0 < n → σ .a23 = of2 fun l j => I.dgp (min (n - 11) 7) l j

/-- What the input buffers hold at a step. -/
structure InAll (I : Inp) (n : ℕ) (σ : S) : Prop where
  dy : n < 11 → HasDy I n σ
  x : n < 7 → HasX I n σ
  x' : 11 ≤ n → n < 18 → HasX I (n - 11) σ
  w : n < 11 → HasW I n σ

/-- What the buffers written back hold after a step. -/
def GAll (I : Inp) (n : ℕ) : (b : B) → ((sh b).Idx → Elt Ideal (el b)) → Prop
  | .a7, X => 11 ≤ n → ∀ y : (M2 256 2048).Idx, X y = I.dx (256 * min (n - 11) 6 + (y 0).val) (y 1).val
  | .a8, X => 11 ≤ n → ∀ y : (M2 2048 256).Idx, X y = I.dw (y 0).val (256 * (n - 11) + (y 1).val)
  | .a9, X => n = 32 → ∀ y : (M2 1 2048).Idx, X y = I.dg (y 1).val
  | .a10, X => ∀ y : (M2 256 2048).Idx, X y = I.xcode (256 * min n 6 + (y 0).val) (y 1).val
  | .a11, X => ∀ y : (M2 14 2048).Idx, (y 0).val / 2 ≤ n → X y = I.xscale (y 0).val (y 1).val
  | b, X => GDy I n b X

theorem GAll.dy {I : Inp} {n : ℕ} {b : B} {X : (sh b).Idx → Elt Ideal (el b)} (h : GAll I n b X) : GDy I n b X := by
  cases b <;> first | exact h | trivial

variable {sig : RefSig} {m : fam.Mems sig} (hm : ∀ b, (m b).IsWhole) (I : Inp)

/-! ## The start of a step -/

theorem clear_state (σ : S) : (run (clear m) σ).2 =
    upd (upd (upd σ
      .a16 (R2 0 0 1792 2048 (by omega) (by omega)) (shapeCast (M2 1792 2048) (broadcast (M2 1792 2048) (Scalar.ofBits (F := Ideal) .f32 0x00000000#32)) (by decide)))
      .a13 (R2 0 0 1792 44 (by omega) (by omega)) (broadcast (M2 1792 44) (Scalar.ofBits (F := Ideal) .f32 0x00000000#32)))
      .a23 (R2 0 0 8 2048 (by omega) (by omega)) (shapeCast (M2 8 2048) (broadcast (M2 8 2048) (Scalar.ofBits (F := Ideal) .f32 0x00000000#32)) (by decide)) := rfl

theorem clear_a16 (σ : S) (y : (M2 1792 2048).Idx) : (run (clear m) σ).2 .a16 y = (0 : EReal) := by
  have h0 : (y 0).val < 1792 := (y 0).isLt
  have h1 : (y 1).val < 2048 := (y 1).isLt
  refine (congrFun (congrFun (clear_state σ) .a16) y).trans ?_
  refine (at_ne _ .a16 _ _ _ (by decide) y).trans ?_
  refine (at_ne _ .a16 _ _ _ (by decide) y).trans ?_
  refine (at_self _ .a16 _ _ y).trans ?_
  exact (overlay2 _ ((cast_self _ _).trans (bc2 0x00000000#32)) y (by omega)).trans ofBits_zero'

theorem clear_a23 (σ : S) (y : (M2 8 2048).Idx) : (run (clear m) σ).2 .a23 y = (0 : EReal) := by
  have h0 : (y 0).val < 8 := (y 0).isLt
  have h1 : (y 1).val < 2048 := (y 1).isLt
  refine (congrFun (congrFun (clear_state σ) .a23) y).trans ?_
  refine (at_self _ .a23 _ _ y).trans ?_
  exact (overlay2 _ ((cast_self _ _).trans (bc2 0x00000000#32)) y (by omega)).trans ofBits_zero'

theorem pre_a16 (n : ℕ) (h : n < 11) (σ : S) (hJ : JAll I n σ) : (run (pre (m := m) n) σ).2 .a16 = of2 fun i j => I.acc (512 * n) i j := by
  by_cases e : n = 0
  · subst e
    funext y
    refine (clear_a16 σ y).trans ?_
    show 0 = I.acc (512 * 0) _ _
    unfold Inp.acc
    rw [Nat.mul_zero, Finset.sum_range_zero]
  · rw [pre_later n e, hJ.a (by omega), Nat.min_eq_left (by omega)]

theorem pre_a23 (n : ℕ) (h : n < 11) (σ : S) (hJ : JAll I n σ) : (run (pre (m := m) n) σ).2 .a23 = of2 fun l j => I.dgp 0 l j := by
  by_cases e : n = 0
  · subst e
    funext y
    refine (clear_a23 σ y).trans ?_
    show 0 = I.dgp 0 _ _
    unfold Inp.dgp
    rw [Nat.mul_zero, Finset.sum_range_zero]
  · rw [pre_later n e, hJ.d (by omega), show min (n - 11) 7 = 0 by omega]

theorem head_x (n : ℕ) (h : n < 7) (σ : S) : (run (head hm n) σ).2 = (run (quantX m hm n h) (run (pre (m := m) n) σ).2).2 := by
  refine (congrArg Prod.snd (run_bind _ _ _)).trans ?_
  rw [dif_pos h]

theorem head_pre (n : ℕ) {b : B} (y : (sh b).Idx) (h10 : b ≠ .a10) (h11 : b ≠ .a11) (h17 : b ≠ .a17) (σ : S) :
    (run (head hm n) σ).2 b y = (run (pre (m := m) n) σ).2 b y := by
  by_cases h : n < 7
  · rw [head_x hm n h]
    exact (leaves_quantX hm n h h10 h11 h17).on _
  · have e : (run (head hm n) σ).2 = (run (if h : n < 7 then quantX m hm n h else .ret ⟨⟩ : P Ideal m PUnit) (run (pre (m := m) n) σ).2).2 :=
      congrArg Prod.snd (run_bind _ _ _)
    rw [e, dif_neg h]
    exact (leaves_ret _).on _

section Early
variable (n : ℕ) (hn : n < 33) (h : n < 11) (σ : S) (hin : InAll I n σ)
include h

/-- A buffer only the head of an early step stores to. -/
theorem early_x {b : B} (y : (sh b).Idx) (h12 : b ≠ .a12) (h18 : b ≠ .a18) (h14 : b ≠ .a14) (h15 : b ≠ .a15) (h20 : b ≠ .a20) (h21 : b ≠ .a21)
    (h13 : b ≠ .a13) (h19 : b ≠ .a19) (h16 : b ≠ .a16) : (run (body m hm n hn) σ).2 b y = (run (head hm n) σ).2 b y := by
  rw [body_early hm n hn h]
  exact ((leaves_dgrad hm n h h19 h16).on _).trans ((leaves_quantDy hm n h h12 h18 h14 h15 h20 h21 h13).on _)

include hin in
theorem early_a17 (hJ : JAll I n σ) (y : (M2 2048 1792).Idx) (hy : (y 1).val / 256 < n + 1) :
    (run (body m hm n hn) σ).2 .a17 y = I.xq (y 1).val (y 0).val := by
  have h1 : (y 1).val < 1792 := (y 1).isLt
  refine (early_x hm n hn h σ (b := .a17) y (by decide) (by decide) (by decide) (by decide) (by decide) (by decide) (by decide) (by decide) (by decide)).trans ?_
  by_cases h7 : n < 7
  · rw [head_x hm n h7]
    by_cases e : (y 1).val / 256 = n
    · exact x_a17 hm I n h7 _ ((hin.x h7).keep I (keep_pre n)) y e
    · refine ((x_a17_off hm n h7 y e).on _).trans ?_
      exact ((leaves_pre n fun _ => by decide).on σ).trans (hJ.q y (by omega))
  · exact ((leaves_head hm n (fun _ => by decide) (fun e => absurd e h7)).on σ).trans (hJ.q y (by omega))

include hin in
theorem early_a20 (hJ : JAll I n σ) (y : (M3 22 1792 256).Idx) (hy : (y 0).val / 2 < n + 1) :
    (run (body m hm n hn) σ).2 .a20 y = I.ccode (y 1).val (256 * (y 0).val + (y 2).val) := by
  by_cases e : (y 0).val / 2 = n
  · exact early_dy hm I n hn h (hin.dy h) (by decide) (by decide) fun σ hd => dy_a20 hm I n h σ hd y e
  · exact (early_off hm n hn h (by decide) (by decide) (fun _ => by decide) (fun _ => by decide) (dy_a20_off hm n h y e)).trans (hJ.c y (by omega))

include hin in
theorem early_a21 (hJ : JAll I n σ) (y : (M3 22 14 256).Idx) (hy : (y 0).val / 2 < n + 1) :
    (run (body m hm n hn) σ).2 .a21 y = I.cscale (y 1).val (256 * (y 0).val + (y 2).val) := by
  by_cases e : (y 0).val / 2 = n
  · exact early_dy hm I n hn h (hin.dy h) (by decide) (by decide) fun σ hd => dy_a21 hm I n h σ hd y e
  · exact (early_off hm n hn h (by decide) (by decide) (fun _ => by decide) (fun _ => by decide) (dy_a21_off hm n h y e)).trans (hJ.s y (by omega))

include hin in
theorem early_a16 (hJ : JAll I n σ) : (run (body m hm n hn) σ).2 .a16 = of2 fun i j => I.acc (512 * (n + 1)) i j := by
  rw [body_early hm n hn h]
  refine d_a16 hm I n h _ (((hin.w h).keep I (keep_head hm n)).keep I (keep_quantDy hm n h)) ?_ ?_
  · refine Eq.trans (funext fun y => ?_) (pre_a16 (m := m) I n h σ hJ)
    exact ((leaves_quantDy hm n h (by decide) (by decide) (by decide) (by decide) (by decide) (by decide) (by decide)).on _).trans
      (head_pre hm n (b := .a16) y (by decide) (by decide) (by decide) σ)
  · funext y
    exact dy_a18 hm I n h _ (HasDy.keep I (keep_head hm n) (hin.dy h)) y

theorem early_a23 (hJ : JAll I n σ) : (run (body m hm n hn) σ).2 .a23 = of2 fun l j => I.dgp 0 l j := by
  refine Eq.trans (funext fun y => ?_) (pre_a23 (m := m) I n h σ hJ)
  exact (early_x hm n hn h σ (b := .a23) y (by decide) (by decide) (by decide) (by decide) (by decide) (by decide) (by decide) (by decide) (by decide)).trans
    (head_pre hm n (b := .a23) y (by decide) (by decide) (by decide) σ)

include hin in
theorem early_all (hJ : JAll I n σ) : JAll I (n + 1) (run (body m hm n hn) σ).2 where
  q y hy := early_a17 hm I n hn h σ hin hJ y hy
  c y hy := early_a20 hm I n hn h σ hin hJ y hy
  s y hy := early_a21 hm I n hn h σ hin hJ y hy
  a _ := by rw [Nat.min_eq_left (by omega)]; exact early_a16 hm I n hn h σ hin hJ
  d _ := by rw [show min (n + 1 - 11) 7 = 0 by omega]; exact early_a23 hm I n hn h σ hJ
end Early

/-! ## The later steps -/

section After
variable (n : ℕ) (hn : n < 33) (h : 11 ≤ n) (σ : S) (hin : InAll I n σ) (hJ : JAll I n σ)
include h

include hJ in
theorem after_a17 : σ .a17 = of2 fun j i => I.xq i j := funext fun y => hJ.q y (by
  have h1 : (y 1).val < 1792 := (y 1).isLt
  omega)

include hJ in
theorem after_cols : HasCols I σ where
  c := funext fun y => hJ.c y (by have h0 : (y 0).val < 22 := (y 0).isLt; omega)
  s := funext fun y => hJ.s y (by have h0 : (y 0).val < 22 := (y 0).isLt; omega)

include hin hJ in
theorem after_hasN (h2 : n < 18) : HasN I n σ where
  x := hin.x' h h2
  a := (hJ.a (by omega)).trans (by rw [show 512 * min n 11 = 5632 by omega]; rfl)

include hJ in
theorem after_d (h2 : n < 18) : σ .a23 = of2 fun l j => I.dgp (n - 11) l j := by
  rw [hJ.d (by omega), show min (n - 11) 7 = n - 11 by omega]

include hin hJ in
theorem after_a23 : (run (body m hm n hn) σ).2 .a23 = of2 fun l j => I.dgp (min (n + 1 - 11) 7) l j := by
  by_cases h2 : n < 18
  · rw [body_mid hm n hn h h2, show min (n + 1 - 11) 7 = n - 11 + 1 by omega]
    refine Eq.trans (funext fun y => ?_) (norm_ok hm I n h h2 σ (after_hasN I n h σ hin hJ h2) (after_d I n h σ hJ h2)).2
    exact (leaves_wgrad hm n h hn (by decide) (by decide)).on _
  · rw [show min (n + 1 - 11) 7 = min (n - 11) 7 by omega]
    refine Eq.trans (funext fun y => ?_) (hJ.d (by omega))
    exact leaves_after hm n hn h (by decide) (by decide) (fun e => absurd e h2) (fun _ => by decide) σ

include hin hJ in
theorem after_all : JAll I (n + 1) (run (body m hm n hn) σ).2 where
  q y _ := (leaves_after hm n hn h (by decide) (by decide) (fun _ => by decide) (fun _ => by decide) σ).trans (hJ.q y (by
    have h1 : (y 1).val < 1792 := (y 1).isLt
    omega))
  c y _ := (leaves_after hm n hn h (by decide) (by decide) (fun _ => by decide) (fun _ => by decide) σ).trans (hJ.c y (by
    have h0 : (y 0).val < 22 := (y 0).isLt
    omega))
  s y _ := (leaves_after hm n hn h (by decide) (by decide) (fun _ => by decide) (fun _ => by decide) σ).trans (hJ.s y (by
    have h0 : (y 0).val < 22 := (y 0).isLt
    omega))
  a _ := by
    rw [show min (n + 1) 11 = min n 11 by omega]
    refine Eq.trans (funext fun y => ?_) (hJ.a (by omega))
    exact leaves_after hm n hn h (by decide) (by decide) (fun _ => by decide) (fun _ => by decide) σ
  d _ := after_a23 hm I n hn h σ hin hJ

include hJ hin in
theorem after_a7 (h2 : n < 18) (y : (M2 256 2048).Idx) : (run (body m hm n hn) σ).2 .a7 y = I.dx (256 * (n - 11) + (y 0).val) (y 1).val := by
  rw [body_mid hm n hn h h2]
  refine ((leaves_wgrad hm n h hn (by decide) (by decide)).on _).trans ?_
  exact (norm_ok hm I n h h2 σ (after_hasN I n h σ hin hJ h2) (after_d I n h σ hJ h2)).1 y

include hJ in
theorem after_a8 (y : (M2 2048 256).Idx) : (run (body m hm n hn) σ).2 .a8 y = I.dw (y 0).val (256 * (n - 11) + (y 1).val) := by
  have hc := after_cols I n h σ hJ
  have hq := after_a17 I n h σ hJ
  by_cases h2 : n < 18
  · rw [body_mid hm n hn h h2]
    refine w_a8 hm I n h hn _ ⟨?_, ?_⟩ ?_ y
    · exact (funext fun y => (leaves_normBackward hm n h h2 (b := .a20) (y := y) (by decide) (by decide)).on σ).trans hc.c
    · exact (funext fun y => (leaves_normBackward hm n h h2 (b := .a21) (y := y) (by decide) (by decide)).on σ).trans hc.s
    · exact (funext fun y => (leaves_normBackward hm n h h2 (b := .a17) (y := y) (by decide) (by decide)).on σ).trans hq
  · rw [body_late hm n hn (by omega)]
    refine Eq.trans ?_ (w_a8 hm I n h hn σ hc hq y)
    by_cases e : n = 32
    · rw [if_pos e]; exact (leaves_dgammaOut (by decide)).on _
    · rw [if_neg e]; exact (leaves_ret _).on _

include hJ in
theorem after_a9 (e : n = 32) (y : (M2 1 2048).Idx) : (run (body m hm n hn) σ).2 .a9 y = I.dg (y 1).val := by
  rw [body_late hm n hn (by omega), if_pos e]
  refine dgamma_ok I _ ?_ y
  refine (funext fun y => (leaves_wgrad hm n h hn (b := .a23) (y := y) (by decide) (by decide)).on σ).trans ?_
  rw [hJ.d (by omega), show min (n - 11) 7 = 7 by omega]
end After

/-! ## A step -/

section
variable (n : ℕ) (hn : n < 33) (σ : S) (hin : InAll I n σ)

include hin in
theorem all_step (hJ : JAll I n σ) : JAll I (n + 1) (run (body m hm n hn) σ).2 := by
  by_cases h : n < 11
  · exact early_all hm I n hn h σ hin hJ
  · exact after_all hm I n hn (by omega) σ hin hJ

include hin in
theorem all_a10 (hG : n ≠ 0 → flushes .a10 (n - 1) = false → GAll I (n - 1) .a10 (σ .a10)) : GAll I n .a10 ((run (body m hm n hn) σ).2 .a10) := by
  intro y
  by_cases h7 : n < 7
  · rw [Nat.min_eq_left (by omega)]
    refine (early_x hm n hn (by omega) σ (b := .a10) y (by decide) (by decide) (by decide) (by decide) (by decide) (by decide) (by decide) (by decide) (by decide)).trans ?_
    rw [head_x hm n h7]
    exact x_a10 hm I n h7 _ ((hin.x h7).keep I (keep_pre n)) y
  · have hf : (decide (n - 1 ≤ 5) || decide (n - 1 = 32)) = false := by
      rw [decide_eq_false (by omega), decide_eq_false (by omega)]; rfl
    have e := hG (by omega) hf y
    rw [show min (n - 1) 6 = min n 6 by omega] at e
    refine Eq.trans ?_ e
    by_cases h : n < 11
    · refine (early_x hm n hn h σ (b := .a10) y (by decide) (by decide) (by decide) (by decide) (by decide) (by decide) (by decide) (by decide) (by decide)).trans ?_
      exact (leaves_head hm n (fun _ => by decide) (fun e => absurd e h7)).on σ
    · exact leaves_after hm n hn (by omega) (by decide) (by decide) (fun _ => by decide) (fun _ => by decide) σ

include hin in
theorem all_a11 (hG : n ≠ 0 → flushes .a11 (n - 1) = false → GAll I (n - 1) .a11 (σ .a11)) : GAll I n .a11 ((run (body m hm n hn) σ).2 .a11) := by
  intro y hy
  have h0 : (y 0).val < 14 := (y 0).isLt
  by_cases h : n < 11
  · refine (early_x hm n hn h σ (b := .a11) y (by decide) (by decide) (by decide) (by decide) (by decide) (by decide) (by decide) (by decide) (by decide)).trans ?_
    by_cases h7 : n < 7
    · rw [head_x hm n h7]
      by_cases e : (y 0).val / 2 = n
      · exact x_a11 hm I n h7 _ ((hin.x h7).keep I (keep_pre n)) y e
      · refine ((x_a11_off hm n h7 y e).on _).trans ?_
        exact ((leaves_pre n fun _ => by decide).on σ).trans (hG (by omega) (decide_eq_false (by omega)) y (by omega))
    · exact ((leaves_head hm n (fun _ => by decide) (fun e => absurd e h7)).on σ).trans (hG (by omega) (decide_eq_false (by omega)) y (by omega))
  · exact (leaves_after hm n hn (by omega) (by decide) (by decide) (fun _ => by decide) (fun _ => by decide) σ).trans
      (hG (by omega) (decide_eq_false (by omega)) y (by omega))

include hin in
theorem all_a7 (hJ : JAll I n σ) (hG : n ≠ 0 → flushes .a7 (n - 1) = false → GAll I (n - 1) .a7 (σ .a7)) :
    GAll I n .a7 ((run (body m hm n hn) σ).2 .a7) := by
  intro h y
  by_cases h2 : n < 18
  · rw [Nat.min_eq_left (by omega)]
    exact after_a7 hm I n hn h σ hin hJ h2 y
  · have hf : (decide (11 ≤ n - 1) && decide (n - 1 ≤ 16) || decide (n - 1 = 32)) = false := by
      rw [decide_eq_false (p := n - 1 ≤ 16) (by omega), decide_eq_false (p := n - 1 = 32) (by omega), Bool.and_false]; rfl
    have e := hG (by omega) hf (by omega) y
    rw [show min (n - 1 - 11) 6 = min (n - 11) 6 by omega] at e
    exact (leaves_after hm n hn h (by decide) (by decide) (fun e => absurd e h2) (fun _ => by decide) σ).trans e

include hin in
theorem gall_step (hJ : JAll I n σ) (hG : ∀ b : B, b.isOut = true → n ≠ 0 → flushes b (n - 1) = false → GAll I (n - 1) b (σ b)) (b : B)
    (hb : b.isOut = true) : GAll I n b ((run (body m hm n hn) σ).2 b) := by
  have hd := gdy_step hm I n hn σ hin.dy (fun b hb h0 hf => (hG b hb h0 hf).dy) b
  cases b
  case a7 => exact all_a7 hm I n hn σ hin hJ (hG .a7 rfl)
  case a8 => exact fun h y => after_a8 hm I n hn h σ hJ y
  case a9 => exact fun e y => after_a9 hm I n hn (by omega) σ hJ e y
  case a10 => exact all_a10 hm I n hn σ hin (hG .a10 rfl)
  case a11 => exact all_a11 hm I n hn σ hin (hG .a11 rfl)
  all_goals first | exact hd | exact absurd hb (by decide)
end

end Cert.Spec
-- ==== Proof.RefExpo.lean ====
module

public import proofs.«01_k».proof.Proof.Tiles
public import proofs.«01_k».proof.Proof.Gen.ReferenceIdeal.Value

/-! The reference's exponent, and its codes and scales of the output gradient, by coordinates. -/

@[expose] public section

noncomputable section

namespace Cert.Spec

open Idealize.ShloMosaic Cert.Code

/-! ## Whole rectangles -/

theorem canon_whole {R C : ℕ} {e : EltTy} (h1 : 0 + R ≤ R) (h2 : 0 + C ≤ C) (w : (M2 R C).Idx → Elt Ideal e) (f : ℕ → ℕ → Elt Ideal e) (hw : w = of2 f)
    (hc : ∀ y, ∃ pc ∈ ([⟨R2 0 0 R C h1 h2, w⟩] : List (View.Piece (Elt Ideal) (M2 R C) e)), y ∈ pc.1.set) :
    View.canon (Val := Elt Ideal) [⟨R2 0 0 R C h1 h2, w⟩] = of2 f := by
  funext y
  refine View.canon_apply_of_pieces (of2 f) _ ?_ y (hc y)
  intro pc hpc
  rcases List.mem_cons.mp hpc with rfl | hpc
  · intro x
    subst hw
    show f (x 0).val (x 1).val = f (0 + 1 * (x 0).val) (0 + 1 * (x 1).val)
    rw [Nat.one_mul, Nat.one_mul, Nat.zero_add, Nat.zero_add]
  · nomatch hpc

theorem ld_whole {R C : ℕ} {e : EltTy} (h1 : 0 + R ≤ R) (h2 : 0 + C ≤ C) (f : ℕ → ℕ → Elt Ideal e) :
    View.ld (Val := Elt Ideal) (e' := e) (of2 f : (M2 R C).Idx → Elt Ideal e) (R2 0 0 R C h1 h2) = of2 f :=
  (at2 h1 h2 f).trans (of2_congr fun i j _ _ => by rw [Nat.zero_add, Nat.zero_add])

/-! ## The exponent -/

theorem c4_pos : 0 < c4 := by
  unfold c4
  simp [Ideal.ofBits, Ideal.ieee]
  positivity

theorem c5_pos : 0 < c5 := by
  unfold c5
  simp [Ideal.ofBits, Ideal.ieee]
  positivity

theorem iota_lane {A B C : ℕ} (h) (x : (M3 A B C).Idx) : iota .tc (M3 A B C) 32 [2] h x = BitVec.ofNat 32 (x 2).val := by
  refine congrArg (BitVec.ofNat 32) (?_ : 0 * C + (x 2).val = (x 2).val)
  rw [Nat.zero_mul, Nat.zero_add]

/-- The exponent of each group's scale as the reference computes it from the groups' largest magnitudes. -/
def refExpo {A C : ℕ} (c : BitVec 32) (a : FVec Ideal (M2 A C) .f32) (h1 : (M3 A C 252).Iotas .tc 32 [2]) (h2 : (M2 A C).ShapeCasts (M3 A C 1))
    (h3 : (M3 A C 1).Broadcasts (M3 A C 252)) (h4 : (M3 A C 252).Reduces [2] (M2 A C)) : FVec Ideal (M2 A C) .f32 :=
  select (cmpf .oeq a (broadcast (M2 A C) (Scalar.ofBits .f32 0x00000000#32))) (broadcast (M2 A C) (Scalar.ofBits .f32 0x00000000#32))
    (subf (multiReduction .add [2] (M2 A C)
      (select (cmpf .oge (broadcastTo (M3 A C 252) (shapeCast (M3 A C 1) (mulf a (broadcast (M2 A C) (Scalar.ofBits .f32 c))) h2) h3)
        (exp2 (subf (sitofp .f32 (iota .tc (M3 A C 252) 32 [2] h1)) (broadcast (M3 A C 252) (Scalar.ofBits .f32 0x42FC0000#32)))))
        (broadcast (M3 A C 252) (Scalar.ofBits .f32 0x3F800000#32)) (broadcast (M3 A C 252) (Scalar.ofBits .f32 0x00000000#32)))
      0x00000000#32 h4 (.inl rfl) rfl)
      (broadcast (M2 A C) (Scalar.ofBits .f32 0x42FC0000#32)))

theorem refExpo_of2 {A C : ℕ} (c : BitVec 32) (hc : 0 < Ideal.ofBits .f32 c) (f : ℕ → ℕ → EReal) (hf : ∀ i j, 0 ≤ f i j) (h1 h2 h3 h4) :
    refExpo (A := A) (C := C) c (of2 f) h1 h2 h3 h4 = of2 fun i j => expo (f i j * Ideal.ofBits .f32 c) := by
  unfold refExpo
  rw [bc2 c, mul2, cast_lane, bc_lane]
  have hs : (select (cmpf .oge (of3 fun i j _ => f i j * Ideal.ofBits .f32 c : FVec Ideal (M3 A C 252) .f32)
        (exp2 (subf (sitofp .f32 (iota .tc (M3 A C 252) 32 [2] h1)) (broadcast (M3 A C 252) (Scalar.ofBits (F := Ideal) .f32 0x42FC0000#32)))))
        (broadcast (M3 A C 252) (Scalar.ofBits (F := Ideal) .f32 0x3F800000#32)) (broadcast (M3 A C 252) (Scalar.ofBits (F := Ideal) .f32 0x00000000#32)) : FVec Ideal (M3 A C 252) .f32)
      = of3 fun i j k => Scalar.select (Ideal.cmp .oge (f i j * Ideal.ofBits .f32 c)
          (Ideal.exp2 ((((BitVec.ofNat 32 k).toInt : ℝ) : EReal) - Ideal.ofBits .f32 0x42FC0000#32)))
        (Ideal.ofBits .f32 0x3F800000#32) (Ideal.ofBits .f32 0x00000000#32) := funext fun x => by
    show Scalar.select (Ideal.cmp .oge (f (x 0).val (x 1).val * Ideal.ofBits .f32 c)
          (Ideal.exp2 ((((iota .tc (M3 A C 252) 32 [2] h1 x).toInt : ℝ) : EReal) - Ideal.ofBits .f32 0x42FC0000#32))) _ _ = _
    rw [iota_lane]
    rfl
  rw [hs]
  erw [add_r3_2]
  funext y
  exact expo_ref (f (y 0).val (y 1).val) _ (hf _ _) hc

/-! ## The output gradient -/

section
open Cert.ReferenceIdeal Cert.ReferenceIdeal.Gen
variable (I : Inp)

abbrev dyA : FVec Ideal (M2 1792 5632) .bf16 := of2 I.dy

theorem pay12_eq : k0_pay12 (F := Ideal) (dyA I) = of2 I.dy := by
  unfold k0_pay12
  exact congrArg (extf (F := Ideal) .f32) (cast_self (of2 I.dy) _)

theorem pay13_eq : k0_pay13 (F := Ideal) (dyA I) = of3 fun i j k => I.dy i (128 * j + k) := by
  unfold k0_pay13
  rw [pay12_eq]
  refine (cast_cols (B := 44) (C := 128) (by decide) _ _).trans ?_
  funext y
  show I.dy (y 0).val ((y 1).val * 128 + (y 2).val) = I.dy (y 0).val (128 * (y 1).val + (y 2).val)
  rw [Nat.mul_comm]

theorem pay14_eq : k0_pay14 (F := Ideal) (dyA I) = of2 fun i c => expo (I.rb i c) := by
  refine Eq.trans (b := refExpo 0x37924925#32 (multiReduction .maximumf [2] (M2 1792 44) (absf (k0_pay13 (F := Ideal) (dyA I))) 0xFF800000#32 reduces_S1792x44x128_S1792x44 (.inl rfl) rfl) _ _ _ _) rfl ?_
  rw [pay13_eq, abs3]
  erw [max_r3_2 _ _ _ _ _ ofBits_bot]
  exact refExpo_of2 _ c5_pos _ (fun i j => mx_nonneg (by decide) _ fun k => ab_nonneg _) _ _ _ _

theorem pay16_eq : k0_pay16 (F := Ideal) (k0_pay13 (dyA I)) (k0_pay14 (dyA I)) k0_pay15 = of2 I.rcode := by
  rw [pay13_eq, pay14_eq]
  unfold k0_pay16 k0_pay15
  dsimp only
  rw [bc2, sub2, exp2_2, cast_lane, bc_lane, mul3, bc3, bc3, max3, min3, trunc3]
  refine (cast_uncols (B := 44) (C := 128) (by decide) _ _).trans ?_
  refine of2_congr fun i j _ _ => ?_
  show clip5 (I.dy i (128 * (j / 128) + j % 128) * Ideal.exp2 (Ideal.ofBits .f32 0x00000000#32 - expo (I.rb i (j / 128)))) = _
  rw [Nat.div_add_mod, ofBits_zero]
  rfl

theorem pay17_eq : k0_pay17 (F := Ideal) (k0_pay14 (dyA I)) = of2 I.rscale := by
  rw [pay14_eq]; rfl

theorem pay18_eq : k0_pay18 (F := Ideal) (of2 I.dy) = of3 fun t i j => I.dy (128 * t + i) j := by
  refine (cast_rows (A := 14) (B := 128) (by decide) _ _).trans ?_
  funext y
  show I.dy ((y 0).val * 128 + (y 1).val) (y 2).val = I.dy (128 * (y 0).val + (y 1).val) (y 2).val
  rw [Nat.mul_comm]

theorem pay19_eq : k0_pay19 (F := Ideal) (of2 I.dy) = of2 fun t j => expo (I.cb t j) := by
  refine Eq.trans (b := refExpo 0x37924925#32 (multiReduction .maximumf [1] (M2 14 5632) (absf (k0_pay18 (F := Ideal) (of2 I.dy))) 0xFF800000#32 reduces_S14x128x5632_S14x5632 (.inl rfl) rfl) _ _ _ _) rfl ?_
  rw [pay18_eq, abs3]
  erw [max_r3_1 _ _ _ _ _ ofBits_bot]
  exact refExpo_of2 _ c5_pos _ (fun i j => mx_nonneg (by decide) _ fun k => ab_nonneg _) _ _ _ _

theorem pay21_eq : k0_pay21 (F := Ideal) (k0_pay20 (of2 I.dy)) = of2 I.ccode := by
  unfold k0_pay21 k0_pay20
  dsimp only
  rw [pay19_eq, pay18_eq]
  rw [bc2, sub2, exp2_2, cast_mid, bc_mid, mul3, bc3, bc3, max3, min3, trunc3]
  refine (cast_unrows (A := 14) (B := 128) (by decide) _ _).trans ?_
  refine of2_congr fun i j _ _ => ?_
  show clip5 (I.dy (128 * (i / 128) + i % 128) j * Ideal.exp2 (Ideal.ofBits .f32 0x00000000#32 - expo (I.cb (i / 128) j))) = _
  rw [Nat.div_add_mod, ofBits_zero]
  rfl

theorem pay22_eq : k0_pay22 (F := Ideal) (k0_pay19 (of2 I.dy)) = of2 I.cscale := by
  rw [pay19_eq]; rfl

variable (x0 : Vec Ideal S1792x2048 .fp8e4m3) (x1 : Vec Ideal S1792x16 .f32) (x2 : Vec Ideal S1x2048 .f32) (x3 : Vec Ideal S2048x5632 .fp8e4m3)
  (x4 : Vec Ideal S16x44 .f32)

theorem ld_dy : View.ld (Val := Elt Ideal) (e' := .bf16) (dyA I) r0_3 = dyA I := ld_whole (by omega) (by omega) _

theorem out11_eq : out0_11 (F := Ideal) x0 x1 x2 x3 x4 (dyA I) = of2 I.rcode := by
  unfold out0_11
  refine canon_whole (by omega) (by omega) _ _ ?_ (cover0_11 _)
  unfold k0_pay33 k0_pay32
  rw [ld_dy]
  exact pay16_eq I

theorem out12_eq : out0_12 (F := Ideal) x0 x1 x2 x3 x4 (dyA I) = of2 I.rscale := by
  unfold out0_12
  refine canon_whole (by omega) (by omega) _ _ ?_ (cover0_12 _)
  unfold k0_pay34 k0_pay32
  rw [ld_dy]
  exact pay17_eq I

theorem out13_eq : out0_13 (F := Ideal) x0 x1 x2 x3 x4 (dyA I) = of2 I.ccode := by
  unfold out0_13
  refine canon_whole (by omega) (by omega) _ _ ?_ (cover0_13 _)
  unfold k0_pay36 k0_pay31
  rw [ld_dy, pay12_eq]
  exact pay21_eq I

theorem out14_eq : out0_14 (F := Ideal) x0 x1 x2 x3 x4 (dyA I) = of2 I.cscale := by
  unfold out0_14
  refine canon_whole (by omega) (by omega) _ _ ?_ (cover0_14 _)
  unfold k0_pay35 k0_pay31
  rw [ld_dy, pay12_eq]
  exact pay22_eq I
end

end Cert.Spec
-- ==== Proof.RefOut.lean ====
module

public import proofs.«01_k».proof.Proof.RefExpo
public import proofs.«01_k».proof.Proof.XTiles

/-! The reference's other results by coordinates: the quantised activations, the products and the backward pass of the
normalisation. -/

@[expose] public section

noncomputable section

namespace Cert.Spec

open Idealize.ShloMosaic Cert.Code

section
open Cert.ReferenceIdeal Cert.ReferenceIdeal.Gen
variable (I : Inp)

/-! ## The product of a transposed left operand -/

theorem matmul_TN {φ₁ φ₂ : FTy} (f g : ℕ → ℕ → EReal) (prec) :
    matmul (F := Ideal) (φ₁ := φ₁) (φ₂ := φ₂) dot_S1792x2048_S1792x5632_S2048x5632_0_0_1_1_n_n prec (of2 f) (of2 g)
      (constant (M2 2048 5632) .f32 0x00000000#32) = of2 fun i j => ∑ k ∈ Finset.range 1792, f k i * g k j := funext fun y => by
  refine (Ideal.matmul_apply _ _ _ _ _ _).trans ?_
  rw [← Equiv.sum_comp (ValueIdx.contrEquiv1 dot_S1792x2048_S1792x5632_S2048x5632_0_0_1_1_n_n 1792 rfl rfl).symm]
  show Ideal.ofBits .f32 0x00000000#32 + _ = _
  rw [ofBits_zero', zero_add]
  refine Eq.trans ?_ (Finset.sum_range fun k => f k (y 0).val * g k (y 1).val).symm
  refine Finset.sum_congr rfl fun k _ => ?_
  have hk := ValueIdx.contrEquiv1_symm_val dot_S1792x2048_S1792x5632_S2048x5632_0_0_1_1_n_n 1792 rfl rfl k
  exact congrArg₂ (fun a b => f a (y 0).val * g b (y 1).val) hk hk

/-! ## The normalised activations -/

abbrev xA : FVec Ideal (M2 1792 2048) .fp8e4m3 := of2 I.x
abbrev xsA : FVec Ideal (M2 1792 16) .f32 := of2 I.xs
abbrev gA : FVec Ideal (M2 1 2048) .f32 := of2 fun _ j => I.g j
abbrev wA : FVec Ideal (M2 2048 5632) .fp8e4m3 := of2 I.w
abbrev wsA : FVec Ideal (M2 16 44) .f32 := of2 I.ws

theorem pay2_eq : k0_pay2 (F := Ideal) (gA I) = gA I := cast_self _ _

theorem pay3_eq : k0_pay3 (F := Ideal) (xA I) (xsA I) = of2 I.xf := by
  unfold k0_pay3
  dsimp only
  rw [cast_self, cast_self, cast_self, ext_2, cast_lane, bc_lane, cast_uncols (B := 16) (C := 128) (by decide), mul2]
  rfl

theorem pay4_eq : k0_pay4 (F := Ideal) (xA I) (xsA I) = of2 fun i _ => I.rinv i := by
  unfold k0_pay4
  dsimp only
  rw [pay3_eq, mul2]
  erw [add_r2_1]
  rw [cast_col, bc2, mul2, bc2, add2, rsqrt2]
  rfl

theorem pay5_eq : k0_pay5 (F := Ideal) (xA I) (xsA I) = of2 I.xhat := by
  unfold k0_pay5
  dsimp only
  rw [pay3_eq, pay4_eq, bc_col, mul2]
  rfl

theorem pay6_eq : k0_pay6 (F := Ideal) (gA I) (xA I) (xsA I) = of3 fun t i j => I.xn (128 * t + i) j := by
  unfold k0_pay6
  dsimp only
  rw [pay2_eq, pay5_eq, bc_row, mul2]
  refine (cast_rows (A := 14) (B := 128) (by decide) _ _).trans ?_
  funext y
  show I.xn ((y 0).val * 128 + (y 1).val) (y 2).val = I.xn (128 * (y 0).val + (y 1).val) (y 2).val
  rw [Nat.mul_comm]

theorem pay7_eq : k0_pay7 (F := Ideal) (gA I) (xA I) (xsA I) = of2 fun t j => mx 128 fun k => ab (I.xn (128 * t + k) j) := by
  unfold k0_pay7
  dsimp only
  rw [pay6_eq, abs3]
  exact max_r3_1 _ _ _ _ _ ofBits_bot

theorem pay9_eq : k0_pay9 (F := Ideal) (k0_pay7 (gA I) (xA I) (xsA I)) (k0_pay8 (gA I) (xA I) (xsA I)) (Scalar.ofBits .f32 0x00000000#32) =
    of2 fun t j => expo (I.xb t j) := by
  refine Eq.trans (b := refExpo 0x3B124925#32 (k0_pay7 (F := Ideal) (gA I) (xA I) (xsA I)) _ _ _ _) rfl ?_
  rw [pay7_eq]
  exact refExpo_of2 _ c4_pos _ (fun i j => mx_nonneg (by decide) _ fun k => ab_nonneg _) _ _ _ _

theorem pay10_eq : k0_pay10 (F := Ideal) (k0_pay6 (gA I) (xA I) (xsA I)) (k0_pay7 (gA I) (xA I) (xsA I)) (k0_pay8 (gA I) (xA I) (xsA I))
    (Scalar.ofBits .f32 0x00000000#32) = of2 I.xcode := by
  unfold k0_pay10
  dsimp only
  rw [pay9_eq, pay6_eq]
  rw [bc2, sub2, exp2_2, cast_mid, bc_mid, mul3, bc3, bc3, max3, min3, trunc3]
  refine (cast_unrows (A := 14) (B := 128) (by decide) _ _).trans ?_
  refine of2_congr fun i j _ _ => ?_
  show clip4 (I.xn (128 * (i / 128) + i % 128) j * Ideal.exp2 (Ideal.ofBits .f32 0x00000000#32 - expo (I.xb (i / 128) j))) = _
  rw [Nat.div_add_mod, ofBits_zero]
  rfl

theorem pay11_eq : k0_pay11 (F := Ideal) (k0_pay7 (gA I) (xA I) (xsA I)) (k0_pay8 (gA I) (xA I) (xsA I)) (Scalar.ofBits .f32 0x00000000#32) =
    of2 I.xscale := by
  unfold k0_pay11
  dsimp only
  rw [pay9_eq]
  rfl

/-! ## The products -/

theorem pay23_eq : k0_pay23 (F := Ideal) (of2 I.rcode) (of2 I.rscale) (wA I) (wsA I) = of2 I.dxn := by
  unfold k0_pay23
  dsimp only
  rw [ext_2, trunc2, cast_lane, cast_self, bc_lane, cast_uncols (B := 44) (C := 128) (by decide), mul2]
  rw [ext_2, trunc2, cast_lane, cast_self, cast_self, bc_lane, cast_uncols (B := 44) (C := 128) (by decide), cast_mid, bc_mid,
    cast_unrows (A := 16) (B := 128) (by decide), mul2]
  exact matmul_NT (M := 1792) (K := 5632) (N := 2048) (φ₁ := .bf16) (φ₂ := .bf16) I.dyq I.wq none

theorem pay24_eq (v121 v132) (h21 : k0_pay21 (F := Ideal) v132 = of2 I.ccode) (h22 : k0_pay22 (F := Ideal) v121 = of2 I.cscale) :
    k0_pay24 (F := Ideal) (of2 I.xcode) (of2 I.xscale) v121 v132 = of2 I.dw := by
  unfold k0_pay24
  dsimp only
  rw [h21, h22]
  rw [ext_2, trunc2, cast_mid, cast_self, bc_mid, cast_unrows (A := 14) (B := 128) (by decide), mul2]
  rw [ext_2, trunc2, cast_mid, cast_self, bc_mid, cast_unrows (A := 14) (B := 128) (by decide), mul2]
  exact matmul_TN (φ₁ := .bf16) (φ₂ := .bf16) I.xq I.dq none

/-! ## The backward pass of the normalisation -/

theorem pay25_eq : k0_pay25 (F := Ideal) (gA I) (of2 fun i _ => I.rinv i) (of2 I.xhat) (of2 I.rcode) (of2 I.rscale) (wA I) (wsA I) = of2 I.dx := by
  unfold k0_pay25
  dsimp only
  rw [pay23_eq, bc_row, mul2, mul2]
  erw [add_r2_1]
  rw [cast_col, bc2, mul2, bc_col, bc_col, mul2, sub2, mul2, trunc2]
  rfl

theorem pay1_eq : k0_pay1 (F := Ideal) (of2 I.xhat) (of2 I.dxn) = of2 fun _ j => I.dg j := by
  unfold k0_pay1
  dsimp only
  rw [mul2]
  erw [add_r2_0]
  exact cast_row _ _

/-! ## The results -/

theorem ld_x : View.ld (Val := Elt Ideal) (e' := .fp8e4m3) (xA I) r0_1 = xA I := ld_whole (by omega) (by omega) _
theorem ld_xs : View.ld (Val := Elt Ideal) (e' := .f32) (xsA I) r0_2 = xsA I := ld_whole (by omega) (by omega) _
theorem ld_g : View.ld (Val := Elt Ideal) (e' := .f32) (gA I) r0_0 = gA I := ld_whole (by omega) (by omega) _
theorem ld_w : View.ld (Val := Elt Ideal) (e' := .fp8e4m3) (wA I) r0_4 = wA I := ld_whole (by omega) (by omega) _
theorem ld_ws : View.ld (Val := Elt Ideal) (e' := .f32) (wsA I) r0_5 = wsA I := ld_whole (by omega) (by omega) _

theorem pay26_eq : k0_pay26 (F := Ideal) (xA I) (xsA I) (gA I) (wA I) (wsA I) (dyA I) = of2 I.xhat := by
  unfold k0_pay26
  rw [ld_x, ld_xs]
  exact pay5_eq I

theorem pay29_eq : k0_pay29 (F := Ideal) (xA I) (xsA I) (gA I) (wA I) (wsA I) (dyA I) = of2 I.xcode := by
  unfold k0_pay29 k0_pay27 k0_pay28
  rw [ld_x, ld_xs, ld_g]
  exact pay10_eq I

theorem pay30_eq : k0_pay30 (F := Ideal) (xA I) (xsA I) (gA I) (wA I) (wsA I) (dyA I) = of2 I.xscale := by
  unfold k0_pay30 k0_pay27 k0_pay28
  rw [ld_x, ld_xs, ld_g]
  exact pay11_eq I

theorem pay33_eq : k0_pay33 (F := Ideal) (xA I) (xsA I) (gA I) (wA I) (wsA I) (dyA I) = of2 I.rcode := by
  unfold k0_pay33 k0_pay32
  rw [ld_dy]
  exact pay16_eq I

theorem pay34_eq : k0_pay34 (F := Ideal) (xA I) (xsA I) (gA I) (wA I) (wsA I) (dyA I) = of2 I.rscale := by
  unfold k0_pay34 k0_pay32
  rw [ld_dy]
  exact pay17_eq I

theorem out6_eq : out0_6 (F := Ideal) (xA I) (xsA I) (gA I) (wA I) (wsA I) (dyA I) = of2 I.dx := by
  unfold out0_6
  refine canon_whole (by omega) (by omega) _ _ ?_ (cover0_6 _)
  rw [ld_x, ld_xs, ld_g, ld_w, ld_ws, pay2_eq, pay4_eq, pay26_eq, pay33_eq, pay34_eq]
  exact pay25_eq I

theorem out7_eq : out0_7 (F := Ideal) (xA I) (xsA I) (gA I) (wA I) (wsA I) (dyA I) = of2 I.dw := by
  unfold out0_7
  refine canon_whole (by omega) (by omega) _ _ ?_ (cover0_7 _)
  rw [pay29_eq, pay30_eq]
  refine pay24_eq I _ _ ?_ ?_
  · unfold k0_pay36 k0_pay31
    rw [ld_dy, pay12_eq]
    exact pay21_eq I
  · unfold k0_pay35 k0_pay31
    rw [ld_dy, pay12_eq]
    exact pay22_eq I

theorem out8_eq : out0_8 (F := Ideal) (xA I) (xsA I) (gA I) (wA I) (wsA I) (dyA I) = of2 fun _ j => I.dg j := by
  unfold out0_8
  refine canon_whole (by omega) (by omega) _ _ ?_ (cover0_8 _)
  rw [ld_w, ld_ws, pay26_eq, pay33_eq, pay34_eq, pay23_eq]
  exact pay1_eq I

theorem out9_eq : out0_9 (F := Ideal) (xA I) (xsA I) (gA I) (wA I) (wsA I) (dyA I) = of2 I.xcode := by
  unfold out0_9
  exact canon_whole (by omega) (by omega) _ _ (pay29_eq I) (cover0_9 _)

theorem out10_eq : out0_10 (F := Ideal) (xA I) (xsA I) (gA I) (wA I) (wsA I) (dyA I) = of2 I.xscale := by
  unfold out0_10
  exact canon_whole (by omega) (by omega) _ _ (pay30_eq I) (cover0_10 _)
end

end Cert.Spec
-- ==== Proof.EqKIdeal.lean ====
module

public import proofs.«01_k».proof.KernelIdeal
public import proofs.«01_k».proof.Proof.Code

/-! The printed body of the kernel is the body written in `Code`, at every step of its grid. -/

public section

set_option maxRecDepth 100000

noncomputable section

namespace Cert.KernelIdeal

open Idealize.ShloMosaic Idealize.SL.Sem
open Cert.Model

variable {F : FTy → Type} [FloatOps F] [Facts]

/-- The buffers of a step as one family. -/
@[expose] def mk (arg1 : Memref sig .tc .smem S16x44 .f32) (arg2 : Memref sig .tc .vmem S1792x512 .bf16) (arg3 : Memref sig .tc .vmem S2048x512 .fp8e4m3) (arg4 : Memref sig .tc .vmem S256x2048 .fp8e4m3) (arg5 : Memref sig .tc .vmem S256x16 .f32) (arg6 : Memref sig .tc .vmem S1x2048 .f32) (arg7 : Memref sig .tc .vmem S256x2048 .bf16) (arg8 : Memref sig .tc .vmem S2048x256 .f32) (arg9 : Memref sig .tc .vmem S1x2048 .f32) (arg10 : Memref sig .tc .vmem S256x2048 .fp8e4m3) (arg11 : Memref sig .tc .vmem S14x2048 .f32) (arg12 : Memref sig .tc .vmem S1792x512 .fp8e5m2) (arg13 : Memref sig .tc .vmem S1792x44 .f32) (arg14 : Memref sig .tc .vmem S1792x512 .fp8e5m2) (arg15 : Memref sig .tc .vmem S14x512 .f32) (arg16 : Memref sig .tc .vmem S1792x2048 .f32) (arg17 : Memref sig .tc .vmem S2048x1792 .bf16) (arg18 : Memref sig .tc .vmem S1792x512 .bf16) (arg19 : Memref sig .tc .vmem S2048x512 .bf16) (arg20 : Memref sig .tc .vmem S22x1792x256 .fp8e5m2) (arg21 : Memref sig .tc .vmem S22x14x256 .f32) (arg22 : Memref sig .tc .vmem S1792x256 .bf16) (arg23 : Memref sig .tc .vmem S8x2048 .f32) : Code.fam.Mems sig
  | .a1 => arg1
  | .a2 => arg2
  | .a3 => arg3
  | .a4 => arg4
  | .a5 => arg5
  | .a6 => arg6
  | .a7 => arg7
  | .a8 => arg8
  | .a9 => arg9
  | .a10 => arg10
  | .a11 => arg11
  | .a12 => arg12
  | .a13 => arg13
  | .a14 => arg14
  | .a15 => arg15
  | .a16 => arg16
  | .a17 => arg17
  | .a18 => arg18
  | .a19 => arg19
  | .a20 => arg20
  | .a21 => arg21
  | .a22 => arg22
  | .a23 => arg23

theorem cond1 : ∀ i : grid0.Coords, k0_cond1 i = 1#1 ↔ (i 0).val = 0 := by decide +kernel
theorem cond2 : ∀ i : grid0.Coords, k0_cond2 i = 1#1 ↔ (i 0).val < 7 := by decide +kernel
theorem cond3 : ∀ i : grid0.Coords, k0_cond3 i = 1#1 ↔ 7 ≤ (i 0).val ∧ (i 0).val < 11 := by decide +kernel
theorem cond4 : ∀ i : grid0.Coords, k0_cond4 i = 1#1 ↔ 11 ≤ (i 0).val ∧ (i 0).val < 18 := by decide +kernel
theorem cond5 : ∀ i : grid0.Coords, k0_cond5 i = 1#1 ↔ 18 ≤ (i 0).val := by decide +kernel
theorem cond6 : ∀ i : grid0.Coords, k0_cond6 i = 1#1 ↔ (i 0).val = 32 := by decide +kernel

/-- The printed body is the body of `Code`. -/
theorem cc0_eq (i : grid0.Coords) (arg1 : Memref sig .tc .smem S16x44 .f32) (harg1 : arg1.IsWhole) (arg2 : Memref sig .tc .vmem S1792x512 .bf16) (harg2 : arg2.IsWhole) (arg3 : Memref sig .tc .vmem S2048x512 .fp8e4m3) (harg3 : arg3.IsWhole) (arg4 : Memref sig .tc .vmem S256x2048 .fp8e4m3) (harg4 : arg4.IsWhole) (arg5 : Memref sig .tc .vmem S256x16 .f32) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S2048x256 .f32) (harg8 : arg8.IsWhole) (arg9 : Memref sig .tc .vmem S1x2048 .f32) (harg9 : arg9.IsWhole) (arg10 : Memref sig .tc .vmem S256x2048 .fp8e4m3) (harg10 : arg10.IsWhole) (arg11 : Memref sig .tc .vmem S14x2048 .f32) (harg11 : arg11.IsWhole) (arg12 : Memref sig .tc .vmem S1792x512 .fp8e5m2) (harg12 : arg12.IsWhole) (arg13 : Memref sig .tc .vmem S1792x44 .f32) (harg13 : arg13.IsWhole) (arg14 : Memref sig .tc .vmem S1792x512 .fp8e5m2) (harg14 : arg14.IsWhole) (arg15 : Memref sig .tc .vmem S14x512 .f32) (harg15 : arg15.IsWhole) (arg16 : Memref sig .tc .vmem S1792x2048 .f32) (harg16 : arg16.IsWhole) (arg17 : Memref sig .tc .vmem S2048x1792 .bf16) (harg17 : arg17.IsWhole) (arg18 : Memref sig .tc .vmem S1792x512 .bf16) (harg18 : arg18.IsWhole) (arg19 : Memref sig .tc .vmem S2048x512 .bf16) (harg19 : arg19.IsWhole) (arg20 : Memref sig .tc .vmem S22x1792x256 .fp8e5m2) (harg20 : arg20.IsWhole) (arg21 : Memref sig .tc .vmem S22x14x256 .f32) (harg21 : arg21.IsWhole) (arg22 : Memref sig .tc .vmem S1792x256 .bf16) (harg22 : arg22.IsWhole) (arg23 : Memref sig .tc .vmem S8x2048 .f32) (harg23 : arg23.IsWhole) :
    cc0_rmsnorm_linear_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = comp (m := mk arg1 arg2 arg3 arg4 arg5 arg6 arg7 arg8 arg9 arg10 arg11 arg12 arg13 arg14 arg15 arg16 arg17 arg18 arg19 arg20 arg21 arg22 arg23) (Code.body (mk arg1 arg2 arg3 arg4 arg5 arg6 arg7 arg8 arg9 arg10 arg11 arg12 arg13 arg14 arg15 arg16 arg17 arg18 arg19 arg20 arg21 arg22 arg23) (by intro b; cases b <;> assumption) (i 0).val (by exact (i 0).isLt)) := by
  have hlt : (i 0).val < 33 := (i 0).isLt
  unfold cc0_rmsnorm_linear_bwd Code.body
  by_cases d0 : (i 0).val = 0
  · have d1 : (i 0).val < 7 := by omega
    have k1 : k0_cond1 i = 1#1 := by rw [cond1]; omega
    have k2 : k0_cond2 i = 1#1 := by rw [cond2]; omega
    have k3 : ¬ k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, if_pos d0, d1, ↓reduceDIte, ↓reduceIte]
    sl_kernel_rfl
  by_cases d1 : (i 0).val < 7
  · have k1 : ¬ k0_cond1 i = 1#1 := by rw [cond1]; omega
    have k2 : k0_cond2 i = 1#1 := by rw [cond2]; omega
    have k3 : ¬ k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, ↓reduceDIte, ↓reduceIte]
    sl_kernel_rfl
  by_cases d2 : (i 0).val < 11
  · have k1 : ¬ k0_cond1 i = 1#1 := by rw [cond1]; omega
    have k2 : ¬ k0_cond2 i = 1#1 := by rw [cond2]; omega
    have k3 : k0_cond3 i = 1#1 := by rw [cond3]; omega
    have k4 : ¬ k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, d2, ↓reduceDIte, ↓reduceIte]
    sl_kernel_rfl
  by_cases d3 : (i 0).val < 18
  · have k1 : ¬ k0_cond1 i = 1#1 := by rw [cond1]; omega
    have k2 : ¬ k0_cond2 i = 1#1 := by rw [cond2]; omega
    have k3 : ¬ k0_cond3 i = 1#1 := by rw [cond3]; omega
    have k4 : k0_cond4 i = 1#1 := by rw [cond4]; omega
    have k5 : ¬ k0_cond5 i = 1#1 := by rw [cond5]; omega
    have k6 : ¬ k0_cond6 i = 1#1 := by rw [cond6]; omega
    simp -zeta only [k1, k2, k3, k4, k5, k6, d0, d1, d2, d3, ↓reduceDIte, ↓reduceIte]
    sl_kernel_rfl
  by_cases d4 : (i 0).val = 32
  · have k1 : ¬ k0_cond1 i = 1#1 := by rw [cond1]; omega
    have k2 : ¬ k0_cond2 i = 1#1 := by rw [cond2]; omega
    have k3 : ¬ k0_cond3 i = 1#1 := by rw [cond3]; omega
    have k4 : ¬ k0_cond4 i = 1#1 := by rw [cond4]; omega
    have k5 : k0_cond5 i = 1#1 := by rw [cond5]; omega
    have k6 : k0_cond6 i = 1#1 := by rw [cond6]; omega
    simp -zeta only [k1, k2, k3, k4, k5, k6, d0, d1, d2, d3, if_pos d4, ↓reduceDIte, ↓reduceIte]
    sl_kernel_rfl
  have k1 : ¬ k0_cond1 i = 1#1 := by rw [cond1]; omega
  have k2 : ¬ k0_cond2 i = 1#1 := by rw [cond2]; omega
  have k3 : ¬ k0_cond3 i = 1#1 := by rw [cond3]; omega
  have k4 : ¬ k0_cond4 i = 1#1 := by rw [cond4]; omega
  have k5 : k0_cond5 i = 1#1 := by rw [cond5]; omega
  have k6 : ¬ k0_cond6 i = 1#1 := by rw [cond6]; omega
  simp -zeta only [k1, k2, k3, k4, k5, k6, d0, d1, d2, d3, d4, ↓reduceDIte, ↓reduceIte]
  sl_kernel_rfl

end Cert.KernelIdeal
-- ==== Proof.RunKIdeal.lean ====
module

public import proofs.«01_k».proof.Proof.Gen.KernelIdeal.Frame
public import proofs.«01_k».proof.Proof.Contract
public import proofs.«01_k».proof.Proof.EqKIdeal

/-! The launch of the kernel from a contract its steps keep. -/

@[expose] public section

set_option maxRecDepth 16384

noncomputable section

namespace Cert.KernelIdeal.Run

open Cert.KernelIdeal Cert.KernelIdeal.Gen Cert.Model
open Cert.Code (B Contract flushes fam)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contract reads each input's block. -/
structure Reads (C : Contract F sig) (c : Dev nD) : Prop where
  i0 : ∀ t : Fin cfg0.N, C.In .a1 t.val = iblk m c 0 t
  i1 : ∀ t : Fin cfg0.N, C.In .a2 t.val = iblk m c 1 t
  i2 : ∀ t : Fin cfg0.N, C.In .a3 t.val = iblk m c 2 t
  i3 : ∀ t : Fin cfg0.N, C.In .a4 t.val = iblk m c 3 t
  i4 : ∀ t : Fin cfg0.N, C.In .a5 t.val = iblk m c 4 t
  i5 : ∀ t : Fin cfg0.N, C.In .a6 t.val = iblk m c 5 t

/-- The buffers of the body at a point. -/
abbrev bufs (t : Fin cfg0.N) : fam.Mems sig :=
  mk (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)

/-- A state of the body's buffers from what the windows and the scratch hold. -/
def join (Y : (w : Fin cfg0.W) → (cfg0.win w).block.Idx → Elt F (cfg0.win w).elt) (s : fam.State (Elt F)) : fam.State (Elt F)
  | .a1 => Y 0
  | .a2 => Y 1
  | .a3 => Y 2
  | .a4 => Y 3
  | .a5 => Y 4
  | .a6 => Y 5
  | .a7 => Y 6
  | .a8 => Y 7
  | .a9 => Y 8
  | .a10 => Y 9
  | .a11 => Y 10
  | .a12 => Y 11
  | .a13 => Y 12
  | .a14 => Y 13
  | .a15 => Y 14
  | .a16 => s .a16
  | .a17 => s .a17
  | .a18 => s .a18
  | .a19 => s .a19
  | .a20 => s .a20
  | .a21 => s .a21
  | .a22 => s .a22
  | .a23 => s .a23

/-- What the windows hold at a state. -/
def outs (s : fam.State (Elt F)) : (w : Fin cfg0.W) → (cfg0.win w).block.Idx → Elt F (cfg0.win w).elt
  | ⟨0, _⟩ => s .a1
  | ⟨1, _⟩ => s .a2
  | ⟨2, _⟩ => s .a3
  | ⟨3, _⟩ => s .a4
  | ⟨4, _⟩ => s .a5
  | ⟨5, _⟩ => s .a6
  | ⟨6, _⟩ => s .a7
  | ⟨7, _⟩ => s .a8
  | ⟨8, _⟩ => s .a9
  | ⟨9, _⟩ => s .a10
  | ⟨10, _⟩ => s .a11
  | ⟨11, _⟩ => s .a12
  | ⟨12, _⟩ => s .a13
  | ⟨13, _⟩ => s .a14
  | ⟨14, _⟩ => s .a15

theorem join_outs (s : fam.State (Elt F)) : join (outs s) s = s := by
  funext b; cases b <;> rfl

/-- The scratch at a state, its contents kept. -/
def scratch (c : Dev nD) (s : fam.State (Elt F)) : sProp 𝕄 :=
  iprop(owns (c : Thread nD τ) (Memref.whole cc0_scratch0) fullShare (s .a16) ∗ owns (c : Thread nD τ) (Memref.whole cc0_scratch1) fullShare (s .a17) ∗ owns (c : Thread nD τ) (Memref.whole cc0_scratch2) fullShare (s .a18) ∗ owns (c : Thread nD τ) (Memref.whole cc0_scratch3) fullShare (s .a19) ∗ owns (c : Thread nD τ) (Memref.whole cc0_scratch4) fullShare (s .a20) ∗ owns (c : Thread nD τ) (Memref.whole cc0_scratch5) fullShare (s .a21) ∗ owns (c : Thread nD τ) (Memref.whole cc0_scratch6) fullShare (s .a22) ∗ owns (c : Thread nD τ) (Memref.whole cc0_scratch7) fullShare (s .a23))

/-- The launch's proof data of a contract. -/
def rdat (C : Dev nD → Contract F sig) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => (C c).G .a7 t.val X
    | ⟨7, _⟩ => (C c).G .a8 t.val X
    | ⟨8, _⟩ => (C c).G .a9 t.val X
    | ⟨9, _⟩ => (C c).G .a10 t.val X
    | ⟨10, _⟩ => (C c).G .a11 t.val X
    | ⟨11, _⟩ => (C c).G .a12 t.val X
    | ⟨12, _⟩ => (C c).G .a13 t.val X
    | ⟨13, _⟩ => (C c).G .a14 t.val X
    | ⟨14, _⟩ => (C c).G .a15 t.val X
  Φ t := iprop((∃ s, ⌜(C c).J t.val s⌝ ∗ scratch c s) ∗ ∃ r, prngReg c r)
  q _ := fullShare
  owed _ := 0

theorem flush_6 : ∀ t : Fin cfg0.N, (cfg0.win 6).flush t = flushes .a7 t.val := by
  show ∀ t : Fin grid0.N, win0_6.flush t = flushes .a7 t.val
  decide +kernel
theorem flush_7 : ∀ t : Fin cfg0.N, (cfg0.win 7).flush t = flushes .a8 t.val := by
  show ∀ t : Fin grid0.N, win0_7.flush t = flushes .a8 t.val
  decide +kernel
theorem flush_8 : ∀ t : Fin cfg0.N, (cfg0.win 8).flush t = flushes .a9 t.val := by
  show ∀ t : Fin grid0.N, win0_8.flush t = flushes .a9 t.val
  decide +kernel
theorem flush_9 : ∀ t : Fin cfg0.N, (cfg0.win 9).flush t = flushes .a10 t.val := by
  show ∀ t : Fin grid0.N, win0_9.flush t = flushes .a10 t.val
  decide +kernel
theorem flush_10 : ∀ t : Fin cfg0.N, (cfg0.win 10).flush t = flushes .a11 t.val := by
  show ∀ t : Fin grid0.N, win0_10.flush t = flushes .a11 t.val
  decide +kernel
theorem flush_11 : ∀ t : Fin cfg0.N, (cfg0.win 11).flush t = flushes .a12 t.val := by
  show ∀ t : Fin grid0.N, win0_11.flush t = flushes .a12 t.val
  decide +kernel
theorem flush_12 : ∀ t : Fin cfg0.N, (cfg0.win 12).flush t = flushes .a13 t.val := by
  show ∀ t : Fin grid0.N, win0_12.flush t = flushes .a13 t.val
  decide +kernel
theorem flush_13 : ∀ t : Fin cfg0.N, (cfg0.win 13).flush t = flushes .a14 t.val := by
  show ∀ t : Fin grid0.N, win0_13.flush t = flushes .a14 t.val
  decide +kernel
theorem flush_14 : ∀ t : Fin cfg0.N, (cfg0.win 14).flush t = flushes .a15 t.val := by
  show ∀ t : Fin grid0.N, win0_14.flush t = flushes .a15 t.val
  decide +kernel
theorem fetch_6 (t : Fin cfg0.N) : (cfg0.win 6).fetch t = false := Pipeline.Window.fetch_out _ rfl t
theorem fetch_7 (t : Fin cfg0.N) : (cfg0.win 7).fetch t = false := Pipeline.Window.fetch_out _ rfl t
theorem fetch_8 (t : Fin cfg0.N) : (cfg0.win 8).fetch t = false := Pipeline.Window.fetch_out _ rfl t
theorem fetch_9 (t : Fin cfg0.N) : (cfg0.win 9).fetch t = false := Pipeline.Window.fetch_out _ rfl t
theorem fetch_10 (t : Fin cfg0.N) : (cfg0.win 10).fetch t = false := Pipeline.Window.fetch_out _ rfl t
theorem fetch_11 (t : Fin cfg0.N) : (cfg0.win 11).fetch t = false := Pipeline.Window.fetch_out _ rfl t
theorem fetch_12 (t : Fin cfg0.N) : (cfg0.win 12).fetch t = false := Pipeline.Window.fetch_out _ rfl t
theorem fetch_13 (t : Fin cfg0.N) : (cfg0.win 13).fetch t = false := Pipeline.Window.fetch_out _ rfl t
theorem fetch_14 (t : Fin cfg0.N) : (cfg0.win 14).fetch t = false := Pipeline.Window.fetch_out _ rfl t

theorem coord (t : Fin grid0.N) : (grid0.coords t 0).val = t.val := by revert t; decide +kernel

theorem assoc_eq {M : Type} [URA M] (P Q R : sProp M) : iprop((P ∗ Q) ∗ R) = iprop(P ∗ Q ∗ R) :=
  equiv_iff.mp ⟨BI.sep_assoc, BI.sep_assoc'⟩

theorem assoc15 {M : Type} [URA M] (P0 P1 P2 P3 P4 P5 P6 P7 P8 P9 P10 P11 P12 P13 P14 R : sProp M) :
    iprop((P0 ∗ P1 ∗ P2 ∗ P3 ∗ P4 ∗ P5 ∗ P6 ∗ P7 ∗ P8 ∗ P9 ∗ P10 ∗ P11 ∗ P12 ∗ P13 ∗ P14) ∗ R) = iprop(P0 ∗ P1 ∗ P2 ∗ P3 ∗ P4 ∗ P5 ∗ P6 ∗ P7 ∗ P8 ∗ P9 ∗ P10 ∗ P11 ∗ P12 ∗ P13 ∗ P14 ∗ R) := by
  simp only [assoc_eq]

theorem held_eq (c : Dev nD) (t : Fin cfg0.N) (Y) (s : fam.State (Elt F)) :
    (held c (bufs t) (join Y s) : sProp 𝕄)
      = iprop((bigSep Finset.univ fun w => owns (c : Thread nD τ) ((cfg0.win w).stage (cfg0.slots t w)) fullShare (Y w)) ∗ scratch c s) := by
  unfold held scratch
  rw [bigSep_W0, assoc15, bigSep_univ_eq_bigSepL [B.a1, B.a2, B.a3, B.a4, B.a5, B.a6, B.a7, B.a8, B.a9, B.a10, B.a11, B.a12, B.a13, B.a14, B.a15, B.a16, B.a17, B.a18, B.a19, B.a20, B.a21, B.a22, B.a23] (by decide) (by decide)]
  rfl

theorem finds_in (C : Dev nD → Contract F sig) (c : Dev nD) (t : Fin cfg0.N) (Y : (w : Fin cfg0.W) → (cfg0.win w).block.Idx → Elt F (cfg0.win w).elt)
    (hY : ∀ w, (rdat m C c).Finds w t (Y w)) (hR : Reads m (C c) c) (s : fam.State (Elt F)) :
    ∀ b, b.isIn = true → join Y s b = (C c).In b t.val := by
  intro b hb
  cases b
  case a1 =>
    obtain ⟨d, hd⟩ := (rdat m C c).finds_in_eq_fetched 0 rfl (fun _ _ _ => rfl) (fun _ _ _ h => h) t (Y 0) (hY 0)
    exact (hd.trans (show _ = iblk m c 0 t from rfl)).trans (hR.i0 t).symm
  case a2 =>
    obtain ⟨d, hd⟩ := (rdat m C c).finds_in_eq_fetched 1 rfl (fun _ _ _ => rfl) (fun _ _ _ h => h) t (Y 1) (hY 1)
    exact (hd.trans (show _ = iblk m c 1 t from rfl)).trans (hR.i1 t).symm
  case a3 =>
    obtain ⟨d, hd⟩ := (rdat m C c).finds_in_eq_fetched 2 rfl (fun _ _ _ => rfl) (fun _ _ _ h => h) t (Y 2) (hY 2)
    exact (hd.trans (show _ = iblk m c 2 t from rfl)).trans (hR.i2 t).symm
  case a4 =>
    obtain ⟨d, hd⟩ := (rdat m C c).finds_in_eq_fetched 3 rfl (fun _ _ _ => rfl) (fun _ _ _ h => h) t (Y 3) (hY 3)
    exact (hd.trans (show _ = iblk m c 3 t from rfl)).trans (hR.i3 t).symm
  case a5 =>
    obtain ⟨d, hd⟩ := (rdat m C c).finds_in_eq_fetched 4 rfl (fun _ _ _ => rfl) (fun _ _ _ h => h) t (Y 4) (hY 4)
    exact (hd.trans (show _ = iblk m c 4 t from rfl)).trans (hR.i4 t).symm
  case a6 =>
    obtain ⟨d, hd⟩ := (rdat m C c).finds_in_eq_fetched 5 rfl (fun _ _ _ => rfl) (fun _ _ _ h => h) t (Y 5) (hY 5)
    exact (hd.trans (show _ = iblk m c 5 t from rfl)).trans (hR.i5 t).symm
  all_goals exact absurd hb Bool.false_ne_true

theorem finds_out (C : Dev nD → Contract F sig) (c : Dev nD) (t : Fin cfg0.N) (Y : (w : Fin cfg0.W) → (cfg0.win w).block.Idx → Elt F (cfg0.win w).elt)
    (hY : ∀ w, (rdat m C c).Finds w t (Y w)) (s : fam.State (Elt F)) :
    ∀ b, b.isOut = true → t.val ≠ 0 → flushes b (t.val - 1) = false → (C c).G b (t.val - 1) (join Y s b) := by
  intro b hb ht hf
  cases b
  case a7 =>
    rcases ((rdat m C c).finds_of_pos (fetch_6 t) ht _).mp (hY 6) with h | ⟨_, -, h⟩
    · rw [flush_6] at h; exact absurd (h.symm.trans hf) (by decide)
    · exact h
  case a8 =>
    rcases ((rdat m C c).finds_of_pos (fetch_7 t) ht _).mp (hY 7) with h | ⟨_, -, h⟩
    · rw [flush_7] at h; exact absurd (h.symm.trans hf) (by decide)
    · exact h
  case a9 =>
    rcases ((rdat m C c).finds_of_pos (fetch_8 t) ht _).mp (hY 8) with h | ⟨_, -, h⟩
    · rw [flush_8] at h; exact absurd (h.symm.trans hf) (by decide)
    · exact h
  case a10 =>
    rcases ((rdat m C c).finds_of_pos (fetch_9 t) ht _).mp (hY 9) with h | ⟨_, -, h⟩
    · rw [flush_9] at h; exact absurd (h.symm.trans hf) (by decide)
    · exact h
  case a11 =>
    rcases ((rdat m C c).finds_of_pos (fetch_10 t) ht _).mp (hY 10) with h | ⟨_, -, h⟩
    · rw [flush_10] at h; exact absurd (h.symm.trans hf) (by decide)
    · exact h
  case a12 =>
    rcases ((rdat m C c).finds_of_pos (fetch_11 t) ht _).mp (hY 11) with h | ⟨_, -, h⟩
    · rw [flush_11] at h; exact absurd (h.symm.trans hf) (by decide)
    · exact h
  case a13 =>
    rcases ((rdat m C c).finds_of_pos (fetch_12 t) ht _).mp (hY 12) with h | ⟨_, -, h⟩
    · rw [flush_12] at h; exact absurd (h.symm.trans hf) (by decide)
    · exact h
  case a14 =>
    rcases ((rdat m C c).finds_of_pos (fetch_13 t) ht _).mp (hY 13) with h | ⟨_, -, h⟩
    · rw [flush_13] at h; exact absurd (h.symm.trans hf) (by decide)
    · exact h
  case a15 =>
    rcases ((rdat m C c).finds_of_pos (fetch_14 t) ht _).mp (hY 14) with h | ⟨_, -, h⟩
    · rw [flush_14] at h; exact absurd (h.symm.trans hf) (by decide)
    · exact h
  all_goals exact absurd hb Bool.false_ne_true

theorem start_entails (C : Dev nD → Contract F sig) (c : Dev nD) : Pipeline.ΦA spec0 c ⊢ (rdat m C c).Φ 0 := by
  show _ ⊢ iprop((∃ s, ⌜(C c).J 0 s⌝ ∗ scratch c s) ∗ ∃ r, prngReg c r)
  unfold Pipeline.ΦA scratch
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hp⟩
  isplitr [Hp]
  · iexists (fun
      | .a16 => f0
      | .a17 => f1
      | .a18 => f2
      | .a19 => f3
      | .a20 => f4
      | .a21 => f5
      | .a22 => f6
      | .a23 => f7
      | _ => fun _ => Classical.arbitrary _ : fam.State (Elt F))
    isplitr
    · ipureintro; exact (C c).start _
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact Hp

theorem last_entails (C : Dev nD → Contract F sig) (c : Dev nD) : (rdat m C c).Φ (Fin.last (cfgs 0).N) ⊢ Pipeline.ΦA spec0 c := by
  show iprop((∃ s, ⌜(C c).J _ s⌝ ∗ scratch c s) ∗ ∃ r, prngReg c r) ⊢ _
  unfold Pipeline.ΦA scratch
  rw [scopedRest0_eq]
  simp only [owns_whole]
  iintro ⟨⟨%s, -, H0, H1, H2, H3, H4, H5, H6, H7⟩, Hp⟩
  isplitr [Hp]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    iexists _; iexact H7
  · iexact Hp

set_option maxHeartbeats 1000000 in
theorem obligation (C : Dev nD → Contract F sig) (hR : ∀ c, Reads m (C c) c) (𝒱₀ : Variants) (c : Dev nD) :
    (rdat m C c).BodyObligation (defs₀ (F := F)) 𝒱₀ () Set.univ := by
  intro t Y hY
  show _ ⊢ wp frame (wpE (defs₀ (F := F)) 𝒱₀ c none) Set.univ (bodyAt0 t) fun _ =>
    iprop(((∃ s, ⌜(C c).J (t.val + 1) s⌝ ∗ scratch c s) ∗ ∃ r, prngReg c r) ∗ _ ∗ _)
  unfold bodyAt0
  rw [cc0_eq]
  show iprop(((∃ s, ⌜(C c).J t.val s⌝ ∗ scratch c s) ∗ ∃ r, prngReg c r) ∗ _ ∗ _) ⊢ _
  iintro ⟨⟨⟨%s, %hJ, Hs⟩, Hp⟩, Ho, HY⟩
  have hm : ∀ b, (bufs t b).IsWhole := by
    intro b
    cases b
    case a1 => exact stage_whole0 0 _
    case a2 => exact stage_whole0 1 _
    case a3 => exact stage_whole0 2 _
    case a4 => exact stage_whole0 3 _
    case a5 => exact stage_whole0 4 _
    case a6 => exact stage_whole0 5 _
    case a7 => exact stage_whole0 6 _
    case a8 => exact stage_whole0 7 _
    case a9 => exact stage_whole0 8 _
    case a10 => exact stage_whole0 9 _
    case a11 => exact stage_whole0 10 _
    case a12 => exact stage_whole0 11 _
    case a13 => exact stage_whole0 12 _
    case a14 => exact stage_whole0 13 _
    case a15 => exact stage_whole0 14 _
    all_goals exact Memref.isWhole_whole _
  have hst := (C c).step (bufs t) hm (grid0.coords t 0).val (grid0.coords t 0).isLt (join Y s)
    (by rw [coord]; exact (C c).congr _ s _ (by intro b h1 h2; cases b <;> first | rfl | exact absurd h1 (by decide) | exact absurd h2 (by decide)) hJ)
    (by rw [coord]; exact finds_in m C c t Y hY (hR c) s)
    (by rw [coord]; exact finds_out m C c t Y hY s)
  have hwp := wp_comp (Ix := Unit) (Name := ℕ) (U := UR sig nD τ) (Lvl := ℕ) (defs₀ (F := F)) 𝒱₀ c none Set.univ
    (Code.body (bufs t) hm (grid0.coords t 0).val (grid0.coords t 0).isLt) (join Y s)
  rw [held_eq] at hwp
  obtain ⟨hJ', hin, hout⟩ := hst
  generalize (run (Code.body (bufs t) hm (grid0.coords t 0).val (grid0.coords t 0).isLt) (join Y s)).2 = S at hJ' hin hout hwp
  rw [coord] at hJ' hout
  have hS : (held c (bufs t) S : sProp 𝕄)
      = iprop((bigSep Finset.univ fun w => owns (c : Thread nD τ) ((cfg0.win w).stage (cfg0.slots t w)) fullShare (outs S w)) ∗ scratch c S) := by
    rw [← held_eq, join_outs]
  rw [hS] at hwp
  have hafter : ∀ w, (rdat m C c).after w t (Y w) (outs S w) := by
    intro w
    match w with
    | ⟨0, _⟩ => exact hin .a1 rfl
    | ⟨1, _⟩ => exact hin .a2 rfl
    | ⟨2, _⟩ => exact hin .a3 rfl
    | ⟨3, _⟩ => exact hin .a4 rfl
    | ⟨4, _⟩ => exact hin .a5 rfl
    | ⟨5, _⟩ => exact hin .a6 rfl
    | ⟨6, _⟩ => exact hout .a7 rfl
    | ⟨7, _⟩ => exact hout .a8 rfl
    | ⟨8, _⟩ => exact hout .a9 rfl
    | ⟨9, _⟩ => exact hout .a10 rfl
    | ⟨10, _⟩ => exact hout .a11 rfl
    | ⟨11, _⟩ => exact hout .a12 rfl
    | ⟨12, _⟩ => exact hout .a13 rfl
    | ⟨13, _⟩ => exact hout .a14 rfl
    | ⟨14, _⟩ => exact hout .a15 rfl
  have hmono : (bigSep Finset.univ fun w => owns (c : Thread nD τ) ((cfg0.win w).stage (cfg0.slots t w)) fullShare (outs S w) : sProp 𝕄)
      ⊢ bigSep Finset.univ fun w => iprop(∃ X, ⌜(rdat m C c).after w t (Y w) X⌝ ∗ owns (c : Thread nD τ) ((cfg0.win w).stage (cfg0.slots t w)) fullShare X) := by
    have key : ∀ w, (owns (c : Thread nD τ) ((cfg0.win w).stage (cfg0.slots t w)) fullShare (outs S w) : sProp 𝕄)
        ⊢ iprop(∃ X, ⌜(rdat m C c).after w t (Y w) X⌝ ∗ owns (c : Thread nD τ) ((cfg0.win w).stage (cfg0.slots t w)) fullShare X) := by
      intro w
      iintro H
      iexists outs S w
      isplitr
      · ipureintro; exact hafter w
      · iexact H
    exact bigSep_mono fun w _ => key w
  iapply (wp_wand_r (M := 𝕄))
  isplitl [HY Hs]
  · iapply hwp
    isplitl [HY]
    · iexact HY
    · iexact Hs
  · iintro %a ⟨-, HY, Hs⟩
    isplitl [Hs Hp]
    · isplitl [Hs]
      · iexists S
        isplitr
        · ipureintro; exact hJ'
        · iexact Hs
      · iexact Hp
    isplitl [Ho]
    · iexact Ho
    iapply hmono
    iexact HY

set_option backward.isDefEq.respectTransparency.types false in
/-- From a contract, the whole launch. -/
theorem run_main (C : Dev nD → Contract F sig) (hR : ∀ c, Reads m (C c) c) :
    θ_run defs (onTc (τ := τ) (main (F := F))) (s₀ m ρ)
      (fun r => Pipeline.RDat.FramePost (cfgs 0) (rdat m C) (V m) r ∧ r.2.sem = fun _ => 0) :=
  Pipeline.RDat.θ_run_frame_track (Q' := _) cfgs (0 : Fin 1) launch0 defs₀ Variants.none (rdat m C) m ρ main
    (hbody := obligation m C hR Variants.none) (hshare := fun c w => by unfold RDat.share; split <;> rfl)
    (howed := fun _ _ => rfl) (V := V m) (hmain := hmain m Variants.none) (hA := fun _ _ => rfl)
    (hin := fun c => start_entails m C c) (hout := fun c => last_entails m C c)

end Cert.KernelIdeal.Run
-- ==== Proof.FrameKIdeal.lean ====
module

public import proofs.«01_k».proof.Proof.RunKIdeal
public import proofs.«01_k».proof.Proof.Keep

/-! The run leaves the arguments as they were and every semaphore at zero. -/

@[expose] public section

noncomputable section

namespace Cert.KernelIdeal.Run

open Idealize.ShloMosaic Idealize.SL.Sem Idealize.ShloMosaic.Pipeline
open Cert.Model Cert.Code Cert.KernelIdeal Cert.KernelIdeal.Gen

variable {F : FTy → Type} [FloatOps F]
variable (m : (ℓ : Loc nD τ sig) → Buf (Elt F) ℓ) (ρ : Dev nD → PrngReg)

/-- What the input buffers hold at a step. -/
def ins (c : Dev nD) (b : B) (n : Nat) : (sh b).Idx → Elt F (el b) :=
  let t : Fin cfg0.N := if h : n < 33 then ⟨n, h⟩ else ⟨0, by decide⟩
  match b with
  | .a1 => iblk m c 0 t
  | .a2 => iblk m c 1 t
  | .a3 => iblk m c 2 t
  | .a4 => iblk m c 3 t
  | .a5 => iblk m c 4 t
  | .a6 => iblk m c 5 t
  | _ => fun _ => default

theorem fin_dite (t : Fin cfg0.N) : (if h : t.val < 33 then (⟨t.val, h⟩ : Fin cfg0.N) else ⟨0, by decide⟩) = t := dif_pos t.isLt

theorem reads (c : Dev nD) (C : Contract F sig) (h : C.In = ins m c) : Reads m C c where
  i0 t := by rw [h]; exact congrArg (β := (sh .a1).Idx → Elt F (el .a1)) (fun u => iblk m c 0 u) (fin_dite t)
  i1 t := by rw [h]; exact congrArg (β := (sh .a2).Idx → Elt F (el .a2)) (fun u => iblk m c 1 u) (fin_dite t)
  i2 t := by rw [h]; exact congrArg (β := (sh .a3).Idx → Elt F (el .a3)) (fun u => iblk m c 2 u) (fin_dite t)
  i3 t := by rw [h]; exact congrArg (β := (sh .a4).Idx → Elt F (el .a4)) (fun u => iblk m c 3 u) (fin_dite t)
  i4 t := by rw [h]; exact congrArg (β := (sh .a5).Idx → Elt F (el .a5)) (fun u => iblk m c 4 u) (fin_dite t)
  i5 t := by rw [h]; exact congrArg (β := (sh .a6).Idx → Elt F (el .a6)) (fun u => iblk m c 5 u) (fin_dite t)

theorem args_of {C : Dev nD → Contract F sig} {r : PUnit × MemSt nD τ sig (Elt F)} (h : Pipeline.RDat.FramePost (cfgs 0) (rdat m C) (V m) r)
    (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c 2 rfl).trans (V_main_arg3 m c),
   (h.arr_in c 0 rfl).trans (V_main_arg4 m c),
   ((h c).2 main_arg5 (Pipeline.mem_restRefs_of main_arg5 (by decide) (by decide))).trans (V_main_arg5 m c)⟩

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩)
    (run_main m ρ (fun c => Contract.any sig (ins m c)) (fun c => reads m c _ rfl))

end Cert.KernelIdeal.Run
-- ==== Proof.Final.lean ====
module

public import proofs.«01_k».proof.Proof.FrameKIdeal
public import proofs.«01_k».proof.Proof.Steps
public import Idealize.ShloMosaic.Lib.Pipeline.ValueKit

/-! The blocks of the arrays by coordinates, and the output arrays from what a contract says of their blocks. -/

@[expose] public section

set_option maxRecDepth 16384

noncomputable section

namespace Cert.KernelIdeal.Run

open Idealize.ShloMosaic Idealize.SL.Sem Idealize.ShloMosaic.Pipeline
open Cert.Model Cert.Code Cert.KernelIdeal Cert.KernelIdeal.Gen Cert.Spec

variable (m : (ℓ : Loc nD τ sig) → Buf (Elt Ideal) ℓ) (c : Dev nD)

/-- The data the launch works on. -/
def inp : Inp where
  x := ext2 (α := EReal) (R := 1792) (C := 2048) (V m c main_v0)
  xs := ext2 (α := EReal) (R := 1792) (C := 16) (V m c main_v1)
  g := ext2 (α := EReal) (R := 1) (C := 2048) (V m c main_v3) 0
  w := ext2 (α := EReal) (R := 2048) (C := 5632) (V m c main_arg3)
  ws := ext2 (α := EReal) (R := 16) (C := 44) (V m c main_arg4)
  dy := ext2 (α := EReal) (R := 1792) (C := 5632) (V m c main_v2)

theorem ext2_at {R C : Nat} (x : (M2 R C).Idx → EReal) (y : (M2 R C).Idx) : x y = ext2 x (y 0).val (y 1).val :=
  (congrFun (of2_ext2 x) y).symm

theorem index_1 : ∀ t : Fin cfg0.N, win0_1.index t = ![0, min t.val 10] := by
  show ∀ t : Fin grid0.N, _
  decide +kernel

theorem iblk_1 (t : Fin cfg0.N) : iblk m c 1 t = (of2 fun i j => (inp m c).dy i (512 * min t.val 10 + j) : FVec Ideal (M2 1792 512) .bf16) := by
  funext y
  show V m c main_v2 (((cfg0.win 1).blk t).view.emb y) = _
  refine (ext2_at (R := 1792) (C := 5632) _ _).trans ?_
  refine congrArg₂ (inp m c).dy ?_ ?_
  · blk_simp [index_1]
  · blk_simp [index_1]
    omega

theorem index_11 : ∀ t : Fin cfg0.N, win0_11.index t = ![0, min t.val 10] := by
  show ∀ t : Fin grid0.N, _
  decide +kernel
theorem index_12 : ∀ t : Fin cfg0.N, win0_12.index t = ![0, 0] := by
  show ∀ t : Fin grid0.N, _
  decide +kernel
theorem index_13 : ∀ t : Fin cfg0.N, win0_13.index t = ![0, min t.val 10] := by
  show ∀ t : Fin grid0.N, _
  decide +kernel
theorem index_14 : ∀ t : Fin cfg0.N, win0_14.index t = ![0, min t.val 10] := by
  show ∀ t : Fin grid0.N, _
  decide +kernel

theorem covers_11 : (cfg0.win 11).Covers := by
  show win0_11.Covers
  decide +kernel
theorem covers_12 : (cfg0.win 12).Covers := by
  show win0_12.Covers
  decide +kernel
theorem covers_13 : (cfg0.win 13).Covers := by
  show win0_13.Covers
  decide +kernel
theorem covers_14 : (cfg0.win 14).Covers := by
  show win0_14.Covers
  decide +kernel

/-- An output array the blocks of which a contract fixes. -/
theorem out_eq {C : Dev nD → Contract Ideal sig} {w : Fin cfg0.W} (A : Buf (Elt Ideal) ((cfg0.win w).arr.view.loc (c.tc : Thread nD τ)))
    (hw : ∀ u X, (cfg0.win w).flush u = true → (rdat m C c).Leaves w u X →
      (cfg0.win w).cut (cfg0.grid.coords u) X = ((cfg0.win w).blk u).view.read (Elt Ideal) A)
    (hcov : (cfg0.win w).Covers) (harr : (cfg0.win w).arr.IsWhole)
    (G : Buf (Elt Ideal) ((cfg0.win w).arr.view.loc (c.tc : Thread nD τ))) (h : (rdat m C c).ArrAt w cfg0.N G) : G = A := by
  refine Cert.Launch.arrAt_eq (rdat m C c) w A hw (fun i => ?_) G h
  obtain ⟨t, hf, ht⟩ := hcov.cover _ harr i
  obtain ⟨x, hx⟩ := View.exists_emb_of_mem_set _ ht
  exact ⟨t, x, hf, hx⟩

theorem out_11 {C : Dev nD → Contract Ideal sig} (f : ℕ → ℕ → EReal)
    (hG : ∀ n X, flushes .a12 n = true → (C c).G .a12 n X → ∀ y : (M2 1792 512).Idx, X y = f (y 0).val (512 * min n 10 + (y 1).val))
    (G : Buf (Elt Ideal) ((cfg0.win 11).arr.view.loc (c.tc : Thread nD τ))) (h : (rdat m C c).ArrAt 11 cfg0.N G) :
    G = (of2 f : FVec Ideal (M2 1792 5632) .fp8e5m2) := by
  refine out_eq m c _ (fun u X hf hl => ?_) covers_11 (Memref.isWhole_whole _) G h
  obtain ⟨Y, -, hY⟩ := hl
  funext y
  refine (hG u.val X ((flush_11 u).symm.trans hf) hY y).trans ?_
  show _ = f (((cfg0.win 11).blk u).view.emb y 0).val (((cfg0.win 11).blk u).view.emb y 1).val
  refine congrArg₂ f ?_ ?_
  · blk_simp [index_11]
  · blk_simp [index_11]
    omega

theorem out_12 {C : Dev nD → Contract Ideal sig} (f : ℕ → ℕ → EReal)
    (hG : ∀ n X, flushes .a13 n = true → (C c).G .a13 n X → ∀ y : (M2 1792 44).Idx, X y = f (y 0).val (y 1).val)
    (G : Buf (Elt Ideal) ((cfg0.win 12).arr.view.loc (c.tc : Thread nD τ))) (h : (rdat m C c).ArrAt 12 cfg0.N G) :
    G = (of2 f : FVec Ideal (M2 1792 44) .f32) := by
  refine out_eq m c _ (fun u X hf hl => ?_) covers_12 (Memref.isWhole_whole _) G h
  obtain ⟨Y, -, hY⟩ := hl
  funext y
  refine (hG u.val X ((flush_12 u).symm.trans hf) hY y).trans ?_
  show _ = f (((cfg0.win 12).blk u).view.emb y 0).val (((cfg0.win 12).blk u).view.emb y 1).val
  refine congrArg₂ f ?_ ?_ <;> blk_simp [index_12]

theorem out_13 {C : Dev nD → Contract Ideal sig} (f : ℕ → ℕ → EReal)
    (hG : ∀ n X, flushes .a14 n = true → (C c).G .a14 n X → ∀ y : (M2 1792 512).Idx, X y = f (y 0).val (512 * min n 10 + (y 1).val))
    (G : Buf (Elt Ideal) ((cfg0.win 13).arr.view.loc (c.tc : Thread nD τ))) (h : (rdat m C c).ArrAt 13 cfg0.N G) :
    G = (of2 f : FVec Ideal (M2 1792 5632) .fp8e5m2) := by
  refine out_eq m c _ (fun u X hf hl => ?_) covers_13 (Memref.isWhole_whole _) G h
  obtain ⟨Y, -, hY⟩ := hl
  funext y
  refine (hG u.val X ((flush_13 u).symm.trans hf) hY y).trans ?_
  show _ = f (((cfg0.win 13).blk u).view.emb y 0).val (((cfg0.win 13).blk u).view.emb y 1).val
  refine congrArg₂ f ?_ ?_
  · blk_simp [index_13]
  · blk_simp [index_13]
    omega

theorem out_14 {C : Dev nD → Contract Ideal sig} (f : ℕ → ℕ → EReal)
    (hG : ∀ n X, flushes .a15 n = true → (C c).G .a15 n X → ∀ y : (M2 14 512).Idx, X y = f (y 0).val (512 * min n 10 + (y 1).val))
    (G : Buf (Elt Ideal) ((cfg0.win 14).arr.view.loc (c.tc : Thread nD τ))) (h : (rdat m C c).ArrAt 14 cfg0.N G) :
    G = (of2 f : FVec Ideal (M2 14 5632) .f32) := by
  refine out_eq m c _ (fun u X hf hl => ?_) covers_14 (Memref.isWhole_whole _) G h
  obtain ⟨Y, -, hY⟩ := hl
  funext y
  refine (hG u.val X ((flush_14 u).symm.trans hf) hY y).trans ?_
  show _ = f (((cfg0.win 14).blk u).view.emb y 0).val (((cfg0.win 14).blk u).view.emb y 1).val
  refine congrArg₂ f ?_ ?_
  · blk_simp [index_14]
  · blk_simp [index_14]
    omega

end Cert.KernelIdeal.Run
-- ==== Proof.Launched.lean ====
module

public import proofs.«01_k».proof.Proof.Final
public import proofs.«01_k».proof.Proof.RefExpo

/-! Both programs work on the same data: the arguments, reshaped. -/

@[expose] public section

set_option maxRecDepth 16384

noncomputable section

namespace Cert.ReferenceIdeal.Run

open Idealize.ShloMosaic Idealize.SL.Sem Idealize.ShloMosaic.Pipeline
open Cert.Model Cert.Code Cert.ReferenceIdeal Cert.ReferenceIdeal.Gen Cert.Spec

variable (m : (ℓ : Loc nD τ sig) → Buf (Elt Ideal) ℓ) (c : Dev nD)

/-- The data the launch works on. -/
def inp : Inp where
  x := ext2 (α := EReal) (R := 1792) (C := 2048) (V m c main_v0)
  xs := ext2 (α := EReal) (R := 1792) (C := 16) (V m c main_v1)
  g := ext2 (α := EReal) (R := 1) (C := 2048) (V m c main_v2) 0
  w := ext2 (α := EReal) (R := 2048) (C := 5632) (V m c main_arg3)
  ws := ext2 (α := EReal) (R := 16) (C := 44) (V m c main_arg4)
  dy := ext2 (α := EReal) (R := 1792) (C := 5632) (V m c main_v3)

theorem V_v0 : V m c main_v0 = shapeCast S1792x2048 (m ((c.tc : Thread nD τ).loc main_arg0)) shapeCasts_S1x1792x2048_S1792x2048 := by
  unfold V; after_results; rfl
theorem V_v1 : V m c main_v1 = shapeCast S1792x16 (m ((c.tc : Thread nD τ).loc main_arg1)) shapeCasts_S1x1792x16_S1792x16 := by
  unfold V; after_results; rfl
theorem V_v2 : V m c main_v2 = shapeCast S1x2048 (m ((c.tc : Thread nD τ).loc main_arg2)) shapeCasts_S2048_S1x2048 := by
  unfold V; after_results; rfl
theorem V_v3 : V m c main_v3 = shapeCast S1792x5632 (m ((c.tc : Thread nD τ).loc main_arg5)) shapeCasts_S1x1792x5632_S1792x5632 := by
  unfold V; after_results; rfl

/-- The one point of the grid. -/
abbrev pt : Fin cfg0.N := ⟨0, by decide⟩

theorem index_5 : ∀ t : Fin cfg0.N, win0_5.index t = ![0, 0] := by
  show ∀ t : Fin grid0.N, _
  decide +kernel

theorem iblk_5 : iblk m c 5 pt = (of2 (inp m c).dy : FVec Ideal (M2 1792 5632) .bf16) := by
  funext y
  show V m c main_v3 (((cfg0.win 5).blk pt).view.emb y) = _
  refine (Cert.KernelIdeal.Run.ext2_at (R := 1792) (C := 5632) _ _).trans ?_
  refine congrArg₂ (inp m c).dy ?_ ?_ <;> blk_simp [index_5]

theorem arr_11 : (dats m 0 c).arrAt 11 cfg0.N = (of2 (inp m c).rcode : FVec Ideal (M2 1792 5632) .fp8e5m2) := by
  refine (dats m 0 c).arrAt_eq_of_after_last 11 pt (by decide +kernel) _ (fun j => ?_)
  show (dats m 0 c).after 11 pt j = _
  rw [after0_11, iblk_5]
  exact congrFun (out11_eq (inp m c) _ _ _ _ _) j

theorem arr_12 : (dats m 0 c).arrAt 12 cfg0.N = (of2 (inp m c).rscale : FVec Ideal (M2 1792 44) .f32) := by
  refine (dats m 0 c).arrAt_eq_of_after_last 12 pt (by decide +kernel) _ (fun j => ?_)
  show (dats m 0 c).after 12 pt j = _
  rw [after0_12, iblk_5]
  exact congrFun (out12_eq (inp m c) _ _ _ _ _) j

theorem arr_13 : (dats m 0 c).arrAt 13 cfg0.N = (of2 (inp m c).ccode : FVec Ideal (M2 1792 5632) .fp8e5m2) := by
  refine (dats m 0 c).arrAt_eq_of_after_last 13 pt (by decide +kernel) _ (fun j => ?_)
  show (dats m 0 c).after 13 pt j = _
  rw [after0_13, iblk_5]
  exact congrFun (out13_eq (inp m c) _ _ _ _ _) j

theorem arr_14 : (dats m 0 c).arrAt 14 cfg0.N = (of2 (inp m c).cscale : FVec Ideal (M2 14 5632) .f32) := by
  refine (dats m 0 c).arrAt_eq_of_after_last 14 pt (by decide +kernel) _ (fun j => ?_)
  show (dats m 0 c).after 14 pt j = _
  rw [after0_14, iblk_5]
  exact congrFun (out14_eq (inp m c) _ _ _ _ _) j

end Cert.ReferenceIdeal.Run

namespace Cert.KernelIdeal.Run

open Idealize.ShloMosaic Idealize.SL.Sem Idealize.ShloMosaic.Pipeline
open Cert.Model Cert.KernelIdeal Cert.KernelIdeal.Gen Cert.Spec

variable (m : (ℓ : Loc nD τ sig) → Buf (Elt Ideal) ℓ) (c : Dev nD)

theorem V_v0 : V m c main_v0 = shapeCast S1792x2048 (m ((c.tc : Thread nD τ).loc main_arg0)) shapeCasts_S1x1792x2048_S1792x2048 := by
  unfold V; after_results; rfl
theorem V_v1 : V m c main_v1 = shapeCast S1792x16 (m ((c.tc : Thread nD τ).loc main_arg1)) shapeCasts_S1x1792x16_S1792x16 := by
  unfold V; after_results; rfl
theorem V_v2 : V m c main_v2 = shapeCast S1792x5632 (m ((c.tc : Thread nD τ).loc main_arg5)) shapeCasts_S1x1792x5632_S1792x5632 := by
  unfold V; after_results; rfl
theorem V_v3 : V m c main_v3 = shapeCast S1x2048 (m ((c.tc : Thread nD τ).loc main_arg2)) shapeCasts_S2048_S1x2048 := by
  unfold V; after_results; rfl

/-- Where the arguments agree, so does the data. -/
theorem inp_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Run.inp m' c = inp m c := by
  unfold inp Cert.ReferenceIdeal.Run.inp
  rw [V_v0, V_v1, V_v2, V_v3, V_main_arg3, V_main_arg4, Cert.ReferenceIdeal.Run.V_v0, Cert.ReferenceIdeal.Run.V_v1,
    Cert.ReferenceIdeal.Run.V_v2, Cert.ReferenceIdeal.Run.V_v3, Cert.ReferenceIdeal.Gen.V_main_arg3, Cert.ReferenceIdeal.Gen.V_main_arg4,
    h0, h1, h2, h3, h4, h5]

end Cert.KernelIdeal.Run
-- ==== Proof.Whole.lean ====
module

public import proofs.«01_k».proof.Proof.AllSteps
public import proofs.«01_k».proof.Proof.RefOut
public import proofs.«01_k».proof.Proof.Launched

/-! All nine results of both launches as functions of the data. -/

@[expose] public section

set_option maxRecDepth 16384

noncomputable section

namespace Cert.ReferenceIdeal.Run

open Idealize.ShloMosaic Idealize.SL.Sem Idealize.ShloMosaic.Pipeline
open Cert.Model Cert.Code Cert.ReferenceIdeal Cert.ReferenceIdeal.Gen Cert.Spec

variable (m : (ℓ : Loc nD τ sig) → Buf (Elt Ideal) ℓ) (c : Dev nD)

theorem index_0 : ∀ t : Fin cfg0.N, win0_0.index t = ![0, 0] := by
  show ∀ t : Fin grid0.N, _
  decide +kernel
theorem index_1 : ∀ t : Fin cfg0.N, win0_1.index t = ![0, 0] := by
  show ∀ t : Fin grid0.N, _
  decide +kernel
theorem index_2 : ∀ t : Fin cfg0.N, win0_2.index t = ![0, 0] := by
  show ∀ t : Fin grid0.N, _
  decide +kernel
theorem index_3 : ∀ t : Fin cfg0.N, win0_3.index t = ![0, 0] := by
  show ∀ t : Fin grid0.N, _
  decide +kernel
theorem index_4 : ∀ t : Fin cfg0.N, win0_4.index t = ![0, 0] := by
  show ∀ t : Fin grid0.N, _
  decide +kernel

theorem iblk_0 : iblk m c 0 pt = xA (inp m c) := by
  funext y
  show V m c main_v0 (((cfg0.win 0).blk pt).view.emb y) = _
  refine (Cert.KernelIdeal.Run.ext2_at (R := 1792) (C := 2048) _ _).trans ?_
  refine congrArg₂ (inp m c).x ?_ ?_ <;> blk_simp [index_0]

theorem iblk_1 : iblk m c 1 pt = xsA (inp m c) := by
  funext y
  show V m c main_v1 (((cfg0.win 1).blk pt).view.emb y) = _
  refine (Cert.KernelIdeal.Run.ext2_at (R := 1792) (C := 16) _ _).trans ?_
  refine congrArg₂ (inp m c).xs ?_ ?_ <;> blk_simp [index_1]

theorem iblk_2 : iblk m c 2 pt = gA (inp m c) := by
  funext y
  have h0 : (y 0).val < 1 := (y 0).isLt
  show V m c main_v2 (((cfg0.win 2).blk pt).view.emb y) = _
  refine (Cert.KernelIdeal.Run.ext2_at (R := 1) (C := 2048) _ _).trans ?_
  refine congrArg₂ (ext2 (α := EReal) (R := 1) (C := 2048) (V m c main_v2)) (x' := 0) ?_ ?_ <;> blk_simp [index_2] <;> omega

theorem iblk_3 : iblk m c 3 pt = wA (inp m c) := by
  funext y
  show V m c main_arg3 (((cfg0.win 3).blk pt).view.emb y) = _
  refine (Cert.KernelIdeal.Run.ext2_at (R := 2048) (C := 5632) _ _).trans ?_
  refine congrArg₂ (inp m c).w ?_ ?_ <;> blk_simp [index_3]

theorem iblk_4 : iblk m c 4 pt = wsA (inp m c) := by
  funext y
  show V m c main_arg4 (((cfg0.win 4).blk pt).view.emb y) = _
  refine (Cert.KernelIdeal.Run.ext2_at (R := 16) (C := 44) _ _).trans ?_
  refine congrArg₂ (inp m c).ws ?_ ?_ <;> blk_simp [index_4]

theorem arr_6 : (dats m 0 c).arrAt 6 cfg0.N = (of2 (inp m c).dx : FVec Ideal (M2 1792 2048) .bf16) := by
  refine (dats m 0 c).arrAt_eq_of_after_last 6 pt (by decide +kernel) _ (fun j => ?_)
  show (dats m 0 c).after 6 pt j = _
  rw [after0_6, iblk_0, iblk_1, iblk_2, iblk_3, iblk_4, iblk_5]
  exact congrFun (out6_eq (inp m c)) j

theorem arr_7 : (dats m 0 c).arrAt 7 cfg0.N = (of2 (inp m c).dw : FVec Ideal (M2 2048 5632) .f32) := by
  refine (dats m 0 c).arrAt_eq_of_after_last 7 pt (by decide +kernel) _ (fun j => ?_)
  show (dats m 0 c).after 7 pt j = _
  rw [after0_7, iblk_0, iblk_1, iblk_2, iblk_3, iblk_4, iblk_5]
  exact congrFun (out7_eq (inp m c)) j

theorem arr_8 : (dats m 0 c).arrAt 8 cfg0.N = (of2 (fun _ j => (inp m c).dg j) : FVec Ideal (M2 1 2048) .f32) := by
  refine (dats m 0 c).arrAt_eq_of_after_last 8 pt (by decide +kernel) _ (fun j => ?_)
  show (dats m 0 c).after 8 pt j = _
  rw [after0_8, iblk_0, iblk_1, iblk_2, iblk_3, iblk_4, iblk_5]
  exact congrFun (out8_eq (inp m c)) j

theorem arr_9 : (dats m 0 c).arrAt 9 cfg0.N = (of2 (inp m c).xcode : FVec Ideal (M2 1792 2048) .fp8e4m3) := by
  refine (dats m 0 c).arrAt_eq_of_after_last 9 pt (by decide +kernel) _ (fun j => ?_)
  show (dats m 0 c).after 9 pt j = _
  rw [after0_9, iblk_0, iblk_1, iblk_2, iblk_3, iblk_4, iblk_5]
  exact congrFun (out9_eq (inp m c)) j

theorem arr_10 : (dats m 0 c).arrAt 10 cfg0.N = (of2 (inp m c).xscale : FVec Ideal (M2 14 2048) .f32) := by
  refine (dats m 0 c).arrAt_eq_of_after_last 10 pt (by decide +kernel) _ (fun j => ?_)
  show (dats m 0 c).after 10 pt j = _
  rw [after0_10, iblk_0, iblk_1, iblk_2, iblk_3, iblk_4, iblk_5]
  exact congrFun (out10_eq (inp m c)) j

end Cert.ReferenceIdeal.Run

namespace Cert.KernelIdeal.Run

open Idealize.ShloMosaic Idealize.SL.Sem Idealize.ShloMosaic.Pipeline
open Cert.Model Cert.Code Cert.KernelIdeal Cert.KernelIdeal.Gen Cert.Spec

variable (m : (ℓ : Loc nD τ sig) → Buf (Elt Ideal) ℓ) (c : Dev nD)

/-- The block of rows of the activations a step reads. -/
def xRow (n : ℕ) : ℕ := if n < 11 then min n 6 else min (n - 11) 6

theorem index_0 : ∀ t : Fin cfg0.N, win0_0.index t = ![0, 0] := by
  show ∀ t : Fin grid0.N, _
  decide +kernel
theorem index_2 : ∀ t : Fin cfg0.N, win0_2.index t = ![0, min t.val 10] := by
  show ∀ t : Fin grid0.N, _
  decide +kernel
theorem index_3 : ∀ t : Fin cfg0.N, win0_3.index t = ![xRow t.val, 0] := by
  show ∀ t : Fin grid0.N, _
  decide +kernel
theorem index_4 : ∀ t : Fin cfg0.N, win0_4.index t = ![xRow t.val, 0] := by
  show ∀ t : Fin grid0.N, _
  decide +kernel
theorem index_5 : ∀ t : Fin cfg0.N, win0_5.index t = ![0, 0] := by
  show ∀ t : Fin grid0.N, _
  decide +kernel
theorem index_6 : ∀ t : Fin cfg0.N, win0_6.index t = ![min (t.val - 11) 6, 0] := by
  show ∀ t : Fin grid0.N, _
  decide +kernel
theorem index_7 : ∀ t : Fin cfg0.N, win0_7.index t = ![0, t.val - 11] := by
  show ∀ t : Fin grid0.N, _
  decide +kernel
theorem index_8 : ∀ t : Fin cfg0.N, win0_8.index t = ![0, 0] := by
  show ∀ t : Fin grid0.N, _
  decide +kernel
theorem index_9 : ∀ t : Fin cfg0.N, win0_9.index t = ![min t.val 6, 0] := by
  show ∀ t : Fin grid0.N, _
  decide +kernel
theorem index_10 : ∀ t : Fin cfg0.N, win0_10.index t = ![0, 0] := by
  show ∀ t : Fin grid0.N, _
  decide +kernel

theorem iblk_0 (t : Fin cfg0.N) : iblk m c 0 t = (of2 fun i j => (inp m c).ws i j : FVec Ideal (M2 16 44) .f32) := by
  funext y
  show V m c main_arg4 (((cfg0.win 0).blk t).view.emb y) = _
  refine (ext2_at (R := 16) (C := 44) _ _).trans ?_
  refine congrArg₂ (inp m c).ws ?_ ?_ <;> blk_simp [index_0]

theorem iblk_2 (t : Fin cfg0.N) : iblk m c 2 t = (of2 fun i j => (inp m c).w i (512 * min t.val 10 + j) : FVec Ideal (M2 2048 512) .fp8e4m3) := by
  funext y
  show V m c main_arg3 (((cfg0.win 2).blk t).view.emb y) = _
  refine (ext2_at (R := 2048) (C := 5632) _ _).trans ?_
  refine congrArg₂ (inp m c).w ?_ ?_
  · blk_simp [index_2]
  · blk_simp [index_2]
    omega

theorem iblk_3 (t : Fin cfg0.N) : iblk m c 3 t = (of2 fun i j => (inp m c).x (256 * xRow t.val + i) j : FVec Ideal (M2 256 2048) .fp8e4m3) := by
  funext y
  show V m c main_v0 (((cfg0.win 3).blk t).view.emb y) = _
  refine (ext2_at (R := 1792) (C := 2048) _ _).trans ?_
  refine congrArg₂ (inp m c).x ?_ ?_
  · blk_simp [index_3]
    omega
  · blk_simp [index_3]

theorem iblk_4 (t : Fin cfg0.N) : iblk m c 4 t = (of2 fun i j => (inp m c).xs (256 * xRow t.val + i) j : FVec Ideal (M2 256 16) .f32) := by
  funext y
  show V m c main_v1 (((cfg0.win 4).blk t).view.emb y) = _
  refine (ext2_at (R := 1792) (C := 16) _ _).trans ?_
  refine congrArg₂ (inp m c).xs ?_ ?_
  · blk_simp [index_4]
    omega
  · blk_simp [index_4]

theorem iblk_5 (t : Fin cfg0.N) : iblk m c 5 t = (of2 fun _ j => (inp m c).g j : FVec Ideal (M2 1 2048) .f32) := by
  funext y
  have h0 : (y 0).val < 1 := (y 0).isLt
  show V m c main_v3 (((cfg0.win 5).blk t).view.emb y) = _
  refine (ext2_at (R := 1) (C := 2048) _ _).trans ?_
  refine congrArg₂ (ext2 (α := EReal) (R := 1) (C := 2048) (V m c main_v3)) (x' := 0) ?_ ?_ <;> blk_simp [index_5] <;> omega

theorem covers_6 : (cfg0.win 6).Covers := by
  show win0_6.Covers
  decide +kernel
theorem covers_7 : (cfg0.win 7).Covers := by
  show win0_7.Covers
  decide +kernel
theorem covers_8 : (cfg0.win 8).Covers := by
  show win0_8.Covers
  decide +kernel
theorem covers_9 : (cfg0.win 9).Covers := by
  show win0_9.Covers
  decide +kernel
theorem covers_10 : (cfg0.win 10).Covers := by
  show win0_10.Covers
  decide +kernel

theorem out_6 {C : Dev nD → Contract Ideal sig} (f : ℕ → ℕ → EReal)
    (hG : ∀ n X, flushes .a7 n = true → (C c).G .a7 n X → ∀ y : (M2 256 2048).Idx, X y = f (256 * min (n - 11) 6 + (y 0).val) (y 1).val)
    (G : Buf (Elt Ideal) ((cfg0.win 6).arr.view.loc (c.tc : Thread nD τ))) (h : (rdat m C c).ArrAt 6 cfg0.N G) :
    G = (of2 f : FVec Ideal (M2 1792 2048) .bf16) := by
  refine out_eq m c _ (fun u X hf hl => ?_) covers_6 (Memref.isWhole_whole _) G h
  obtain ⟨Y, -, hY⟩ := hl
  funext y
  refine (hG u.val X ((flush_6 u).symm.trans hf) hY y).trans ?_
  show _ = f (((cfg0.win 6).blk u).view.emb y 0).val (((cfg0.win 6).blk u).view.emb y 1).val
  refine congrArg₂ f ?_ ?_
  · blk_simp [index_6]
    omega
  · blk_simp [index_6]

theorem out_7 {C : Dev nD → Contract Ideal sig} (f : ℕ → ℕ → EReal)
    (hG : ∀ n X, flushes .a8 n = true → (C c).G .a8 n X → ∀ y : (M2 2048 256).Idx, X y = f (y 0).val (256 * (n - 11) + (y 1).val))
    (G : Buf (Elt Ideal) ((cfg0.win 7).arr.view.loc (c.tc : Thread nD τ))) (h : (rdat m C c).ArrAt 7 cfg0.N G) :
    G = (of2 f : FVec Ideal (M2 2048 5632) .f32) := by
  refine out_eq m c _ (fun u X hf hl => ?_) covers_7 (Memref.isWhole_whole _) G h
  obtain ⟨Y, -, hY⟩ := hl
  funext y
  refine (hG u.val X ((flush_7 u).symm.trans hf) hY y).trans ?_
  show _ = f (((cfg0.win 7).blk u).view.emb y 0).val (((cfg0.win 7).blk u).view.emb y 1).val
  refine congrArg₂ f ?_ ?_
  · blk_simp [index_7]
  · blk_simp [index_7]
    omega

theorem out_8 {C : Dev nD → Contract Ideal sig} (f : ℕ → EReal)
    (hG : ∀ n X, flushes .a9 n = true → (C c).G .a9 n X → ∀ y : (M2 1 2048).Idx, X y = f (y 1).val)
    (G : Buf (Elt Ideal) ((cfg0.win 8).arr.view.loc (c.tc : Thread nD τ))) (h : (rdat m C c).ArrAt 8 cfg0.N G) :
    G = (of2 (fun _ j => f j) : FVec Ideal (M2 1 2048) .f32) := by
  refine out_eq m c _ (fun u X hf hl => ?_) covers_8 (Memref.isWhole_whole _) G h
  obtain ⟨Y, -, hY⟩ := hl
  funext y
  refine (hG u.val X ((flush_8 u).symm.trans hf) hY y).trans ?_
  show _ = f (((cfg0.win 8).blk u).view.emb y 1).val
  refine congrArg f ?_
  blk_simp [index_8]

theorem out_9 {C : Dev nD → Contract Ideal sig} (f : ℕ → ℕ → EReal)
    (hG : ∀ n X, flushes .a10 n = true → (C c).G .a10 n X → ∀ y : (M2 256 2048).Idx, X y = f (256 * min n 6 + (y 0).val) (y 1).val)
    (G : Buf (Elt Ideal) ((cfg0.win 9).arr.view.loc (c.tc : Thread nD τ))) (h : (rdat m C c).ArrAt 9 cfg0.N G) :
    G = (of2 f : FVec Ideal (M2 1792 2048) .fp8e4m3) := by
  refine out_eq m c _ (fun u X hf hl => ?_) covers_9 (Memref.isWhole_whole _) G h
  obtain ⟨Y, -, hY⟩ := hl
  funext y
  refine (hG u.val X ((flush_9 u).symm.trans hf) hY y).trans ?_
  show _ = f (((cfg0.win 9).blk u).view.emb y 0).val (((cfg0.win 9).blk u).view.emb y 1).val
  refine congrArg₂ f ?_ ?_
  · blk_simp [index_9]
    omega
  · blk_simp [index_9]

theorem out_10 {C : Dev nD → Contract Ideal sig} (f : ℕ → ℕ → EReal)
    (hG : ∀ n X, flushes .a11 n = true → (C c).G .a11 n X → ∀ y : (M2 14 2048).Idx, X y = f (y 0).val (y 1).val)
    (G : Buf (Elt Ideal) ((cfg0.win 10).arr.view.loc (c.tc : Thread nD τ))) (h : (rdat m C c).ArrAt 10 cfg0.N G) :
    G = (of2 f : FVec Ideal (M2 14 2048) .f32) := by
  refine out_eq m c _ (fun u X hf hl => ?_) covers_10 (Memref.isWhole_whole _) G h
  obtain ⟨Y, -, hY⟩ := hl
  funext y
  refine (hG u.val X ((flush_10 u).symm.trans hf) hY y).trans ?_
  show _ = f (((cfg0.win 10).blk u).view.emb y 0).val (((cfg0.win 10).blk u).view.emb y 1).val
  refine congrArg₂ f ?_ ?_ <;> blk_simp [index_10]

/-! ## The contract of all results -/

theorem ins_at (n : ℕ) (hn : n < 33) (b : B) : ins m c b n = match b with
    | .a1 => iblk m c 0 ⟨n, hn⟩
    | .a2 => iblk m c 1 ⟨n, hn⟩
    | .a3 => iblk m c 2 ⟨n, hn⟩
    | .a4 => iblk m c 3 ⟨n, hn⟩
    | .a5 => iblk m c 4 ⟨n, hn⟩
    | .a6 => iblk m c 5 ⟨n, hn⟩
    | _ => fun _ => default := by
  unfold ins
  rw [dif_pos hn]
  rfl

theorem in_x (n : ℕ) (hn : n < 33) (q : ℕ) (hq : xRow n = q) (σ : S) (hin : ∀ b : B, b.isIn = true → σ b = ins m c b n) : HasX (inp m c) q σ where
  x := by
    subst hq
    exact ((hin .a4 rfl).trans (ins_at m c n hn .a4)).trans (iblk_3 m c ⟨n, hn⟩)
  xs := by
    subst hq
    exact ((hin .a5 rfl).trans (ins_at m c n hn .a5)).trans (iblk_4 m c ⟨n, hn⟩)
  g := ((hin .a6 rfl).trans (ins_at m c n hn .a6)).trans (iblk_5 m c ⟨n, hn⟩)

theorem in_w (n : ℕ) (hn : n < 11) (σ : S) (hin : ∀ b : B, b.isIn = true → σ b = ins m c b n) : HasW (inp m c) n σ where
  s := ((hin .a1 rfl).trans (ins_at m c n (by omega) .a1)).trans (iblk_0 m c ⟨n, (by omega : n < 33)⟩)
  w := by
    refine ((hin .a3 rfl).trans (ins_at m c n (by omega) .a3)).trans ((iblk_2 m c ⟨n, (by omega : n < 33)⟩).trans ?_)
    show (of2 fun i j => (inp m c).w i (512 * min n 10 + j) : FVec Ideal (M2 2048 512) .fp8e4m3) = _
    rw [Nat.min_eq_left (by omega)]

theorem in_dy (n : ℕ) (hn : n < 11) (σ : S) (hin : ∀ b : B, b.isIn = true → σ b = ins m c b n) : HasDy (inp m c) n σ := by
  refine ((hin .a2 rfl).trans (ins_at m c n (by omega) .a2)).trans ((iblk_1 m c ⟨n, (by omega : n < 33)⟩).trans ?_)
  show (of2 fun i j => (inp m c).dy i (512 * min n 10 + j) : FVec Ideal (M2 1792 512) .bf16) = _
  rw [Nat.min_eq_left (by omega)]

theorem in_all (n : ℕ) (hn : n < 33) (σ : S) (hin : ∀ b : B, b.isIn = true → σ b = ins m c b n) : InAll (inp m c) n σ where
  dy h := in_dy m c n h σ hin
  x h := in_x m c n hn n (by unfold xRow; rw [if_pos (by omega)]; omega) σ hin
  x' h h2 := in_x m c n hn (n - 11) (by unfold xRow; rw [if_neg (by omega)]; omega) σ hin
  w h := in_w m c n h σ hin

/-- The contract of all results. -/
def allContract : Contract Ideal sig where
  J n σ := JAll (inp m c) n σ
  G b n X := GAll (inp m c) n b X
  In := ins m c
  start _ := ⟨fun _ h => absurd h (Nat.not_lt_zero _), fun _ h => absurd h (Nat.not_lt_zero _), fun _ h => absurd h (Nat.not_lt_zero _),
    fun h => absurd h (Nat.not_lt_zero _), fun h => absurd h (Nat.not_lt_zero _)⟩
  congr n σ σ' h hJ := ⟨h .a17 rfl rfl ▸ hJ.q, h .a20 rfl rfl ▸ hJ.c, h .a21 rfl rfl ▸ hJ.s, h .a16 rfl rfl ▸ hJ.a, h .a23 rfl rfl ▸ hJ.d⟩
  step _ hm n hn σ hJ hin hG := ⟨all_step hm (inp m c) n hn σ (in_all m c n hn σ hin) hJ, fun b hb => (keep_body hm _ _).on σ b hb,
    fun b hb => gall_step hm (inp m c) n hn σ (in_all m c n hn σ hin) hJ hG b hb⟩

end Cert.KernelIdeal.Run
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Value
public import proofs.«01_k».proof.Proof.FrameK
public import proofs.«01_k».proof.Proof.Whole
public import Idealize.ShloMosaic.Adequacy
public import Idealize.ShloMosaic.Init

/-! The claims: both kernels and the reference run and leave their arguments alone; the kernel's results are the
reference's. -/

@[expose] public section

noncomputable section

namespace Cert.Proof

open Idealize.ShloMosaic Idealize.SL.Sem Cert.Code Cert.Spec

theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (of2 (Cert.KernelIdeal.Run.inp m c).dx : FVec Ideal (M2 1792 2048) .bf16),
    fun c => (of2 (Cert.KernelIdeal.Run.inp m c).dw : FVec Ideal (M2 2048 5632) .f32),
    fun c => (of2 (fun _ j => (Cert.KernelIdeal.Run.inp m c).dg j) : FVec Ideal (M2 1 2048) .f32),
    fun c => (of2 (Cert.KernelIdeal.Run.inp m c).xcode : FVec Ideal (M2 1792 2048) .fp8e4m3),
    fun c => (of2 (Cert.KernelIdeal.Run.inp m c).xscale : FVec Ideal (M2 14 2048) .f32),
    fun c => (of2 (Cert.KernelIdeal.Run.inp m c).rcode : FVec Ideal (M2 1792 5632) .fp8e5m2),
    fun c => (of2 (Cert.KernelIdeal.Run.inp m c).rscale : FVec Ideal (M2 1792 44) .f32),
    fun c => (of2 (Cert.KernelIdeal.Run.inp m c).ccode : FVec Ideal (M2 1792 5632) .fp8e5m2),
    fun c => (of2 (Cert.KernelIdeal.Run.inp m c).cscale : FVec Ideal (M2 14 5632) .f32), ?_, ?_⟩
  · refine (θ_run _ _ _).mono (fun r h c => ?_) (Cert.KernelIdeal.Run.run_main m g (fun c => Cert.KernelIdeal.Run.allContract m c)
      (fun c => Cert.KernelIdeal.Run.reads m c _ rfl))
    refine ⟨?_, ?_, ?_, ?_, ?_, ?_, ?_, ?_, ?_, Cert.KernelIdeal.Run.args_of m h.1 c⟩
    · refine Cert.KernelIdeal.Run.out_6 m c _ (fun n X hf hX y => ?_) _ ((h.1 c).1 6)
      refine hX ?_ y
      rcases Bool.or_eq_true_iff.mp hf with e | e
      · exact of_decide_eq_true (Bool.and_eq_true_iff.mp e).1
      · have hn : n = 32 := of_decide_eq_true e
        omega
    · refine Cert.KernelIdeal.Run.out_7 m c _ (fun n X hf hX y => ?_) _ ((h.1 c).1 7)
      exact hX (of_decide_eq_true hf) y
    · refine Cert.KernelIdeal.Run.out_8 m c _ (fun n X hf hX y => ?_) _ ((h.1 c).1 8)
      exact hX (of_decide_eq_true hf) y
    · refine Cert.KernelIdeal.Run.out_9 m c _ (fun n X _ hX y => ?_) _ ((h.1 c).1 9)
      exact hX y
    · refine Cert.KernelIdeal.Run.out_10 m c _ (fun n X hf hX y => ?_) _ ((h.1 c).1 10)
      have hn : n = 32 := of_decide_eq_true hf
      have hy := (y 0).isLt
      exact hX y (by have : (y 0).val < 14 := hy; omega)
    · refine Cert.KernelIdeal.Run.out_11 m c _ (fun n X _ hX y => ?_) _ ((h.1 c).1 11)
      exact hX y
    · refine Cert.KernelIdeal.Run.out_12 m c _ (fun n X hf hX y => ?_) _ ((h.1 c).1 12)
      have hn : n = 32 := of_decide_eq_true hf
      have hy := (y 1).isLt
      exact hX y (by have : (y 1).val < 44 := hy; omega)
    · refine Cert.KernelIdeal.Run.out_13 m c _ (fun n X _ hX y => ?_) _ ((h.1 c).1 13)
      exact hX y
    · refine Cert.KernelIdeal.Run.out_14 m c _ (fun n X _ hX y => ?_) _ ((h.1 c).1 14)
      exact hX y
  · refine (θ_run _ _ _).mono (fun r h c => ?_) (Cert.ReferenceIdeal.Value.run_blocks m' g')
    obtain ⟨h0, h1, h2, h3, h4, h5⟩ := hargs c
    have e := Cert.KernelIdeal.Run.inp_eq m c m' h0 h1 h2 h3 h4 h5
    obtain ⟨r0, r1, r2, r3, r4, r5, r6, r7, r8, rest⟩ := h c
    beta_reduce
    rw [← e]
    exact ⟨r0.trans (Cert.ReferenceIdeal.Run.arr_6 m' c), r1.trans (Cert.ReferenceIdeal.Run.arr_7 m' c),
      r2.trans (Cert.ReferenceIdeal.Run.arr_8 m' c), r3.trans (Cert.ReferenceIdeal.Run.arr_9 m' c),
      r4.trans (Cert.ReferenceIdeal.Run.arr_10 m' c), r5.trans (Cert.ReferenceIdeal.Run.arr_11 m' c),
      r6.trans (Cert.ReferenceIdeal.Run.arr_12 m' c), r7.trans (Cert.ReferenceIdeal.Run.arr_13 m' c),
      r8.trans (Cert.ReferenceIdeal.Run.arr_14 m' c), rest⟩

theorem claim : Cert.Claim :=
  ⟨Cert.Kernel.Gen.facts, Cert.KernelIdeal.Gen.facts, Cert.ReferenceIdeal.Gen.facts,
    fun m g _ => Cert.Kernel.Run.frame m g, fun m g _ => Cert.KernelIdeal.Run.frame m g, fun m g _ => Cert.ReferenceIdeal.Gen.frame m g,
    trivial, algebraic⟩

end Cert.Proof

end
